-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_GradWIn (m : (ℓ : Loc Cert.GradWIn.nD Cert.GradWIn.τ Cert.GradWIn.sig) → Buf (Elt Bits) ℓ) : Prop :=
  True

def Pre_GradWInIdeal (m : (ℓ : Loc Cert.GradWInIdeal.nD Cert.GradWInIdeal.τ Cert.GradWInIdeal.sig) → Buf (Elt Ideal) ℓ) : Prop :=
  True

def Pre_RefWInIdeal (m : (ℓ : Loc Cert.RefWInIdeal.nD Cert.RefWInIdeal.τ Cert.RefWInIdeal.sig) → Buf (Elt Ideal) ℓ) : Prop :=
  True

def Pre_GradWOut (m : (ℓ : Loc Cert.GradWOut.nD Cert.GradWOut.τ Cert.GradWOut.sig) → Buf (Elt Bits) ℓ) : Prop :=
  True

def Pre_GradWOutIdeal (m : (ℓ : Loc Cert.GradWOutIdeal.nD Cert.GradWOutIdeal.τ Cert.GradWOutIdeal.sig) → Buf (Elt Ideal) ℓ) : Prop :=
  True

def Pre_RefWOutIdeal (m : (ℓ : Loc Cert.RefWOutIdeal.nD Cert.RefWOutIdeal.τ Cert.RefWOutIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_RefProjInIdeal (m : (ℓ : Loc Cert.RefProjInIdeal.nD Cert.RefProjInIdeal.τ Cert.RefProjInIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_RefGradInIdeal (m : (ℓ : Loc Cert.RefGradInIdeal.nD Cert.RefGradInIdeal.τ Cert.RefGradInIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_RefProjOutIdeal (m : (ℓ : Loc Cert.RefProjOutIdeal.nD Cert.RefProjOutIdeal.τ Cert.RefProjOutIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_GradWIn [hGradWIn : Cert.GradWIn.Facts] : Prop :=
  ∀ (m : (ℓ : Loc Cert.GradWIn.nD Cert.GradWIn.τ Cert.GradWIn.sig) → Buf (Elt Bits) ℓ) (g : Dev Cert.GradWIn.nD → PrngReg), Pre_GradWIn m →
    θ_run (Cert.GradWIn.defs (F := Bits)) (onTc (τ := Cert.GradWIn.τ) (Cert.GradWIn.main (F := Bits))) ⟨m, fun _ => 0, g⟩ (fun r => (∀ c : Dev Cert.GradWIn.nD,
      r.2.mem ((c.tc : Thread Cert.GradWIn.nD Cert.GradWIn.τ).loc Cert.GradWIn.main_arg0) = m ((c.tc : Thread Cert.GradWIn.nD Cert.GradWIn.τ).loc Cert.GradWIn.main_arg0)
      ∧ r.2.mem ((c.tc : Thread Cert.GradWIn.nD Cert.GradWIn.τ).loc Cert.GradWIn.main_arg1) = m ((c.tc : Thread Cert.GradWIn.nD Cert.GradWIn.τ).loc Cert.GradWIn.main_arg1)
      ∧ r.2.mem ((c.tc : Thread Cert.GradWIn.nD Cert.GradWIn.τ).loc Cert.GradWIn.main_arg2) = m ((c.tc : Thread Cert.GradWIn.nD Cert.GradWIn.τ).loc Cert.GradWIn.main_arg2)
      ∧ r.2.mem ((c.tc : Thread Cert.GradWIn.nD Cert.GradWIn.τ).loc Cert.GradWIn.main_arg3) = m ((c.tc : Thread Cert.GradWIn.nD Cert.GradWIn.τ).loc Cert.GradWIn.main_arg3)
      ∧ r.2.mem ((c.tc : Thread Cert.GradWIn.nD Cert.GradWIn.τ).loc Cert.GradWIn.main_arg4) = m ((c.tc : Thread Cert.GradWIn.nD Cert.GradWIn.τ).loc Cert.GradWIn.main_arg4)
      ∧ r.2.mem ((c.tc : Thread Cert.GradWIn.nD Cert.GradWIn.τ).loc Cert.GradWIn.main_arg5) = m ((c.tc : Thread Cert.GradWIn.nD Cert.GradWIn.τ).loc Cert.GradWIn.main_arg5)
      ∧ r.2.mem ((c.tc : Thread Cert.GradWIn.nD Cert.GradWIn.τ).loc Cert.GradWIn.main_arg6) = m ((c.tc : Thread Cert.GradWIn.nD Cert.GradWIn.τ).loc Cert.GradWIn.main_arg6)
      ∧ r.2.mem ((c.tc : Thread Cert.GradWIn.nD Cert.GradWIn.τ).loc Cert.GradWIn.main_arg7) = m ((c.tc : Thread Cert.GradWIn.nD Cert.GradWIn.τ).loc Cert.GradWIn.main_arg7)
      ∧ r.2.mem ((c.tc : Thread Cert.GradWIn.nD Cert.GradWIn.τ).loc Cert.GradWIn.main_arg8) = m ((c.tc : Thread Cert.GradWIn.nD Cert.GradWIn.τ).loc Cert.GradWIn.main_arg8))
      ∧ r.2.sem = fun _ => 0)

def quiescent_GradWInIdeal [hGradWInIdeal : Cert.GradWInIdeal.Facts] : Prop :=
  ∀ (m : (ℓ : Loc Cert.GradWInIdeal.nD Cert.GradWInIdeal.τ Cert.GradWInIdeal.sig) → Buf (Elt Ideal) ℓ) (g : Dev Cert.GradWInIdeal.nD → PrngReg), Pre_GradWInIdeal m →
    θ_run (Cert.GradWInIdeal.defs (F := Ideal)) (onTc (τ := Cert.GradWInIdeal.τ) (Cert.GradWInIdeal.main (F := Ideal))) ⟨m, fun _ => 0, g⟩ (fun r => (∀ c : Dev Cert.GradWInIdeal.nD,
      r.2.mem ((c.tc : Thread Cert.GradWInIdeal.nD Cert.GradWInIdeal.τ).loc Cert.GradWInIdeal.main_arg0) = m ((c.tc : Thread Cert.GradWInIdeal.nD Cert.GradWInIdeal.τ).loc Cert.GradWInIdeal.main_arg0)
      ∧ r.2.mem ((c.tc : Thread Cert.GradWInIdeal.nD Cert.GradWInIdeal.τ).loc Cert.GradWInIdeal.main_arg1) = m ((c.tc : Thread Cert.GradWInIdeal.nD Cert.GradWInIdeal.τ).loc Cert.GradWInIdeal.main_arg1)
      ∧ r.2.mem ((c.tc : Thread Cert.GradWInIdeal.nD Cert.GradWInIdeal.τ).loc Cert.GradWInIdeal.main_arg2) = m ((c.tc : Thread Cert.GradWInIdeal.nD Cert.GradWInIdeal.τ).loc Cert.GradWInIdeal.main_arg2)
      ∧ r.2.mem ((c.tc : Thread Cert.GradWInIdeal.nD Cert.GradWInIdeal.τ).loc Cert.GradWInIdeal.main_arg3) = m ((c.tc : Thread Cert.GradWInIdeal.nD Cert.GradWInIdeal.τ).loc Cert.GradWInIdeal.main_arg3)
      ∧ r.2.mem ((c.tc : Thread Cert.GradWInIdeal.nD Cert.GradWInIdeal.τ).loc Cert.GradWInIdeal.main_arg4) = m ((c.tc : Thread Cert.GradWInIdeal.nD Cert.GradWInIdeal.τ).loc Cert.GradWInIdeal.main_arg4)
      ∧ r.2.mem ((c.tc : Thread Cert.GradWInIdeal.nD Cert.GradWInIdeal.τ).loc Cert.GradWInIdeal.main_arg5) = m ((c.tc : Thread Cert.GradWInIdeal.nD Cert.GradWInIdeal.τ).loc Cert.GradWInIdeal.main_arg5)
      ∧ r.2.mem ((c.tc : Thread Cert.GradWInIdeal.nD Cert.GradWInIdeal.τ).loc Cert.GradWInIdeal.main_arg6) = m ((c.tc : Thread Cert.GradWInIdeal.nD Cert.GradWInIdeal.τ).loc Cert.GradWInIdeal.main_arg6)
      ∧ r.2.mem ((c.tc : Thread Cert.GradWInIdeal.nD Cert.GradWInIdeal.τ).loc Cert.GradWInIdeal.main_arg7) = m ((c.tc : Thread Cert.GradWInIdeal.nD Cert.GradWInIdeal.τ).loc Cert.GradWInIdeal.main_arg7)
      ∧ r.2.mem ((c.tc : Thread Cert.GradWInIdeal.nD Cert.GradWInIdeal.τ).loc Cert.GradWInIdeal.main_arg8) = m ((c.tc : Thread Cert.GradWInIdeal.nD Cert.GradWInIdeal.τ).loc Cert.GradWInIdeal.main_arg8))
      ∧ r.2.sem = fun _ => 0)

def quiescent_RefWInIdeal [hRefWInIdeal : Cert.RefWInIdeal.Facts] : Prop :=
  ∀ (m : (ℓ : Loc Cert.RefWInIdeal.nD Cert.RefWInIdeal.τ Cert.RefWInIdeal.sig) → Buf (Elt Ideal) ℓ) (g : Dev Cert.RefWInIdeal.nD → PrngReg), Pre_RefWInIdeal m →
    θ_run (Cert.RefWInIdeal.defs (F := Ideal)) (onTc (τ := Cert.RefWInIdeal.τ) (Cert.RefWInIdeal.main (F := Ideal))) ⟨m, fun _ => 0, g⟩ (fun r => (∀ c : Dev Cert.RefWInIdeal.nD,
      r.2.mem ((c.tc : Thread Cert.RefWInIdeal.nD Cert.RefWInIdeal.τ).loc Cert.RefWInIdeal.main_arg0) = m ((c.tc : Thread Cert.RefWInIdeal.nD Cert.RefWInIdeal.τ).loc Cert.RefWInIdeal.main_arg0)
      ∧ r.2.mem ((c.tc : Thread Cert.RefWInIdeal.nD Cert.RefWInIdeal.τ).loc Cert.RefWInIdeal.main_arg1) = m ((c.tc : Thread Cert.RefWInIdeal.nD Cert.RefWInIdeal.τ).loc Cert.RefWInIdeal.main_arg1)
      ∧ r.2.mem ((c.tc : Thread Cert.RefWInIdeal.nD Cert.RefWInIdeal.τ).loc Cert.RefWInIdeal.main_arg2) = m ((c.tc : Thread Cert.RefWInIdeal.nD Cert.RefWInIdeal.τ).loc Cert.RefWInIdeal.main_arg2)
      ∧ r.2.mem ((c.tc : Thread Cert.RefWInIdeal.nD Cert.RefWInIdeal.τ).loc Cert.RefWInIdeal.main_arg3) = m ((c.tc : Thread Cert.RefWInIdeal.nD Cert.RefWInIdeal.τ).loc Cert.RefWInIdeal.main_arg3)
      ∧ r.2.mem ((c.tc : Thread Cert.RefWInIdeal.nD Cert.RefWInIdeal.τ).loc Cert.RefWInIdeal.main_arg4) = m ((c.tc : Thread Cert.RefWInIdeal.nD Cert.RefWInIdeal.τ).loc Cert.RefWInIdeal.main_arg4)
      ∧ r.2.mem ((c.tc : Thread Cert.RefWInIdeal.nD Cert.RefWInIdeal.τ).loc Cert.RefWInIdeal.main_arg5) = m ((c.tc : Thread Cert.RefWInIdeal.nD Cert.RefWInIdeal.τ).loc Cert.RefWInIdeal.main_arg5)
      ∧ r.2.mem ((c.tc : Thread Cert.RefWInIdeal.nD Cert.RefWInIdeal.τ).loc Cert.RefWInIdeal.main_arg6) = m ((c.tc : Thread Cert.RefWInIdeal.nD Cert.RefWInIdeal.τ).loc Cert.RefWInIdeal.main_arg6)
      ∧ r.2.mem ((c.tc : Thread Cert.RefWInIdeal.nD Cert.RefWInIdeal.τ).loc Cert.RefWInIdeal.main_arg7) = m ((c.tc : Thread Cert.RefWInIdeal.nD Cert.RefWInIdeal.τ).loc Cert.RefWInIdeal.main_arg7)
      ∧ r.2.mem ((c.tc : Thread Cert.RefWInIdeal.nD Cert.RefWInIdeal.τ).loc Cert.RefWInIdeal.main_arg8) = m ((c.tc : Thread Cert.RefWInIdeal.nD Cert.RefWInIdeal.τ).loc Cert.RefWInIdeal.main_arg8))
      ∧ r.2.sem = fun _ => 0)

def quiescent_GradWOut [hGradWOut : Cert.GradWOut.Facts] : Prop :=
  ∀ (m : (ℓ : Loc Cert.GradWOut.nD Cert.GradWOut.τ Cert.GradWOut.sig) → Buf (Elt Bits) ℓ) (g : Dev Cert.GradWOut.nD → PrngReg), Pre_GradWOut m →
    θ_run (Cert.GradWOut.defs (F := Bits)) (onTc (τ := Cert.GradWOut.τ) (Cert.GradWOut.main (F := Bits))) ⟨m, fun _ => 0, g⟩ (fun r => (∀ c : Dev Cert.GradWOut.nD,
      r.2.mem ((c.tc : Thread Cert.GradWOut.nD Cert.GradWOut.τ).loc Cert.GradWOut.main_arg0) = m ((c.tc : Thread Cert.GradWOut.nD Cert.GradWOut.τ).loc Cert.GradWOut.main_arg0)
      ∧ r.2.mem ((c.tc : Thread Cert.GradWOut.nD Cert.GradWOut.τ).loc Cert.GradWOut.main_arg1) = m ((c.tc : Thread Cert.GradWOut.nD Cert.GradWOut.τ).loc Cert.GradWOut.main_arg1))
      ∧ r.2.sem = fun _ => 0)

def quiescent_GradWOutIdeal [hGradWOutIdeal : Cert.GradWOutIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg), Pre_GradWOutIdeal m →
    θ_run (Cert.GradWOutIdeal.defs (F := Ideal)) (onTc (τ := Cert.GradWOutIdeal.τ) (Cert.GradWOutIdeal.main (F := Ideal))) ⟨m, fun _ => 0, g⟩ (fun r => (∀ c : Dev Cert.GradWOutIdeal.nD,
      r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
      ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1))
      ∧ r.2.sem = fun _ => 0)

def quiescent_RefWOutIdeal [hRefWOutIdeal : Cert.RefWOutIdeal.Facts] : Prop :=
  ∀ (m : (ℓ : Loc Cert.RefWOutIdeal.nD Cert.RefWOutIdeal.τ Cert.RefWOutIdeal.sig) → Buf (Elt Ideal) ℓ) (g : Dev Cert.RefWOutIdeal.nD → PrngReg), Pre_RefWOutIdeal m →
    θ_run (Cert.RefWOutIdeal.defs (F := Ideal)) (onTc (τ := Cert.RefWOutIdeal.τ) (Cert.RefWOutIdeal.main (F := Ideal))) ⟨m, fun _ => 0, g⟩ (fun r => (∀ c : Dev Cert.RefWOutIdeal.nD,
      r.2.mem ((c.tc : Thread Cert.RefWOutIdeal.nD Cert.RefWOutIdeal.τ).loc Cert.RefWOutIdeal.main_arg0) = m ((c.tc : Thread Cert.RefWOutIdeal.nD Cert.RefWOutIdeal.τ).loc Cert.RefWOutIdeal.main_arg0)
      ∧ r.2.mem ((c.tc : Thread Cert.RefWOutIdeal.nD Cert.RefWOutIdeal.τ).loc Cert.RefWOutIdeal.main_arg1) = m ((c.tc : Thread Cert.RefWOutIdeal.nD Cert.RefWOutIdeal.τ).loc Cert.RefWOutIdeal.main_arg1))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1)
      ∧ r.2.mem ((c.tc : Thread Cert.ProjIn.nD Cert.ProjIn.τ).loc Cert.ProjIn.main_arg2) = m ((c.tc : Thread Cert.ProjIn.nD Cert.ProjIn.τ).loc Cert.ProjIn.main_arg2)
      ∧ r.2.mem ((c.tc : Thread Cert.ProjIn.nD Cert.ProjIn.τ).loc Cert.ProjIn.main_arg3) = m ((c.tc : Thread Cert.ProjIn.nD Cert.ProjIn.τ).loc Cert.ProjIn.main_arg3))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
      ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
      ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3))
      ∧ r.2.sem = fun _ => 0)

def quiescent_RefProjInIdeal [hRefProjInIdeal : Cert.RefProjInIdeal.Facts] : Prop :=
  ∀ (m : (ℓ : Loc Cert.RefProjInIdeal.nD Cert.RefProjInIdeal.τ Cert.RefProjInIdeal.sig) → Buf (Elt Ideal) ℓ) (g : Dev Cert.RefProjInIdeal.nD → PrngReg), Pre_RefProjInIdeal m →
    θ_run (Cert.RefProjInIdeal.defs (F := Ideal)) (onTc (τ := Cert.RefProjInIdeal.τ) (Cert.RefProjInIdeal.main (F := Ideal))) ⟨m, fun _ => 0, g⟩ (fun r => (∀ c : Dev Cert.RefProjInIdeal.nD,
      r.2.mem ((c.tc : Thread Cert.RefProjInIdeal.nD Cert.RefProjInIdeal.τ).loc Cert.RefProjInIdeal.main_arg0) = m ((c.tc : Thread Cert.RefProjInIdeal.nD Cert.RefProjInIdeal.τ).loc Cert.RefProjInIdeal.main_arg0)
      ∧ r.2.mem ((c.tc : Thread Cert.RefProjInIdeal.nD Cert.RefProjInIdeal.τ).loc Cert.RefProjInIdeal.main_arg1) = m ((c.tc : Thread Cert.RefProjInIdeal.nD Cert.RefProjInIdeal.τ).loc Cert.RefProjInIdeal.main_arg1)
      ∧ r.2.mem ((c.tc : Thread Cert.RefProjInIdeal.nD Cert.RefProjInIdeal.τ).loc Cert.RefProjInIdeal.main_arg2) = m ((c.tc : Thread Cert.RefProjInIdeal.nD Cert.RefProjInIdeal.τ).loc Cert.RefProjInIdeal.main_arg2)
      ∧ r.2.mem ((c.tc : Thread Cert.RefProjInIdeal.nD Cert.RefProjInIdeal.τ).loc Cert.RefProjInIdeal.main_arg3) = m ((c.tc : Thread Cert.RefProjInIdeal.nD Cert.RefProjInIdeal.τ).loc Cert.RefProjInIdeal.main_arg3))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1)
      ∧ r.2.mem ((c.tc : Thread Cert.GradIn.nD Cert.GradIn.τ).loc Cert.GradIn.main_arg2) = m ((c.tc : Thread Cert.GradIn.nD Cert.GradIn.τ).loc Cert.GradIn.main_arg2)
      ∧ r.2.mem ((c.tc : Thread Cert.GradIn.nD Cert.GradIn.τ).loc Cert.GradIn.main_arg3) = m ((c.tc : Thread Cert.GradIn.nD Cert.GradIn.τ).loc Cert.GradIn.main_arg3)
      ∧ r.2.mem ((c.tc : Thread Cert.GradIn.nD Cert.GradIn.τ).loc Cert.GradIn.main_arg4) = m ((c.tc : Thread Cert.GradIn.nD Cert.GradIn.τ).loc Cert.GradIn.main_arg4)
      ∧ r.2.mem ((c.tc : Thread Cert.GradIn.nD Cert.GradIn.τ).loc Cert.GradIn.main_arg5) = m ((c.tc : Thread Cert.GradIn.nD Cert.GradIn.τ).loc Cert.GradIn.main_arg5)
      ∧ r.2.mem ((c.tc : Thread Cert.GradIn.nD Cert.GradIn.τ).loc Cert.GradIn.main_arg6) = m ((c.tc : Thread Cert.GradIn.nD Cert.GradIn.τ).loc Cert.GradIn.main_arg6)
      ∧ r.2.mem ((c.tc : Thread Cert.GradIn.nD Cert.GradIn.τ).loc Cert.GradIn.main_arg7) = m ((c.tc : Thread Cert.GradIn.nD Cert.GradIn.τ).loc Cert.GradIn.main_arg7)
      ∧ r.2.mem ((c.tc : Thread Cert.GradIn.nD Cert.GradIn.τ).loc Cert.GradIn.main_arg8) = m ((c.tc : Thread Cert.GradIn.nD Cert.GradIn.τ).loc Cert.GradIn.main_arg8)
      ∧ r.2.mem ((c.tc : Thread Cert.GradIn.nD Cert.GradIn.τ).loc Cert.GradIn.main_arg9) = m ((c.tc : Thread Cert.GradIn.nD Cert.GradIn.τ).loc Cert.GradIn.main_arg9)
      ∧ r.2.mem ((c.tc : Thread Cert.GradIn.nD Cert.GradIn.τ).loc Cert.GradIn.main_arg10) = m ((c.tc : Thread Cert.GradIn.nD Cert.GradIn.τ).loc Cert.GradIn.main_arg10)
      ∧ r.2.mem ((c.tc : Thread Cert.GradIn.nD Cert.GradIn.τ).loc Cert.GradIn.main_arg11) = m ((c.tc : Thread Cert.GradIn.nD Cert.GradIn.τ).loc Cert.GradIn.main_arg11)
      ∧ r.2.mem ((c.tc : Thread Cert.GradIn.nD Cert.GradIn.τ).loc Cert.GradIn.main_arg12) = m ((c.tc : Thread Cert.GradIn.nD Cert.GradIn.τ).loc Cert.GradIn.main_arg12))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
      ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2)
      ∧ r.2.mem ((c.tc : Thread Cert.GradInIdeal.nD Cert.GradInIdeal.τ).loc Cert.GradInIdeal.main_arg3) = m ((c.tc : Thread Cert.GradInIdeal.nD Cert.GradInIdeal.τ).loc Cert.GradInIdeal.main_arg3)
      ∧ r.2.mem ((c.tc : Thread Cert.GradInIdeal.nD Cert.GradInIdeal.τ).loc Cert.GradInIdeal.main_arg4) = m ((c.tc : Thread Cert.GradInIdeal.nD Cert.GradInIdeal.τ).loc Cert.GradInIdeal.main_arg4)
      ∧ r.2.mem ((c.tc : Thread Cert.GradInIdeal.nD Cert.GradInIdeal.τ).loc Cert.GradInIdeal.main_arg5) = m ((c.tc : Thread Cert.GradInIdeal.nD Cert.GradInIdeal.τ).loc Cert.GradInIdeal.main_arg5)
      ∧ r.2.mem ((c.tc : Thread Cert.GradInIdeal.nD Cert.GradInIdeal.τ).loc Cert.GradInIdeal.main_arg6) = m ((c.tc : Thread Cert.GradInIdeal.nD Cert.GradInIdeal.τ).loc Cert.GradInIdeal.main_arg6)
      ∧ r.2.mem ((c.tc : Thread Cert.GradInIdeal.nD Cert.GradInIdeal.τ).loc Cert.GradInIdeal.main_arg7) = m ((c.tc : Thread Cert.GradInIdeal.nD Cert.GradInIdeal.τ).loc Cert.GradInIdeal.main_arg7)
      ∧ r.2.mem ((c.tc : Thread Cert.GradInIdeal.nD Cert.GradInIdeal.τ).loc Cert.GradInIdeal.main_arg8) = m ((c.tc : Thread Cert.GradInIdeal.nD Cert.GradInIdeal.τ).loc Cert.GradInIdeal.main_arg8)
      ∧ r.2.mem ((c.tc : Thread Cert.GradInIdeal.nD Cert.GradInIdeal.τ).loc Cert.GradInIdeal.main_arg9) = m ((c.tc : Thread Cert.GradInIdeal.nD Cert.GradInIdeal.τ).loc Cert.GradInIdeal.main_arg9)
      ∧ r.2.mem ((c.tc : Thread Cert.GradInIdeal.nD Cert.GradInIdeal.τ).loc Cert.GradInIdeal.main_arg10) = m ((c.tc : Thread Cert.GradInIdeal.nD Cert.GradInIdeal.τ).loc Cert.GradInIdeal.main_arg10)
      ∧ r.2.mem ((c.tc : Thread Cert.GradInIdeal.nD Cert.GradInIdeal.τ).loc Cert.GradInIdeal.main_arg11) = m ((c.tc : Thread Cert.GradInIdeal.nD Cert.GradInIdeal.τ).loc Cert.GradInIdeal.main_arg11)
      ∧ r.2.mem ((c.tc : Thread Cert.GradInIdeal.nD Cert.GradInIdeal.τ).loc Cert.GradInIdeal.main_arg12) = m ((c.tc : Thread Cert.GradInIdeal.nD Cert.GradInIdeal.τ).loc Cert.GradInIdeal.main_arg12))
      ∧ r.2.sem = fun _ => 0)

def quiescent_RefGradInIdeal [hRefGradInIdeal : Cert.RefGradInIdeal.Facts] : Prop :=
  ∀ (m : (ℓ : Loc Cert.RefGradInIdeal.nD Cert.RefGradInIdeal.τ Cert.RefGradInIdeal.sig) → Buf (Elt Ideal) ℓ) (g : Dev Cert.RefGradInIdeal.nD → PrngReg), Pre_RefGradInIdeal m →
    θ_run (Cert.RefGradInIdeal.defs (F := Ideal)) (onTc (τ := Cert.RefGradInIdeal.τ) (Cert.RefGradInIdeal.main (F := Ideal))) ⟨m, fun _ => 0, g⟩ (fun r => (∀ c : Dev Cert.RefGradInIdeal.nD,
      r.2.mem ((c.tc : Thread Cert.RefGradInIdeal.nD Cert.RefGradInIdeal.τ).loc Cert.RefGradInIdeal.main_arg0) = m ((c.tc : Thread Cert.RefGradInIdeal.nD Cert.RefGradInIdeal.τ).loc Cert.RefGradInIdeal.main_arg0)
      ∧ r.2.mem ((c.tc : Thread Cert.RefGradInIdeal.nD Cert.RefGradInIdeal.τ).loc Cert.RefGradInIdeal.main_arg1) = m ((c.tc : Thread Cert.RefGradInIdeal.nD Cert.RefGradInIdeal.τ).loc Cert.RefGradInIdeal.main_arg1)
      ∧ r.2.mem ((c.tc : Thread Cert.RefGradInIdeal.nD Cert.RefGradInIdeal.τ).loc Cert.RefGradInIdeal.main_arg2) = m ((c.tc : Thread Cert.RefGradInIdeal.nD Cert.RefGradInIdeal.τ).loc Cert.RefGradInIdeal.main_arg2)
      ∧ r.2.mem ((c.tc : Thread Cert.RefGradInIdeal.nD Cert.RefGradInIdeal.τ).loc Cert.RefGradInIdeal.main_arg3) = m ((c.tc : Thread Cert.RefGradInIdeal.nD Cert.RefGradInIdeal.τ).loc Cert.RefGradInIdeal.main_arg3)
      ∧ r.2.mem ((c.tc : Thread Cert.RefGradInIdeal.nD Cert.RefGradInIdeal.τ).loc Cert.RefGradInIdeal.main_arg4) = m ((c.tc : Thread Cert.RefGradInIdeal.nD Cert.RefGradInIdeal.τ).loc Cert.RefGradInIdeal.main_arg4)
      ∧ r.2.mem ((c.tc : Thread Cert.RefGradInIdeal.nD Cert.RefGradInIdeal.τ).loc Cert.RefGradInIdeal.main_arg5) = m ((c.tc : Thread Cert.RefGradInIdeal.nD Cert.RefGradInIdeal.τ).loc Cert.RefGradInIdeal.main_arg5)
      ∧ r.2.mem ((c.tc : Thread Cert.RefGradInIdeal.nD Cert.RefGradInIdeal.τ).loc Cert.RefGradInIdeal.main_arg6) = m ((c.tc : Thread Cert.RefGradInIdeal.nD Cert.RefGradInIdeal.τ).loc Cert.RefGradInIdeal.main_arg6)
      ∧ r.2.mem ((c.tc : Thread Cert.RefGradInIdeal.nD Cert.RefGradInIdeal.τ).loc Cert.RefGradInIdeal.main_arg7) = m ((c.tc : Thread Cert.RefGradInIdeal.nD Cert.RefGradInIdeal.τ).loc Cert.RefGradInIdeal.main_arg7)
      ∧ r.2.mem ((c.tc : Thread Cert.RefGradInIdeal.nD Cert.RefGradInIdeal.τ).loc Cert.RefGradInIdeal.main_arg8) = m ((c.tc : Thread Cert.RefGradInIdeal.nD Cert.RefGradInIdeal.τ).loc Cert.RefGradInIdeal.main_arg8)
      ∧ r.2.mem ((c.tc : Thread Cert.RefGradInIdeal.nD Cert.RefGradInIdeal.τ).loc Cert.RefGradInIdeal.main_arg9) = m ((c.tc : Thread Cert.RefGradInIdeal.nD Cert.RefGradInIdeal.τ).loc Cert.RefGradInIdeal.main_arg9)
      ∧ r.2.mem ((c.tc : Thread Cert.RefGradInIdeal.nD Cert.RefGradInIdeal.τ).loc Cert.RefGradInIdeal.main_arg10) = m ((c.tc : Thread Cert.RefGradInIdeal.nD Cert.RefGradInIdeal.τ).loc Cert.RefGradInIdeal.main_arg10)
      ∧ r.2.mem ((c.tc : Thread Cert.RefGradInIdeal.nD Cert.RefGradInIdeal.τ).loc Cert.RefGradInIdeal.main_arg11) = m ((c.tc : Thread Cert.RefGradInIdeal.nD Cert.RefGradInIdeal.τ).loc Cert.RefGradInIdeal.main_arg11)
      ∧ r.2.mem ((c.tc : Thread Cert.RefGradInIdeal.nD Cert.RefGradInIdeal.τ).loc Cert.RefGradInIdeal.main_arg12) = m ((c.tc : Thread Cert.RefGradInIdeal.nD Cert.RefGradInIdeal.τ).loc Cert.RefGradInIdeal.main_arg12))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1)
      ∧ r.2.mem ((c.tc : Thread Cert.ProjOut.nD Cert.ProjOut.τ).loc Cert.ProjOut.main_arg2) = m ((c.tc : Thread Cert.ProjOut.nD Cert.ProjOut.τ).loc Cert.ProjOut.main_arg2)
      ∧ r.2.mem ((c.tc : Thread Cert.ProjOut.nD Cert.ProjOut.τ).loc Cert.ProjOut.main_arg3) = m ((c.tc : Thread Cert.ProjOut.nD Cert.ProjOut.τ).loc Cert.ProjOut.main_arg3)
      ∧ r.2.mem ((c.tc : Thread Cert.ProjOut.nD Cert.ProjOut.τ).loc Cert.ProjOut.main_arg4) = m ((c.tc : Thread Cert.ProjOut.nD Cert.ProjOut.τ).loc Cert.ProjOut.main_arg4)
      ∧ r.2.mem ((c.tc : Thread Cert.ProjOut.nD Cert.ProjOut.τ).loc Cert.ProjOut.main_arg5) = m ((c.tc : Thread Cert.ProjOut.nD Cert.ProjOut.τ).loc Cert.ProjOut.main_arg5)
      ∧ r.2.mem ((c.tc : Thread Cert.ProjOut.nD Cert.ProjOut.τ).loc Cert.ProjOut.main_arg6) = m ((c.tc : Thread Cert.ProjOut.nD Cert.ProjOut.τ).loc Cert.ProjOut.main_arg6)
      ∧ r.2.mem ((c.tc : Thread Cert.ProjOut.nD Cert.ProjOut.τ).loc Cert.ProjOut.main_arg7) = m ((c.tc : Thread Cert.ProjOut.nD Cert.ProjOut.τ).loc Cert.ProjOut.main_arg7))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
      ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3)
      ∧ r.2.mem ((c.tc : Thread Cert.ProjOutIdeal.nD Cert.ProjOutIdeal.τ).loc Cert.ProjOutIdeal.main_arg4) = m ((c.tc : Thread Cert.ProjOutIdeal.nD Cert.ProjOutIdeal.τ).loc Cert.ProjOutIdeal.main_arg4)
      ∧ r.2.mem ((c.tc : Thread Cert.ProjOutIdeal.nD Cert.ProjOutIdeal.τ).loc Cert.ProjOutIdeal.main_arg5) = m ((c.tc : Thread Cert.ProjOutIdeal.nD Cert.ProjOutIdeal.τ).loc Cert.ProjOutIdeal.main_arg5)
      ∧ r.2.mem ((c.tc : Thread Cert.ProjOutIdeal.nD Cert.ProjOutIdeal.τ).loc Cert.ProjOutIdeal.main_arg6) = m ((c.tc : Thread Cert.ProjOutIdeal.nD Cert.ProjOutIdeal.τ).loc Cert.ProjOutIdeal.main_arg6)
      ∧ r.2.mem ((c.tc : Thread Cert.ProjOutIdeal.nD Cert.ProjOutIdeal.τ).loc Cert.ProjOutIdeal.main_arg7) = m ((c.tc : Thread Cert.ProjOutIdeal.nD Cert.ProjOutIdeal.τ).loc Cert.ProjOutIdeal.main_arg7))
      ∧ r.2.sem = fun _ => 0)

def quiescent_RefProjOutIdeal [hRefProjOutIdeal : Cert.RefProjOutIdeal.Facts] : Prop :=
  ∀ (m : (ℓ : Loc Cert.RefProjOutIdeal.nD Cert.RefProjOutIdeal.τ Cert.RefProjOutIdeal.sig) → Buf (Elt Ideal) ℓ) (g : Dev Cert.RefProjOutIdeal.nD → PrngReg), Pre_RefProjOutIdeal m →
    θ_run (Cert.RefProjOutIdeal.defs (F := Ideal)) (onTc (τ := Cert.RefProjOutIdeal.τ) (Cert.RefProjOutIdeal.main (F := Ideal))) ⟨m, fun _ => 0, g⟩ (fun r => (∀ c : Dev Cert.RefProjOutIdeal.nD,
      r.2.mem ((c.tc : Thread Cert.RefProjOutIdeal.nD Cert.RefProjOutIdeal.τ).loc Cert.RefProjOutIdeal.main_arg0) = m ((c.tc : Thread Cert.RefProjOutIdeal.nD Cert.RefProjOutIdeal.τ).loc Cert.RefProjOutIdeal.main_arg0)
      ∧ r.2.mem ((c.tc : Thread Cert.RefProjOutIdeal.nD Cert.RefProjOutIdeal.τ).loc Cert.RefProjOutIdeal.main_arg1) = m ((c.tc : Thread Cert.RefProjOutIdeal.nD Cert.RefProjOutIdeal.τ).loc Cert.RefProjOutIdeal.main_arg1)
      ∧ r.2.mem ((c.tc : Thread Cert.RefProjOutIdeal.nD Cert.RefProjOutIdeal.τ).loc Cert.RefProjOutIdeal.main_arg2) = m ((c.tc : Thread Cert.RefProjOutIdeal.nD Cert.RefProjOutIdeal.τ).loc Cert.RefProjOutIdeal.main_arg2)
      ∧ r.2.mem ((c.tc : Thread Cert.RefProjOutIdeal.nD Cert.RefProjOutIdeal.τ).loc Cert.RefProjOutIdeal.main_arg3) = m ((c.tc : Thread Cert.RefProjOutIdeal.nD Cert.RefProjOutIdeal.τ).loc Cert.RefProjOutIdeal.main_arg3)
      ∧ r.2.mem ((c.tc : Thread Cert.RefProjOutIdeal.nD Cert.RefProjOutIdeal.τ).loc Cert.RefProjOutIdeal.main_arg4) = m ((c.tc : Thread Cert.RefProjOutIdeal.nD Cert.RefProjOutIdeal.τ).loc Cert.RefProjOutIdeal.main_arg4)
      ∧ r.2.mem ((c.tc : Thread Cert.RefProjOutIdeal.nD Cert.RefProjOutIdeal.τ).loc Cert.RefProjOutIdeal.main_arg5) = m ((c.tc : Thread Cert.RefProjOutIdeal.nD Cert.RefProjOutIdeal.τ).loc Cert.RefProjOutIdeal.main_arg5)
      ∧ r.2.mem ((c.tc : Thread Cert.RefProjOutIdeal.nD Cert.RefProjOutIdeal.τ).loc Cert.RefProjOutIdeal.main_arg6) = m ((c.tc : Thread Cert.RefProjOutIdeal.nD Cert.RefProjOutIdeal.τ).loc Cert.RefProjOutIdeal.main_arg6)
      ∧ r.2.mem ((c.tc : Thread Cert.RefProjOutIdeal.nD Cert.RefProjOutIdeal.τ).loc Cert.RefProjOutIdeal.main_arg7) = m ((c.tc : Thread Cert.RefProjOutIdeal.nD Cert.RefProjOutIdeal.τ).loc Cert.RefProjOutIdeal.main_arg7))
      ∧ r.2.sem = fun _ => 0)

def preserves_Kernel_KernelIdeal : Prop :=
  IdealRules.named_const.Statement Cert.KernelIdeal.κ "log2_e" .f32 0x3FB8AA3B#32 (((Real.log 2)⁻¹ : ℝ) : EReal)
  ∧ IdealRules.named_const.Statement Cert.KernelIdeal.κ "exp2_scale" .f32 0x3DD53B95#32 (((Real.sqrt 192)⁻¹ * (Real.log 2)⁻¹ : ℝ) : EReal)
  ∧ IdealRules.named_const.Statement Cert.KernelIdeal.κ "att_scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)) (v2 : (c : Dev Cert.KernelIdeal.nD) → Buf (Elt Ideal) ((c.tc : Thread Cert.KernelIdeal.nD Cert.KernelIdeal.τ).loc Cert.KernelIdeal.main_v43_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_v43_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_GradWIn_GradWInIdeal : Prop :=
  True

def algebraic_GradWInIdeal_RefWInIdeal [hGradWInIdeal : Cert.GradWInIdeal.Facts] [hRefWInIdeal : Cert.RefWInIdeal.Facts] : Prop :=
  ∀ (m : (ℓ : Loc Cert.GradWInIdeal.nD Cert.GradWInIdeal.τ Cert.GradWInIdeal.sig) → Buf (Elt Ideal) ℓ) (g : Dev Cert.GradWInIdeal.nD → PrngReg)
    (m' : (ℓ : Loc Cert.RefWInIdeal.nD Cert.RefWInIdeal.τ Cert.RefWInIdeal.sig) → Buf (Elt Ideal) ℓ) (g' : Dev Cert.RefWInIdeal.nD → PrngReg), Pre_GradWInIdeal m →
    (∀ c : Dev Cert.GradWInIdeal.nD,
      m' ((c.tc : Thread Cert.RefWInIdeal.nD Cert.RefWInIdeal.τ).loc Cert.RefWInIdeal.main_arg0) = m ((c.tc : Thread Cert.GradWInIdeal.nD Cert.GradWInIdeal.τ).loc Cert.GradWInIdeal.main_arg0)
      ∧ m' ((c.tc : Thread Cert.RefWInIdeal.nD Cert.RefWInIdeal.τ).loc Cert.RefWInIdeal.main_arg1) = m ((c.tc : Thread Cert.GradWInIdeal.nD Cert.GradWInIdeal.τ).loc Cert.GradWInIdeal.main_arg1)
      ∧ m' ((c.tc : Thread Cert.RefWInIdeal.nD Cert.RefWInIdeal.τ).loc Cert.RefWInIdeal.main_arg2) = m ((c.tc : Thread Cert.GradWInIdeal.nD Cert.GradWInIdeal.τ).loc Cert.GradWInIdeal.main_arg2)
      ∧ m' ((c.tc : Thread Cert.RefWInIdeal.nD Cert.RefWInIdeal.τ).loc Cert.RefWInIdeal.main_arg3) = m ((c.tc : Thread Cert.GradWInIdeal.nD Cert.GradWInIdeal.τ).loc Cert.GradWInIdeal.main_arg3)
      ∧ m' ((c.tc : Thread Cert.RefWInIdeal.nD Cert.RefWInIdeal.τ).loc Cert.RefWInIdeal.main_arg4) = m ((c.tc : Thread Cert.GradWInIdeal.nD Cert.GradWInIdeal.τ).loc Cert.GradWInIdeal.main_arg4)
      ∧ m' ((c.tc : Thread Cert.RefWInIdeal.nD Cert.RefWInIdeal.τ).loc Cert.RefWInIdeal.main_arg5) = m ((c.tc : Thread Cert.GradWInIdeal.nD Cert.GradWInIdeal.τ).loc Cert.GradWInIdeal.main_arg5)
      ∧ m' ((c.tc : Thread Cert.RefWInIdeal.nD Cert.RefWInIdeal.τ).loc Cert.RefWInIdeal.main_arg6) = m ((c.tc : Thread Cert.GradWInIdeal.nD Cert.GradWInIdeal.τ).loc Cert.GradWInIdeal.main_arg6)
      ∧ m' ((c.tc : Thread Cert.RefWInIdeal.nD Cert.RefWInIdeal.τ).loc Cert.RefWInIdeal.main_arg7) = m ((c.tc : Thread Cert.GradWInIdeal.nD Cert.GradWInIdeal.τ).loc Cert.GradWInIdeal.main_arg7)
      ∧ m' ((c.tc : Thread Cert.RefWInIdeal.nD Cert.RefWInIdeal.τ).loc Cert.RefWInIdeal.main_arg8) = m ((c.tc : Thread Cert.GradWInIdeal.nD Cert.GradWInIdeal.τ).loc Cert.GradWInIdeal.main_arg8)) →
    ∃ (v0 : (c : Dev Cert.GradWInIdeal.nD) → Buf (Elt Ideal) ((c.tc : Thread Cert.GradWInIdeal.nD Cert.GradWInIdeal.τ).loc Cert.GradWInIdeal.main_v0)),
      θ_run (Cert.GradWInIdeal.defs (F := Ideal)) (onTc (τ := Cert.GradWInIdeal.τ) (Cert.GradWInIdeal.main (F := Ideal))) ⟨m, fun _ => 0, g⟩ (fun r => ∀ c : Dev Cert.GradWInIdeal.nD,
          r.2.mem ((c.tc : Thread Cert.GradWInIdeal.nD Cert.GradWInIdeal.τ).loc Cert.GradWInIdeal.main_v0) = v0 c
          ∧ r.2.mem ((c.tc : Thread Cert.GradWInIdeal.nD Cert.GradWInIdeal.τ).loc Cert.GradWInIdeal.main_arg0) = m ((c.tc : Thread Cert.GradWInIdeal.nD Cert.GradWInIdeal.τ).loc Cert.GradWInIdeal.main_arg0)
          ∧ r.2.mem ((c.tc : Thread Cert.GradWInIdeal.nD Cert.GradWInIdeal.τ).loc Cert.GradWInIdeal.main_arg1) = m ((c.tc : Thread Cert.GradWInIdeal.nD Cert.GradWInIdeal.τ).loc Cert.GradWInIdeal.main_arg1)
          ∧ r.2.mem ((c.tc : Thread Cert.GradWInIdeal.nD Cert.GradWInIdeal.τ).loc Cert.GradWInIdeal.main_arg2) = m ((c.tc : Thread Cert.GradWInIdeal.nD Cert.GradWInIdeal.τ).loc Cert.GradWInIdeal.main_arg2)
          ∧ r.2.mem ((c.tc : Thread Cert.GradWInIdeal.nD Cert.GradWInIdeal.τ).loc Cert.GradWInIdeal.main_arg3) = m ((c.tc : Thread Cert.GradWInIdeal.nD Cert.GradWInIdeal.τ).loc Cert.GradWInIdeal.main_arg3)
          ∧ r.2.mem ((c.tc : Thread Cert.GradWInIdeal.nD Cert.GradWInIdeal.τ).loc Cert.GradWInIdeal.main_arg4) = m ((c.tc : Thread Cert.GradWInIdeal.nD Cert.GradWInIdeal.τ).loc Cert.GradWInIdeal.main_arg4)
          ∧ r.2.mem ((c.tc : Thread Cert.GradWInIdeal.nD Cert.GradWInIdeal.τ).loc Cert.GradWInIdeal.main_arg5) = m ((c.tc : Thread Cert.GradWInIdeal.nD Cert.GradWInIdeal.τ).loc Cert.GradWInIdeal.main_arg5)
          ∧ r.2.mem ((c.tc : Thread Cert.GradWInIdeal.nD Cert.GradWInIdeal.τ).loc Cert.GradWInIdeal.main_arg6) = m ((c.tc : Thread Cert.GradWInIdeal.nD Cert.GradWInIdeal.τ).loc Cert.GradWInIdeal.main_arg6)
          ∧ r.2.mem ((c.tc : Thread Cert.GradWInIdeal.nD Cert.GradWInIdeal.τ).loc Cert.GradWInIdeal.main_arg7) = m ((c.tc : Thread Cert.GradWInIdeal.nD Cert.GradWInIdeal.τ).loc Cert.GradWInIdeal.main_arg7)
          ∧ r.2.mem ((c.tc : Thread Cert.GradWInIdeal.nD Cert.GradWInIdeal.τ).loc Cert.GradWInIdeal.main_arg8) = m ((c.tc : Thread Cert.GradWInIdeal.nD Cert.GradWInIdeal.τ).loc Cert.GradWInIdeal.main_arg8))
      ∧ θ_run (Cert.RefWInIdeal.defs (F := Ideal)) (onTc (τ := Cert.RefWInIdeal.τ) (Cert.RefWInIdeal.main (F := Ideal))) ⟨m', fun _ => 0, g'⟩ (fun r => ∀ c : Dev Cert.RefWInIdeal.nD,
          r.2.mem ((c.tc : Thread Cert.RefWInIdeal.nD Cert.RefWInIdeal.τ).loc Cert.RefWInIdeal.main_v6) = v0 c
          ∧ r.2.mem ((c.tc : Thread Cert.RefWInIdeal.nD Cert.RefWInIdeal.τ).loc Cert.RefWInIdeal.main_arg0) = m' ((c.tc : Thread Cert.RefWInIdeal.nD Cert.RefWInIdeal.τ).loc Cert.RefWInIdeal.main_arg0)
          ∧ r.2.mem ((c.tc : Thread Cert.RefWInIdeal.nD Cert.RefWInIdeal.τ).loc Cert.RefWInIdeal.main_arg1) = m' ((c.tc : Thread Cert.RefWInIdeal.nD Cert.RefWInIdeal.τ).loc Cert.RefWInIdeal.main_arg1)
          ∧ r.2.mem ((c.tc : Thread Cert.RefWInIdeal.nD Cert.RefWInIdeal.τ).loc Cert.RefWInIdeal.main_arg2) = m' ((c.tc : Thread Cert.RefWInIdeal.nD Cert.RefWInIdeal.τ).loc Cert.RefWInIdeal.main_arg2)
          ∧ r.2.mem ((c.tc : Thread Cert.RefWInIdeal.nD Cert.RefWInIdeal.τ).loc Cert.RefWInIdeal.main_arg3) = m' ((c.tc : Thread Cert.RefWInIdeal.nD Cert.RefWInIdeal.τ).loc Cert.RefWInIdeal.main_arg3)
          ∧ r.2.mem ((c.tc : Thread Cert.RefWInIdeal.nD Cert.RefWInIdeal.τ).loc Cert.RefWInIdeal.main_arg4) = m' ((c.tc : Thread Cert.RefWInIdeal.nD Cert.RefWInIdeal.τ).loc Cert.RefWInIdeal.main_arg4)
          ∧ r.2.mem ((c.tc : Thread Cert.RefWInIdeal.nD Cert.RefWInIdeal.τ).loc Cert.RefWInIdeal.main_arg5) = m' ((c.tc : Thread Cert.RefWInIdeal.nD Cert.RefWInIdeal.τ).loc Cert.RefWInIdeal.main_arg5)
          ∧ r.2.mem ((c.tc : Thread Cert.RefWInIdeal.nD Cert.RefWInIdeal.τ).loc Cert.RefWInIdeal.main_arg6) = m' ((c.tc : Thread Cert.RefWInIdeal.nD Cert.RefWInIdeal.τ).loc Cert.RefWInIdeal.main_arg6)
          ∧ r.2.mem ((c.tc : Thread Cert.RefWInIdeal.nD Cert.RefWInIdeal.τ).loc Cert.RefWInIdeal.main_arg7) = m' ((c.tc : Thread Cert.RefWInIdeal.nD Cert.RefWInIdeal.τ).loc Cert.RefWInIdeal.main_arg7)
          ∧ r.2.mem ((c.tc : Thread Cert.RefWInIdeal.nD Cert.RefWInIdeal.τ).loc Cert.RefWInIdeal.main_arg8) = m' ((c.tc : Thread Cert.RefWInIdeal.nD Cert.RefWInIdeal.τ).loc Cert.RefWInIdeal.main_arg8))

def preserves_GradWOut_GradWOutIdeal : Prop :=
  True

def algebraic_GradWOutIdeal_RefWOutIdeal [hGradWOutIdeal : Cert.GradWOutIdeal.Facts] [hRefWOutIdeal : Cert.RefWOutIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg)
    (m' : (ℓ : Loc Cert.RefWOutIdeal.nD Cert.RefWOutIdeal.τ Cert.RefWOutIdeal.sig) → Buf (Elt Ideal) ℓ) (g' : Dev Cert.RefWOutIdeal.nD → PrngReg), Pre_GradWOutIdeal m →
    (∀ c : Dev Cert.GradWOutIdeal.nD,
      m' ((c.tc : Thread Cert.RefWOutIdeal.nD Cert.RefWOutIdeal.τ).loc Cert.RefWOutIdeal.main_arg0) = m ((c.tc : Thread Cert.GradWOutIdeal.nD Cert.GradWOutIdeal.τ).loc Cert.GradWOutIdeal.main_arg0)
      ∧ m' ((c.tc : Thread Cert.RefWOutIdeal.nD Cert.RefWOutIdeal.τ).loc Cert.RefWOutIdeal.main_arg1) = m ((c.tc : Thread Cert.GradWOutIdeal.nD Cert.GradWOutIdeal.τ).loc Cert.GradWOutIdeal.main_arg1)) →
    ∃ (v0 : (c : Dev Cert.GradWOutIdeal.nD) → Buf (Elt Ideal) ((c.tc : Thread Cert.GradWOutIdeal.nD Cert.GradWOutIdeal.τ).loc Cert.GradWOutIdeal.main_v0)),
      θ_run (Cert.GradWOutIdeal.defs (F := Ideal)) (onTc (τ := Cert.GradWOutIdeal.τ) (Cert.GradWOutIdeal.main (F := Ideal))) ⟨m, fun _ => 0, g⟩ (fun r => ∀ c : Dev Cert.GradWOutIdeal.nD,
          r.2.mem ((c.tc : Thread Cert.GradWOutIdeal.nD Cert.GradWOutIdeal.τ).loc Cert.GradWOutIdeal.main_v0) = v0 c
          ∧ r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
          ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1))
      ∧ θ_run (Cert.RefWOutIdeal.defs (F := Ideal)) (onTc (τ := Cert.RefWOutIdeal.τ) (Cert.RefWOutIdeal.main (F := Ideal))) ⟨m', fun _ => 0, g'⟩ (fun r => ∀ c : Dev Cert.RefWOutIdeal.nD,
          r.2.mem ((c.tc : Thread Cert.RefWOutIdeal.nD Cert.RefWOutIdeal.τ).loc Cert.RefWOutIdeal.main_v5) = v0 c
          ∧ r.2.mem ((c.tc : Thread Cert.RefWOutIdeal.nD Cert.RefWOutIdeal.τ).loc Cert.RefWOutIdeal.main_arg0) = m' ((c.tc : Thread Cert.RefWOutIdeal.nD Cert.RefWOutIdeal.τ).loc Cert.RefWOutIdeal.main_arg0)
          ∧ r.2.mem ((c.tc : Thread Cert.RefWOutIdeal.nD Cert.RefWOutIdeal.τ).loc Cert.RefWOutIdeal.main_arg1) = m' ((c.tc : Thread Cert.RefWOutIdeal.nD Cert.RefWOutIdeal.τ).loc Cert.RefWOutIdeal.main_arg1))

def preserves_ProjIn_ProjInIdeal : Prop :=
  True

def algebraic_ProjInIdeal_RefProjInIdeal [hProjInIdeal : Cert.ProjInIdeal.Facts] [hRefProjInIdeal : Cert.RefProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.RefProjInIdeal.nD Cert.RefProjInIdeal.τ Cert.RefProjInIdeal.sig) → Buf (Elt Ideal) ℓ) (g' : Dev Cert.RefProjInIdeal.nD → PrngReg), Pre_ProjInIdeal m →
    (∀ c : Dev Cert.ProjInIdeal.nD,
      m' ((c.tc : Thread Cert.RefProjInIdeal.nD Cert.RefProjInIdeal.τ).loc Cert.RefProjInIdeal.main_arg0) = m ((c.tc : Thread Cert.ProjInIdeal.nD Cert.ProjInIdeal.τ).loc Cert.ProjInIdeal.main_arg0)
      ∧ m' ((c.tc : Thread Cert.RefProjInIdeal.nD Cert.RefProjInIdeal.τ).loc Cert.RefProjInIdeal.main_arg1) = m ((c.tc : Thread Cert.ProjInIdeal.nD Cert.ProjInIdeal.τ).loc Cert.ProjInIdeal.main_arg1)
      ∧ m' ((c.tc : Thread Cert.RefProjInIdeal.nD Cert.RefProjInIdeal.τ).loc Cert.RefProjInIdeal.main_arg2) = m ((c.tc : Thread Cert.ProjInIdeal.nD Cert.ProjInIdeal.τ).loc Cert.ProjInIdeal.main_arg2)
      ∧ m' ((c.tc : Thread Cert.RefProjInIdeal.nD Cert.RefProjInIdeal.τ).loc Cert.RefProjInIdeal.main_arg3) = m ((c.tc : Thread Cert.ProjInIdeal.nD Cert.ProjInIdeal.τ).loc Cert.ProjInIdeal.main_arg3)) →
    ∃ (v0 : (c : Dev Cert.ProjInIdeal.nD) → Buf (Elt Ideal) ((c.tc : Thread Cert.ProjInIdeal.nD Cert.ProjInIdeal.τ).loc Cert.ProjInIdeal.main_v1_0)) (v1 : (c : Dev Cert.ProjInIdeal.nD) → Buf (Elt Ideal) ((c.tc : Thread Cert.ProjInIdeal.nD Cert.ProjInIdeal.τ).loc Cert.ProjInIdeal.main_v1_1)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v1_0) = v0 c
          ∧ r.2.mem ((c.tc : Thread Cert.ProjInIdeal.nD Cert.ProjInIdeal.τ).loc Cert.ProjInIdeal.main_v1_1) = v1 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
          ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
          ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3))
      ∧ θ_run (Cert.RefProjInIdeal.defs (F := Ideal)) (onTc (τ := Cert.RefProjInIdeal.τ) (Cert.RefProjInIdeal.main (F := Ideal))) ⟨m', fun _ => 0, g'⟩ (fun r => ∀ c : Dev Cert.RefProjInIdeal.nD,
          r.2.mem ((c.tc : Thread Cert.RefProjInIdeal.nD Cert.RefProjInIdeal.τ).loc Cert.RefProjInIdeal.main_v27) = v0 c
          ∧ r.2.mem ((c.tc : Thread Cert.RefProjInIdeal.nD Cert.RefProjInIdeal.τ).loc Cert.RefProjInIdeal.main_v28) = v1 c
          ∧ r.2.mem ((c.tc : Thread Cert.RefProjInIdeal.nD Cert.RefProjInIdeal.τ).loc Cert.RefProjInIdeal.main_arg0) = m' ((c.tc : Thread Cert.RefProjInIdeal.nD Cert.RefProjInIdeal.τ).loc Cert.RefProjInIdeal.main_arg0)
          ∧ r.2.mem ((c.tc : Thread Cert.RefProjInIdeal.nD Cert.RefProjInIdeal.τ).loc Cert.RefProjInIdeal.main_arg1) = m' ((c.tc : Thread Cert.RefProjInIdeal.nD Cert.RefProjInIdeal.τ).loc Cert.RefProjInIdeal.main_arg1)
          ∧ r.2.mem ((c.tc : Thread Cert.RefProjInIdeal.nD Cert.RefProjInIdeal.τ).loc Cert.RefProjInIdeal.main_arg2) = m' ((c.tc : Thread Cert.RefProjInIdeal.nD Cert.RefProjInIdeal.τ).loc Cert.RefProjInIdeal.main_arg2)
          ∧ r.2.mem ((c.tc : Thread Cert.RefProjInIdeal.nD Cert.RefProjInIdeal.τ).loc Cert.RefProjInIdeal.main_arg3) = m' ((c.tc : Thread Cert.RefProjInIdeal.nD Cert.RefProjInIdeal.τ).loc Cert.RefProjInIdeal.main_arg3))

def preserves_GradIn_GradInIdeal : Prop :=
  True

def algebraic_GradInIdeal_RefGradInIdeal [hGradInIdeal : Cert.GradInIdeal.Facts] [hRefGradInIdeal : Cert.RefGradInIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.RefGradInIdeal.nD Cert.RefGradInIdeal.τ Cert.RefGradInIdeal.sig) → Buf (Elt Ideal) ℓ) (g' : Dev Cert.RefGradInIdeal.nD → PrngReg), Pre_GradInIdeal m →
    (∀ c : Dev Cert.GradInIdeal.nD,
      m' ((c.tc : Thread Cert.RefGradInIdeal.nD Cert.RefGradInIdeal.τ).loc Cert.RefGradInIdeal.main_arg0) = m ((c.tc : Thread Cert.GradInIdeal.nD Cert.GradInIdeal.τ).loc Cert.GradInIdeal.main_arg0)
      ∧ m' ((c.tc : Thread Cert.RefGradInIdeal.nD Cert.RefGradInIdeal.τ).loc Cert.RefGradInIdeal.main_arg1) = m ((c.tc : Thread Cert.GradInIdeal.nD Cert.GradInIdeal.τ).loc Cert.GradInIdeal.main_arg1)
      ∧ m' ((c.tc : Thread Cert.RefGradInIdeal.nD Cert.RefGradInIdeal.τ).loc Cert.RefGradInIdeal.main_arg2) = m ((c.tc : Thread Cert.GradInIdeal.nD Cert.GradInIdeal.τ).loc Cert.GradInIdeal.main_arg2)
      ∧ m' ((c.tc : Thread Cert.RefGradInIdeal.nD Cert.RefGradInIdeal.τ).loc Cert.RefGradInIdeal.main_arg3) = m ((c.tc : Thread Cert.GradInIdeal.nD Cert.GradInIdeal.τ).loc Cert.GradInIdeal.main_arg3)
      ∧ m' ((c.tc : Thread Cert.RefGradInIdeal.nD Cert.RefGradInIdeal.τ).loc Cert.RefGradInIdeal.main_arg4) = m ((c.tc : Thread Cert.GradInIdeal.nD Cert.GradInIdeal.τ).loc Cert.GradInIdeal.main_arg4)
      ∧ m' ((c.tc : Thread Cert.RefGradInIdeal.nD Cert.RefGradInIdeal.τ).loc Cert.RefGradInIdeal.main_arg5) = m ((c.tc : Thread Cert.GradInIdeal.nD Cert.GradInIdeal.τ).loc Cert.GradInIdeal.main_arg5)
      ∧ m' ((c.tc : Thread Cert.RefGradInIdeal.nD Cert.RefGradInIdeal.τ).loc Cert.RefGradInIdeal.main_arg6) = m ((c.tc : Thread Cert.GradInIdeal.nD Cert.GradInIdeal.τ).loc Cert.GradInIdeal.main_arg6)
      ∧ m' ((c.tc : Thread Cert.RefGradInIdeal.nD Cert.RefGradInIdeal.τ).loc Cert.RefGradInIdeal.main_arg7) = m ((c.tc : Thread Cert.GradInIdeal.nD Cert.GradInIdeal.τ).loc Cert.GradInIdeal.main_arg7)
      ∧ m' ((c.tc : Thread Cert.RefGradInIdeal.nD Cert.RefGradInIdeal.τ).loc Cert.RefGradInIdeal.main_arg8) = m ((c.tc : Thread Cert.GradInIdeal.nD Cert.GradInIdeal.τ).loc Cert.GradInIdeal.main_arg8)
      ∧ m' ((c.tc : Thread Cert.RefGradInIdeal.nD Cert.RefGradInIdeal.τ).loc Cert.RefGradInIdeal.main_arg9) = m ((c.tc : Thread Cert.GradInIdeal.nD Cert.GradInIdeal.τ).loc Cert.GradInIdeal.main_arg9)
      ∧ m' ((c.tc : Thread Cert.RefGradInIdeal.nD Cert.RefGradInIdeal.τ).loc Cert.RefGradInIdeal.main_arg10) = m ((c.tc : Thread Cert.GradInIdeal.nD Cert.GradInIdeal.τ).loc Cert.GradInIdeal.main_arg10)
      ∧ m' ((c.tc : Thread Cert.RefGradInIdeal.nD Cert.RefGradInIdeal.τ).loc Cert.RefGradInIdeal.main_arg11) = m ((c.tc : Thread Cert.GradInIdeal.nD Cert.GradInIdeal.τ).loc Cert.GradInIdeal.main_arg11)
      ∧ m' ((c.tc : Thread Cert.RefGradInIdeal.nD Cert.RefGradInIdeal.τ).loc Cert.RefGradInIdeal.main_arg12) = m ((c.tc : Thread Cert.GradInIdeal.nD Cert.GradInIdeal.τ).loc Cert.GradInIdeal.main_arg12)) →
    ∃ (v0 : (c : Dev Cert.GradInIdeal.nD) → Buf (Elt Ideal) ((c.tc : Thread Cert.GradInIdeal.nD Cert.GradInIdeal.τ).loc Cert.GradInIdeal.main_v1_0)) (v1 : (c : Dev Cert.GradInIdeal.nD) → Buf (Elt Ideal) ((c.tc : Thread Cert.GradInIdeal.nD Cert.GradInIdeal.τ).loc Cert.GradInIdeal.main_v1_1)) (v2 : (c : Dev Cert.GradInIdeal.nD) → Buf (Elt Ideal) ((c.tc : Thread Cert.GradInIdeal.nD Cert.GradInIdeal.τ).loc Cert.GradInIdeal.main_v1_2)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v1_0) = v0 c
          ∧ r.2.mem ((c.tc : Thread Cert.GradInIdeal.nD Cert.GradInIdeal.τ).loc Cert.GradInIdeal.main_v1_1) = v1 c
          ∧ r.2.mem ((c.tc : Thread Cert.GradInIdeal.nD Cert.GradInIdeal.τ).loc Cert.GradInIdeal.main_v1_2) = v2 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
          ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2)
          ∧ r.2.mem ((c.tc : Thread Cert.GradInIdeal.nD Cert.GradInIdeal.τ).loc Cert.GradInIdeal.main_arg3) = m ((c.tc : Thread Cert.GradInIdeal.nD Cert.GradInIdeal.τ).loc Cert.GradInIdeal.main_arg3)
          ∧ r.2.mem ((c.tc : Thread Cert.GradInIdeal.nD Cert.GradInIdeal.τ).loc Cert.GradInIdeal.main_arg4) = m ((c.tc : Thread Cert.GradInIdeal.nD Cert.GradInIdeal.τ).loc Cert.GradInIdeal.main_arg4)
          ∧ r.2.mem ((c.tc : Thread Cert.GradInIdeal.nD Cert.GradInIdeal.τ).loc Cert.GradInIdeal.main_arg5) = m ((c.tc : Thread Cert.GradInIdeal.nD Cert.GradInIdeal.τ).loc Cert.GradInIdeal.main_arg5)
          ∧ r.2.mem ((c.tc : Thread Cert.GradInIdeal.nD Cert.GradInIdeal.τ).loc Cert.GradInIdeal.main_arg6) = m ((c.tc : Thread Cert.GradInIdeal.nD Cert.GradInIdeal.τ).loc Cert.GradInIdeal.main_arg6)
          ∧ r.2.mem ((c.tc : Thread Cert.GradInIdeal.nD Cert.GradInIdeal.τ).loc Cert.GradInIdeal.main_arg7) = m ((c.tc : Thread Cert.GradInIdeal.nD Cert.GradInIdeal.τ).loc Cert.GradInIdeal.main_arg7)
          ∧ r.2.mem ((c.tc : Thread Cert.GradInIdeal.nD Cert.GradInIdeal.τ).loc Cert.GradInIdeal.main_arg8) = m ((c.tc : Thread Cert.GradInIdeal.nD Cert.GradInIdeal.τ).loc Cert.GradInIdeal.main_arg8)
          ∧ r.2.mem ((c.tc : Thread Cert.GradInIdeal.nD Cert.GradInIdeal.τ).loc Cert.GradInIdeal.main_arg9) = m ((c.tc : Thread Cert.GradInIdeal.nD Cert.GradInIdeal.τ).loc Cert.GradInIdeal.main_arg9)
          ∧ r.2.mem ((c.tc : Thread Cert.GradInIdeal.nD Cert.GradInIdeal.τ).loc Cert.GradInIdeal.main_arg10) = m ((c.tc : Thread Cert.GradInIdeal.nD Cert.GradInIdeal.τ).loc Cert.GradInIdeal.main_arg10)
          ∧ r.2.mem ((c.tc : Thread Cert.GradInIdeal.nD Cert.GradInIdeal.τ).loc Cert.GradInIdeal.main_arg11) = m ((c.tc : Thread Cert.GradInIdeal.nD Cert.GradInIdeal.τ).loc Cert.GradInIdeal.main_arg11)
          ∧ r.2.mem ((c.tc : Thread Cert.GradInIdeal.nD Cert.GradInIdeal.τ).loc Cert.GradInIdeal.main_arg12) = m ((c.tc : Thread Cert.GradInIdeal.nD Cert.GradInIdeal.τ).loc Cert.GradInIdeal.main_arg12))
      ∧ θ_run (Cert.RefGradInIdeal.defs (F := Ideal)) (onTc (τ := Cert.RefGradInIdeal.τ) (Cert.RefGradInIdeal.main (F := Ideal))) ⟨m', fun _ => 0, g'⟩ (fun r => ∀ c : Dev Cert.RefGradInIdeal.nD,
          r.2.mem ((c.tc : Thread Cert.RefGradInIdeal.nD Cert.RefGradInIdeal.τ).loc Cert.RefGradInIdeal.main_v63) = v0 c
          ∧ r.2.mem ((c.tc : Thread Cert.RefGradInIdeal.nD Cert.RefGradInIdeal.τ).loc Cert.RefGradInIdeal.main_v68) = v1 c
          ∧ r.2.mem ((c.tc : Thread Cert.RefGradInIdeal.nD Cert.RefGradInIdeal.τ).loc Cert.RefGradInIdeal.main_v69) = v2 c
          ∧ r.2.mem ((c.tc : Thread Cert.RefGradInIdeal.nD Cert.RefGradInIdeal.τ).loc Cert.RefGradInIdeal.main_arg0) = m' ((c.tc : Thread Cert.RefGradInIdeal.nD Cert.RefGradInIdeal.τ).loc Cert.RefGradInIdeal.main_arg0)
          ∧ r.2.mem ((c.tc : Thread Cert.RefGradInIdeal.nD Cert.RefGradInIdeal.τ).loc Cert.RefGradInIdeal.main_arg1) = m' ((c.tc : Thread Cert.RefGradInIdeal.nD Cert.RefGradInIdeal.τ).loc Cert.RefGradInIdeal.main_arg1)
          ∧ r.2.mem ((c.tc : Thread Cert.RefGradInIdeal.nD Cert.RefGradInIdeal.τ).loc Cert.RefGradInIdeal.main_arg2) = m' ((c.tc : Thread Cert.RefGradInIdeal.nD Cert.RefGradInIdeal.τ).loc Cert.RefGradInIdeal.main_arg2)
          ∧ r.2.mem ((c.tc : Thread Cert.RefGradInIdeal.nD Cert.RefGradInIdeal.τ).loc Cert.RefGradInIdeal.main_arg3) = m' ((c.tc : Thread Cert.RefGradInIdeal.nD Cert.RefGradInIdeal.τ).loc Cert.RefGradInIdeal.main_arg3)
          ∧ r.2.mem ((c.tc : Thread Cert.RefGradInIdeal.nD Cert.RefGradInIdeal.τ).loc Cert.RefGradInIdeal.main_arg4) = m' ((c.tc : Thread Cert.RefGradInIdeal.nD Cert.RefGradInIdeal.τ).loc Cert.RefGradInIdeal.main_arg4)
          ∧ r.2.mem ((c.tc : Thread Cert.RefGradInIdeal.nD Cert.RefGradInIdeal.τ).loc Cert.RefGradInIdeal.main_arg5) = m' ((c.tc : Thread Cert.RefGradInIdeal.nD Cert.RefGradInIdeal.τ).loc Cert.RefGradInIdeal.main_arg5)
          ∧ r.2.mem ((c.tc : Thread Cert.RefGradInIdeal.nD Cert.RefGradInIdeal.τ).loc Cert.RefGradInIdeal.main_arg6) = m' ((c.tc : Thread Cert.RefGradInIdeal.nD Cert.RefGradInIdeal.τ).loc Cert.RefGradInIdeal.main_arg6)
          ∧ r.2.mem ((c.tc : Thread Cert.RefGradInIdeal.nD Cert.RefGradInIdeal.τ).loc Cert.RefGradInIdeal.main_arg7) = m' ((c.tc : Thread Cert.RefGradInIdeal.nD Cert.RefGradInIdeal.τ).loc Cert.RefGradInIdeal.main_arg7)
          ∧ r.2.mem ((c.tc : Thread Cert.RefGradInIdeal.nD Cert.RefGradInIdeal.τ).loc Cert.RefGradInIdeal.main_arg8) = m' ((c.tc : Thread Cert.RefGradInIdeal.nD Cert.RefGradInIdeal.τ).loc Cert.RefGradInIdeal.main_arg8)
          ∧ r.2.mem ((c.tc : Thread Cert.RefGradInIdeal.nD Cert.RefGradInIdeal.τ).loc Cert.RefGradInIdeal.main_arg9) = m' ((c.tc : Thread Cert.RefGradInIdeal.nD Cert.RefGradInIdeal.τ).loc Cert.RefGradInIdeal.main_arg9)
          ∧ r.2.mem ((c.tc : Thread Cert.RefGradInIdeal.nD Cert.RefGradInIdeal.τ).loc Cert.RefGradInIdeal.main_arg10) = m' ((c.tc : Thread Cert.RefGradInIdeal.nD Cert.RefGradInIdeal.τ).loc Cert.RefGradInIdeal.main_arg10)
          ∧ r.2.mem ((c.tc : Thread Cert.RefGradInIdeal.nD Cert.RefGradInIdeal.τ).loc Cert.RefGradInIdeal.main_arg11) = m' ((c.tc : Thread Cert.RefGradInIdeal.nD Cert.RefGradInIdeal.τ).loc Cert.RefGradInIdeal.main_arg11)
          ∧ r.2.mem ((c.tc : Thread Cert.RefGradInIdeal.nD Cert.RefGradInIdeal.τ).loc Cert.RefGradInIdeal.main_arg12) = m' ((c.tc : Thread Cert.RefGradInIdeal.nD Cert.RefGradInIdeal.τ).loc Cert.RefGradInIdeal.main_arg12))

def preserves_ProjOut_ProjOutIdeal : Prop :=
  True

def algebraic_ProjOutIdeal_RefProjOutIdeal [hProjOutIdeal : Cert.ProjOutIdeal.Facts] [hRefProjOutIdeal : Cert.RefProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.RefProjOutIdeal.nD Cert.RefProjOutIdeal.τ Cert.RefProjOutIdeal.sig) → Buf (Elt Ideal) ℓ) (g' : Dev Cert.RefProjOutIdeal.nD → PrngReg), Pre_ProjOutIdeal m →
    (∀ c : Dev Cert.ProjOutIdeal.nD,
      m' ((c.tc : Thread Cert.RefProjOutIdeal.nD Cert.RefProjOutIdeal.τ).loc Cert.RefProjOutIdeal.main_arg0) = m ((c.tc : Thread Cert.ProjOutIdeal.nD Cert.ProjOutIdeal.τ).loc Cert.ProjOutIdeal.main_arg0)
      ∧ m' ((c.tc : Thread Cert.RefProjOutIdeal.nD Cert.RefProjOutIdeal.τ).loc Cert.RefProjOutIdeal.main_arg1) = m ((c.tc : Thread Cert.ProjOutIdeal.nD Cert.ProjOutIdeal.τ).loc Cert.ProjOutIdeal.main_arg1)
      ∧ m' ((c.tc : Thread Cert.RefProjOutIdeal.nD Cert.RefProjOutIdeal.τ).loc Cert.RefProjOutIdeal.main_arg2) = m ((c.tc : Thread Cert.ProjOutIdeal.nD Cert.ProjOutIdeal.τ).loc Cert.ProjOutIdeal.main_arg2)
      ∧ m' ((c.tc : Thread Cert.RefProjOutIdeal.nD Cert.RefProjOutIdeal.τ).loc Cert.RefProjOutIdeal.main_arg3) = m ((c.tc : Thread Cert.ProjOutIdeal.nD Cert.ProjOutIdeal.τ).loc Cert.ProjOutIdeal.main_arg3)
      ∧ m' ((c.tc : Thread Cert.RefProjOutIdeal.nD Cert.RefProjOutIdeal.τ).loc Cert.RefProjOutIdeal.main_arg4) = m ((c.tc : Thread Cert.ProjOutIdeal.nD Cert.ProjOutIdeal.τ).loc Cert.ProjOutIdeal.main_arg4)
      ∧ m' ((c.tc : Thread Cert.RefProjOutIdeal.nD Cert.RefProjOutIdeal.τ).loc Cert.RefProjOutIdeal.main_arg5) = m ((c.tc : Thread Cert.ProjOutIdeal.nD Cert.ProjOutIdeal.τ).loc Cert.ProjOutIdeal.main_arg5)
      ∧ m' ((c.tc : Thread Cert.RefProjOutIdeal.nD Cert.RefProjOutIdeal.τ).loc Cert.RefProjOutIdeal.main_arg6) = m ((c.tc : Thread Cert.ProjOutIdeal.nD Cert.ProjOutIdeal.τ).loc Cert.ProjOutIdeal.main_arg6)
      ∧ m' ((c.tc : Thread Cert.RefProjOutIdeal.nD Cert.RefProjOutIdeal.τ).loc Cert.RefProjOutIdeal.main_arg7) = m ((c.tc : Thread Cert.ProjOutIdeal.nD Cert.ProjOutIdeal.τ).loc Cert.ProjOutIdeal.main_arg7)) →
    ∃ (v0 : (c : Dev Cert.ProjOutIdeal.nD) → Buf (Elt Ideal) ((c.tc : Thread Cert.ProjOutIdeal.nD Cert.ProjOutIdeal.τ).loc Cert.ProjOutIdeal.main_v1_0)) (v1 : (c : Dev Cert.ProjOutIdeal.nD) → Buf (Elt Ideal) ((c.tc : Thread Cert.ProjOutIdeal.nD Cert.ProjOutIdeal.τ).loc Cert.ProjOutIdeal.main_v1_1)) (v2 : (c : Dev Cert.ProjOutIdeal.nD) → Buf (Elt Ideal) ((c.tc : Thread Cert.ProjOutIdeal.nD Cert.ProjOutIdeal.τ).loc Cert.ProjOutIdeal.main_v1_2)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v1_0) = v0 c
          ∧ r.2.mem ((c.tc : Thread Cert.ProjOutIdeal.nD Cert.ProjOutIdeal.τ).loc Cert.ProjOutIdeal.main_v1_1) = v1 c
          ∧ r.2.mem ((c.tc : Thread Cert.ProjOutIdeal.nD Cert.ProjOutIdeal.τ).loc Cert.ProjOutIdeal.main_v1_2) = v2 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
          ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
          ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3)
          ∧ r.2.mem ((c.tc : Thread Cert.ProjOutIdeal.nD Cert.ProjOutIdeal.τ).loc Cert.ProjOutIdeal.main_arg4) = m ((c.tc : Thread Cert.ProjOutIdeal.nD Cert.ProjOutIdeal.τ).loc Cert.ProjOutIdeal.main_arg4)
          ∧ r.2.mem ((c.tc : Thread Cert.ProjOutIdeal.nD Cert.ProjOutIdeal.τ).loc Cert.ProjOutIdeal.main_arg5) = m ((c.tc : Thread Cert.ProjOutIdeal.nD Cert.ProjOutIdeal.τ).loc Cert.ProjOutIdeal.main_arg5)
          ∧ r.2.mem ((c.tc : Thread Cert.ProjOutIdeal.nD Cert.ProjOutIdeal.τ).loc Cert.ProjOutIdeal.main_arg6) = m ((c.tc : Thread Cert.ProjOutIdeal.nD Cert.ProjOutIdeal.τ).loc Cert.ProjOutIdeal.main_arg6)
          ∧ r.2.mem ((c.tc : Thread Cert.ProjOutIdeal.nD Cert.ProjOutIdeal.τ).loc Cert.ProjOutIdeal.main_arg7) = m ((c.tc : Thread Cert.ProjOutIdeal.nD Cert.ProjOutIdeal.τ).loc Cert.ProjOutIdeal.main_arg7))
      ∧ θ_run (Cert.RefProjOutIdeal.defs (F := Ideal)) (onTc (τ := Cert.RefProjOutIdeal.τ) (Cert.RefProjOutIdeal.main (F := Ideal))) ⟨m', fun _ => 0, g'⟩ (fun r => ∀ c : Dev Cert.RefProjOutIdeal.nD,
          r.2.mem ((c.tc : Thread Cert.RefProjOutIdeal.nD Cert.RefProjOutIdeal.τ).loc Cert.RefProjOutIdeal.main_v31) = v0 c
          ∧ r.2.mem ((c.tc : Thread Cert.RefProjOutIdeal.nD Cert.RefProjOutIdeal.τ).loc Cert.RefProjOutIdeal.main_v12) = v1 c
          ∧ r.2.mem ((c.tc : Thread Cert.RefProjOutIdeal.nD Cert.RefProjOutIdeal.τ).loc Cert.RefProjOutIdeal.main_v32) = v2 c
          ∧ r.2.mem ((c.tc : Thread Cert.RefProjOutIdeal.nD Cert.RefProjOutIdeal.τ).loc Cert.RefProjOutIdeal.main_arg0) = m' ((c.tc : Thread Cert.RefProjOutIdeal.nD Cert.RefProjOutIdeal.τ).loc Cert.RefProjOutIdeal.main_arg0)
          ∧ r.2.mem ((c.tc : Thread Cert.RefProjOutIdeal.nD Cert.RefProjOutIdeal.τ).loc Cert.RefProjOutIdeal.main_arg1) = m' ((c.tc : Thread Cert.RefProjOutIdeal.nD Cert.RefProjOutIdeal.τ).loc Cert.RefProjOutIdeal.main_arg1)
          ∧ r.2.mem ((c.tc : Thread Cert.RefProjOutIdeal.nD Cert.RefProjOutIdeal.τ).loc Cert.RefProjOutIdeal.main_arg2) = m' ((c.tc : Thread Cert.RefProjOutIdeal.nD Cert.RefProjOutIdeal.τ).loc Cert.RefProjOutIdeal.main_arg2)
          ∧ r.2.mem ((c.tc : Thread Cert.RefProjOutIdeal.nD Cert.RefProjOutIdeal.τ).loc Cert.RefProjOutIdeal.main_arg3) = m' ((c.tc : Thread Cert.RefProjOutIdeal.nD Cert.RefProjOutIdeal.τ).loc Cert.RefProjOutIdeal.main_arg3)
          ∧ r.2.mem ((c.tc : Thread Cert.RefProjOutIdeal.nD Cert.RefProjOutIdeal.τ).loc Cert.RefProjOutIdeal.main_arg4) = m' ((c.tc : Thread Cert.RefProjOutIdeal.nD Cert.RefProjOutIdeal.τ).loc Cert.RefProjOutIdeal.main_arg4)
          ∧ r.2.mem ((c.tc : Thread Cert.RefProjOutIdeal.nD Cert.RefProjOutIdeal.τ).loc Cert.RefProjOutIdeal.main_arg5) = m' ((c.tc : Thread Cert.RefProjOutIdeal.nD Cert.RefProjOutIdeal.τ).loc Cert.RefProjOutIdeal.main_arg5)
          ∧ r.2.mem ((c.tc : Thread Cert.RefProjOutIdeal.nD Cert.RefProjOutIdeal.τ).loc Cert.RefProjOutIdeal.main_arg6) = m' ((c.tc : Thread Cert.RefProjOutIdeal.nD Cert.RefProjOutIdeal.τ).loc Cert.RefProjOutIdeal.main_arg6)
          ∧ r.2.mem ((c.tc : Thread Cert.RefProjOutIdeal.nD Cert.RefProjOutIdeal.τ).loc Cert.RefProjOutIdeal.main_arg7) = m' ((c.tc : Thread Cert.RefProjOutIdeal.nD Cert.RefProjOutIdeal.τ).loc Cert.RefProjOutIdeal.main_arg7))

def Claim : Prop :=
  ∃ (hKernel : Cert.Kernel.Facts) (hKernelIdeal : Cert.KernelIdeal.Facts) (hReferenceIdeal : Cert.ReferenceIdeal.Facts) (hGradWIn : Cert.GradWIn.Facts) (hGradWInIdeal : Cert.GradWInIdeal.Facts) (hRefWInIdeal : Cert.RefWInIdeal.Facts) (hGradWOut : Cert.GradWOut.Facts) (hGradWOutIdeal : Cert.GradWOutIdeal.Facts) (hRefWOutIdeal : Cert.RefWOutIdeal.Facts) (hProjIn : Cert.ProjIn.Facts) (hProjInIdeal : Cert.ProjInIdeal.Facts) (hRefProjInIdeal : Cert.RefProjInIdeal.Facts) (hGradIn : Cert.GradIn.Facts) (hGradInIdeal : Cert.GradInIdeal.Facts) (hRefGradInIdeal : Cert.RefGradInIdeal.Facts) (hProjOut : Cert.ProjOut.Facts) (hProjOutIdeal : Cert.ProjOutIdeal.Facts) (hRefProjOutIdeal : Cert.RefProjOutIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GradWIn (hGradWIn := hGradWIn)
    ∧ quiescent_GradWInIdeal (hGradWInIdeal := hGradWInIdeal)
    ∧ quiescent_RefWInIdeal (hRefWInIdeal := hRefWInIdeal)
    ∧ quiescent_GradWOut (hGradWOut := hGradWOut)
    ∧ quiescent_GradWOutIdeal (hGradWOutIdeal := hGradWOutIdeal)
    ∧ quiescent_RefWOutIdeal (hRefWOutIdeal := hRefWOutIdeal)
    ∧ quiescent_ProjIn (hProjIn := hProjIn)
    ∧ quiescent_ProjInIdeal (hProjInIdeal := hProjInIdeal)
    ∧ quiescent_RefProjInIdeal (hRefProjInIdeal := hRefProjInIdeal)
    ∧ quiescent_GradIn (hGradIn := hGradIn)
    ∧ quiescent_GradInIdeal (hGradInIdeal := hGradInIdeal)
    ∧ quiescent_RefGradInIdeal (hRefGradInIdeal := hRefGradInIdeal)
    ∧ quiescent_ProjOut (hProjOut := hProjOut)
    ∧ quiescent_ProjOutIdeal (hProjOutIdeal := hProjOutIdeal)
    ∧ quiescent_RefProjOutIdeal (hRefProjOutIdeal := hRefProjOutIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_GradWIn_GradWInIdeal
    ∧ algebraic_GradWInIdeal_RefWInIdeal (hGradWInIdeal := hGradWInIdeal) (hRefWInIdeal := hRefWInIdeal)
    ∧ preserves_GradWOut_GradWOutIdeal
    ∧ algebraic_GradWOutIdeal_RefWOutIdeal (hGradWOutIdeal := hGradWOutIdeal) (hRefWOutIdeal := hRefWOutIdeal)
    ∧ preserves_ProjIn_ProjInIdeal
    ∧ algebraic_ProjInIdeal_RefProjInIdeal (hProjInIdeal := hProjInIdeal) (hRefProjInIdeal := hRefProjInIdeal)
    ∧ preserves_GradIn_GradInIdeal
    ∧ algebraic_GradInIdeal_RefGradInIdeal (hGradInIdeal := hGradInIdeal) (hRefGradInIdeal := hRefGradInIdeal)
    ∧ preserves_ProjOut_ProjOutIdeal
    ∧ algebraic_ProjOutIdeal_RefProjOutIdeal (hProjOutIdeal := hProjOutIdeal) (hRefProjOutIdeal := hRefProjOutIdeal)
-- ==== Pre_finite.lean ====
abbrev S8192x4x192 : Shape := ⟨3, ![8192, 4, 192]⟩
abbrev S8192x4x128 : Shape := ⟨3, ![8192, 4, 128]⟩
abbrev S_ : Shape := ⟨0, ![]⟩

class Facts : Prop where
  bcast_S_S8192x4x192 : S_.BroadcastsInDim S8192x4x192 (![] : Fin 0 → Fin S8192x4x192.rank)
  reducesTo_S8192x4x192_S_d0_1_2 : S8192x4x192.ReducesTo [0, 1, 2] S_
  h_S_ : 0 < S_.numel
  bcast_S_S8192x4x128 : S_.BroadcastsInDim S8192x4x128 (![] : Fin 0 → Fin S8192x4x128.rank)
  reducesTo_S8192x4x128_S_d0_1_2 : S8192x4x128.ReducesTo [0, 1, 2] S_

variable [Facts]

def fn_part1 {F : FTy → Type} [FloatOps F] (main_v13 : IVec S_ 1) (main_v16 : IVec S8192x4x128 1) : IVec S_ 1 :=
  let main_c_5 : IVec S_ 1 := constantI S_ 1 1#1
  let main_v17 : IVec S_ 1 := (fun x v => Host.reduce IntOp.andi x v reducesTo_S8192x4x128_S_d0_1_2 h_S_) main_v16 main_c_5
  let main_v18 : IVec S_ 1 := andi main_v13 main_v17
  main_v18

def fn {F : FTy → Type} [FloatOps F] (main_arg0 : FVec F S8192x4x192 .f32) (main_arg1 : FVec F S8192x4x192 .f32) (main_arg2 : FVec F S8192x4x128 .f32) (main_arg3 : FVec F S8192x4x128 .f32) : IVec S_ 1 :=
  let main_v0 : FVec F S8192x4x192 .f32 := Host.absf main_arg0
  let main_cst : FVec F S_ .f32 := constant S_ .f32 0x7F800000#32
  let main_v1 : FVec F S8192x4x192 .f32 := broadcastInDim S8192x4x192 ![] bcast_S_S8192x4x192 main_cst
  let main_v2 : IVec S8192x4x192 1 := cmpf .olt main_v0 main_v1
  let main_c : IVec S_ 1 := constantI S_ 1 1#1
  let main_v3 : IVec S_ 1 := (fun x v => Host.reduce IntOp.andi x v reducesTo_S8192x4x192_S_d0_1_2 h_S_) main_v2 main_c
  let main_v4 : FVec F S8192x4x192 .f32 := Host.absf main_arg1
  let main_cst_0 : FVec F S_ .f32 := constant S_ .f32 0x7F800000#32
  let main_v5 : FVec F S8192x4x192 .f32 := broadcastInDim S8192x4x192 ![] bcast_S_S8192x4x192 main_cst_0
  let main_v6 : IVec S8192x4x192 1 := cmpf .olt main_v4 main_v5
  let main_c_1 : IVec S_ 1 := constantI S_ 1 1#1
  let main_v7 : IVec S_ 1 := (fun x v => Host.reduce IntOp.andi x v reducesTo_S8192x4x192_S_d0_1_2 h_S_) main_v6 main_c_1
  let main_v8 : IVec S_ 1 := andi main_v3 main_v7
  let main_v9 : FVec F S8192x4x128 .f32 := Host.absf main_arg2
  let main_cst_2 : FVec F S_ .f32 := constant S_ .f32 0x7F800000#32
  let main_v10 : FVec F S8192x4x128 .f32 := broadcastInDim S8192x4x128 ![] bcast_S_S8192x4x128 main_cst_2
  let main_v11 : IVec S8192x4x128 1 := cmpf .olt main_v9 main_v10
  let main_c_3 : IVec S_ 1 := constantI S_ 1 1#1
  let main_v12 : IVec S_ 1 := (fun x v => Host.reduce IntOp.andi x v reducesTo_S8192x4x128_S_d0_1_2 h_S_) main_v11 main_c_3
  let main_v13 : IVec S_ 1 := andi main_v8 main_v12
  let main_v14 : FVec F S8192x4x128 .f32 := Host.absf main_arg3
  let main_cst_4 : FVec F S_ .f32 := constant S_ .f32 0x7F800000#32
  let main_v15 : FVec F S8192x4x128 .f32 := broadcastInDim S8192x4x128 ![] bcast_S_S8192x4x128 main_cst_4
  let main_v16 : IVec S8192x4x128 1 := cmpf .olt main_v14 main_v15
  fn_part1 (F := F) main_v13 main_v16
-- ==== Kernel.lean ====
abbrev S8192x4x192 : Shape := ⟨3, ![8192, 4, 192]⟩
abbrev S8192x4x128 : Shape := ⟨3, ![8192, 4, 128]⟩
abbrev S8192 : Shape := ⟨1, ![8192]⟩
abbrev S4x8192x8192 : Shape := ⟨3, ![4, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S4x8192 : Shape := ⟨2, ![4, 8192]⟩
abbrev S4x8192x1 : Shape := ⟨3, ![4, 8192, 1]⟩
abbrev S4x128x8192 : Shape := ⟨3, ![4, 128, 8192]⟩
abbrev S8192x4 : Shape := ⟨2, ![8192, 4]⟩
abbrev S8192x4x1 : Shape := ⟨3, ![8192, 4, 1]⟩
abbrev S8192x4x2 : Shape := ⟨3, ![8192, 4, 2]⟩
abbrev S8192x8 : Shape := ⟨2, ![8192, 8]⟩
abbrev S8192x128 : Shape := ⟨2, ![8192, 128]⟩
abbrev S8192x4x256 : Shape := ⟨3, ![8192, 4, 256]⟩
abbrev S8192x1024 : Shape := ⟨2, ![8192, 1024]⟩
abbrev S8192x512 : Shape := ⟨2, ![8192, 512]⟩
abbrev S8192x256 : Shape := ⟨2, ![8192, 256]⟩
abbrev S1024x256 : Shape := ⟨2, ![1024, 256]⟩
abbrev S1024x128 : Shape := ⟨2, ![1024, 128]⟩
abbrev S2x512x256 : Shape := ⟨3, ![2, 512, 256]⟩
abbrev S2x512x128 : Shape := ⟨3, ![2, 512, 128]⟩
abbrev S1x128 : Shape := ⟨2, ![1, 128]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S1x512x128 : Shape := ⟨3, ![1, 512, 128]⟩
abbrev S1x512x256 : Shape := ⟨3, ![1, 512, 256]⟩

abbrev nBuf : Space → Nat
  | .hbm => 64
  | .vmem => 17
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S8192x4x128, .f32⟩
  | .hbm, ⟨4, _⟩ => ⟨S8192, .i32⟩
  | .hbm, ⟨5, _⟩ => ⟨S4x8192x8192, .f32⟩
  | .hbm, ⟨6, _⟩ => ⟨S_, .f32⟩
  | .hbm, ⟨7, _⟩ => ⟨S_, .f32⟩
  | .hbm, ⟨8, _⟩ => ⟨S4x8192x8192, .f32⟩
  | .hbm, ⟨9, _⟩ => ⟨S4x8192x8192, .f32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S_, .f32⟩
  | .hbm, ⟨16, _⟩ => ⟨S_, .f32⟩
  | .hbm, ⟨17, _⟩ => ⟨S4x8192x8192, .i1⟩
  | .hbm, ⟨18, _⟩ => ⟨S4x8192x8192, .f32⟩
  | .hbm, ⟨19, _⟩ => ⟨S4x8192x8192, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S4x8192x8192, .f32⟩
  | .hbm, ⟨24, _⟩ => ⟨S4x8192x8192, .f32⟩
  | .hbm, ⟨25, _⟩ => ⟨S4x8192x8192, .f32⟩
  | .hbm, ⟨26, _⟩ => ⟨S_, .f32⟩
  | .hbm, ⟨27, _⟩ => ⟨S4x8192, .f32⟩
  | .hbm, ⟨28, _⟩ => ⟨S4x8192x1, .f32⟩
  | .hbm, ⟨29, _⟩ => ⟨S4x8192x1, .f32⟩
  | .hbm, ⟨30, _⟩ => ⟨S4x8192x1, .f32⟩
  | .hbm, ⟨31, _⟩ => ⟨S4x8192, .f32⟩
  | .hbm, ⟨32, _⟩ => ⟨S4x8192x8192, .f32⟩
  | .hbm, ⟨33, _⟩ => ⟨S4x8192x8192, .f32⟩
  | .hbm, ⟨34, _⟩ => ⟨S4x128x8192, .f32⟩
  | .hbm, ⟨35, _⟩ => ⟨S8192x4x128, .f32⟩
  | .hbm, ⟨36, _⟩ => ⟨S8192x4x128, .f32⟩
  | .hbm, ⟨37, _⟩ => ⟨S_, .f32⟩
  | .hbm, ⟨38, _⟩ => ⟨S8192x4, .f32⟩
  | .hbm, ⟨39, _⟩ => ⟨S8192x4, .f32⟩
  | .hbm, ⟨40, _⟩ => ⟨S8192x4x1, .f32⟩
  | .hbm, ⟨41, _⟩ => ⟨S8192x4x1, .f32⟩
  | .hbm, ⟨42, _⟩ => ⟨S8192x4x2, .f32⟩
  | .hbm, ⟨43, _⟩ => ⟨S8192x8, .f32⟩
  | .hbm, ⟨44, _⟩ => ⟨S_, .i32⟩
  | .hbm, ⟨45, _⟩ => ⟨S_, .f32⟩
  | .hbm, ⟨46, _⟩ => ⟨S8192x128, .f32⟩
  | .hbm, ⟨47, _⟩ => ⟨S_, .i32⟩
  | .hbm, ⟨48, _⟩ => ⟨S_, .f32⟩
  | .hbm, ⟨49, _⟩ => ⟨S8192x4x256, .f32⟩
  | .hbm, ⟨50, _⟩ => ⟨S8192x1024, .f32⟩
  | .hbm, ⟨51, _⟩ => ⟨S8192x1024, .bf16⟩
  | .hbm, ⟨52, _⟩ => ⟨S_, .i32⟩
  | .hbm, ⟨53, _⟩ => ⟨S_, .f32⟩
  | .hbm, ⟨54, _⟩ => ⟨S8192x4x256, .f32⟩
  | .hbm, ⟨55, _⟩ => ⟨S8192x1024, .f32⟩
  | .hbm, ⟨56, _⟩ => ⟨S8192x1024, .bf16⟩
  | .hbm, ⟨57, _⟩ => ⟨S8192x512, .f32⟩
  | .hbm, ⟨58, _⟩ => ⟨S8192x512, .bf16⟩
  | .hbm, ⟨59, _⟩ => ⟨S8192x512, .f32⟩
  | .hbm, ⟨60, _⟩ => ⟨S8192x512, .bf16⟩
  | .hbm, ⟨61, _⟩ => ⟨S8192x1024, .f32⟩
  | .hbm, ⟨62, _⟩ => ⟨S8192x1024, .f32⟩
  | .hbm, ⟨63, _⟩ => ⟨S8192x512, .f32⟩
  | .local _ .vmem, ⟨0, _⟩ => ⟨S8192x256, .bf16⟩
  | .local _ .vmem, ⟨1, _⟩ => ⟨S8192x256, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .f32⟩
  | .local _ .vmem, ⟨5, _⟩ => ⟨S1024x256, .bf16⟩
  | .local _ .vmem, ⟨6, _⟩ => ⟨S1024x256, .bf16⟩
  | .local _ .vmem, ⟨7, _⟩ => ⟨S1024x128, .bf16⟩
  | .local _ .vmem, ⟨8, _⟩ => ⟨S1024x128, .bf16⟩
  | .local _ .vmem, ⟨9, _⟩ => ⟨S8192x256, .f32⟩
  | .local _ .vmem, ⟨10, _⟩ => ⟨S8192x256, .f32⟩
  | .local _ .vmem, ⟨11, _⟩ => ⟨S1024x256, .f32⟩
  | .local _ .vmem, ⟨12, _⟩ => ⟨S1024x256, .f32⟩
  | .local _ .vmem, ⟨13, _⟩ => ⟨S1024x128, .f32⟩
  | .local _ .vmem, ⟨14, _⟩ => ⟨S1024x128, .f32⟩
  | .local _ .vmem, ⟨15, _⟩ => ⟨S2x512x256, .f32⟩
  | .local _ .vmem, ⟨16, _⟩ => ⟨S2x512x128, .f32⟩
  | _, _ => ⟨S8192x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_call1_v0 : Ref sig .tc := ⟨.hbm, 45, rfl⟩
abbrev main_v32 : Ref sig .tc := ⟨.hbm, 46, rfl⟩
abbrev main_c_4 : Ref sig .tc := ⟨.hbm, 47, rfl⟩
abbrev main_call2_v0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_5 : Ref sig .tc := ⟨.hbm, 52, rfl⟩
abbrev main_call3_v0 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43_0 : Ref sig .tc := ⟨.hbm, 61, rfl⟩
abbrev main_v43_1 : Ref sig .tc := ⟨.hbm, 62, rfl⟩
abbrev main_v43_2 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c2_i32 : BitVec 32 := 2#32
  let arg1 : BitVec 32 := BitVec.ofNat 32 (i 1).val
  let v12 : BitVec 32 := Scalar.muli c2_i32 arg1
  let c512_i32 : BitVec 32 := 512#32
  let v13 : BitVec 32 := Scalar.muli v12 c512_i32
  v13
def k0_off1 (i : grid0.Coords) : Fin 2 → Nat :=
  let c2_i32 : BitVec 32 := 2#32
  let arg1 : BitVec 32 := BitVec.ofNat 32 (i 1).val
  let v12 : BitVec 32 := Scalar.muli c2_i32 arg1
  let c512_i32 : BitVec 32 := 512#32
  let v13 : BitVec 32 := Scalar.muli v12 c512_i32
  let v14 : BitVec 32 := v13
  let v15 : Index := Scalar.indexCast v14
  let c0_7 : Index := 0#32
  ![v15.toNat, 0]
def k0_off2 (i : grid0.Coords) : Fin 2 → Nat :=
  let c2_i32 : BitVec 32 := 2#32
  let arg1 : BitVec 32 := BitVec.ofNat 32 (i 1).val
  let v12 : BitVec 32 := Scalar.muli c2_i32 arg1
  let c512_i32 : BitVec 32 := 512#32
  let v13 : BitVec 32 := Scalar.muli v12 c512_i32
  let v14 : BitVec 32 := v13
  let v18 : Index := Scalar.indexCast v14
  let c0_8 : Index := 0#32
  ![v18.toNat, 0]
def k0_mult2 (i : grid0.Coords) : BitVec 32 :=
  let c2_i32_43 : BitVec 32 := 2#32
  let arg1 : BitVec 32 := BitVec.ofNat 32 (i 1).val
  let v89 : BitVec 32 := Scalar.muli c2_i32_43 arg1
  let c1_i32_44 : BitVec 32 := 1#32
  let v90 : BitVec 32 := Scalar.addi v89 c1_i32_44
  let c512_i32_45 : BitVec 32 := 512#32
  let v91 : BitVec 32 := Scalar.muli v90 c512_i32_45
  v91
def k0_off3 (i : grid0.Coords) : Fin 2 → Nat :=
  let c2_i32_43 : BitVec 32 := 2#32
  let arg1 : BitVec 32 := BitVec.ofNat 32 (i 1).val
  let v89 : BitVec 32 := Scalar.muli c2_i32_43 arg1
  let c1_i32_44 : BitVec 32 := 1#32
  let v90 : BitVec 32 := Scalar.addi v89 c1_i32_44
  let c512_i32_45 : BitVec 32 := 512#32
  let v91 : BitVec 32 := Scalar.muli v90 c512_i32_45
  let v92 : BitVec 32 := v91
  let v93 : Index := Scalar.indexCast v92
  let c0_46 : Index := 0#32
  ![v93.toNat, 0]
def k0_off4 (i : grid0.Coords) : Fin 2 → Nat :=
  let c2_i32_43 : BitVec 32 := 2#32
  let arg1 : BitVec 32 := BitVec.ofNat 32 (i 1).val
  let v89 : BitVec 32 := Scalar.muli c2_i32_43 arg1
  let c1_i32_44 : BitVec 32 := 1#32
  let v90 : BitVec 32 := Scalar.addi v89 c1_i32_44
  let c512_i32_45 : BitVec 32 := 512#32
  let v91 : BitVec 32 := Scalar.muli v90 c512_i32_45
  let v92 : BitVec 32 := v91
  let v96 : Index := Scalar.indexCast v92
  let c0_47 : Index := 0#32
  ![v96.toNat, 0]
@[reducible] def k0_t1_loop (i : grid0.Coords) : Scf.Loop 32 :=
  let c0_i32_113 : BitVec 32 := 0#32
  let c8_i32 : BitVec 32 := 8#32
  let arg1 : BitVec 32 := BitVec.ofNat 32 (i 1).val
  let v201 : BitVec 32 := Scalar.subi c8_i32 arg1
  let c1_i32_104 : BitVec 32 := 1#32
  let v202 : BitVec 32 := Scalar.subi v201 c1_i32_104
  let c0_i32_106 : BitVec 32 := 0#32
  let v204 : BitVec 1 := Scalar.cmpi .sgt v202 c0_i32_106
  let v205 : BitVec 32 := Scalar.extui v204
  let c0_i32_107 : BitVec 32 := 0#32
  let v206 : BitVec 1 := Scalar.cmpi .slt v202 c0_i32_107
  let v207 : BitVec 32 := Scalar.extui v206
  let v208 : BitVec 32 := Scalar.subi v205 v207
  let c2_i32_105 : BitVec 32 := 2#32
  let c0_i32_108 : BitVec 32 := 0#32
  let v209 : BitVec 1 := Scalar.cmpi .sgt c2_i32_105 c0_i32_108
  let v210 : BitVec 32 := Scalar.extui v209
  let c0_i32_109 : BitVec 32 := 0#32
  let v211 : BitVec 1 := Scalar.cmpi .slt c2_i32_105 c0_i32_109
  let v212 : BitVec 32 := Scalar.extui v211
  let v213 : BitVec 32 := Scalar.subi v210 v212
  let v214 : BitVec 1 := Scalar.cmpi .ne v208 v213
  let v215 : BitVec 32 := Scalar.remsi v202 c2_i32_105
  let c0_i32_110 : BitVec 32 := 0#32
  let v216 : BitVec 1 := Scalar.cmpi .ne v215 c0_i32_110
  let v217 : BitVec 1 := Scalar.andi v214 v216
  let v203 : BitVec 32 := Scalar.divsi v202 c2_i32_105
  let c1_i32_111 : BitVec 32 := 1#32
  let v218 : BitVec 32 := Scalar.subi v203 c1_i32_111
  let v219 : BitVec 32 := Scalar.select v217 v218 v203
  let v220 : BitVec 32 := Scalar.subi v219 c0_i32_113
  let c1_i32_114 : BitVec 32 := 1#32
  let v222 : BitVec 32 := Scalar.divsi v220 c1_i32_114
  let v223 : BitVec 32 := Scalar.muli v222 c1_i32_114
  let v224 : BitVec 32 := Scalar.addi c0_i32_113 v223
  let c1_i32_115 : BitVec 32 := 1#32
  ⟨c0_i32_113, v224, c1_i32_115⟩
def k0_mult3 (i : grid0.Coords) (k0_t1 : Fin (k0_t1_loop i).trips) : BitVec 32 :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c0_i32_113 : BitVec 32 := 0#32
  let c1_i32_115 : BitVec 32 := 1#32
  let arg12 : BitVec 32 := Scf.iv c0_i32_113 c1_i32_115 k0_t1
  let v252 : BitVec 32 := Scalar.muli c4_i32 arg12
  let v253 : BitVec 32 := Scalar.addi v251 v252
  let c512_i32_147 : BitVec 32 := 512#32
  let v254 : BitVec 32 := Scalar.muli v253 c512_i32_147
  v254
def k0_off5 (i : grid0.Coords) (k0_t1 : Fin (k0_t1_loop i).trips) : Fin 2 → Nat :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c0_i32_113 : BitVec 32 := 0#32
  let c1_i32_115 : BitVec 32 := 1#32
  let arg12 : BitVec 32 := Scf.iv c0_i32_113 c1_i32_115 k0_t1
  let v252 : BitVec 32 := Scalar.muli c4_i32 arg12
  let v253 : BitVec 32 := Scalar.addi v251 v252
  let c512_i32_147 : BitVec 32 := 512#32
  let v254 : BitVec 32 := Scalar.muli v253 c512_i32_147
  let v255 : BitVec 32 := v254
  let v256 : Index := Scalar.indexCast v255
  let c0_148 : Index := 0#32
  ![v256.toNat, 0]
def k0_off6 (i : grid0.Coords) (k0_t1 : Fin (k0_t1_loop i).trips) : Fin 2 → Nat :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c0_i32_113 : BitVec 32 := 0#32
  let c1_i32_115 : BitVec 32 := 1#32
  let arg12 : BitVec 32 := Scf.iv c0_i32_113 c1_i32_115 k0_t1
  let v252 : BitVec 32 := Scalar.muli c4_i32 arg12
  let v253 : BitVec 32 := Scalar.addi v251 v252
  let c512_i32_147 : BitVec 32 := 512#32
  let v254 : BitVec 32 := Scalar.muli v253 c512_i32_147
  let v255 : BitVec 32 := v254
  let v259 : Index := Scalar.indexCast v255
  let c0_149 : Index := 0#32
  ![v259.toNat, 0]
def k0_mult4 (i : grid0.Coords) (k0_t1 : Fin (k0_t1_loop i).trips) : BitVec 32 :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c0_i32_113 : BitVec 32 := 0#32
  let c1_i32_115 : BitVec 32 := 1#32
  let arg12 : BitVec 32 := Scf.iv c0_i32_113 c1_i32_115 k0_t1
  let v252 : BitVec 32 := Scalar.muli c4_i32 arg12
  let v253 : BitVec 32 := Scalar.addi v251 v252
  let c1_i32_207 : BitVec 32 := 1#32
  let v359 : BitVec 32 := Scalar.addi v253 c1_i32_207
  let c512_i32_208 : BitVec 32 := 512#32
  let v360 : BitVec 32 := Scalar.muli v359 c512_i32_208
  v360
def k0_off7 (i : grid0.Coords) (k0_t1 : Fin (k0_t1_loop i).trips) (c1_i32_207 : BitVec 32) : Fin 2 → Nat :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c0_i32_113 : BitVec 32 := 0#32
  let c1_i32_115 : BitVec 32 := 1#32
  let arg12 : BitVec 32 := Scf.iv c0_i32_113 c1_i32_115 k0_t1
  let v252 : BitVec 32 := Scalar.muli c4_i32 arg12
  let v253 : BitVec 32 := Scalar.addi v251 v252
  let v359 : BitVec 32 := Scalar.addi v253 c1_i32_207
  let c512_i32_208 : BitVec 32 := 512#32
  let v360 : BitVec 32 := Scalar.muli v359 c512_i32_208
  let v361 : BitVec 32 := v360
  let v362 : Index := Scalar.indexCast v361
  let c0_209 : Index := 0#32
  ![v362.toNat, 0]
def k0_off8 (i : grid0.Coords) (k0_t1 : Fin (k0_t1_loop i).trips) (c1_i32_207 : BitVec 32) : Fin 2 → Nat :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c0_i32_113 : BitVec 32 := 0#32
  let c1_i32_115 : BitVec 32 := 1#32
  let arg12 : BitVec 32 := Scf.iv c0_i32_113 c1_i32_115 k0_t1
  let v252 : BitVec 32 := Scalar.muli c4_i32 arg12
  let v253 : BitVec 32 := Scalar.addi v251 v252
  let v359 : BitVec 32 := Scalar.addi v253 c1_i32_207
  let c512_i32_208 : BitVec 32 := 512#32
  let v360 : BitVec 32 := Scalar.muli v359 c512_i32_208
  let v361 : BitVec 32 := v360
  let v365 : Index := Scalar.indexCast v361
  let c0_210 : Index := 0#32
  ![v365.toNat, 0]
def k0_mult5 (i : grid0.Coords) (k0_t1 : Fin (k0_t1_loop i).trips) : BitVec 32 :=
  let c2_i32_269 : BitVec 32 := 2#32
  let arg1 : BitVec 32 := BitVec.ofNat 32 (i 1).val
  let c1_i32_268 : BitVec 32 := 1#32
  let v465 : BitVec 32 := Scalar.addi arg1 c1_i32_268
  let v466 : BitVec 32 := Scalar.muli c2_i32_269 v465
  let c4_i32_270 : BitVec 32 := 4#32
  let c0_i32_113 : BitVec 32 := 0#32
  let c1_i32_115 : BitVec 32 := 1#32
  let arg12 : BitVec 32 := Scf.iv c0_i32_113 c1_i32_115 k0_t1
  let v467 : BitVec 32 := Scalar.muli c4_i32_270 arg12
  let v468 : BitVec 32 := Scalar.addi v466 v467
  let c2_i32_271 : BitVec 32 := 2#32
  let v469 : BitVec 32 := Scalar.addi v468 c2_i32_271
  let c512_i32_272 : BitVec 32 := 512#32
  let v470 : BitVec 32 := Scalar.muli v469 c512_i32_272
  v470
def k0_mult6 (i : grid0.Coords) (k0_t1 : Fin (k0_t1_loop i).trips) : BitVec 32 :=
  let c2_i32_269 : BitVec 32 := 2#32
  let arg1 : BitVec 32 := BitVec.ofNat 32 (i 1).val
  let c1_i32_268 : BitVec 32 := 1#32
  let v465 : BitVec 32 := Scalar.addi arg1 c1_i32_268
  let v466 : BitVec 32 := Scalar.muli c2_i32_269 v465
  let c4_i32_270 : BitVec 32 := 4#32
  let c0_i32_113 : BitVec 32 := 0#32
  let c1_i32_115 : BitVec 32 := 1#32
  let arg12 : BitVec 32 := Scf.iv c0_i32_113 c1_i32_115 k0_t1
  let v467 : BitVec 32 := Scalar.muli c4_i32_270 arg12
  let v468 : BitVec 32 := Scalar.addi v466 v467
  let c2_i32_271 : BitVec 32 := 2#32
  let v469 : BitVec 32 := Scalar.addi v468 c2_i32_271
  let c1_i32_332 : BitVec 32 := 1#32
  let v575 : BitVec 32 := Scalar.addi v469 c1_i32_332
  let c512_i32_333 : BitVec 32 := 512#32
  let v576 : BitVec 32 := Scalar.muli v575 c512_i32_333
  v576
def k0_off9 (i : grid0.Coords) (k0_t1 : Fin (k0_t1_loop i).trips) : Fin 2 → Nat :=
  let c2_i32_269 : BitVec 32 := 2#32
  let arg1 : BitVec 32 := BitVec.ofNat 32 (i 1).val
  let c1_i32_268 : BitVec 32 := 1#32
  let v465 : BitVec 32 := Scalar.addi arg1 c1_i32_268
  let v466 : BitVec 32 := Scalar.muli c2_i32_269 v465
  let c4_i32_270 : BitVec 32 := 4#32
  let c0_i32_113 : BitVec 32 := 0#32
  let c1_i32_115 : BitVec 32 := 1#32
  let arg12 : BitVec 32 := Scf.iv c0_i32_113 c1_i32_115 k0_t1
  let v467 : BitVec 32 := Scalar.muli c4_i32_270 arg12
  let v468 : BitVec 32 := Scalar.addi v466 v467
  let c2_i32_271 : BitVec 32 := 2#32
  let v469 : BitVec 32 := Scalar.addi v468 c2_i32_271
  let c1_i32_332 : BitVec 32 := 1#32
  let v575 : BitVec 32 := Scalar.addi v469 c1_i32_332
  let c512_i32_333 : BitVec 32 := 512#32
  let v576 : BitVec 32 := Scalar.muli v575 c512_i32_333
  let v577 : BitVec 32 := v576
  let v578 : Index := Scalar.indexCast v577
  let c0_334 : Index := 0#32
  ![v578.toNat, 0]
def k0_off10 (i : grid0.Coords) (k0_t1 : Fin (k0_t1_loop i).trips) : Fin 2 → Nat :=
  let c2_i32_269 : BitVec 32 := 2#32
  let arg1 : BitVec 32 := BitVec.ofNat 32 (i 1).val
  let c1_i32_268 : BitVec 32 := 1#32
  let v465 : BitVec 32 := Scalar.addi arg1 c1_i32_268
  let v466 : BitVec 32 := Scalar.muli c2_i32_269 v465
  let c4_i32_270 : BitVec 32 := 4#32
  let c0_i32_113 : BitVec 32 := 0#32
  let c1_i32_115 : BitVec 32 := 1#32
  let arg12 : BitVec 32 := Scf.iv c0_i32_113 c1_i32_115 k0_t1
  let v467 : BitVec 32 := Scalar.muli c4_i32_270 arg12
  let v468 : BitVec 32 := Scalar.addi v466 v467
  let c2_i32_271 : BitVec 32 := 2#32
  let v469 : BitVec 32 := Scalar.addi v468 c2_i32_271
  let c1_i32_332 : BitVec 32 := 1#32
  let v575 : BitVec 32 := Scalar.addi v469 c1_i32_332
  let c512_i32_333 : BitVec 32 := 512#32
  let v576 : BitVec 32 := Scalar.muli v575 c512_i32_333
  let v577 : BitVec 32 := v576
  let v581 : Index := Scalar.indexCast v577
  let c0_335 : Index := 0#32
  ![v581.toNat, 0]
@[reducible] def k0_t2_loop (i : grid0.Coords) : Scf.Loop 32 :=
  let c0_i32_113 : BitVec 32 := 0#32
  let c8_i32 : BitVec 32 := 8#32
  let arg1 : BitVec 32 := BitVec.ofNat 32 (i 1).val
  let v201 : BitVec 32 := Scalar.subi c8_i32 arg1
  let c1_i32_104 : BitVec 32 := 1#32
  let v202 : BitVec 32 := Scalar.subi v201 c1_i32_104
  let c0_i32_106 : BitVec 32 := 0#32
  let v204 : BitVec 1 := Scalar.cmpi .sgt v202 c0_i32_106
  let v205 : BitVec 32 := Scalar.extui v204
  let c0_i32_107 : BitVec 32 := 0#32
  let v206 : BitVec 1 := Scalar.cmpi .slt v202 c0_i32_107
  let v207 : BitVec 32 := Scalar.extui v206
  let v208 : BitVec 32 := Scalar.subi v205 v207
  let c2_i32_105 : BitVec 32 := 2#32
  let c0_i32_108 : BitVec 32 := 0#32
  let v209 : BitVec 1 := Scalar.cmpi .sgt c2_i32_105 c0_i32_108
  let v210 : BitVec 32 := Scalar.extui v209
  let c0_i32_109 : BitVec 32 := 0#32
  let v211 : BitVec 1 := Scalar.cmpi .slt c2_i32_105 c0_i32_109
  let v212 : BitVec 32 := Scalar.extui v211
  let v213 : BitVec 32 := Scalar.subi v210 v212
  let v214 : BitVec 1 := Scalar.cmpi .ne v208 v213
  let v215 : BitVec 32 := Scalar.remsi v202 c2_i32_105
  let c0_i32_110 : BitVec 32 := 0#32
  let v216 : BitVec 1 := Scalar.cmpi .ne v215 c0_i32_110
  let v217 : BitVec 1 := Scalar.andi v214 v216
  let v203 : BitVec 32 := Scalar.divsi v202 c2_i32_105
  let c1_i32_111 : BitVec 32 := 1#32
  let v218 : BitVec 32 := Scalar.subi v203 c1_i32_111
  let v219 : BitVec 32 := Scalar.select v217 v218 v203
  let v220 : BitVec 32 := Scalar.subi v219 c0_i32_113
  let c1_i32_114 : BitVec 32 := 1#32
  let v222 : BitVec 32 := Scalar.divsi v220 c1_i32_114
  let v223 : BitVec 32 := Scalar.muli v222 c1_i32_114
  let v224 : BitVec 32 := Scalar.addi c0_i32_113 v223
  let v221 : BitVec 32 := Scalar.addi c0_i32_113 v220
  let c1_i32_116 : BitVec 32 := 1#32
  ⟨v224, v221, c1_i32_116⟩
def k0_mult7 (i : grid0.Coords) (k0_t2 : Fin (k0_t2_loop i).trips) : BitVec 32 :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c0_i32_113 : BitVec 32 := 0#32
  let c8_i32 : BitVec 32 := 8#32
  let v201 : BitVec 32 := Scalar.subi c8_i32 arg1
  let c1_i32_104 : BitVec 32 := 1#32
  let v202 : BitVec 32 := Scalar.subi v201 c1_i32_104
  let c0_i32_106 : BitVec 32 := 0#32
  let v204 : BitVec 1 := Scalar.cmpi .sgt v202 c0_i32_106
  let v205 : BitVec 32 := Scalar.extui v204
  let c0_i32_107 : BitVec 32 := 0#32
  let v206 : BitVec 1 := Scalar.cmpi .slt v202 c0_i32_107
  let v207 : BitVec 32 := Scalar.extui v206
  let v208 : BitVec 32 := Scalar.subi v205 v207
  let c2_i32_105 : BitVec 32 := 2#32
  let c0_i32_108 : BitVec 32 := 0#32
  let v209 : BitVec 1 := Scalar.cmpi .sgt c2_i32_105 c0_i32_108
  let v210 : BitVec 32 := Scalar.extui v209
  let c0_i32_109 : BitVec 32 := 0#32
  let v211 : BitVec 1 := Scalar.cmpi .slt c2_i32_105 c0_i32_109
  let v212 : BitVec 32 := Scalar.extui v211
  let v213 : BitVec 32 := Scalar.subi v210 v212
  let v214 : BitVec 1 := Scalar.cmpi .ne v208 v213
  let v215 : BitVec 32 := Scalar.remsi v202 c2_i32_105
  let c0_i32_110 : BitVec 32 := 0#32
  let v216 : BitVec 1 := Scalar.cmpi .ne v215 c0_i32_110
  let v217 : BitVec 1 := Scalar.andi v214 v216
  let v203 : BitVec 32 := Scalar.divsi v202 c2_i32_105
  let c1_i32_111 : BitVec 32 := 1#32
  let v218 : BitVec 32 := Scalar.subi v203 c1_i32_111
  let v219 : BitVec 32 := Scalar.select v217 v218 v203
  let v220 : BitVec 32 := Scalar.subi v219 c0_i32_113
  let c1_i32_114 : BitVec 32 := 1#32
  let v222 : BitVec 32 := Scalar.divsi v220 c1_i32_114
  let v223 : BitVec 32 := Scalar.muli v222 c1_i32_114
  let v224 : BitVec 32 := Scalar.addi c0_i32_113 v223
  let c1_i32_116 : BitVec 32 := 1#32
  let arg12 : BitVec 32 := Scf.iv v224 c1_i32_116 k0_t2
  let v252 : BitVec 32 := Scalar.muli c4_i32 arg12
  let v253 : BitVec 32 := Scalar.addi v251 v252
  let c512_i32_147 : BitVec 32 := 512#32
  let v254 : BitVec 32 := Scalar.muli v253 c512_i32_147
  v254
def k0_off11 (i : grid0.Coords) (k0_t2 : Fin (k0_t2_loop i).trips) : Fin 2 → Nat :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c0_i32_113 : BitVec 32 := 0#32
  let c8_i32 : BitVec 32 := 8#32
  let v201 : BitVec 32 := Scalar.subi c8_i32 arg1
  let c1_i32_104 : BitVec 32 := 1#32
  let v202 : BitVec 32 := Scalar.subi v201 c1_i32_104
  let c0_i32_106 : BitVec 32 := 0#32
  let v204 : BitVec 1 := Scalar.cmpi .sgt v202 c0_i32_106
  let v205 : BitVec 32 := Scalar.extui v204
  let c0_i32_107 : BitVec 32 := 0#32
  let v206 : BitVec 1 := Scalar.cmpi .slt v202 c0_i32_107
  let v207 : BitVec 32 := Scalar.extui v206
  let v208 : BitVec 32 := Scalar.subi v205 v207
  let c2_i32_105 : BitVec 32 := 2#32
  let c0_i32_108 : BitVec 32 := 0#32
  let v209 : BitVec 1 := Scalar.cmpi .sgt c2_i32_105 c0_i32_108
  let v210 : BitVec 32 := Scalar.extui v209
  let c0_i32_109 : BitVec 32 := 0#32
  let v211 : BitVec 1 := Scalar.cmpi .slt c2_i32_105 c0_i32_109
  let v212 : BitVec 32 := Scalar.extui v211
  let v213 : BitVec 32 := Scalar.subi v210 v212
  let v214 : BitVec 1 := Scalar.cmpi .ne v208 v213
  let v215 : BitVec 32 := Scalar.remsi v202 c2_i32_105
  let c0_i32_110 : BitVec 32 := 0#32
  let v216 : BitVec 1 := Scalar.cmpi .ne v215 c0_i32_110
  let v217 : BitVec 1 := Scalar.andi v214 v216
  let v203 : BitVec 32 := Scalar.divsi v202 c2_i32_105
  let c1_i32_111 : BitVec 32 := 1#32
  let v218 : BitVec 32 := Scalar.subi v203 c1_i32_111
  let v219 : BitVec 32 := Scalar.select v217 v218 v203
  let v220 : BitVec 32 := Scalar.subi v219 c0_i32_113
  let c1_i32_114 : BitVec 32 := 1#32
  let v222 : BitVec 32 := Scalar.divsi v220 c1_i32_114
  let v223 : BitVec 32 := Scalar.muli v222 c1_i32_114
  let v224 : BitVec 32 := Scalar.addi c0_i32_113 v223
  let c1_i32_116 : BitVec 32 := 1#32
  let arg12 : BitVec 32 := Scf.iv v224 c1_i32_116 k0_t2
  let v252 : BitVec 32 := Scalar.muli c4_i32 arg12
  let v253 : BitVec 32 := Scalar.addi v251 v252
  let c512_i32_147 : BitVec 32 := 512#32
  let v254 : BitVec 32 := Scalar.muli v253 c512_i32_147
  let v255 : BitVec 32 := v254
  let v256 : Index := Scalar.indexCast v255
  let c0_148 : Index := 0#32
  ![v256.toNat, 0]
def k0_off12 (i : grid0.Coords) (k0_t2 : Fin (k0_t2_loop i).trips) : Fin 2 → Nat :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c0_i32_113 : BitVec 32 := 0#32
  let c8_i32 : BitVec 32 := 8#32
  let v201 : BitVec 32 := Scalar.subi c8_i32 arg1
  let c1_i32_104 : BitVec 32 := 1#32
  let v202 : BitVec 32 := Scalar.subi v201 c1_i32_104
  let c0_i32_106 : BitVec 32 := 0#32
  let v204 : BitVec 1 := Scalar.cmpi .sgt v202 c0_i32_106
  let v205 : BitVec 32 := Scalar.extui v204
  let c0_i32_107 : BitVec 32 := 0#32
  let v206 : BitVec 1 := Scalar.cmpi .slt v202 c0_i32_107
  let v207 : BitVec 32 := Scalar.extui v206
  let v208 : BitVec 32 := Scalar.subi v205 v207
  let c2_i32_105 : BitVec 32 := 2#32
  let c0_i32_108 : BitVec 32 := 0#32
  let v209 : BitVec 1 := Scalar.cmpi .sgt c2_i32_105 c0_i32_108
  let v210 : BitVec 32 := Scalar.extui v209
  let c0_i32_109 : BitVec 32 := 0#32
  let v211 : BitVec 1 := Scalar.cmpi .slt c2_i32_105 c0_i32_109
  let v212 : BitVec 32 := Scalar.extui v211
  let v213 : BitVec 32 := Scalar.subi v210 v212
  let v214 : BitVec 1 := Scalar.cmpi .ne v208 v213
  let v215 : BitVec 32 := Scalar.remsi v202 c2_i32_105
  let c0_i32_110 : BitVec 32 := 0#32
  let v216 : BitVec 1 := Scalar.cmpi .ne v215 c0_i32_110
  let v217 : BitVec 1 := Scalar.andi v214 v216
  let v203 : BitVec 32 := Scalar.divsi v202 c2_i32_105
  let c1_i32_111 : BitVec 32 := 1#32
  let v218 : BitVec 32 := Scalar.subi v203 c1_i32_111
  let v219 : BitVec 32 := Scalar.select v217 v218 v203
  let v220 : BitVec 32 := Scalar.subi v219 c0_i32_113
  let c1_i32_114 : BitVec 32 := 1#32
  let v222 : BitVec 32 := Scalar.divsi v220 c1_i32_114
  let v223 : BitVec 32 := Scalar.muli v222 c1_i32_114
  let v224 : BitVec 32 := Scalar.addi c0_i32_113 v223
  let c1_i32_116 : BitVec 32 := 1#32
  let arg12 : BitVec 32 := Scf.iv v224 c1_i32_116 k0_t2
  let v252 : BitVec 32 := Scalar.muli c4_i32 arg12
  let v253 : BitVec 32 := Scalar.addi v251 v252
  let c512_i32_147 : BitVec 32 := 512#32
  let v254 : BitVec 32 := Scalar.muli v253 c512_i32_147
  let v255 : BitVec 32 := v254
  let v259 : Index := Scalar.indexCast v255
  let c0_149 : Index := 0#32
  ![v259.toNat, 0]
def k0_mult8 (i : grid0.Coords) (k0_t2 : Fin (k0_t2_loop i).trips) : BitVec 32 :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c0_i32_113 : BitVec 32 := 0#32
  let c8_i32 : BitVec 32 := 8#32
  let v201 : BitVec 32 := Scalar.subi c8_i32 arg1
  let c1_i32_104 : BitVec 32 := 1#32
  let v202 : BitVec 32 := Scalar.subi v201 c1_i32_104
  let c0_i32_106 : BitVec 32 := 0#32
  let v204 : BitVec 1 := Scalar.cmpi .sgt v202 c0_i32_106
  let v205 : BitVec 32 := Scalar.extui v204
  let c0_i32_107 : BitVec 32 := 0#32
  let v206 : BitVec 1 := Scalar.cmpi .slt v202 c0_i32_107
  let v207 : BitVec 32 := Scalar.extui v206
  let v208 : BitVec 32 := Scalar.subi v205 v207
  let c2_i32_105 : BitVec 32 := 2#32
  let c0_i32_108 : BitVec 32 := 0#32
  let v209 : BitVec 1 := Scalar.cmpi .sgt c2_i32_105 c0_i32_108
  let v210 : BitVec 32 := Scalar.extui v209
  let c0_i32_109 : BitVec 32 := 0#32
  let v211 : BitVec 1 := Scalar.cmpi .slt c2_i32_105 c0_i32_109
  let v212 : BitVec 32 := Scalar.extui v211
  let v213 : BitVec 32 := Scalar.subi v210 v212
  let v214 : BitVec 1 := Scalar.cmpi .ne v208 v213
  let v215 : BitVec 32 := Scalar.remsi v202 c2_i32_105
  let c0_i32_110 : BitVec 32 := 0#32
  let v216 : BitVec 1 := Scalar.cmpi .ne v215 c0_i32_110
  let v217 : BitVec 1 := Scalar.andi v214 v216
  let v203 : BitVec 32 := Scalar.divsi v202 c2_i32_105
  let c1_i32_111 : BitVec 32 := 1#32
  let v218 : BitVec 32 := Scalar.subi v203 c1_i32_111
  let v219 : BitVec 32 := Scalar.select v217 v218 v203
  let v220 : BitVec 32 := Scalar.subi v219 c0_i32_113
  let c1_i32_114 : BitVec 32 := 1#32
  let v222 : BitVec 32 := Scalar.divsi v220 c1_i32_114
  let v223 : BitVec 32 := Scalar.muli v222 c1_i32_114
  let v224 : BitVec 32 := Scalar.addi c0_i32_113 v223
  let c1_i32_116 : BitVec 32 := 1#32
  let arg12 : BitVec 32 := Scf.iv v224 c1_i32_116 k0_t2
  let v252 : BitVec 32 := Scalar.muli c4_i32 arg12
  let v253 : BitVec 32 := Scalar.addi v251 v252
  let c1_i32_207 : BitVec 32 := 1#32
  let v359 : BitVec 32 := Scalar.addi v253 c1_i32_207
  let c512_i32_208 : BitVec 32 := 512#32
  let v360 : BitVec 32 := Scalar.muli v359 c512_i32_208
  v360
def k0_off13 (i : grid0.Coords) (k0_t2 : Fin (k0_t2_loop i).trips) (c1_i32_207 : BitVec 32) : Fin 2 → Nat :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c0_i32_113 : BitVec 32 := 0#32
  let c8_i32 : BitVec 32 := 8#32
  let v201 : BitVec 32 := Scalar.subi c8_i32 arg1
  let c1_i32_104 : BitVec 32 := 1#32
  let v202 : BitVec 32 := Scalar.subi v201 c1_i32_104
  let c0_i32_106 : BitVec 32 := 0#32
  let v204 : BitVec 1 := Scalar.cmpi .sgt v202 c0_i32_106
  let v205 : BitVec 32 := Scalar.extui v204
  let c0_i32_107 : BitVec 32 := 0#32
  let v206 : BitVec 1 := Scalar.cmpi .slt v202 c0_i32_107
  let v207 : BitVec 32 := Scalar.extui v206
  let v208 : BitVec 32 := Scalar.subi v205 v207
  let c2_i32_105 : BitVec 32 := 2#32
  let c0_i32_108 : BitVec 32 := 0#32
  let v209 : BitVec 1 := Scalar.cmpi .sgt c2_i32_105 c0_i32_108
  let v210 : BitVec 32 := Scalar.extui v209
  let c0_i32_109 : BitVec 32 := 0#32
  let v211 : BitVec 1 := Scalar.cmpi .slt c2_i32_105 c0_i32_109
  let v212 : BitVec 32 := Scalar.extui v211
  let v213 : BitVec 32 := Scalar.subi v210 v212
  let v214 : BitVec 1 := Scalar.cmpi .ne v208 v213
  let v215 : BitVec 32 := Scalar.remsi v202 c2_i32_105
  let c0_i32_110 : BitVec 32 := 0#32
  let v216 : BitVec 1 := Scalar.cmpi .ne v215 c0_i32_110
  let v217 : BitVec 1 := Scalar.andi v214 v216
  let v203 : BitVec 32 := Scalar.divsi v202 c2_i32_105
  let c1_i32_111 : BitVec 32 := 1#32
  let v218 : BitVec 32 := Scalar.subi v203 c1_i32_111
  let v219 : BitVec 32 := Scalar.select v217 v218 v203
  let v220 : BitVec 32 := Scalar.subi v219 c0_i32_113
  let c1_i32_114 : BitVec 32 := 1#32
  let v222 : BitVec 32 := Scalar.divsi v220 c1_i32_114
  let v223 : BitVec 32 := Scalar.muli v222 c1_i32_114
  let v224 : BitVec 32 := Scalar.addi c0_i32_113 v223
  let c1_i32_116 : BitVec 32 := 1#32
  let arg12 : BitVec 32 := Scf.iv v224 c1_i32_116 k0_t2
  let v252 : BitVec 32 := Scalar.muli c4_i32 arg12
  let v253 : BitVec 32 := Scalar.addi v251 v252
  let v359 : BitVec 32 := Scalar.addi v253 c1_i32_207
  let c512_i32_208 : BitVec 32 := 512#32
  let v360 : BitVec 32 := Scalar.muli v359 c512_i32_208
  let v361 : BitVec 32 := v360
  let v362 : Index := Scalar.indexCast v361
  let c0_209 : Index := 0#32
  ![v362.toNat, 0]
def k0_off14 (i : grid0.Coords) (k0_t2 : Fin (k0_t2_loop i).trips) (c1_i32_207 : BitVec 32) : Fin 2 → Nat :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c0_i32_113 : BitVec 32 := 0#32
  let c8_i32 : BitVec 32 := 8#32
  let v201 : BitVec 32 := Scalar.subi c8_i32 arg1
  let c1_i32_104 : BitVec 32 := 1#32
  let v202 : BitVec 32 := Scalar.subi v201 c1_i32_104
  let c0_i32_106 : BitVec 32 := 0#32
  let v204 : BitVec 1 := Scalar.cmpi .sgt v202 c0_i32_106
  let v205 : BitVec 32 := Scalar.extui v204
  let c0_i32_107 : BitVec 32 := 0#32
  let v206 : BitVec 1 := Scalar.cmpi .slt v202 c0_i32_107
  let v207 : BitVec 32 := Scalar.extui v206
  let v208 : BitVec 32 := Scalar.subi v205 v207
  let c2_i32_105 : BitVec 32 := 2#32
  let c0_i32_108 : BitVec 32 := 0#32
  let v209 : BitVec 1 := Scalar.cmpi .sgt c2_i32_105 c0_i32_108
  let v210 : BitVec 32 := Scalar.extui v209
  let c0_i32_109 : BitVec 32 := 0#32
  let v211 : BitVec 1 := Scalar.cmpi .slt c2_i32_105 c0_i32_109
  let v212 : BitVec 32 := Scalar.extui v211
  let v213 : BitVec 32 := Scalar.subi v210 v212
  let v214 : BitVec 1 := Scalar.cmpi .ne v208 v213
  let v215 : BitVec 32 := Scalar.remsi v202 c2_i32_105
  let c0_i32_110 : BitVec 32 := 0#32
  let v216 : BitVec 1 := Scalar.cmpi .ne v215 c0_i32_110
  let v217 : BitVec 1 := Scalar.andi v214 v216
  let v203 : BitVec 32 := Scalar.divsi v202 c2_i32_105
  let c1_i32_111 : BitVec 32 := 1#32
  let v218 : BitVec 32 := Scalar.subi v203 c1_i32_111
  let v219 : BitVec 32 := Scalar.select v217 v218 v203
  let v220 : BitVec 32 := Scalar.subi v219 c0_i32_113
  let c1_i32_114 : BitVec 32 := 1#32
  let v222 : BitVec 32 := Scalar.divsi v220 c1_i32_114
  let v223 : BitVec 32 := Scalar.muli v222 c1_i32_114
  let v224 : BitVec 32 := Scalar.addi c0_i32_113 v223
  let c1_i32_116 : BitVec 32 := 1#32
  let arg12 : BitVec 32 := Scf.iv v224 c1_i32_116 k0_t2
  let v252 : BitVec 32 := Scalar.muli c4_i32 arg12
  let v253 : BitVec 32 := Scalar.addi v251 v252
  let v359 : BitVec 32 := Scalar.addi v253 c1_i32_207
  let c512_i32_208 : BitVec 32 := 512#32
  let v360 : BitVec 32 := Scalar.muli v359 c512_i32_208
  let v361 : BitVec 32 := v360
  let v365 : Index := Scalar.indexCast v361
  let c0_210 : Index := 0#32
  ![v365.toNat, 0]
def k0_mult9 (i : grid0.Coords) (k0_t2 : Fin (k0_t2_loop i).trips) : BitVec 32 :=
  let c2_i32_269 : BitVec 32 := 2#32
  let arg1 : BitVec 32 := BitVec.ofNat 32 (i 1).val
  let c1_i32_268 : BitVec 32 := 1#32
  let v465 : BitVec 32 := Scalar.addi arg1 c1_i32_268
  let v466 : BitVec 32 := Scalar.muli c2_i32_269 v465
  let c4_i32_270 : BitVec 32 := 4#32
  let c0_i32_113 : BitVec 32 := 0#32
  let c8_i32 : BitVec 32 := 8#32
  let v201 : BitVec 32 := Scalar.subi c8_i32 arg1
  let c1_i32_104 : BitVec 32 := 1#32
  let v202 : BitVec 32 := Scalar.subi v201 c1_i32_104
  let c0_i32_106 : BitVec 32 := 0#32
  let v204 : BitVec 1 := Scalar.cmpi .sgt v202 c0_i32_106
  let v205 : BitVec 32 := Scalar.extui v204
  let c0_i32_107 : BitVec 32 := 0#32
  let v206 : BitVec 1 := Scalar.cmpi .slt v202 c0_i32_107
  let v207 : BitVec 32 := Scalar.extui v206
  let v208 : BitVec 32 := Scalar.subi v205 v207
  let c2_i32_105 : BitVec 32 := 2#32
  let c0_i32_108 : BitVec 32 := 0#32
  let v209 : BitVec 1 := Scalar.cmpi .sgt c2_i32_105 c0_i32_108
  let v210 : BitVec 32 := Scalar.extui v209
  let c0_i32_109 : BitVec 32 := 0#32
  let v211 : BitVec 1 := Scalar.cmpi .slt c2_i32_105 c0_i32_109
  let v212 : BitVec 32 := Scalar.extui v211
  let v213 : BitVec 32 := Scalar.subi v210 v212
  let v214 : BitVec 1 := Scalar.cmpi .ne v208 v213
  let v215 : BitVec 32 := Scalar.remsi v202 c2_i32_105
  let c0_i32_110 : BitVec 32 := 0#32
  let v216 : BitVec 1 := Scalar.cmpi .ne v215 c0_i32_110
  let v217 : BitVec 1 := Scalar.andi v214 v216
  let v203 : BitVec 32 := Scalar.divsi v202 c2_i32_105
  let c1_i32_111 : BitVec 32 := 1#32
  let v218 : BitVec 32 := Scalar.subi v203 c1_i32_111
  let v219 : BitVec 32 := Scalar.select v217 v218 v203
  let v220 : BitVec 32 := Scalar.subi v219 c0_i32_113
  let c1_i32_114 : BitVec 32 := 1#32
  let v222 : BitVec 32 := Scalar.divsi v220 c1_i32_114
  let v223 : BitVec 32 := Scalar.muli v222 c1_i32_114
  let v224 : BitVec 32 := Scalar.addi c0_i32_113 v223
  let c1_i32_116 : BitVec 32 := 1#32
  let arg12 : BitVec 32 := Scf.iv v224 c1_i32_116 k0_t2
  let v467 : BitVec 32 := Scalar.muli c4_i32_270 arg12
  let v468 : BitVec 32 := Scalar.addi v466 v467
  let c2_i32_271 : BitVec 32 := 2#32
  let v469 : BitVec 32 := Scalar.addi v468 c2_i32_271
  let c512_i32_272 : BitVec 32 := 512#32
  let v470 : BitVec 32 := Scalar.muli v469 c512_i32_272
  v470
def k0_mult10 (i : grid0.Coords) (k0_t2 : Fin (k0_t2_loop i).trips) : BitVec 32 :=
  let c2_i32_269 : BitVec 32 := 2#32
  let arg1 : BitVec 32 := BitVec.ofNat 32 (i 1).val
  let c1_i32_268 : BitVec 32 := 1#32
  let v465 : BitVec 32 := Scalar.addi arg1 c1_i32_268
  let v466 : BitVec 32 := Scalar.muli c2_i32_269 v465
  let c4_i32_270 : BitVec 32 := 4#32
  let c0_i32_113 : BitVec 32 := 0#32
  let c8_i32 : BitVec 32 := 8#32
  let v201 : BitVec 32 := Scalar.subi c8_i32 arg1
  let c1_i32_104 : BitVec 32 := 1#32
  let v202 : BitVec 32 := Scalar.subi v201 c1_i32_104
  let c0_i32_106 : BitVec 32 := 0#32
  let v204 : BitVec 1 := Scalar.cmpi .sgt v202 c0_i32_106
  let v205 : BitVec 32 := Scalar.extui v204
  let c0_i32_107 : BitVec 32 := 0#32
  let v206 : BitVec 1 := Scalar.cmpi .slt v202 c0_i32_107
  let v207 : BitVec 32 := Scalar.extui v206
  let v208 : BitVec 32 := Scalar.subi v205 v207
  let c2_i32_105 : BitVec 32 := 2#32
  let c0_i32_108 : BitVec 32 := 0#32
  let v209 : BitVec 1 := Scalar.cmpi .sgt c2_i32_105 c0_i32_108
  let v210 : BitVec 32 := Scalar.extui v209
  let c0_i32_109 : BitVec 32 := 0#32
  let v211 : BitVec 1 := Scalar.cmpi .slt c2_i32_105 c0_i32_109
  let v212 : BitVec 32 := Scalar.extui v211
  let v213 : BitVec 32 := Scalar.subi v210 v212
  let v214 : BitVec 1 := Scalar.cmpi .ne v208 v213
  let v215 : BitVec 32 := Scalar.remsi v202 c2_i32_105
  let c0_i32_110 : BitVec 32 := 0#32
  let v216 : BitVec 1 := Scalar.cmpi .ne v215 c0_i32_110
  let v217 : BitVec 1 := Scalar.andi v214 v216
  let v203 : BitVec 32 := Scalar.divsi v202 c2_i32_105
  let c1_i32_111 : BitVec 32 := 1#32
  let v218 : BitVec 32 := Scalar.subi v203 c1_i32_111
  let v219 : BitVec 32 := Scalar.select v217 v218 v203
  let v220 : BitVec 32 := Scalar.subi v219 c0_i32_113
  let c1_i32_114 : BitVec 32 := 1#32
  let v222 : BitVec 32 := Scalar.divsi v220 c1_i32_114
  let v223 : BitVec 32 := Scalar.muli v222 c1_i32_114
  let v224 : BitVec 32 := Scalar.addi c0_i32_113 v223
  let c1_i32_116 : BitVec 32 := 1#32
  let arg12 : BitVec 32 := Scf.iv v224 c1_i32_116 k0_t2
  let v467 : BitVec 32 := Scalar.muli c4_i32_270 arg12
  let v468 : BitVec 32 := Scalar.addi v466 v467
  let c2_i32_271 : BitVec 32 := 2#32
  let v469 : BitVec 32 := Scalar.addi v468 c2_i32_271
  let c1_i32_332 : BitVec 32 := 1#32
  let v575 : BitVec 32 := Scalar.addi v469 c1_i32_332
  let c512_i32_333 : BitVec 32 := 512#32
  let v576 : BitVec 32 := Scalar.muli v575 c512_i32_333
  v576
def k0_off15 (i : grid0.Coords) (k0_t2 : Fin (k0_t2_loop i).trips) : Fin 2 → Nat :=
  let c2_i32_269 : BitVec 32 := 2#32
  let arg1 : BitVec 32 := BitVec.ofNat 32 (i 1).val
  let c1_i32_268 : BitVec 32 := 1#32
  let v465 : BitVec 32 := Scalar.addi arg1 c1_i32_268
  let v466 : BitVec 32 := Scalar.muli c2_i32_269 v465
  let c4_i32_270 : BitVec 32 := 4#32
  let c0_i32_113 : BitVec 32 := 0#32
  let c8_i32 : BitVec 32 := 8#32
  let v201 : BitVec 32 := Scalar.subi c8_i32 arg1
  let c1_i32_104 : BitVec 32 := 1#32
  let v202 : BitVec 32 := Scalar.subi v201 c1_i32_104
  let c0_i32_106 : BitVec 32 := 0#32
  let v204 : BitVec 1 := Scalar.cmpi .sgt v202 c0_i32_106
  let v205 : BitVec 32 := Scalar.extui v204
  let c0_i32_107 : BitVec 32 := 0#32
  let v206 : BitVec 1 := Scalar.cmpi .slt v202 c0_i32_107
  let v207 : BitVec 32 := Scalar.extui v206
  let v208 : BitVec 32 := Scalar.subi v205 v207
  let c2_i32_105 : BitVec 32 := 2#32
  let c0_i32_108 : BitVec 32 := 0#32
  let v209 : BitVec 1 := Scalar.cmpi .sgt c2_i32_105 c0_i32_108
  let v210 : BitVec 32 := Scalar.extui v209
  let c0_i32_109 : BitVec 32 := 0#32
  let v211 : BitVec 1 := Scalar.cmpi .slt c2_i32_105 c0_i32_109
  let v212 : BitVec 32 := Scalar.extui v211
  let v213 : BitVec 32 := Scalar.subi v210 v212
  let v214 : BitVec 1 := Scalar.cmpi .ne v208 v213
  let v215 : BitVec 32 := Scalar.remsi v202 c2_i32_105
  let c0_i32_110 : BitVec 32 := 0#32
  let v216 : BitVec 1 := Scalar.cmpi .ne v215 c0_i32_110
  let v217 : BitVec 1 := Scalar.andi v214 v216
  let v203 : BitVec 32 := Scalar.divsi v202 c2_i32_105
  let c1_i32_111 : BitVec 32 := 1#32
  let v218 : BitVec 32 := Scalar.subi v203 c1_i32_111
  let v219 : BitVec 32 := Scalar.select v217 v218 v203
  let v220 : BitVec 32 := Scalar.subi v219 c0_i32_113
  let c1_i32_114 : BitVec 32 := 1#32
  let v222 : BitVec 32 := Scalar.divsi v220 c1_i32_114
  let v223 : BitVec 32 := Scalar.muli v222 c1_i32_114
  let v224 : BitVec 32 := Scalar.addi c0_i32_113 v223
  let c1_i32_116 : BitVec 32 := 1#32
  let arg12 : BitVec 32 := Scf.iv v224 c1_i32_116 k0_t2
  let v467 : BitVec 32 := Scalar.muli c4_i32_270 arg12
  let v468 : BitVec 32 := Scalar.addi v466 v467
  let c2_i32_271 : BitVec 32 := 2#32
  let v469 : BitVec 32 := Scalar.addi v468 c2_i32_271
  let c1_i32_332 : BitVec 32 := 1#32
  let v575 : BitVec 32 := Scalar.addi v469 c1_i32_332
  let c512_i32_333 : BitVec 32 := 512#32
  let v576 : BitVec 32 := Scalar.muli v575 c512_i32_333
  let v577 : BitVec 32 := v576
  let v578 : Index := Scalar.indexCast v577
  let c0_334 : Index := 0#32
  ![v578.toNat, 0]
def k0_off16 (i : grid0.Coords) (k0_t2 : Fin (k0_t2_loop i).trips) : Fin 2 → Nat :=
  let c2_i32_269 : BitVec 32 := 2#32
  let arg1 : BitVec 32 := BitVec.ofNat 32 (i 1).val
  let c1_i32_268 : BitVec 32 := 1#32
  let v465 : BitVec 32 := Scalar.addi arg1 c1_i32_268
  let v466 : BitVec 32 := Scalar.muli c2_i32_269 v465
  let c4_i32_270 : BitVec 32 := 4#32
  let c0_i32_113 : BitVec 32 := 0#32
  let c8_i32 : BitVec 32 := 8#32
  let v201 : BitVec 32 := Scalar.subi c8_i32 arg1
  let c1_i32_104 : BitVec 32 := 1#32
  let v202 : BitVec 32 := Scalar.subi v201 c1_i32_104
  let c0_i32_106 : BitVec 32 := 0#32
  let v204 : BitVec 1 := Scalar.cmpi .sgt v202 c0_i32_106
  let v205 : BitVec 32 := Scalar.extui v204
  let c0_i32_107 : BitVec 32 := 0#32
  let v206 : BitVec 1 := Scalar.cmpi .slt v202 c0_i32_107
  let v207 : BitVec 32 := Scalar.extui v206
  let v208 : BitVec 32 := Scalar.subi v205 v207
  let c2_i32_105 : BitVec 32 := 2#32
  let c0_i32_108 : BitVec 32 := 0#32
  let v209 : BitVec 1 := Scalar.cmpi .sgt c2_i32_105 c0_i32_108
  let v210 : BitVec 32 := Scalar.extui v209
  let c0_i32_109 : BitVec 32 := 0#32
  let v211 : BitVec 1 := Scalar.cmpi .slt c2_i32_105 c0_i32_109
  let v212 : BitVec 32 := Scalar.extui v211
  let v213 : BitVec 32 := Scalar.subi v210 v212
  let v214 : BitVec 1 := Scalar.cmpi .ne v208 v213
  let v215 : BitVec 32 := Scalar.remsi v202 c2_i32_105
  let c0_i32_110 : BitVec 32 := 0#32
  let v216 : BitVec 1 := Scalar.cmpi .ne v215 c0_i32_110
  let v217 : BitVec 1 := Scalar.andi v214 v216
  let v203 : BitVec 32 := Scalar.divsi v202 c2_i32_105
  let c1_i32_111 : BitVec 32 := 1#32
  let v218 : BitVec 32 := Scalar.subi v203 c1_i32_111
  let v219 : BitVec 32 := Scalar.select v217 v218 v203
  let v220 : BitVec 32 := Scalar.subi v219 c0_i32_113
  let c1_i32_114 : BitVec 32 := 1#32
  let v222 : BitVec 32 := Scalar.divsi v220 c1_i32_114
  let v223 : BitVec 32 := Scalar.muli v222 c1_i32_114
  let v224 : BitVec 32 := Scalar.addi c0_i32_113 v223
  let c1_i32_116 : BitVec 32 := 1#32
  let arg12 : BitVec 32 := Scf.iv v224 c1_i32_116 k0_t2
  let v467 : BitVec 32 := Scalar.muli c4_i32_270 arg12
  let v468 : BitVec 32 := Scalar.addi v466 v467
  let c2_i32_271 : BitVec 32 := 2#32
  let v469 : BitVec 32 := Scalar.addi v468 c2_i32_271
  let c1_i32_332 : BitVec 32 := 1#32
  let v575 : BitVec 32 := Scalar.addi v469 c1_i32_332
  let c512_i32_333 : BitVec 32 := 512#32
  let v576 : BitVec 32 := Scalar.muli v575 c512_i32_333
  let v577 : BitVec 32 := v576
  let v581 : Index := Scalar.indexCast v577
  let c0_335 : Index := 0#32
  ![v581.toNat, 0]
def k0_cond2 (i : grid0.Coords) : BitVec 1 :=
  let c8_i32 : BitVec 32 := 8#32
  let arg1 : BitVec 32 := BitVec.ofNat 32 (i 1).val
  let v201 : BitVec 32 := Scalar.subi c8_i32 arg1
  let c1_i32_104 : BitVec 32 := 1#32
  let v202 : BitVec 32 := Scalar.subi v201 c1_i32_104
  let c2_i32_117 : BitVec 32 := 2#32
  let c0_i32_118 : BitVec 32 := 0#32
  let v225 : BitVec 1 := Scalar.cmpi .eq c2_i32_117 c0_i32_118
  let c1_i32_119 : BitVec 32 := 1#32
  let v226 : BitVec 32 := Scalar.select v225 c1_i32_119 c2_i32_117
  let v227 : BitVec 32 := Scalar.remsi v202 v226
  let c0_i32_121 : BitVec 32 := 0#32
  let v229 : BitVec 1 := Scalar.cmpi .slt v227 c0_i32_121
  let c0_i32_122 : BitVec 32 := 0#32
  let v230 : BitVec 1 := Scalar.cmpi .slt v226 c0_i32_122
  let v231 : BitVec 1 := Scalar.xori v229 v230
  let c0_i32_120 : BitVec 32 := 0#32
  let v228 : BitVec 1 := Scalar.cmpi .ne v227 c0_i32_120
  let v232 : BitVec 1 := Scalar.andi v231 v228
  let v233 : BitVec 32 := Scalar.addi v227 v226
  let v234 : BitVec 32 := Scalar.select v232 v233 v227
  let c1_i32_123 : BitVec 32 := 1#32
  let v235 : BitVec 1 := Scalar.cmpi .eq v234 c1_i32_123
  let v236 : BitVec 32 := Scalar.extui v235
  let c0_i32_124 : BitVec 32 := 0#32
  let v237 : BitVec 1 := Scalar.cmpi .ne v236 c0_i32_124
  v237

def k0_mult11 (i : grid0.Coords) : BitVec 32 :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c8_i32 : BitVec 32 := 8#32
  let v201 : BitVec 32 := Scalar.subi c8_i32 arg1
  let c1_i32_104 : BitVec 32 := 1#32
  let v202 : BitVec 32 := Scalar.subi v201 c1_i32_104
  let c0_i32_148 : BitVec 32 := 0#32
  let v253 : BitVec 1 := Scalar.cmpi .sgt v202 c0_i32_148
  let v254 : BitVec 32 := Scalar.extui v253
  let c0_i32_149 : BitVec 32 := 0#32
  let v255 : BitVec 1 := Scalar.cmpi .slt v202 c0_i32_149
  let v256 : BitVec 32 := Scalar.extui v255
  let v257 : BitVec 32 := Scalar.subi v254 v256
  let c2_i32_147 : BitVec 32 := 2#32
  let c0_i32_150 : BitVec 32 := 0#32
  let v258 : BitVec 1 := Scalar.cmpi .sgt c2_i32_147 c0_i32_150
  let v259 : BitVec 32 := Scalar.extui v258
  let c0_i32_151 : BitVec 32 := 0#32
  let v260 : BitVec 1 := Scalar.cmpi .slt c2_i32_147 c0_i32_151
  let v261 : BitVec 32 := Scalar.extui v260
  let v262 : BitVec 32 := Scalar.subi v259 v261
  let v263 : BitVec 1 := Scalar.cmpi .ne v257 v262
  let v264 : BitVec 32 := Scalar.remsi v202 c2_i32_147
  let c0_i32_152 : BitVec 32 := 0#32
  let v265 : BitVec 1 := Scalar.cmpi .ne v264 c0_i32_152
  let v266 : BitVec 1 := Scalar.andi v263 v265
  let v252 : BitVec 32 := Scalar.divsi v202 c2_i32_147
  let c1_i32_153 : BitVec 32 := 1#32
  let v267 : BitVec 32 := Scalar.subi v252 c1_i32_153
  let v268 : BitVec 32 := Scalar.select v266 v267 v252
  let v269 : BitVec 32 := Scalar.muli c4_i32 v268
  let v270 : BitVec 32 := Scalar.addi v251 v269
  let c512_i32_154 : BitVec 32 := 512#32
  let v271 : BitVec 32 := Scalar.muli v270 c512_i32_154
  v271
def k0_off17 (i : grid0.Coords) : Fin 2 → Nat :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c8_i32 : BitVec 32 := 8#32
  let v201 : BitVec 32 := Scalar.subi c8_i32 arg1
  let c1_i32_104 : BitVec 32 := 1#32
  let v202 : BitVec 32 := Scalar.subi v201 c1_i32_104
  let c0_i32_148 : BitVec 32 := 0#32
  let v253 : BitVec 1 := Scalar.cmpi .sgt v202 c0_i32_148
  let v254 : BitVec 32 := Scalar.extui v253
  let c0_i32_149 : BitVec 32 := 0#32
  let v255 : BitVec 1 := Scalar.cmpi .slt v202 c0_i32_149
  let v256 : BitVec 32 := Scalar.extui v255
  let v257 : BitVec 32 := Scalar.subi v254 v256
  let c2_i32_147 : BitVec 32 := 2#32
  let c0_i32_150 : BitVec 32 := 0#32
  let v258 : BitVec 1 := Scalar.cmpi .sgt c2_i32_147 c0_i32_150
  let v259 : BitVec 32 := Scalar.extui v258
  let c0_i32_151 : BitVec 32 := 0#32
  let v260 : BitVec 1 := Scalar.cmpi .slt c2_i32_147 c0_i32_151
  let v261 : BitVec 32 := Scalar.extui v260
  let v262 : BitVec 32 := Scalar.subi v259 v261
  let v263 : BitVec 1 := Scalar.cmpi .ne v257 v262
  let v264 : BitVec 32 := Scalar.remsi v202 c2_i32_147
  let c0_i32_152 : BitVec 32 := 0#32
  let v265 : BitVec 1 := Scalar.cmpi .ne v264 c0_i32_152
  let v266 : BitVec 1 := Scalar.andi v263 v265
  let v252 : BitVec 32 := Scalar.divsi v202 c2_i32_147
  let c1_i32_153 : BitVec 32 := 1#32
  let v267 : BitVec 32 := Scalar.subi v252 c1_i32_153
  let v268 : BitVec 32 := Scalar.select v266 v267 v252
  let v269 : BitVec 32 := Scalar.muli c4_i32 v268
  let v270 : BitVec 32 := Scalar.addi v251 v269
  let c512_i32_154 : BitVec 32 := 512#32
  let v271 : BitVec 32 := Scalar.muli v270 c512_i32_154
  let v272 : BitVec 32 := v271
  let v273 : Index := Scalar.indexCast v272
  let c0_155 : Index := 0#32
  ![v273.toNat, 0]
def k0_off18 (i : grid0.Coords) : Fin 2 → Nat :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c8_i32 : BitVec 32 := 8#32
  let v201 : BitVec 32 := Scalar.subi c8_i32 arg1
  let c1_i32_104 : BitVec 32 := 1#32
  let v202 : BitVec 32 := Scalar.subi v201 c1_i32_104
  let c0_i32_148 : BitVec 32 := 0#32
  let v253 : BitVec 1 := Scalar.cmpi .sgt v202 c0_i32_148
  let v254 : BitVec 32 := Scalar.extui v253
  let c0_i32_149 : BitVec 32 := 0#32
  let v255 : BitVec 1 := Scalar.cmpi .slt v202 c0_i32_149
  let v256 : BitVec 32 := Scalar.extui v255
  let v257 : BitVec 32 := Scalar.subi v254 v256
  let c2_i32_147 : BitVec 32 := 2#32
  let c0_i32_150 : BitVec 32 := 0#32
  let v258 : BitVec 1 := Scalar.cmpi .sgt c2_i32_147 c0_i32_150
  let v259 : BitVec 32 := Scalar.extui v258
  let c0_i32_151 : BitVec 32 := 0#32
  let v260 : BitVec 1 := Scalar.cmpi .slt c2_i32_147 c0_i32_151
  let v261 : BitVec 32 := Scalar.extui v260
  let v262 : BitVec 32 := Scalar.subi v259 v261
  let v263 : BitVec 1 := Scalar.cmpi .ne v257 v262
  let v264 : BitVec 32 := Scalar.remsi v202 c2_i32_147
  let c0_i32_152 : BitVec 32 := 0#32
  let v265 : BitVec 1 := Scalar.cmpi .ne v264 c0_i32_152
  let v266 : BitVec 1 := Scalar.andi v263 v265
  let v252 : BitVec 32 := Scalar.divsi v202 c2_i32_147
  let c1_i32_153 : BitVec 32 := 1#32
  let v267 : BitVec 32 := Scalar.subi v252 c1_i32_153
  let v268 : BitVec 32 := Scalar.select v266 v267 v252
  let v269 : BitVec 32 := Scalar.muli c4_i32 v268
  let v270 : BitVec 32 := Scalar.addi v251 v269
  let c512_i32_154 : BitVec 32 := 512#32
  let v271 : BitVec 32 := Scalar.muli v270 c512_i32_154
  let v272 : BitVec 32 := v271
  let v276 : Index := Scalar.indexCast v272
  let c0_156 : Index := 0#32
  ![v276.toNat, 0]
def k0_mult12 (i : grid0.Coords) : BitVec 32 :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c8_i32 : BitVec 32 := 8#32
  let v201 : BitVec 32 := Scalar.subi c8_i32 arg1
  let c1_i32_104 : BitVec 32 := 1#32
  let v202 : BitVec 32 := Scalar.subi v201 c1_i32_104
  let c0_i32_148 : BitVec 32 := 0#32
  let v253 : BitVec 1 := Scalar.cmpi .sgt v202 c0_i32_148
  let v254 : BitVec 32 := Scalar.extui v253
  let c0_i32_149 : BitVec 32 := 0#32
  let v255 : BitVec 1 := Scalar.cmpi .slt v202 c0_i32_149
  let v256 : BitVec 32 := Scalar.extui v255
  let v257 : BitVec 32 := Scalar.subi v254 v256
  let c2_i32_147 : BitVec 32 := 2#32
  let c0_i32_150 : BitVec 32 := 0#32
  let v258 : BitVec 1 := Scalar.cmpi .sgt c2_i32_147 c0_i32_150
  let v259 : BitVec 32 := Scalar.extui v258
  let c0_i32_151 : BitVec 32 := 0#32
  let v260 : BitVec 1 := Scalar.cmpi .slt c2_i32_147 c0_i32_151
  let v261 : BitVec 32 := Scalar.extui v260
  let v262 : BitVec 32 := Scalar.subi v259 v261
  let v263 : BitVec 1 := Scalar.cmpi .ne v257 v262
  let v264 : BitVec 32 := Scalar.remsi v202 c2_i32_147
  let c0_i32_152 : BitVec 32 := 0#32
  let v265 : BitVec 1 := Scalar.cmpi .ne v264 c0_i32_152
  let v266 : BitVec 1 := Scalar.andi v263 v265
  let v252 : BitVec 32 := Scalar.divsi v202 c2_i32_147
  let c1_i32_153 : BitVec 32 := 1#32
  let v267 : BitVec 32 := Scalar.subi v252 c1_i32_153
  let v268 : BitVec 32 := Scalar.select v266 v267 v252
  let v269 : BitVec 32 := Scalar.muli c4_i32 v268
  let v270 : BitVec 32 := Scalar.addi v251 v269
  let c1_i32_214 : BitVec 32 := 1#32
  let v376 : BitVec 32 := Scalar.addi v270 c1_i32_214
  let c512_i32_215 : BitVec 32 := 512#32
  let v377 : BitVec 32 := Scalar.muli v376 c512_i32_215
  v377
def k0_off19 (i : grid0.Coords) : Fin 2 → Nat :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c8_i32 : BitVec 32 := 8#32
  let v201 : BitVec 32 := Scalar.subi c8_i32 arg1
  let c1_i32_104 : BitVec 32 := 1#32
  let v202 : BitVec 32 := Scalar.subi v201 c1_i32_104
  let c0_i32_148 : BitVec 32 := 0#32
  let v253 : BitVec 1 := Scalar.cmpi .sgt v202 c0_i32_148
  let v254 : BitVec 32 := Scalar.extui v253
  let c0_i32_149 : BitVec 32 := 0#32
  let v255 : BitVec 1 := Scalar.cmpi .slt v202 c0_i32_149
  let v256 : BitVec 32 := Scalar.extui v255
  let v257 : BitVec 32 := Scalar.subi v254 v256
  let c2_i32_147 : BitVec 32 := 2#32
  let c0_i32_150 : BitVec 32 := 0#32
  let v258 : BitVec 1 := Scalar.cmpi .sgt c2_i32_147 c0_i32_150
  let v259 : BitVec 32 := Scalar.extui v258
  let c0_i32_151 : BitVec 32 := 0#32
  let v260 : BitVec 1 := Scalar.cmpi .slt c2_i32_147 c0_i32_151
  let v261 : BitVec 32 := Scalar.extui v260
  let v262 : BitVec 32 := Scalar.subi v259 v261
  let v263 : BitVec 1 := Scalar.cmpi .ne v257 v262
  let v264 : BitVec 32 := Scalar.remsi v202 c2_i32_147
  let c0_i32_152 : BitVec 32 := 0#32
  let v265 : BitVec 1 := Scalar.cmpi .ne v264 c0_i32_152
  let v266 : BitVec 1 := Scalar.andi v263 v265
  let v252 : BitVec 32 := Scalar.divsi v202 c2_i32_147
  let c1_i32_153 : BitVec 32 := 1#32
  let v267 : BitVec 32 := Scalar.subi v252 c1_i32_153
  let v268 : BitVec 32 := Scalar.select v266 v267 v252
  let v269 : BitVec 32 := Scalar.muli c4_i32 v268
  let v270 : BitVec 32 := Scalar.addi v251 v269
  let c1_i32_214 : BitVec 32 := 1#32
  let v376 : BitVec 32 := Scalar.addi v270 c1_i32_214
  let c512_i32_215 : BitVec 32 := 512#32
  let v377 : BitVec 32 := Scalar.muli v376 c512_i32_215
  let v378 : BitVec 32 := v377
  let v379 : Index := Scalar.indexCast v378
  let c0_216 : Index := 0#32
  ![v379.toNat, 0]
def k0_off20 (i : grid0.Coords) : Fin 2 → Nat :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c8_i32 : BitVec 32 := 8#32
  let v201 : BitVec 32 := Scalar.subi c8_i32 arg1
  let c1_i32_104 : BitVec 32 := 1#32
  let v202 : BitVec 32 := Scalar.subi v201 c1_i32_104
  let c0_i32_148 : BitVec 32 := 0#32
  let v253 : BitVec 1 := Scalar.cmpi .sgt v202 c0_i32_148
  let v254 : BitVec 32 := Scalar.extui v253
  let c0_i32_149 : BitVec 32 := 0#32
  let v255 : BitVec 1 := Scalar.cmpi .slt v202 c0_i32_149
  let v256 : BitVec 32 := Scalar.extui v255
  let v257 : BitVec 32 := Scalar.subi v254 v256
  let c2_i32_147 : BitVec 32 := 2#32
  let c0_i32_150 : BitVec 32 := 0#32
  let v258 : BitVec 1 := Scalar.cmpi .sgt c2_i32_147 c0_i32_150
  let v259 : BitVec 32 := Scalar.extui v258
  let c0_i32_151 : BitVec 32 := 0#32
  let v260 : BitVec 1 := Scalar.cmpi .slt c2_i32_147 c0_i32_151
  let v261 : BitVec 32 := Scalar.extui v260
  let v262 : BitVec 32 := Scalar.subi v259 v261
  let v263 : BitVec 1 := Scalar.cmpi .ne v257 v262
  let v264 : BitVec 32 := Scalar.remsi v202 c2_i32_147
  let c0_i32_152 : BitVec 32 := 0#32
  let v265 : BitVec 1 := Scalar.cmpi .ne v264 c0_i32_152
  let v266 : BitVec 1 := Scalar.andi v263 v265
  let v252 : BitVec 32 := Scalar.divsi v202 c2_i32_147
  let c1_i32_153 : BitVec 32 := 1#32
  let v267 : BitVec 32 := Scalar.subi v252 c1_i32_153
  let v268 : BitVec 32 := Scalar.select v266 v267 v252
  let v269 : BitVec 32 := Scalar.muli c4_i32 v268
  let v270 : BitVec 32 := Scalar.addi v251 v269
  let c1_i32_214 : BitVec 32 := 1#32
  let v376 : BitVec 32 := Scalar.addi v270 c1_i32_214
  let c512_i32_215 : BitVec 32 := 512#32
  let v377 : BitVec 32 := Scalar.muli v376 c512_i32_215
  let v378 : BitVec 32 := v377
  let v382 : Index := Scalar.indexCast v378
  let c0_217 : Index := 0#32
  ![v382.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8192x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "att_scale" => some (((Real.sqrt 192)⁻¹ : ℝ) : EReal)
  | "exp2_scale" => some (((Real.sqrt 192)⁻¹ * (Real.log 2)⁻¹ : ℝ) : EReal)
  | "log2_e" => some (((Real.log 2)⁻¹ : ℝ) : EReal)
  | _ => none
-- ==== ReferenceIdeal.lean ====
abbrev S8192x4x192 : Shape := ⟨3, ![8192, 4, 192]⟩
abbrev S8192x4x128 : Shape := ⟨3, ![8192, 4, 128]⟩
abbrev S8192 : Shape := ⟨1, ![8192]⟩
abbrev S4x8192x8192 : Shape := ⟨3, ![4, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S4x8192 : Shape := ⟨2, ![4, 8192]⟩
abbrev S4x8192x1 : Shape := ⟨3, ![4, 8192, 1]⟩
abbrev S4x128x8192 : Shape := ⟨3, ![4, 128, 8192]⟩
abbrev S4x8192x192 : Shape := ⟨3, ![4, 8192, 192]⟩
abbrev S8192x4x256 : Shape := ⟨3, ![8192, 4, 256]⟩
abbrev S8192x1024 : Shape := ⟨2, ![8192, 1024]⟩
abbrev S8192x512 : Shape := ⟨2, ![8192, 512]⟩

abbrev nBuf : Space → Nat
  | .hbm => 98
  | .vmem => 0
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S8192x4x128, .f32⟩
  | .hbm, ⟨4, _⟩ => ⟨S8192, .i32⟩
  | .hbm, ⟨5, _⟩ => ⟨S4x8192x8192, .f32⟩
  | .hbm, ⟨6, _⟩ => ⟨S_, .f32⟩
  | .hbm, ⟨7, _⟩ => ⟨S_, .f32⟩
  | .hbm, ⟨8, _⟩ => ⟨S4x8192x8192, .f32⟩
  | .hbm, ⟨9, _⟩ => ⟨S4x8192x8192, .f32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S_, .f32⟩
  | .hbm, ⟨16, _⟩ => ⟨S_, .f32⟩
  | .hbm, ⟨17, _⟩ => ⟨S4x8192x8192, .i1⟩
  | .hbm, ⟨18, _⟩ => ⟨S4x8192x8192, .f32⟩
  | .hbm, ⟨19, _⟩ => ⟨S4x8192x8192, .f32⟩
  | .hbm, ⟨20, _⟩ => ⟨S_, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S4x8192x1, .f32⟩
  | .hbm, ⟨25, _⟩ => ⟨S4x8192x8192, .f32⟩
  | .hbm, ⟨26, _⟩ => ⟨S4x8192x8192, .i1⟩
  | .hbm, ⟨27, _⟩ => ⟨S4x8192x8192, .f32⟩
  | .hbm, ⟨28, _⟩ => ⟨S_, .f32⟩
  | .hbm, ⟨29, _⟩ => ⟨S4x8192, .f32⟩
  | .hbm, ⟨30, _⟩ => ⟨S_, .f32⟩
  | .hbm, ⟨31, _⟩ => ⟨S4x8192, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S4x8192, .i1⟩
  | .hbm, ⟨36, _⟩ => ⟨S_, .f32⟩
  | .hbm, ⟨37, _⟩ => ⟨S4x8192, .f32⟩
  | .hbm, ⟨38, _⟩ => ⟨S4x8192, .i1⟩
  | .hbm, ⟨39, _⟩ => ⟨S_, .f32⟩
  | .hbm, ⟨40, _⟩ => ⟨S4x8192, .f32⟩
  | .hbm, ⟨41, _⟩ => ⟨S_, .f32⟩
  | .hbm, ⟨42, _⟩ => ⟨S4x8192, .f32⟩
  | .hbm, ⟨43, _⟩ => ⟨S_, .f32⟩
  | .hbm, ⟨44, _⟩ => ⟨S4x8192, .f32⟩
  | .hbm, ⟨45, _⟩ => ⟨S4x8192, .f32⟩
  | .hbm, ⟨46, _⟩ => ⟨S4x8192, .f32⟩
  | .hbm, ⟨47, _⟩ => ⟨S4x8192x1, .f32⟩
  | .hbm, ⟨48, _⟩ => ⟨S4x8192x8192, .f32⟩
  | .hbm, ⟨49, _⟩ => ⟨S4x8192x8192, .f32⟩
  | .hbm, ⟨50, _⟩ => ⟨S4x8192x8192, .f32⟩
  | .hbm, ⟨51, _⟩ => ⟨S_, .f32⟩
  | .hbm, ⟨52, _⟩ => ⟨S4x8192, .f32⟩
  | .hbm, ⟨53, _⟩ => ⟨S4x8192x1, .f32⟩
  | .hbm, ⟨54, _⟩ => ⟨S4x8192x8192, .f32⟩
  | .hbm, ⟨55, _⟩ => ⟨S4x8192x8192, .f32⟩
  | .hbm, ⟨56, _⟩ => ⟨S4x8192x1, .f32⟩
  | .hbm, ⟨57, _⟩ => ⟨S_, .f32⟩
  | .hbm, ⟨58, _⟩ => ⟨S4x8192x1, .f32⟩
  | .hbm, ⟨59, _⟩ => ⟨S4x8192x1, .f32⟩
  | .hbm, ⟨60, _⟩ => ⟨S4x128x8192, .f32⟩
  | .hbm, ⟨61, _⟩ => ⟨S8192x4x128, .f32⟩
  | .hbm, ⟨62, _⟩ => ⟨S4x128x8192, .f32⟩
  | .hbm, ⟨63, _⟩ => ⟨S4x8192x8192, .f32⟩
  | .hbm, ⟨64, _⟩ => ⟨S4x128x8192, .f32⟩
  | .hbm, ⟨65, _⟩ => ⟨S8192x4x128, .f32⟩
  | .hbm, ⟨66, _⟩ => ⟨S4x8192x8192, .f32⟩
  | .hbm, ⟨67, _⟩ => ⟨S4x8192x8192, .f32⟩
  | .hbm, ⟨68, _⟩ => ⟨S4x8192x8192, .f32⟩
  | .hbm, ⟨69, _⟩ => ⟨S_, .f32⟩
  | .hbm, ⟨70, _⟩ => ⟨S4x8192, .f32⟩
  | .hbm, ⟨71, _⟩ => ⟨S4x8192x1, .f32⟩
  | .hbm, ⟨72, _⟩ => ⟨S4x8192x1, .f32⟩
  | .hbm, ⟨73, _⟩ => ⟨S4x8192x8192, .f32⟩
  | .hbm, ⟨74, _⟩ => ⟨S4x8192x8192, .f32⟩
  | .hbm, ⟨75, _⟩ => ⟨S_, .f32⟩
  | .hbm, ⟨76, _⟩ => ⟨S4x8192, .f32⟩
  | .hbm, ⟨77, _⟩ => ⟨S4x8192x8192, .f32⟩
  | .hbm, ⟨78, _⟩ => ⟨S4x8192x8192, .f32⟩
  | .hbm, ⟨79, _⟩ => ⟨S4x8192x8192, .f32⟩
  | .hbm, ⟨80, _⟩ => ⟨S_, .f32⟩
  | .hbm, ⟨81, _⟩ => ⟨S4x8192x8192, .f32⟩
  | .hbm, ⟨82, _⟩ => ⟨S4x8192x8192, .f32⟩
  | .hbm, ⟨83, _⟩ => ⟨S4x8192x8192, .f32⟩
  | .hbm, ⟨84, _⟩ => ⟨S4x8192x8192, .f32⟩
  | .hbm, ⟨85, _⟩ => ⟨S4x8192x192, .f32⟩
  | .hbm, ⟨86, _⟩ => ⟨S8192x4x192, .f32⟩
  | .hbm, ⟨87, _⟩ => ⟨S4x8192x192, .f32⟩
  | .hbm, ⟨88, _⟩ => ⟨S8192x4x192, .f32⟩
  | .hbm, ⟨89, _⟩ => ⟨S_, .i32⟩
  | .hbm, ⟨90, _⟩ => ⟨S_, .f32⟩
  | .hbm, ⟨91, _⟩ => ⟨S8192x4x256, .f32⟩
  | .hbm, ⟨92, _⟩ => ⟨S8192x1024, .f32⟩
  | .hbm, ⟨93, _⟩ => ⟨S_, .i32⟩
  | .hbm, ⟨94, _⟩ => ⟨S_, .f32⟩
  | .hbm, ⟨95, _⟩ => ⟨S8192x4x256, .f32⟩
  | .hbm, ⟨96, _⟩ => ⟨S8192x1024, .f32⟩
  | .hbm, ⟨97, _⟩ => ⟨S8192x512, .f32⟩
  | _, _ => ⟨S8192x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c : Ref sig .tc := ⟨.hbm, 89, rfl⟩
abbrev main_call2_v0 : Ref sig .tc := ⟨.hbm, 90, rfl⟩
abbrev main_v64 : Ref sig .tc := ⟨.hbm, 91, rfl⟩
abbrev main_v65 : Ref sig .tc := ⟨.hbm, 92, rfl⟩
abbrev main_c_13 : Ref sig .tc := ⟨.hbm, 93, rfl⟩
abbrev main_call3_v0 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩

abbrev nD : Nat := 1
abbrev τ : Topo := Topo.v7x

variable {F : FTy → Type} [FloatOps F]
-- ==== GradWIn.lean ====
abbrev S8192x1024 : Shape := ⟨2, ![8192, 1024]⟩
abbrev S8192x512 : Shape := ⟨2, ![8192, 512]⟩
abbrev S8192x256 : Shape := ⟨2, ![8192, 256]⟩
abbrev S1024x2560 : Shape := ⟨2, ![1024, 2560]⟩
abbrev S1024x1024 : Shape := ⟨2, ![1024, 1024]⟩
abbrev S1024x512 : Shape := ⟨2, ![1024, 512]⟩
abbrev S1024x256 : Shape := ⟨2, ![1024, 256]⟩

abbrev nBuf : Space → Nat
  | .hbm => 10
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x256, .bf16⟩
  | .hbm, ⟨4, _⟩ => ⟨S8192x256, .bf16⟩
  | .hbm, ⟨5, _⟩ => ⟨S8192x256, .bf16⟩
  | .hbm, ⟨6, _⟩ => ⟨S8192x256, .bf16⟩
  | .hbm, ⟨7, _⟩ => ⟨S8192x256, .bf16⟩
  | .hbm, ⟨8, _⟩ => ⟨S8192x256, .bf16⟩
  | .hbm, ⟨9, _⟩ => ⟨S1024x2560, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x2560, .f32⟩
  | .local _ .vmem, ⟨19, _⟩ => ⟨S1024x2560, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x2560 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RefWInIdeal.lean ====
abbrev S8192x1024 : Shape := ⟨2, ![8192, 1024]⟩
abbrev S8192x512 : Shape := ⟨2, ![8192, 512]⟩
abbrev S8192x256 : Shape := ⟨2, ![8192, 256]⟩
abbrev S8192x2560 : Shape := ⟨2, ![8192, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x256, .bf16⟩
  | .hbm, ⟨4, _⟩ => ⟨S8192x256, .bf16⟩
  | .hbm, ⟨5, _⟩ => ⟨S8192x256, .bf16⟩
  | .hbm, ⟨6, _⟩ => ⟨S8192x256, .bf16⟩
  | .hbm, ⟨7, _⟩ => ⟨S8192x256, .bf16⟩
  | .hbm, ⟨8, _⟩ => ⟨S8192x256, .bf16⟩
  | .hbm, ⟨9, _⟩ => ⟨S8192x2560, .bf16⟩
  | .hbm, ⟨10, _⟩ => ⟨S8192x2560, .f32⟩
  | .hbm, ⟨11, _⟩ => ⟨S_, .f32⟩
  | .hbm, ⟨12, _⟩ => ⟨S1024x2560, .f32⟩
  | .hbm, ⟨13, _⟩ => ⟨S8192x1024, .f32⟩
  | .hbm, ⟨14, _⟩ => ⟨S8192x2560, .f32⟩
  | .hbm, ⟨15, _⟩ => ⟨S2560x1024, .f32⟩
  | .hbm, ⟨16, _⟩ => ⟨S1024x2560, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== GradWOut.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== RefWOutIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjIn.lean ====
abbrev S8192x1024 : Shape := ⟨2, ![8192, 1024]⟩
abbrev S1024 : Shape := ⟨1, ![1024]⟩
abbrev S3x1024 : Shape := ⟨2, ![3, 1024]⟩
abbrev S1024x2560 : Shape := ⟨2, ![1024, 2560]⟩
abbrev S1x1024 : Shape := ⟨2, ![1, 1024]⟩
abbrev S8192x2560 : Shape := ⟨2, ![8192, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S3x1024, .f32⟩
  | .hbm, ⟨3, _⟩ => ⟨S1024x2560, .bf16⟩
  | .hbm, ⟨4, _⟩ => ⟨S1x1024, .f32⟩
  | .hbm, ⟨5, _⟩ => ⟨S8192x2560, .bf16⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3x1024, .f32⟩
  | .local _ .vmem, ⟨4, _⟩ => ⟨S1024x2560, .bf16⟩
  | .local _ .vmem, ⟨5, _⟩ => ⟨S512x2560, .bf16⟩
  | .local _ .vmem, ⟨6, _⟩ => ⟨S512x2560, .bf16⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefProjInIdeal.lean ====
abbrev S8192x1024 : Shape := ⟨2, ![8192, 1024]⟩
abbrev S1024 : Shape := ⟨1, ![1024]⟩
abbrev S3x1024 : Shape := ⟨2, ![3, 1024]⟩
abbrev S1024x2560 : Shape := ⟨2, ![1024, 2560]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x2560 : Shape := ⟨2, ![8192, 2560]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S3x1024, .f32⟩
  | .hbm, ⟨3, _⟩ => ⟨S1024x2560, .bf16⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S1024x2560, .f32⟩
  | .hbm, ⟨34, _⟩ => ⟨S8192x2560, .f32⟩
  | .hbm, ⟨35, _⟩ => ⟨S8192x2560, .bf16⟩
  | .hbm, ⟨36, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== GradIn.lean ====
abbrev S8192x1024 : Shape := ⟨2, ![8192, 1024]⟩
abbrev S1024 : Shape := ⟨1, ![1024]⟩
abbrev S3x1024 : Shape := ⟨2, ![3, 1024]⟩
abbrev S1024x2560 : Shape := ⟨2, ![1024, 2560]⟩
abbrev S8192x512 : Shape := ⟨2, ![8192, 512]⟩
abbrev S8192x256 : Shape := ⟨2, ![8192, 256]⟩
abbrev S1x1024 : Shape := ⟨2, ![1, 1024]⟩
abbrev S2x1024 : Shape := ⟨2, ![2, 1024]⟩
abbrev S512x1024 : Shape := ⟨2, ![512, 1024]⟩
abbrev S512x512 : Shape := ⟨2, ![512, 512]⟩
abbrev S512x256 : Shape := ⟨2, ![512, 256]⟩
abbrev S512x2560 : Shape := ⟨2, ![512, 2560]⟩
abbrev S256x2560 : Shape := ⟨2, ![256, 2560]⟩
abbrev S256x1024 : Shape := ⟨2, ![256, 1024]⟩
abbrev S256 : Shape := ⟨1, ![256]⟩
abbrev S256x1 : Shape := ⟨2, ![256, 1]⟩

abbrev nBuf : Space → Nat
  | .hbm => 17
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S3x1024, .f32⟩
  | .hbm, ⟨3, _⟩ => ⟨S1024x2560, .bf16⟩
  | .hbm, ⟨4, _⟩ => ⟨S8192x1024, .f32⟩
  | .hbm, ⟨5, _⟩ => ⟨S8192x512, .bf16⟩
  | .hbm, ⟨6, _⟩ => ⟨S8192x512, .bf16⟩
  | .hbm, ⟨7, _⟩ => ⟨S8192x256, .bf16⟩
  | .hbm, ⟨8, _⟩ => ⟨S8192x256, .bf16⟩
  | .hbm, ⟨9, _⟩ => ⟨S8192x256, .bf16⟩
  | .hbm, ⟨10, _⟩ => ⟨S8192x256, .bf16⟩
  | .hbm, ⟨11, _⟩ => ⟨S8192x256, .bf16⟩
  | .hbm, ⟨12, _⟩ => ⟨S8192x256, .bf16⟩
  | .hbm, ⟨13, _⟩ => ⟨S1x1024, .f32⟩
  | .hbm, ⟨14, _⟩ => ⟨S8192x1024, .f32⟩
  | .hbm, ⟨15, _⟩ => ⟨S2x1024, .f32⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S1x1024, .f32⟩
  | .local _ .vmem, ⟨21, _⟩ => ⟨S3x1024, .f32⟩
  | .local _ .vmem, ⟨22, _⟩ => ⟨S1024x2560, .bf16⟩
  | .local _ .vmem, ⟨23, _⟩ => ⟨S512x1024, .f32⟩
  | .local _ .vmem, ⟨24, _⟩ => ⟨S512x1024, .f32⟩
  | .local _ .vmem, ⟨25, _⟩ => ⟨S2x1024, .f32⟩
  | .local _ .vmem, ⟨26, _⟩ => ⟨S1x1024, .f32⟩
  | .local _ .vmem, ⟨27, _⟩ => ⟨S512x2560, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v1_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem15_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2560 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== RefGradInIdeal.lean ====
abbrev S8192x1024 : Shape := ⟨2, ![8192, 1024]⟩
abbrev S1024 : Shape := ⟨1, ![1024]⟩
abbrev S3x1024 : Shape := ⟨2, ![3, 1024]⟩
abbrev S1024x2560 : Shape := ⟨2, ![1024, 2560]⟩
abbrev S8192x512 : Shape := ⟨2, ![8192, 512]⟩
abbrev S8192x256 : Shape := ⟨2, ![8192, 256]⟩
abbrev S8192x2560 : Shape := ⟨2, ![8192, 2560]⟩
abbrev S2x1024 : Shape := ⟨2, ![2, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 99
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S3x1024, .f32⟩
  | .hbm, ⟨3, _⟩ => ⟨S1024x2560, .bf16⟩
  | .hbm, ⟨4, _⟩ => ⟨S8192x1024, .f32⟩
  | .hbm, ⟨5, _⟩ => ⟨S8192x512, .bf16⟩
  | .hbm, ⟨6, _⟩ => ⟨S8192x512, .bf16⟩
  | .hbm, ⟨7, _⟩ => ⟨S8192x256, .bf16⟩
  | .hbm, ⟨8, _⟩ => ⟨S8192x256, .bf16⟩
  | .hbm, ⟨9, _⟩ => ⟨S8192x256, .bf16⟩
  | .hbm, ⟨10, _⟩ => ⟨S8192x256, .bf16⟩
  | .hbm, ⟨11, _⟩ => ⟨S8192x256, .bf16⟩
  | .hbm, ⟨12, _⟩ => ⟨S8192x256, .bf16⟩
  | .hbm, ⟨13, _⟩ => ⟨S8192x2560, .bf16⟩
  | .hbm, ⟨14, _⟩ => ⟨S8192x2560, .f32⟩
  | .hbm, ⟨15, _⟩ => ⟨S2x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S1024x2560, .f32⟩
  | .hbm, ⟨50, _⟩ => ⟨S8192x2560, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S1x1024, .f32⟩
  | .hbm, ⟨92, _⟩ => ⟨S_, .f32⟩
  | .hbm, ⟨93, _⟩ => ⟨S2x1024, .f32⟩
  | .hbm, ⟨94, _⟩ => ⟨S1x1024, .f32⟩
  | .hbm, ⟨95, _⟩ => ⟨S_, .f32⟩
  | .hbm, ⟨96, _⟩ => ⟨S2x1024, .f32⟩
  | .hbm, ⟨97, _⟩ => ⟨S2x1024, .f32⟩
  | .hbm, ⟨98, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_13 : Ref sig .tc := ⟨.hbm, 92, rfl⟩
abbrev main_v65 : Ref sig .tc := ⟨.hbm, 93, rfl⟩
abbrev main_v66 : Ref sig .tc := ⟨.hbm, 94, rfl⟩
abbrev main_cst_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩

abbrev nD : Nat := 1
abbrev τ : Topo := Topo.v7x

variable {F : FTy → Type} [FloatOps F]
-- ==== ProjOut.lean ====
abbrev S8192x1024 : Shape := ⟨2, ![8192, 1024]⟩
abbrev S8192x2560 : Shape := ⟨2, ![8192, 2560]⟩
abbrev S8192x512 : Shape := ⟨2, ![8192, 512]⟩
abbrev S8192x256 : Shape := ⟨2, ![8192, 256]⟩
abbrev S1024x1024 : Shape := ⟨2, ![1024, 1024]⟩
abbrev S1024 : Shape := ⟨1, ![1024]⟩
abbrev S3x1024 : Shape := ⟨2, ![3, 1024]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 12
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x2560, .bf16⟩
  | .hbm, ⟨2, _⟩ => ⟨S8192x512, .f32⟩
  | .hbm, ⟨3, _⟩ => ⟨S8192x256, .f32⟩
  | .hbm, ⟨4, _⟩ => ⟨S8192x256, .f32⟩
  | .hbm, ⟨5, _⟩ => ⟨S1024x1024, .bf16⟩
  | .hbm, ⟨6, _⟩ => ⟨S1024, .f32⟩
  | .hbm, ⟨7, _⟩ => ⟨S3x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x512, .f32⟩
  | .local _ .vmem, ⟨9, _⟩ => ⟨S512x512, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S1024x1024, .bf16⟩
  | .local _ .vmem, ⟨15, _⟩ => ⟨S1x1024, .f32⟩
  | .local _ .vmem, ⟨16, _⟩ => ⟨S3x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== RefProjOutIdeal.lean ====
abbrev S8192x1024 : Shape := ⟨2, ![8192, 1024]⟩
abbrev S8192x2560 : Shape := ⟨2, ![8192, 2560]⟩
abbrev S8192x512 : Shape := ⟨2, ![8192, 512]⟩
abbrev S8192x256 : Shape := ⟨2, ![8192, 256]⟩
abbrev S1024x1024 : Shape := ⟨2, ![1024, 1024]⟩
abbrev S1024 : Shape := ⟨1, ![1024]⟩
abbrev S3x1024 : Shape := ⟨2, ![3, 1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2560, .bf16⟩
  | .hbm, ⟨2, _⟩ => ⟨S8192x512, .f32⟩
  | .hbm, ⟨3, _⟩ => ⟨S8192x256, .f32⟩
  | .hbm, ⟨4, _⟩ => ⟨S8192x256, .f32⟩
  | .hbm, ⟨5, _⟩ => ⟨S1024x1024, .bf16⟩
  | .hbm, ⟨6, _⟩ => ⟨S1024, .f32⟩
  | .hbm, ⟨7, _⟩ => ⟨S3x1024, .f32⟩
  | .hbm, ⟨8, _⟩ => ⟨S8192x2560, .f32⟩
  | .hbm, ⟨9, _⟩ => ⟨S8192x512, .f32⟩
  | .hbm, ⟨10, _⟩ => ⟨S8192x256, .f32⟩
  | .hbm, ⟨11, _⟩ => ⟨S8192x256, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S_, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x256, .f32⟩
  | .hbm, ⟨23, _⟩ => ⟨S8192x256, .f32⟩
  | .hbm, ⟨24, _⟩ => ⟨S_, .f32⟩
  | .hbm, ⟨25, _⟩ => ⟨S8192x256, .f32⟩
  | .hbm, ⟨26, _⟩ => ⟨S8192x256, .f32⟩
  | .hbm, ⟨27, _⟩ => ⟨S_, .f32⟩
  | .hbm, ⟨28, _⟩ => ⟨S8192x256, .f32⟩
  | .hbm, ⟨29, _⟩ => ⟨S8192x256, .f32⟩
  | .hbm, ⟨30, _⟩ => ⟨S8192x256, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S_, .f32⟩
  | .hbm, ⟨35, _⟩ => ⟨S8192x256, .f32⟩
  | .hbm, ⟨36, _⟩ => ⟨S8192x256, .f32⟩
  | .hbm, ⟨37, _⟩ => ⟨S_, .f32⟩
  | .hbm, ⟨38, _⟩ => ⟨S8192x256, .f32⟩
  | .hbm, ⟨39, _⟩ => ⟨S8192x256, .f32⟩
  | .hbm, ⟨40, _⟩ => ⟨S8192x256, .f32⟩
  | .hbm, ⟨41, _⟩ => ⟨S8192x256, .f32⟩
  | .hbm, ⟨42, _⟩ => ⟨S8192x1024, .f32⟩
  | .hbm, ⟨43, _⟩ => ⟨S1024x1024, .f32⟩
  | .hbm, ⟨44, _⟩ => ⟨S8192x1024, .f32⟩
  | .hbm, ⟨45, _⟩ => ⟨S1x1024, .f32⟩
  | .hbm, ⟨46, _⟩ => ⟨S1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v6 : Ref sig .tc := ⟨.hbm, 30, rfl⟩
abbrev main_v7 : Ref sig .tc := ⟨.hbm, 31, rfl⟩
abbrev main_call2_v0 : Ref sig .tc := ⟨.hbm, 32, rfl⟩
abbrev main_call2_v1 : Ref sig .tc := ⟨.hbm, 33, rfl⟩
abbrev main_call2_cst : Ref sig .tc := ⟨.hbm, 34, rfl⟩
abbrev main_call2_v2 : Ref sig .tc := ⟨.hbm, 35, rfl⟩
abbrev main_call2_v3 : Ref sig .tc := ⟨.hbm, 36, rfl⟩
abbrev main_call2_cst_0 : Ref sig .tc := ⟨.hbm, 37, rfl⟩
abbrev main_call2_v4 : Ref sig .tc := ⟨.hbm, 38, rfl⟩
abbrev main_call2_v5 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_cst : Ref sig .tc := ⟨.hbm, 48, rfl⟩
abbrev main_v16 : Ref sig .tc := ⟨.hbm, 49, rfl⟩
abbrev main_v17 : Ref sig .tc := ⟨.hbm, 50, rfl⟩
abbrev main_cst_0 : Ref sig .tc := ⟨.hbm, 51, rfl⟩
abbrev main_v18 : Ref sig .tc := ⟨.hbm, 52, rfl⟩
abbrev main_v19 : Ref sig .tc := ⟨.hbm, 53, rfl⟩
abbrev main_cst_1 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩

abbrev nD : Nat := 1
abbrev τ : Topo := Topo.v7x

variable {F : FTy → Type} [FloatOps F]
-- ==== Proof.Run.Offsets.lean ====
/-
  The rows that the kernel's tiles start at, in closed form, and what its two grid conditions and its two counted loops come to.
-/
module

public import proofs.«01_k».proof.Proof.Gen.KernelIdeal.Frame
public import proofs.«01_k».proof.Proof.Gen.KernelIdeal.Loops
public import Idealize.ShloMosaic.Lib.Tactic

@[expose] public section

set_option maxRecDepth 16384

noncomputable section

namespace Cert.Proof.Run

open Cert.KernelIdeal Cert.KernelIdeal.Gen
open Idealize.ShloMosaic Idealize.ShloMosaic.Tactic

/-! ## The four tiles of a trip of the counted loop -/

theorem off5_eq : ∀ (i : grid0.Coords) (k : Fin (k0_t1_loop i).trips), k0_off5 i k = ![1024 * (i 1).val + 1024 + 2048 * k.val, 0] := by decide +kernel
instance (i : grid0.Coords) (k : Fin (k0_t1_loop i).trips) : ClosedOff (k0_off5 i k) := ⟨_, off5_eq i k⟩
theorem off6_eq : ∀ (i : grid0.Coords) (k : Fin (k0_t1_loop i).trips), k0_off6 i k = ![1024 * (i 1).val + 1024 + 2048 * k.val, 0] := by decide +kernel
instance (i : grid0.Coords) (k : Fin (k0_t1_loop i).trips) : ClosedOff (k0_off6 i k) := ⟨_, off6_eq i k⟩
theorem off7a_eq : ∀ (i : grid0.Coords) (k : Fin (k0_t1_loop i).trips), k0_off7 i k 1#32 = ![1024 * (i 1).val + 1536 + 2048 * k.val, 0] := by decide +kernel
instance (i : grid0.Coords) (k : Fin (k0_t1_loop i).trips) : ClosedOff (k0_off7 i k 1#32) := ⟨_, off7a_eq i k⟩
theorem off7b_eq : ∀ (i : grid0.Coords) (k : Fin (k0_t1_loop i).trips), k0_off7 i k 2#32 = ![1024 * (i 1).val + 2048 + 2048 * k.val, 0] := by decide +kernel
instance (i : grid0.Coords) (k : Fin (k0_t1_loop i).trips) : ClosedOff (k0_off7 i k 2#32) := ⟨_, off7b_eq i k⟩
theorem off8a_eq : ∀ (i : grid0.Coords) (k : Fin (k0_t1_loop i).trips), k0_off8 i k 1#32 = ![1024 * (i 1).val + 1536 + 2048 * k.val, 0] := by decide +kernel
instance (i : grid0.Coords) (k : Fin (k0_t1_loop i).trips) : ClosedOff (k0_off8 i k 1#32) := ⟨_, off8a_eq i k⟩
theorem off8b_eq : ∀ (i : grid0.Coords) (k : Fin (k0_t1_loop i).trips), k0_off8 i k 2#32 = ![1024 * (i 1).val + 2048 + 2048 * k.val, 0] := by decide +kernel
instance (i : grid0.Coords) (k : Fin (k0_t1_loop i).trips) : ClosedOff (k0_off8 i k 2#32) := ⟨_, off8b_eq i k⟩
theorem off9_eq : ∀ (i : grid0.Coords) (k : Fin (k0_t1_loop i).trips), k0_off9 i k = ![1024 * (i 1).val + 2560 + 2048 * k.val, 0] := by decide +kernel
instance (i : grid0.Coords) (k : Fin (k0_t1_loop i).trips) : ClosedOff (k0_off9 i k) := ⟨_, off9_eq i k⟩
theorem off10_eq : ∀ (i : grid0.Coords) (k : Fin (k0_t1_loop i).trips), k0_off10 i k = ![1024 * (i 1).val + 2560 + 2048 * k.val, 0] := by decide +kernel
instance (i : grid0.Coords) (k : Fin (k0_t1_loop i).trips) : ClosedOff (k0_off10 i k) := ⟨_, off10_eq i k⟩

/-! ## The last pair of tiles, where the number of pairs below the diagonal is odd -/

theorem cond2_iff : ∀ i : grid0.Coords, k0_cond2 i = 1#1 ↔ (i 1).val % 2 = 0 := by decide +kernel
theorem off17_eq : ∀ i : grid0.Coords, k0_off17 i = ![1024 * (i 1).val + 1024 + 2048 * ((7 - (i 1).val) / 2), 0] := by decide +kernel
instance (i : grid0.Coords) : ClosedOff (k0_off17 i) := ⟨_, off17_eq i⟩
theorem off18_eq : ∀ i : grid0.Coords, k0_off18 i = ![1024 * (i 1).val + 1024 + 2048 * ((7 - (i 1).val) / 2), 0] := by decide +kernel
instance (i : grid0.Coords) : ClosedOff (k0_off18 i) := ⟨_, off18_eq i⟩
theorem off19_eq : ∀ i : grid0.Coords, k0_off19 i = ![1024 * (i 1).val + 1536 + 2048 * ((7 - (i 1).val) / 2), 0] := by decide +kernel
instance (i : grid0.Coords) : ClosedOff (k0_off19 i) := ⟨_, off19_eq i⟩
theorem off20_eq : ∀ i : grid0.Coords, k0_off20 i = ![1024 * (i 1).val + 1536 + 2048 * ((7 - (i 1).val) / 2), 0] := by decide +kernel
instance (i : grid0.Coords) : ClosedOff (k0_off20 i) := ⟨_, off20_eq i⟩

/-! ## The loops' trip counts -/

/-- Every trip of the loop takes two pairs of tiles. -/
theorem trips1_eq : ∀ i : grid0.Coords, (k0_t1_loop i).trips = (7 - (i 1).val) / 2 := by decide +kernel
/-- The loop's remainder has no trips. -/
theorem trips2_eq : ∀ i : grid0.Coords, (k0_t2_loop i).trips = 0 := by decide +kernel

end Cert.Proof.Run

end
-- ==== Proof.Run.Trip.lean ====
/-
  One trip of the kernel's counted loop: two pairs of tiles of 512 queries, each against the two halves of the point's keys.
-/
module

public import proofs.«01_k».proof.Proof.Run.Offsets

@[expose] public section

set_option maxRecDepth 16384

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Core `c`'s buffer of the memref `M`, and its ownership at the contents `f`. -/
abbrev Bf (c : Dev nD) {S : Shape} {e : EltTy} (M : Memref sig .tc .vmem S e) : Type := Buf (Elt F) (M.view.loc (c : Thread nD τ))
abbrev pt (c : Dev nD) {S : Shape} {e : EltTy} (M : Memref sig .tc .vmem S e) (f : Bf (F := F) c M) : sProp 𝕄 :=
  M.view.loc (c : Thread nD τ) ↦[M.view.set]{fullShare} f

section Trip

variable (c : Dev nD) (i : grid0.Coords)
  (arg2 : Memref sig .tc .vmem S8192x256 .bf16) (harg2 : arg2.IsWhole) (arg3 : Memref sig .tc .vmem S8192x128 .bf16) (harg3 : arg3.IsWhole)
  (arg4 : Memref sig .tc .vmem S8192x128 .f32) (harg4 : arg4.IsWhole) (arg5 : Memref sig .tc .vmem S1024x256 .bf16) (harg5 : arg5.IsWhole)
  (arg6 : Memref sig .tc .vmem S1024x128 .bf16) (harg6 : arg6.IsWhole) (arg7 : Memref sig .tc .vmem S8192x256 .f32) (harg7 : arg7.IsWhole)
  (arg8 : Memref sig .tc .vmem S1024x256 .f32) (harg8 : arg8.IsWhole) (arg9 : Memref sig .tc .vmem S1024x128 .f32) (harg9 : arg9.IsWhole)
  (arg10 : Memref sig .tc .vmem S2x512x256 .f32) (harg10 : arg10.IsWhole) (arg11 : Memref sig .tc .vmem S2x512x128 .f32) (harg11 : arg11.IsWhole)
  (arg0 arg1 : BitVec 32) (v11 : IVec S1x128 32) (v202 c0_i32_113 c1_i32_114 v222 : BitVec 32)
  (f2 : Bf (F := F) c arg2) (f3 : Bf (F := F) c arg3) (f4 : Bf (F := F) c arg4) (f5 : Bf (F := F) c arg5) (f6 : Bf (F := F) c arg6)

/-- What a trip is handed and hands back: its five inputs' buffers, and the three that it adds to, at given contents. -/
abbrev Held (f7 : Bf (F := F) c arg7) (f10 : Bf (F := F) c arg10) (f11 : Bf (F := F) c arg11) : sProp 𝕄 :=
  iprop(pt c arg2 f2 ∗ pt c arg3 f3 ∗ pt c arg4 f4 ∗ pt c arg5 f5 ∗ pt c arg6 f6 ∗ pt c arg7 f7 ∗ pt c arg10 f10 ∗ pt c arg11 f11)

set_option maxHeartbeats 4000000 in
set_option backward.proofsInPublic true in
/-- One trip, the pieces that it writes to be found. -/
def tripRun (k : Fin (k0_t1_loop i).trips) (f7 : Bf (F := F) c arg7) (f10 : Bf (F := F) c arg10) (f11 : Bf (F := F) c arg11) :
    Σ' (L7 : List (View.Piece (Elt F) S8192x256 .f32)) (L10 : List (View.Piece (Elt F) S2x512x256 .f32)),
      { L11 : List (View.Piece (Elt F) S2x512x128 .f32) //
        Held c arg2 arg3 arg4 arg5 arg6 arg7 arg10 arg11 f2 f3 f4 f5 f6 f7 f10 f11
          ⊢ wp frame (wpE (defs₀ (F := F)) Variants.none (c : Thread nD τ) none) Set.univ
              (k0_t1_body (F := F) i arg2 harg2 arg3 harg3 arg4 harg4 arg5 harg5 arg6 harg6 arg7 harg7 arg8 harg8 arg9 harg9 arg10 harg10 arg11 harg11 arg0 arg1 v11 v202 c0_i32_113 c1_i32_114 v222 k ())
              (fun _ => Held c arg2 arg3 arg4 arg5 arg6 arg7 arg10 arg11 f2 f3 f4 f5 f6
                (arg7.view.writes (Elt F) f7 L7) (arg10.view.writes (Elt F) f10 L10) (arg11.view.writes (Elt F) f11 L11)) } := by
  refine ⟨?_, ?_, ?_, ?run⟩
  case run =>
    iintro ⟨H2, H3, H4, H5, H6, H7, H10, H11⟩
    sl_unfold [k0_t1_body]
    sl_exec
    sl_step
    isplitl [H2]; · iexact H2
    isplitl [H3]; · iexact H3
    isplitl [H4]; · iexact H4
    isplitl [H5]; · iexact H5
    isplitl [H6]; · iexact H6
    isplitl [H7]; · iexact H7
    isplitl [H10]; · iexact H10
    iexact H11

end Trip

end Cert.Proof.Run

end
-- ==== Proof.Run.Loop.lean ====
/-
  The kernel's counted loop: the buffers that it adds to, trip by trip, and its invariant; and the loop's remainder, which has no trip.
-/
module

public import proofs.«01_k».proof.Proof.Run.Trip

@[expose] public section

set_option maxRecDepth 16384

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

attribute [local irreducible] tripRun

section Loop

variable (c : Dev nD) (i : grid0.Coords)
  (arg2 : Memref sig .tc .vmem S8192x256 .bf16) (harg2 : arg2.IsWhole) (arg3 : Memref sig .tc .vmem S8192x128 .bf16) (harg3 : arg3.IsWhole)
  (arg4 : Memref sig .tc .vmem S8192x128 .f32) (harg4 : arg4.IsWhole) (arg5 : Memref sig .tc .vmem S1024x256 .bf16) (harg5 : arg5.IsWhole)
  (arg6 : Memref sig .tc .vmem S1024x128 .bf16) (harg6 : arg6.IsWhole) (arg7 : Memref sig .tc .vmem S8192x256 .f32) (harg7 : arg7.IsWhole)
  (arg8 : Memref sig .tc .vmem S1024x256 .f32) (harg8 : arg8.IsWhole) (arg9 : Memref sig .tc .vmem S1024x128 .f32) (harg9 : arg9.IsWhole)
  (arg10 : Memref sig .tc .vmem S2x512x256 .f32) (harg10 : arg10.IsWhole) (arg11 : Memref sig .tc .vmem S2x512x128 .f32) (harg11 : arg11.IsWhole)
  (arg0 arg1 : BitVec 32) (v11 : IVec S1x128 32) (v202 c0_i32_113 c1_i32_114 v222 : BitVec 32)
  (f2 : Bf (F := F) c arg2) (f3 : Bf (F := F) c arg3) (f4 : Bf (F := F) c arg4) (f5 : Bf (F := F) c arg5) (f6 : Bf (F := F) c arg6)

/-- The buffers of the queries' gradient and of the two accumulators, together. -/
abbrev Accs : Type := Bf (F := F) c arg7 × Bf (F := F) c arg10 × Bf (F := F) c arg11

/-- The three buffers after trip `k`, from those before it. -/
@[irreducible] def next (k : Fin (k0_t1_loop i).trips) (a : Accs (F := F) c arg7 arg10 arg11) : Accs (F := F) c arg7 arg10 arg11 :=
  (arg7.view.writes (Elt F) a.1 (tripRun c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 k a.1 a.2.1 a.2.2).1,
   arg10.view.writes (Elt F) a.2.1 (tripRun c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 k a.1 a.2.1 a.2.2).2.1,
   arg11.view.writes (Elt F) a.2.2 (tripRun c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 k a.1 a.2.1 a.2.2).2.2.1)

/-- The resources of a trip at three buffers. -/
abbrev HeldA (a : Accs (F := F) c arg7 arg10 arg11) : sProp 𝕄 :=
  Held c arg2 arg3 arg4 arg5 arg6 arg7 arg10 arg11 f2 f3 f4 f5 f6 a.1 a.2.1 a.2.2

/-- One trip takes the buffers before it to those after it. -/
theorem next_wp (k : Fin (k0_t1_loop i).trips) (a : Accs (F := F) c arg7 arg10 arg11) :
    HeldA c arg2 arg3 arg4 arg5 arg6 arg7 arg10 arg11 f2 f3 f4 f5 f6 a
      ⊢ wp frame (wpE (defs₀ (F := F)) Variants.none (c : Thread nD τ) none) Set.univ
          (k0_t1_body (F := F) i arg2 harg2 arg3 harg3 arg4 harg4 arg5 harg5 arg6 harg6 arg7 harg7 arg8 harg8 arg9 harg9 arg10 harg10 arg11 harg11 arg0 arg1 v11 v202 c0_i32_113 c1_i32_114 v222 k ())
          (fun _ => HeldA c arg2 arg3 arg4 arg5 arg6 arg7 arg10 arg11 f2 f3 f4 f5 f6 (next c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 k a)) := by
  rw [next]
  exact (tripRun c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 k a.1 a.2.1 a.2.2).2.2.2

/-- The three buffers before trip `k`, from those that the loop finds. -/
def accs (a : Accs (F := F) c arg7 arg10 arg11) : ℕ → Accs (F := F) c arg7 arg10 arg11
  | 0 => a
  | k + 1 => if h : k < (k0_t1_loop i).trips then next c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 ⟨k, h⟩ (accs a k) else accs a k

theorem accs_succ (a : Accs (F := F) c arg7 arg10 arg11) (k : Fin (k0_t1_loop i).trips) :
    accs c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 a (k.val + 1)
      = next c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 k (accs c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 a k.val) := by
  rw [accs, dif_pos k.isLt]

/-- Before trip `k`, `arg7`'s buffer. -/
def st7 (f7 : Bf (F := F) c arg7) (f10 : Bf (F := F) c arg10) (f11 : Bf (F := F) c arg11) : ℕ → Bf (F := F) c arg7
  | 0 => f7
  | k + 1 => (accs c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 (f7, f10, f11) (k + 1)).1

/-- Before trip `k`, `arg10`'s buffer. -/
def st10 (f7 : Bf (F := F) c arg7) (f10 : Bf (F := F) c arg10) (f11 : Bf (F := F) c arg11) : ℕ → Bf (F := F) c arg10
  | 0 => f10
  | k + 1 => (accs c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 (f7, f10, f11) (k + 1)).2.1

/-- Before trip `k`, `arg11`'s buffer. -/
def st11 (f7 : Bf (F := F) c arg7) (f10 : Bf (F := F) c arg10) (f11 : Bf (F := F) c arg11) : ℕ → Bf (F := F) c arg11
  | 0 => f11
  | k + 1 => (accs c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 (f7, f10, f11) (k + 1)).2.2

set_option warn.classDefReducibility false in
/-- The loop's invariant: before trip `k` the inputs are as they were and the three buffers as `accs` says. -/
@[sl_loop] def loopInv1 (f7 : Bf (F := F) c arg7) (f10 : Bf (F := F) c arg10) (f11 : Bf (F := F) c arg11) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg0 arg1 v11 v202 c0_i32_113 c1_i32_114 v222 where
  inv k _ := Held c arg2 arg3 arg4 arg5 arg6 arg7 arg10 arg11 f2 f3 f4 f5 f6
    (st7 c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 f7 f10 f11 k)
    (st10 c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 f7 f10 f11 k)
    (st11 c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 f7 f10 f11 k)
  step k _ := by
    obtain ⟨k, hk⟩ := k
    cases k with
    | zero =>
      simp only [st7, st10, st11]
      rw [accs, dif_pos hk]
      exact next_wp c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 ⟨0, hk⟩ (f7, f10, f11)
    | succ k =>
      simp only [st7, st10, st11]
      rw [accs_succ c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 (f7, f10, f11) ⟨k + 1, hk⟩]
      exact next_wp c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 ⟨k + 1, hk⟩ _

set_option warn.classDefReducibility false in
/-- The remainder has no trip: the first loop's resources at its exit. -/
@[sl_loop] def loopInv2 (v224 : BitVec 32) (f7 : Bf (F := F) c arg7) (f10 : Bf (F := F) c arg10) (f11 : Bf (F := F) c arg11) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg0 arg1 v11 v202 c0_i32_113 c1_i32_114 v222 v224 where
  inv _ _ := Held c arg2 arg3 arg4 arg5 arg6 arg7 arg10 arg11 f2 f3 f4 f5 f6 f7 f10 f11
  step k _ := (Nat.not_lt_zero _ (Nat.lt_of_lt_of_eq k.isLt (trips2_eq i))).elim

end Loop

end Cert.Proof.Run

end
-- ==== Proof.Run.Cond.lean ====
/-
  The conditions of the kernel's two branches, of the grid point.
-/
module

public import proofs.«01_k».proof.Proof.Run.Offsets

@[expose] public section

set_option maxRecDepth 16384

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The first branch's condition, as the kernel computes it from the second grid coordinate. -/
abbrev cond1 (i : grid0.Coords) : Prop :=
  Scalar.cmpi .ne (Scalar.extui (Scalar.cmpi .eq (BitVec.ofNat 32 (i 1).val) 0#32) : BitVec 32) 0#32 = 1#1

/-- The first branch is taken at a head's first point. -/
theorem cond1_iff : ∀ t : Fin cfg0.N, cond1 (grid0.coords t) ↔ t.val % 8 = 0 :=
  (by decide +kernel : ∀ t : Fin grid0.N, cond1 (grid0.coords t) ↔ t.val % 8 = 0)

/-- The second branch is taken at the even points: an odd number of pairs of tiles is left. -/
theorem cond2_iff' : ∀ t : Fin cfg0.N, k0_cond2 (grid0.coords t) = 1#1 ↔ t.val % 2 = 0 :=
  (by decide +kernel : ∀ t : Fin grid0.N, k0_cond2 (grid0.coords t) = 1#1 ↔ t.val % 2 = 0)

end Cert.Proof.Run

end
-- ==== Proof.Run.BodyA.lean ====
/-
  The kernel's body at a head's first point.
-/
module

public import proofs.«01_k».proof.Proof.Run.Loop
public import proofs.«01_k».proof.Proof.Run.Cond

@[expose] public section

set_option maxRecDepth 16384

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
set_option backward.proofsInPublic true in
/-- The body at a head's first point, from any contents of its buffers: it ends with the inputs as they were, the three outputs at the
    contents found, and the two accumulators at some contents. -/
def bodyA (c : Dev nD) (i : grid0.Coords)
  (arg2 : Memref sig .tc .vmem S8192x256 .bf16) (harg2 : arg2.IsWhole) (arg3 : Memref sig .tc .vmem S8192x128 .bf16) (harg3 : arg3.IsWhole)
  (arg4 : Memref sig .tc .vmem S8192x128 .f32) (harg4 : arg4.IsWhole) (arg5 : Memref sig .tc .vmem S1024x256 .bf16) (harg5 : arg5.IsWhole)
  (arg6 : Memref sig .tc .vmem S1024x128 .bf16) (harg6 : arg6.IsWhole) (arg7 : Memref sig .tc .vmem S8192x256 .f32) (harg7 : arg7.IsWhole)
  (arg8 : Memref sig .tc .vmem S1024x256 .f32) (harg8 : arg8.IsWhole) (arg9 : Memref sig .tc .vmem S1024x128 .f32) (harg9 : arg9.IsWhole)
  (arg10 : Memref sig .tc .vmem S2x512x256 .f32) (harg10 : arg10.IsWhole) (arg11 : Memref sig .tc .vmem S2x512x128 .f32) (harg11 : arg11.IsWhole)
  (hc1 : cond1 i) (hc2 : k0_cond2 i = 1#1)
  (f2 : Bf (F := F) c arg2) (f3 : Bf (F := F) c arg3) (f4 : Bf (F := F) c arg4) (f5 : Bf (F := F) c arg5) (f6 : Bf (F := F) c arg6)
  (f7 : Bf (F := F) c arg7) (f8 : Bf (F := F) c arg8) (f9 : Bf (F := F) c arg9) (f10 : Bf (F := F) c arg10) (f11 : Bf (F := F) c arg11) :
    Σ' (g7 : Bf (F := F) c arg7) (g8 : Bf (F := F) c arg8),
      { g9 : Bf (F := F) c arg9 //
        iprop(pt c arg2 f2 ∗ pt c arg3 f3 ∗ pt c arg4 f4 ∗ pt c arg5 f5 ∗ pt c arg6 f6 ∗ pt c arg7 f7 ∗ pt c arg8 f8 ∗ pt c arg9 f9
            ∗ pt c arg10 f10 ∗ pt c arg11 f11)
          ⊢ wp frame (wpE (defs₀ (F := F)) Variants.none (c : Thread nD τ) none) Set.univ
              (cc0_flash_backward (F := F) i arg2 harg2 arg3 harg3 arg4 harg4 arg5 harg5 arg6 harg6 arg7 harg7 arg8 harg8 arg9 harg9 arg10 harg10 arg11 harg11)
              (fun _ => iprop(pt c arg2 f2 ∗ pt c arg3 f3 ∗ pt c arg4 f4 ∗ pt c arg5 f5 ∗ pt c arg6 f6 ∗ pt c arg7 g7 ∗ pt c arg8 g8
                ∗ pt c arg9 g9 ∗ (∃ g, pt c arg10 g) ∗ (∃ g, pt c arg11 g))) } := by
  refine ⟨?_, ?_, ?_, ?run⟩
  case run =>
    iintro ⟨H2, H3, H4, H5, H6, H7, H8, H9, H10, H11⟩
    sl_unfold [cc0_flash_backward]
    sl_exec (disch := first | sl_exact hc1 | sl_exact hc2)
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexists _; iexact H11

end Cert.Proof.Run

end
-- ==== Proof.Run.BodyB.lean ====
/-
  The kernel's body at a head's later points with an odd number of pairs left.
-/
module

public import proofs.«01_k».proof.Proof.Run.Loop
public import proofs.«01_k».proof.Proof.Run.Cond

@[expose] public section

set_option maxRecDepth 16384

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
set_option backward.proofsInPublic true in
/-- The body at a head's later points with an odd number of pairs left, from any contents of its buffers: it ends with the inputs as they were, the three outputs at the
    contents found, and the two accumulators at some contents. -/
def bodyB (c : Dev nD) (i : grid0.Coords)
  (arg2 : Memref sig .tc .vmem S8192x256 .bf16) (harg2 : arg2.IsWhole) (arg3 : Memref sig .tc .vmem S8192x128 .bf16) (harg3 : arg3.IsWhole)
  (arg4 : Memref sig .tc .vmem S8192x128 .f32) (harg4 : arg4.IsWhole) (arg5 : Memref sig .tc .vmem S1024x256 .bf16) (harg5 : arg5.IsWhole)
  (arg6 : Memref sig .tc .vmem S1024x128 .bf16) (harg6 : arg6.IsWhole) (arg7 : Memref sig .tc .vmem S8192x256 .f32) (harg7 : arg7.IsWhole)
  (arg8 : Memref sig .tc .vmem S1024x256 .f32) (harg8 : arg8.IsWhole) (arg9 : Memref sig .tc .vmem S1024x128 .f32) (harg9 : arg9.IsWhole)
  (arg10 : Memref sig .tc .vmem S2x512x256 .f32) (harg10 : arg10.IsWhole) (arg11 : Memref sig .tc .vmem S2x512x128 .f32) (harg11 : arg11.IsWhole)
  (hc1 : ¬ cond1 i) (hc2 : k0_cond2 i = 1#1)
  (f2 : Bf (F := F) c arg2) (f3 : Bf (F := F) c arg3) (f4 : Bf (F := F) c arg4) (f5 : Bf (F := F) c arg5) (f6 : Bf (F := F) c arg6)
  (f7 : Bf (F := F) c arg7) (f8 : Bf (F := F) c arg8) (f9 : Bf (F := F) c arg9) (f10 : Bf (F := F) c arg10) (f11 : Bf (F := F) c arg11) :
    Σ' (g7 : Bf (F := F) c arg7) (g8 : Bf (F := F) c arg8),
      { g9 : Bf (F := F) c arg9 //
        iprop(pt c arg2 f2 ∗ pt c arg3 f3 ∗ pt c arg4 f4 ∗ pt c arg5 f5 ∗ pt c arg6 f6 ∗ pt c arg7 f7 ∗ pt c arg8 f8 ∗ pt c arg9 f9
            ∗ pt c arg10 f10 ∗ pt c arg11 f11)
          ⊢ wp frame (wpE (defs₀ (F := F)) Variants.none (c : Thread nD τ) none) Set.univ
              (cc0_flash_backward (F := F) i arg2 harg2 arg3 harg3 arg4 harg4 arg5 harg5 arg6 harg6 arg7 harg7 arg8 harg8 arg9 harg9 arg10 harg10 arg11 harg11)
              (fun _ => iprop(pt c arg2 f2 ∗ pt c arg3 f3 ∗ pt c arg4 f4 ∗ pt c arg5 f5 ∗ pt c arg6 f6 ∗ pt c arg7 g7 ∗ pt c arg8 g8
                ∗ pt c arg9 g9 ∗ (∃ g, pt c arg10 g) ∗ (∃ g, pt c arg11 g))) } := by
  refine ⟨?_, ?_, ?_, ?run⟩
  case run =>
    iintro ⟨H2, H3, H4, H5, H6, H7, H8, H9, H10, H11⟩
    sl_unfold [cc0_flash_backward]
    sl_exec (disch := first | sl_exact hc1 | sl_exact hc2)
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexists _; iexact H11

end Cert.Proof.Run

end
-- ==== Proof.Run.BodyC.lean ====
/-
  The kernel's body at a head's points with an even number of pairs left.
-/
module

public import proofs.«01_k».proof.Proof.Run.Loop
public import proofs.«01_k».proof.Proof.Run.Cond

@[expose] public section

set_option maxRecDepth 16384

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
set_option backward.proofsInPublic true in
/-- The body at a head's points with an even number of pairs left, from any contents of its buffers: it ends with the inputs as they were, the three outputs at the
    contents found, and the two accumulators at some contents. -/
def bodyC (c : Dev nD) (i : grid0.Coords)
  (arg2 : Memref sig .tc .vmem S8192x256 .bf16) (harg2 : arg2.IsWhole) (arg3 : Memref sig .tc .vmem S8192x128 .bf16) (harg3 : arg3.IsWhole)
  (arg4 : Memref sig .tc .vmem S8192x128 .f32) (harg4 : arg4.IsWhole) (arg5 : Memref sig .tc .vmem S1024x256 .bf16) (harg5 : arg5.IsWhole)
  (arg6 : Memref sig .tc .vmem S1024x128 .bf16) (harg6 : arg6.IsWhole) (arg7 : Memref sig .tc .vmem S8192x256 .f32) (harg7 : arg7.IsWhole)
  (arg8 : Memref sig .tc .vmem S1024x256 .f32) (harg8 : arg8.IsWhole) (arg9 : Memref sig .tc .vmem S1024x128 .f32) (harg9 : arg9.IsWhole)
  (arg10 : Memref sig .tc .vmem S2x512x256 .f32) (harg10 : arg10.IsWhole) (arg11 : Memref sig .tc .vmem S2x512x128 .f32) (harg11 : arg11.IsWhole)
  (hc1 : ¬ cond1 i) (hc2 : ¬ k0_cond2 i = 1#1)
  (f2 : Bf (F := F) c arg2) (f3 : Bf (F := F) c arg3) (f4 : Bf (F := F) c arg4) (f5 : Bf (F := F) c arg5) (f6 : Bf (F := F) c arg6)
  (f7 : Bf (F := F) c arg7) (f8 : Bf (F := F) c arg8) (f9 : Bf (F := F) c arg9) (f10 : Bf (F := F) c arg10) (f11 : Bf (F := F) c arg11) :
    Σ' (g7 : Bf (F := F) c arg7) (g8 : Bf (F := F) c arg8),
      { g9 : Bf (F := F) c arg9 //
        iprop(pt c arg2 f2 ∗ pt c arg3 f3 ∗ pt c arg4 f4 ∗ pt c arg5 f5 ∗ pt c arg6 f6 ∗ pt c arg7 f7 ∗ pt c arg8 f8 ∗ pt c arg9 f9
            ∗ pt c arg10 f10 ∗ pt c arg11 f11)
          ⊢ wp frame (wpE (defs₀ (F := F)) Variants.none (c : Thread nD τ) none) Set.univ
              (cc0_flash_backward (F := F) i arg2 harg2 arg3 harg3 arg4 harg4 arg5 harg5 arg6 harg6 arg7 harg7 arg8 harg8 arg9 harg9 arg10 harg10 arg11 harg11)
              (fun _ => iprop(pt c arg2 f2 ∗ pt c arg3 f3 ∗ pt c arg4 f4 ∗ pt c arg5 f5 ∗ pt c arg6 f6 ∗ pt c arg7 g7 ∗ pt c arg8 g8
                ∗ pt c arg9 g9 ∗ (∃ g, pt c arg10 g) ∗ (∃ g, pt c arg11 g))) } := by
  refine ⟨?_, ?_, ?_, ?run⟩
  case run =>
    iintro ⟨H2, H3, H4, H5, H6, H7, H8, H9, H10, H11⟩
    sl_unfold [cc0_flash_backward]
    sl_exec (disch := first | sl_exact hc1 | sl_exact hc2)
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexists _; iexact H11

end Cert.Proof.Run

end
-- ==== Proof.Run.BodyAny.lean ====
/-
  The kernel's body at any grid point, with nothing named of what it leaves in its outputs.
-/
module

public import proofs.«01_k».proof.Proof.Run.BodyA
public import proofs.«01_k».proof.Proof.Run.BodyB
public import proofs.«01_k».proof.Proof.Run.BodyC

@[expose] public section

set_option maxRecDepth 16384

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- At a head's first point the second branch is taken too. -/
theorem cond2_of_cond1 : ∀ i : grid0.Coords, cond1 i → k0_cond2 i = 1#1 := by decide +kernel

attribute [local irreducible] bodyA bodyB bodyC

set_option maxHeartbeats 2000000 in
/-- The body at any point: the inputs' memrefs keep their contents, the outputs' and the accumulators' end at some contents. -/
theorem body_any (c : Dev nD) (i : grid0.Coords)
  (arg2 : Memref sig .tc .vmem S8192x256 .bf16) (harg2 : arg2.IsWhole) (arg3 : Memref sig .tc .vmem S8192x128 .bf16) (harg3 : arg3.IsWhole)
  (arg4 : Memref sig .tc .vmem S8192x128 .f32) (harg4 : arg4.IsWhole) (arg5 : Memref sig .tc .vmem S1024x256 .bf16) (harg5 : arg5.IsWhole)
  (arg6 : Memref sig .tc .vmem S1024x128 .bf16) (harg6 : arg6.IsWhole) (arg7 : Memref sig .tc .vmem S8192x256 .f32) (harg7 : arg7.IsWhole)
  (arg8 : Memref sig .tc .vmem S1024x256 .f32) (harg8 : arg8.IsWhole) (arg9 : Memref sig .tc .vmem S1024x128 .f32) (harg9 : arg9.IsWhole)
  (arg10 : Memref sig .tc .vmem S2x512x256 .f32) (harg10 : arg10.IsWhole) (arg11 : Memref sig .tc .vmem S2x512x128 .f32) (harg11 : arg11.IsWhole)
  (x2 : Vec F S8192x256 .bf16) (x3 : Vec F S8192x128 .bf16) (x4 : Vec F S8192x128 .f32) (x5 : Vec F S1024x256 .bf16) (x6 : Vec F S1024x128 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none (c : Thread nD τ) none) Set.univ (cc0_flash_backward (F := F) i arg2 harg2 arg3 harg3 arg4 harg4 arg5 harg5 arg6 harg6 arg7 harg7 arg8 harg8 arg9 harg9 arg10 harg10 arg11 harg11) K := by
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  by_cases h1 : cond1 i
  · have h2 := cond2_of_cond1 i h1
    iapply (wp_wand_r Idealize.ShloMosaic.frame (wpE (defs₀ (F := F)) Variants.none (c : Thread nD τ) none) Set.univ)
    isplitl [H2 H3 H4 H5 H6 H7 H8 H9 H10 H11]
    · iapply (bodyA c i arg2 harg2 arg3 harg3 arg4 harg4 arg5 harg5 arg6 harg6 arg7 harg7 arg8 harg8 arg9 harg9 arg10 harg10 arg11 harg11 h1 h2 f2 f3 f4 f5 f6 f7 f8 f9 f10 f11).2.2.2
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro %_ ⟨H2, H3, H4, H5, H6, H7, H8, H9, ⟨%g10, H10⟩, ⟨%g11, H11⟩⟩
    iapply Hk
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl
  · by_cases h2 : k0_cond2 i = 1#1
    · skip
      iapply (wp_wand_r Idealize.ShloMosaic.frame (wpE (defs₀ (F := F)) Variants.none (c : Thread nD τ) none) Set.univ)
      isplitl [H2 H3 H4 H5 H6 H7 H8 H9 H10 H11]
      · iapply (bodyB c i arg2 harg2 arg3 harg3 arg4 harg4 arg5 harg5 arg6 harg6 arg7 harg7 arg8 harg8 arg9 harg9 arg10 harg10 arg11 harg11 h1 h2 f2 f3 f4 f5 f6 f7 f8 f9 f10 f11).2.2.2
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexact H11
      iintro %_ ⟨H2, H3, H4, H5, H6, H7, H8, H9, ⟨%g10, H10⟩, ⟨%g11, H11⟩⟩
      iapply Hk
      isplitl [H2]
      · iexists _; isplitr; swap; · iexact H2
        ipureintro; exact hf2
      isplitl [H3]
      · iexists _; isplitr; swap; · iexact H3
        ipureintro; exact hf3
      isplitl [H4]
      · iexists _; isplitr; swap; · iexact H4
        ipureintro; exact hf4
      isplitl [H5]
      · iexists _; isplitr; swap; · iexact H5
        ipureintro; exact hf5
      isplitl [H6]
      · iexists _; isplitr; swap; · iexact H6
        ipureintro; exact hf6
      isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      iexists _, _; isplitr; swap; · iexact H11
      ipureintro; rfl
    · skip
      iapply (wp_wand_r Idealize.ShloMosaic.frame (wpE (defs₀ (F := F)) Variants.none (c : Thread nD τ) none) Set.univ)
      isplitl [H2 H3 H4 H5 H6 H7 H8 H9 H10 H11]
      · iapply (bodyC c i arg2 harg2 arg3 harg3 arg4 harg4 arg5 harg5 arg6 harg6 arg7 harg7 arg8 harg8 arg9 harg9 arg10 harg10 arg11 harg11 h1 h2 f2 f3 f4 f5 f6 f7 f8 f9 f10 f11).2.2.2
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexact H11
      iintro %_ ⟨H2, H3, H4, H5, H6, H7, H8, H9, ⟨%g10, H10⟩, ⟨%g11, H11⟩⟩
      iapply Hk
      isplitl [H2]
      · iexists _; isplitr; swap; · iexact H2
        ipureintro; exact hf2
      isplitl [H3]
      · iexists _; isplitr; swap; · iexact H3
        ipureintro; exact hf3
      isplitl [H4]
      · iexists _; isplitr; swap; · iexact H4
        ipureintro; exact hf4
      isplitl [H5]
      · iexists _; isplitr; swap; · iexact H5
        ipureintro; exact hf5
      isplitl [H6]
      · iexists _; isplitr; swap; · iexact H6
        ipureintro; exact hf6
      isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      iexists _, _; isplitr; swap; · iexact H11
      ipureintro; rfl

end Cert.Proof.Run

end
-- ==== Proof.Run.Frame.lean ====
/-
  The frame of the kernel's program at any float values: every run ends, with the arguments unchanged and every semaphore at zero. Nothing is said here of what the kernel leaves in its outputs.
-/
module

public import proofs.«01_k».proof.Proof.Run.BodyAny
public import proofs.«01_k».proof.Proof.Gen.KernelIdeal.Frame
public import Idealize.ShloMosaic.Lib.Claim

@[expose] public section

set_option maxRecDepth 16384

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The memrefs of a point -/

abbrev ms0 (t : Fin cfg0.N) : Memref sig .tc .vmem S8192x256 .bf16 := win0_0.stage (cfg0.slots t 0)
abbrev ms1 (t : Fin cfg0.N) : Memref sig .tc .vmem S8192x128 .bf16 := win0_1.stage (cfg0.slots t 1)
abbrev ms2 (t : Fin cfg0.N) : Memref sig .tc .vmem S8192x128 .f32 := win0_2.stage (cfg0.slots t 2)
abbrev ms3 (t : Fin cfg0.N) : Memref sig .tc .vmem S1024x256 .bf16 := win0_3.stage (cfg0.slots t 3)
abbrev ms4 (t : Fin cfg0.N) : Memref sig .tc .vmem S1024x128 .bf16 := win0_4.stage (cfg0.slots t 4)
abbrev ms5 (t : Fin cfg0.N) : Memref sig .tc .vmem S8192x256 .f32 := win0_5.stage (cfg0.slots t 5)
abbrev ms6 (t : Fin cfg0.N) : Memref sig .tc .vmem S1024x256 .f32 := win0_6.stage (cfg0.slots t 6)
abbrev ms7 (t : Fin cfg0.N) : Memref sig .tc .vmem S1024x128 .f32 := win0_7.stage (cfg0.slots t 7)
abbrev sc0 : Memref sig .tc .vmem S2x512x256 .f32 := Memref.whole cc0_scratch0
abbrev sc1 : Memref sig .tc .vmem S2x512x128 .f32 := Memref.whole cc0_scratch1

/-- The invariant that the pipeline carries: the two accumulators at some contents, and the generator's register. -/
theorem carried_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## The pipeline's data: the outputs left unnamed -/

def forgets : Fin 8 → Bool := fun w => w.val == 5 || w.val == 6 || w.val == 7

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d

/-! ## The body at a point -/

/-- What the pipeline hands the body, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare d)
    ∗ (∃ d, owns (c : Thread nD τ) (ms6 t) fullShare d)
    ∗ (∃ d, owns (c : Thread nD τ) (ms7 t) fullShare d))

/-- and what it takes back. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (∃ d, owns (c : Thread nD τ) (ms5 t) fullShare d)
    ∗ (∃ d, owns (c : Thread nD τ) (ms6 t) fullShare d)
    ∗ (∃ d, owns (c : Thread nD τ) (ms7 t) fullShare d))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, carried_eq]
  iintro ⟨⟨⟨HS0, HS1⟩, Hg⟩, Ho, ⟨%d0, H0⟩, ⟨%d1, H1⟩, ⟨%d2, H2⟩, ⟨%d3, H3⟩, ⟨%d4, H4⟩, H5, H6, H7⟩
  iapply (body_any c (grid0.coords t) _ _ _ _ _ _ _ _ _ _ _ _ _ _ _ _ sc0 _ sc1 _ (iblk m c 0 t) (iblk m c 1 t) (iblk m c 2 t) (iblk m c 3 t) (iblk m c 4 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at a point is the body on that point's memrefs. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ forgets := fun t => by
  rw [bigSep_W0, bigSep_W0, row]
  exact triple_restated (sound_body m c t) rfl .rfl fun _ => .rfl

/-! ## The launch -/

set_option backward.isDefEq.respectTransparency.types false in
theorem launch : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- Every run of the program from a memory with zero counters ends with its four arguments unchanged and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (launch m ρ)

end Cert.Proof.Run

end
-- ==== Proof.RunBits.Cond.lean ====
/-
  The conditions of the kernel's two branches, of the grid point.
-/
module

public import proofs.«01_k».proof.Proof.RunBits.Offsets

@[expose] public section

set_option maxRecDepth 16384

noncomputable section

namespace Cert.Proof.RunBits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first branch's condition, as the kernel computes it from the second grid coordinate. -/
abbrev cond1 (i : grid0.Coords) : Prop :=
  Scalar.cmpi .ne (Scalar.extui (Scalar.cmpi .eq (BitVec.ofNat 32 (i 1).val) 0#32) : BitVec 32) 0#32 = 1#1

/-- The first branch is taken at a head's first point. -/
theorem cond1_iff : ∀ t : Fin cfg0.N, cond1 (grid0.coords t) ↔ t.val % 8 = 0 :=
  (by decide +kernel : ∀ t : Fin grid0.N, cond1 (grid0.coords t) ↔ t.val % 8 = 0)

/-- The second branch is taken at the even points: an odd number of pairs of tiles is left. -/
theorem cond2_iff' : ∀ t : Fin cfg0.N, k0_cond2 (grid0.coords t) = 1#1 ↔ t.val % 2 = 0 :=
  (by decide +kernel : ∀ t : Fin grid0.N, k0_cond2 (grid0.coords t) = 1#1 ↔ t.val % 2 = 0)

end Cert.Proof.RunBits

end
-- ==== Proof.RunBits.BodyA.lean ====
/-
  The kernel's body at a head's first point.
-/
module

public import proofs.«01_k».proof.Proof.RunBits.Loop
public import proofs.«01_k».proof.Proof.RunBits.Cond

@[expose] public section

set_option maxRecDepth 16384

noncomputable section

namespace Cert.Proof.RunBits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
set_option backward.proofsInPublic true in
/-- The body at a head's first point, from any contents of its buffers: it ends with the inputs as they were, the three outputs at the
    contents found, and the two accumulators at some contents. -/
def bodyA (c : Dev nD) (i : grid0.Coords)
  (arg2 : Memref sig .tc .vmem S8192x256 .bf16) (harg2 : arg2.IsWhole) (arg3 : Memref sig .tc .vmem S8192x128 .bf16) (harg3 : arg3.IsWhole)
  (arg4 : Memref sig .tc .vmem S8192x128 .f32) (harg4 : arg4.IsWhole) (arg5 : Memref sig .tc .vmem S1024x256 .bf16) (harg5 : arg5.IsWhole)
  (arg6 : Memref sig .tc .vmem S1024x128 .bf16) (harg6 : arg6.IsWhole) (arg7 : Memref sig .tc .vmem S8192x256 .f32) (harg7 : arg7.IsWhole)
  (arg8 : Memref sig .tc .vmem S1024x256 .f32) (harg8 : arg8.IsWhole) (arg9 : Memref sig .tc .vmem S1024x128 .f32) (harg9 : arg9.IsWhole)
  (arg10 : Memref sig .tc .vmem S2x512x256 .f32) (harg10 : arg10.IsWhole) (arg11 : Memref sig .tc .vmem S2x512x128 .f32) (harg11 : arg11.IsWhole)
  (hc1 : cond1 i) (hc2 : k0_cond2 i = 1#1)
  (f2 : Bf (F := F) c arg2) (f3 : Bf (F := F) c arg3) (f4 : Bf (F := F) c arg4) (f5 : Bf (F := F) c arg5) (f6 : Bf (F := F) c arg6)
  (f7 : Bf (F := F) c arg7) (f8 : Bf (F := F) c arg8) (f9 : Bf (F := F) c arg9) (f10 : Bf (F := F) c arg10) (f11 : Bf (F := F) c arg11) :
    Σ' (g7 : Bf (F := F) c arg7) (g8 : Bf (F := F) c arg8),
      { g9 : Bf (F := F) c arg9 //
        iprop(pt c arg2 f2 ∗ pt c arg3 f3 ∗ pt c arg4 f4 ∗ pt c arg5 f5 ∗ pt c arg6 f6 ∗ pt c arg7 f7 ∗ pt c arg8 f8 ∗ pt c arg9 f9
            ∗ pt c arg10 f10 ∗ pt c arg11 f11)
          ⊢ wp frame (wpE (defs₀ (F := F)) Variants.none (c : Thread nD τ) none) Set.univ
              (cc0_flash_backward (F := F) i arg2 harg2 arg3 harg3 arg4 harg4 arg5 harg5 arg6 harg6 arg7 harg7 arg8 harg8 arg9 harg9 arg10 harg10 arg11 harg11)
              (fun _ => iprop(pt c arg2 f2 ∗ pt c arg3 f3 ∗ pt c arg4 f4 ∗ pt c arg5 f5 ∗ pt c arg6 f6 ∗ pt c arg7 g7 ∗ pt c arg8 g8
                ∗ pt c arg9 g9 ∗ (∃ g, pt c arg10 g) ∗ (∃ g, pt c arg11 g))) } := by
  refine ⟨?_, ?_, ?_, ?run⟩
  case run =>
    iintro ⟨H2, H3, H4, H5, H6, H7, H8, H9, H10, H11⟩
    sl_unfold [cc0_flash_backward]
    sl_exec (disch := first | sl_exact hc1 | sl_exact hc2)
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexists _; iexact H11

end Cert.Proof.RunBits

end
-- ==== Proof.RunBits.BodyB.lean ====
/-
  The kernel's body at a head's later points with an odd number of pairs left.
-/
module

public import proofs.«01_k».proof.Proof.RunBits.Loop
public import proofs.«01_k».proof.Proof.RunBits.Cond

@[expose] public section

set_option maxRecDepth 16384

noncomputable section

namespace Cert.Proof.RunBits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
set_option backward.proofsInPublic true in
/-- The body at a head's later points with an odd number of pairs left, from any contents of its buffers: it ends with the inputs as they were, the three outputs at the
    contents found, and the two accumulators at some contents. -/
def bodyB (c : Dev nD) (i : grid0.Coords)
  (arg2 : Memref sig .tc .vmem S8192x256 .bf16) (harg2 : arg2.IsWhole) (arg3 : Memref sig .tc .vmem S8192x128 .bf16) (harg3 : arg3.IsWhole)
  (arg4 : Memref sig .tc .vmem S8192x128 .f32) (harg4 : arg4.IsWhole) (arg5 : Memref sig .tc .vmem S1024x256 .bf16) (harg5 : arg5.IsWhole)
  (arg6 : Memref sig .tc .vmem S1024x128 .bf16) (harg6 : arg6.IsWhole) (arg7 : Memref sig .tc .vmem S8192x256 .f32) (harg7 : arg7.IsWhole)
  (arg8 : Memref sig .tc .vmem S1024x256 .f32) (harg8 : arg8.IsWhole) (arg9 : Memref sig .tc .vmem S1024x128 .f32) (harg9 : arg9.IsWhole)
  (arg10 : Memref sig .tc .vmem S2x512x256 .f32) (harg10 : arg10.IsWhole) (arg11 : Memref sig .tc .vmem S2x512x128 .f32) (harg11 : arg11.IsWhole)
  (hc1 : ¬ cond1 i) (hc2 : k0_cond2 i = 1#1)
  (f2 : Bf (F := F) c arg2) (f3 : Bf (F := F) c arg3) (f4 : Bf (F := F) c arg4) (f5 : Bf (F := F) c arg5) (f6 : Bf (F := F) c arg6)
  (f7 : Bf (F := F) c arg7) (f8 : Bf (F := F) c arg8) (f9 : Bf (F := F) c arg9) (f10 : Bf (F := F) c arg10) (f11 : Bf (F := F) c arg11) :
    Σ' (g7 : Bf (F := F) c arg7) (g8 : Bf (F := F) c arg8),
      { g9 : Bf (F := F) c arg9 //
        iprop(pt c arg2 f2 ∗ pt c arg3 f3 ∗ pt c arg4 f4 ∗ pt c arg5 f5 ∗ pt c arg6 f6 ∗ pt c arg7 f7 ∗ pt c arg8 f8 ∗ pt c arg9 f9
            ∗ pt c arg10 f10 ∗ pt c arg11 f11)
          ⊢ wp frame (wpE (defs₀ (F := F)) Variants.none (c : Thread nD τ) none) Set.univ
              (cc0_flash_backward (F := F) i arg2 harg2 arg3 harg3 arg4 harg4 arg5 harg5 arg6 harg6 arg7 harg7 arg8 harg8 arg9 harg9 arg10 harg10 arg11 harg11)
              (fun _ => iprop(pt c arg2 f2 ∗ pt c arg3 f3 ∗ pt c arg4 f4 ∗ pt c arg5 f5 ∗ pt c arg6 f6 ∗ pt c arg7 g7 ∗ pt c arg8 g8
                ∗ pt c arg9 g9 ∗ (∃ g, pt c arg10 g) ∗ (∃ g, pt c arg11 g))) } := by
  refine ⟨?_, ?_, ?_, ?run⟩
  case run =>
    iintro ⟨H2, H3, H4, H5, H6, H7, H8, H9, H10, H11⟩
    sl_unfold [cc0_flash_backward]
    sl_exec (disch := first | sl_exact hc1 | sl_exact hc2)
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexists _; iexact H11

end Cert.Proof.RunBits

end
-- ==== Proof.RunBits.BodyC.lean ====
/-
  The kernel's body at a head's points with an even number of pairs left.
-/
module

public import proofs.«01_k».proof.Proof.RunBits.Loop
public import proofs.«01_k».proof.Proof.RunBits.Cond

@[expose] public section

set_option maxRecDepth 16384

noncomputable section

namespace Cert.Proof.RunBits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
set_option backward.proofsInPublic true in
/-- The body at a head's points with an even number of pairs left, from any contents of its buffers: it ends with the inputs as they were, the three outputs at the
    contents found, and the two accumulators at some contents. -/
def bodyC (c : Dev nD) (i : grid0.Coords)
  (arg2 : Memref sig .tc .vmem S8192x256 .bf16) (harg2 : arg2.IsWhole) (arg3 : Memref sig .tc .vmem S8192x128 .bf16) (harg3 : arg3.IsWhole)
  (arg4 : Memref sig .tc .vmem S8192x128 .f32) (harg4 : arg4.IsWhole) (arg5 : Memref sig .tc .vmem S1024x256 .bf16) (harg5 : arg5.IsWhole)
  (arg6 : Memref sig .tc .vmem S1024x128 .bf16) (harg6 : arg6.IsWhole) (arg7 : Memref sig .tc .vmem S8192x256 .f32) (harg7 : arg7.IsWhole)
  (arg8 : Memref sig .tc .vmem S1024x256 .f32) (harg8 : arg8.IsWhole) (arg9 : Memref sig .tc .vmem S1024x128 .f32) (harg9 : arg9.IsWhole)
  (arg10 : Memref sig .tc .vmem S2x512x256 .f32) (harg10 : arg10.IsWhole) (arg11 : Memref sig .tc .vmem S2x512x128 .f32) (harg11 : arg11.IsWhole)
  (hc1 : ¬ cond1 i) (hc2 : ¬ k0_cond2 i = 1#1)
  (f2 : Bf (F := F) c arg2) (f3 : Bf (F := F) c arg3) (f4 : Bf (F := F) c arg4) (f5 : Bf (F := F) c arg5) (f6 : Bf (F := F) c arg6)
  (f7 : Bf (F := F) c arg7) (f8 : Bf (F := F) c arg8) (f9 : Bf (F := F) c arg9) (f10 : Bf (F := F) c arg10) (f11 : Bf (F := F) c arg11) :
    Σ' (g7 : Bf (F := F) c arg7) (g8 : Bf (F := F) c arg8),
      { g9 : Bf (F := F) c arg9 //
        iprop(pt c arg2 f2 ∗ pt c arg3 f3 ∗ pt c arg4 f4 ∗ pt c arg5 f5 ∗ pt c arg6 f6 ∗ pt c arg7 f7 ∗ pt c arg8 f8 ∗ pt c arg9 f9
            ∗ pt c arg10 f10 ∗ pt c arg11 f11)
          ⊢ wp frame (wpE (defs₀ (F := F)) Variants.none (c : Thread nD τ) none) Set.univ
              (cc0_flash_backward (F := F) i arg2 harg2 arg3 harg3 arg4 harg4 arg5 harg5 arg6 harg6 arg7 harg7 arg8 harg8 arg9 harg9 arg10 harg10 arg11 harg11)
              (fun _ => iprop(pt c arg2 f2 ∗ pt c arg3 f3 ∗ pt c arg4 f4 ∗ pt c arg5 f5 ∗ pt c arg6 f6 ∗ pt c arg7 g7 ∗ pt c arg8 g8
                ∗ pt c arg9 g9 ∗ (∃ g, pt c arg10 g) ∗ (∃ g, pt c arg11 g))) } := by
  refine ⟨?_, ?_, ?_, ?run⟩
  case run =>
    iintro ⟨H2, H3, H4, H5, H6, H7, H8, H9, H10, H11⟩
    sl_unfold [cc0_flash_backward]
    sl_exec (disch := first | sl_exact hc1 | sl_exact hc2)
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexists _; iexact H11

end Cert.Proof.RunBits

end
-- ==== Proof.Run.Tile.lean ====
/-
  One tile of queries against one tile of keys, as the kernel computes it: the probabilities, the scores' gradients, and the three products that
  they enter, as functions of the tiles that are loaded. Every tile of the program is one of these.
-/
module

public import proofs.«01_k».proof.Proof.Run.Trip

@[expose] public section

set_option maxRecDepth 16384

noncomputable section

namespace Cert.Proof.Run

open Cert.KernelIdeal Cert.KernelIdeal.Gen
open Idealize.ShloMosaic
open Idealize.ShloMosaic.TcCoe Idealize.ShloMosaic.Tactic

variable {F : FTy → Type} [FloatOps F] [Named F]

/-- The column `w` of the rows' statistics, by a masked sum over the lanes. -/
def statCol (v11 : IVec S1x128 32) (w : BitVec 32) (st : Vec F S512x128 .f32) : FVec F S512x1 .f32 :=
  shapeCast S512x1 (multiReduction .add [1] S512
    (select (broadcastTo S512x128 (shapeCast S1x128 (cmpi .eq v11 (broadcast S1x128 w)) shapeCasts_S1x128_S1x128) broadcasts_S1x128_S512x128)
      (shapeCast S512x128 st shapeCasts_S512x128_S512x128) (broadcast S512x128 (Scalar.ofBits .f32 0x00000000#32)))
    0x00000000#32 reduces_S512x128_S512 (.inl rfl) rfl) shapeCasts_S512_S512x1

/-- The rows' logarithms, to the base two. -/
def lse2 (arg0 : BitVec 32) (v11 : IVec S1x128 32) (st : Vec F S512x128 .f32) : FVec F S512x1 .f32 :=
  mulf (statCol v11 (Scalar.muli 2#32 arg0) st) (broadcast S512x1 (Named.named κ "log2_e" 0x3FB8AA3B#32))

/-- The rows' inner products of output and cotangent. -/
def delta (arg0 : BitVec 32) (v11 : IVec S1x128 32) (st : Vec F S512x128 .f32) : FVec F S512x1 .f32 :=
  statCol v11 (Scalar.addi (Scalar.muli 2#32 arg0) 1#32) st

/-- The probabilities of a tile, on the diagonal those above it at zero. -/
def probs (diag : Bool) (arg0 : BitVec 32) (v11 : IVec S1x128 32) (q : Vec F S512x256 .bf16) (st : Vec F S512x128 .f32) (k : Vec F S512x256 .bf16) :
    FVec F S512x512 .f32 :=
  let p : FVec F S512x512 .f32 := exp2 (subf (mulf (matmul dot_S512x256_S512x256_S512x512_1_1_0_0_n_n none (shapeCast S512x256 q shapeCasts_S512x256_S512x256)
    (shapeCast S512x256 k shapeCasts_S512x256_S512x256) (constant S512x512 .f32 0x00000000#32)) (broadcast S512x512 (Named.named κ "exp2_scale" 0x3DD53B95#32)))
    (broadcastTo S512x512 (lse2 arg0 v11 st) broadcasts_S512x1_S512x512))
  bif diag then select (cmpi .sle (iota .tc S512x512 32 [1] iota_S512x512_d1_w32) (iota .tc S512x512 32 [0] iota_S512x512_d0_w32)) p (broadcast S512x512 (Scalar.ofBits .f32 0x00000000#32)) else p

/-- The scores' gradients of a tile. -/
def dscores (diag : Bool) (arg0 : BitVec 32) (v11 : IVec S1x128 32) (q : Vec F S512x256 .bf16) (d : Vec F S512x128 .bf16) (st : Vec F S512x128 .f32)
    (k : Vec F S512x256 .bf16) (v : Vec F S512x128 .bf16) : FVec F S512x512 .bf16 :=
  truncf .bf16 (mulf (mulf (probs diag arg0 v11 q st k)
    (subf (matmul dot_S512x128_S512x128_S512x512_1_1_0_0_n_n none (shapeCast S512x128 d shapeCasts_S512x128_S512x128) (shapeCast S512x128 v shapeCasts_S512x128_S512x128)
      (constant S512x512 .f32 0x00000000#32)) (broadcastTo S512x512 (delta arg0 v11 st) broadcasts_S512x1_S512x512)))
    (broadcast S512x512 (Named.named κ "att_scale" 0x3D93CD3A#32))) bitsLt_bf16_f32

/-- The values' gradient with a tile's part added. -/
def dvStep (diag : Bool) (arg0 : BitVec 32) (v11 : IVec S1x128 32) (q : Vec F S512x256 .bf16) (d : Vec F S512x128 .bf16) (st : Vec F S512x128 .f32)
    (k : Vec F S512x256 .bf16) (acc : Vec F S1x512x128 .f32) : FVec F S1x512x128 .f32 :=
  shapeCast S1x512x128 (addf (shapeCast S512x128 acc shapeCasts_S1x512x128_S512x128)
    (matmul dot_S512x512_S512x128_S512x128_0_0_1_1_n_n none (truncf .bf16 (probs diag arg0 v11 q st k) bitsLt_bf16_f32)
      (shapeCast S512x128 d shapeCasts_S512x128_S512x128) (constant S512x128 .f32 0x00000000#32))) shapeCasts_S512x128_S1x512x128

/-- The keys' gradient with a tile's part added. -/
def dkStep (diag : Bool) (arg0 : BitVec 32) (v11 : IVec S1x128 32) (q : Vec F S512x256 .bf16) (d : Vec F S512x128 .bf16) (st : Vec F S512x128 .f32)
    (k : Vec F S512x256 .bf16) (v : Vec F S512x128 .bf16) (acc : Vec F S1x512x256 .f32) : FVec F S1x512x256 .f32 :=
  shapeCast S1x512x256 (addf (shapeCast S512x256 acc shapeCasts_S1x512x256_S512x256)
    (matmul dot_S512x512_S512x256_S512x256_0_0_1_1_n_n none (dscores diag arg0 v11 q d st k v)
      (shapeCast S512x256 q shapeCasts_S512x256_S512x256) (constant S512x256 .f32 0x00000000#32))) shapeCasts_S512x256_S1x512x256

/-- A tile's part of the queries' gradient. -/
def dqPart (diag : Bool) (arg0 : BitVec 32) (v11 : IVec S1x128 32) (q : Vec F S512x256 .bf16) (d : Vec F S512x128 .bf16) (st : Vec F S512x128 .f32)
    (k : Vec F S512x256 .bf16) (v : Vec F S512x128 .bf16) : FVec F S512x256 .f32 :=
  matmul dot_S512x512_S512x256_S512x256_1_0_0_1_n_n none (dscores diag arg0 v11 q d st k v)
    (shapeCast S512x256 k shapeCasts_S512x256_S512x256) (constant S512x256 .f32 0x00000000#32)

/-- The queries' gradient with one tile's part added. -/
def dqStep1 (diag : Bool) (arg0 : BitVec 32) (v11 : IVec S1x128 32) (q : Vec F S512x256 .bf16) (d : Vec F S512x128 .bf16) (st : Vec F S512x128 .f32)
    (k : Vec F S512x256 .bf16) (v : Vec F S512x128 .bf16) (old : Vec F S512x256 .f32) : FVec F S512x256 .f32 :=
  addf (shapeCast S512x256 old shapeCasts_S512x256_S512x256) (dqPart diag arg0 v11 q d st k v)

/-- The queries' gradient with two tiles' parts added. -/
def dqStep2 (diag : Bool) (arg0 : BitVec 32) (v11 : IVec S1x128 32) (q : Vec F S512x256 .bf16) (d : Vec F S512x128 .bf16) (st : Vec F S512x128 .f32)
    (k0 k1 : Vec F S512x256 .bf16) (v0 v1 : Vec F S512x128 .bf16) (old : Vec F S512x256 .f32) : FVec F S512x256 .f32 :=
  addf (shapeCast S512x256 old shapeCasts_S512x256_S512x256)
    (addf (dqPart false arg0 v11 q d st k0 v0) (dqPart diag arg0 v11 q d st k1 v1))

end Cert.Proof.Run

end
-- ==== Proof.Run.State.lean ====
/-
  What the kernel's tiles do to the values of its buffers: the queries' gradient, and each half of the two accumulators. And the reads and writes
  of the accumulators' halves and of a tile's rows as windows of those values.
-/
module

public import proofs.«01_k».proof.Proof.Run.Tile
public import Idealize.ShloMosaic.Lib.VecWindow

@[expose] public section

set_option maxRecDepth 16384

noncomputable section

namespace Cert.Proof.Run

open Cert.KernelIdeal Cert.KernelIdeal.Gen
open Idealize.ShloMosaic
open Idealize.ShloMosaic.TcCoe Idealize.ShloMosaic.Tactic

variable {F : FTy → Type} [FloatOps F] [Named F]

/-! ## Windows -/

theorem inb_rows256 (o : ℕ) (h : o + 512 ≤ 8192) : ∀ a : Fin 2, (![o, 0] : Fin 2 → ℕ) a + S512x256.size a ≤ S8192x256.size a := by
  intro a; fin_cases a
  · exact h
  · show 0 + 256 ≤ 256; omega
theorem inb_rows128 (o : ℕ) (h : o + 512 ≤ 8192) : ∀ a : Fin 2, (![o, 0] : Fin 2 → ℕ) a + S512x128.size a ≤ S8192x128.size a := by
  intro a; fin_cases a
  · exact h
  · show 0 + 128 ≤ 128; omega

/-- The 512 rows of `x` from row `o` on. -/
def rows256 {α : Type} (x : S8192x256.Idx → α) (o : ℕ) (h : o + 512 ≤ 8192) : S512x256.Idx → α :=
  VecWindow.window x ![o, 0] S512x256.size (inb_rows256 o h)
def rows128 {α : Type} (x : S8192x128.Idx → α) (o : ℕ) (h : o + 512 ≤ 8192) : S512x128.Idx → α :=
  VecWindow.window x ![o, 0] S512x128.size (inb_rows128 o h)

/-- The two halves of the point's keys and values. -/
def lo256 {α : Type} (x : S1024x256.Idx → α) : S512x256.Idx → α := VecWindow.window x ![0, 0] S512x256.size inb_S1024x256_S512x256_0_0
def hi256 {α : Type} (x : S1024x256.Idx → α) : S512x256.Idx → α := VecWindow.window x ![512, 0] S512x256.size inb_S1024x256_S512x256_512_0
def lo128 {α : Type} (x : S1024x128.Idx → α) : S512x128.Idx → α := VecWindow.window x ![0, 0] S512x128.size inb_S1024x128_S512x128_0_0
def hi128 {α : Type} (x : S1024x128.Idx → α) : S512x128.Idx → α := VecWindow.window x ![512, 0] S512x128.size inb_S1024x128_S512x128_512_0

/-- The two halves of an accumulator. -/
def half0k {α : Type} (x : S2x512x256.Idx → α) : S1x512x256.Idx → α := VecWindow.window x ![0, 0, 0] S1x512x256.size inb_S2x512x256_S1x512x256_0_0_0
def half1k {α : Type} (x : S2x512x256.Idx → α) : S1x512x256.Idx → α := VecWindow.window x ![1, 0, 0] S1x512x256.size inb_S2x512x256_S1x512x256_1_0_0
def half0v {α : Type} (x : S2x512x128.Idx → α) : S1x512x128.Idx → α := VecWindow.window x ![0, 0, 0] S1x512x128.size inb_S2x512x128_S1x512x128_0_0_0
def half1v {α : Type} (x : S2x512x128.Idx → α) : S1x512x128.Idx → α := VecWindow.window x ![1, 0, 0] S1x512x128.size inb_S2x512x128_S1x512x128_1_0_0

/-! ## The tiles -/

/-- The values that the tiles add to. -/
@[ext] structure St (F : FTy → Type) where
  dq : Vec F S8192x256 .f32
  dk0 : Vec F S1x512x256 .f32
  dk1 : Vec F S1x512x256 .f32
  dv0 : Vec F S1x512x128 .f32
  dv1 : Vec F S1x512x128 .f32

section Tiles

variable (arg0 : BitVec 32) (v11 : IVec S1x128 32) (x2 : Vec F S8192x256 .bf16) (x3 : Vec F S8192x128 .bf16) (x4 : Vec F S8192x128 .f32)
  (x5 : Vec F S1024x256 .bf16) (x6 : Vec F S1024x128 .bf16)

/-- A tile of queries against the first half of the keys alone, on the diagonal. -/
def tileTop (o : ℕ) (h : o + 512 ≤ 8192) (s : St F) : St F where
  dq := VecWindow.put s.dq ![o, 0] S512x256.size (dqStep1 true arg0 v11 (rows256 x2 o h) (rows128 x3 o h) (rows128 x4 o h) (lo256 x5) (lo128 x6) (rows256 s.dq o h))
  dk0 := dkStep true arg0 v11 (rows256 x2 o h) (rows128 x3 o h) (rows128 x4 o h) (lo256 x5) (lo128 x6) s.dk0
  dk1 := s.dk1
  dv0 := dvStep true arg0 v11 (rows256 x2 o h) (rows128 x3 o h) (rows128 x4 o h) (lo256 x5) s.dv0
  dv1 := s.dv1

/-- A tile of queries against both halves of the keys, the second on the diagonal or not. -/
def tile (diag : Bool) (o : ℕ) (h : o + 512 ≤ 8192) (s : St F) : St F where
  dq := VecWindow.put s.dq ![o, 0] S512x256.size (dqStep2 diag arg0 v11 (rows256 x2 o h) (rows128 x3 o h) (rows128 x4 o h) (lo256 x5) (hi256 x5) (lo128 x6) (hi128 x6) (rows256 s.dq o h))
  dk0 := dkStep false arg0 v11 (rows256 x2 o h) (rows128 x3 o h) (rows128 x4 o h) (lo256 x5) (lo128 x6) s.dk0
  dk1 := dkStep diag arg0 v11 (rows256 x2 o h) (rows128 x3 o h) (rows128 x4 o h) (hi256 x5) (hi128 x6) s.dk1
  dv0 := dvStep false arg0 v11 (rows256 x2 o h) (rows128 x3 o h) (rows128 x4 o h) (lo256 x5) s.dv0
  dv1 := dvStep diag arg0 v11 (rows256 x2 o h) (rows128 x3 o h) (rows128 x4 o h) (hi256 x5) s.dv1

/-- Four tiles of queries below the diagonal. -/
def tile4 (o : ℕ) (h : o + 2048 ≤ 8192) (s : St F) : St F :=
  tile arg0 v11 x2 x3 x4 x5 x6 false (o + 1536) (by omega) (tile arg0 v11 x2 x3 x4 x5 x6 false (o + 1024) (by omega)
    (tile arg0 v11 x2 x3 x4 x5 x6 false (o + 512) (by omega) (tile arg0 v11 x2 x3 x4 x5 x6 false o (by omega) s)))

end Tiles

/-! ## Reads and writes -/

theorem rows256_put {α : Type} (x : S8192x256.Idx → α) (o o' : ℕ) (h : o' + 512 ≤ 8192) (ho : o + 512 ≤ o') (w : S512x256.Idx → α) :
    rows256 (VecWindow.put x ![o, 0] S512x256.size w) o' h = rows256 x o' h :=
  VecWindow.window_put_of_disjoint x _ _ _ _ _ w (0 : Fin 2) (.inr ho)

section Halves

variable {κ : Kind} {sp : Space} {Val : EltTy → Type} {e : EltTy}

theorem read_half0k_same (v : View sig κ sp S2x512x256 e) (f : v.ty.Contents Val) (inb) (w) (L) :
    half0k (v.read Val (v.writes Val f (⟨Rect.unit ![0, 0, 0] ![1, 512, 256] inb, w⟩ :: L))) = w := by
  rw [View.read_writes_cons_put v f inb w L rfl]; exact VecWindow.window_put_same _ _ _ _ _
theorem read_half1k_same (v : View sig κ sp S2x512x256 e) (f : v.ty.Contents Val) (inb) (w) (L) :
    half1k (v.read Val (v.writes Val f (⟨Rect.unit ![1, 0, 0] ![1, 512, 256] inb, w⟩ :: L))) = w := by
  rw [View.read_writes_cons_put v f inb w L rfl]; exact VecWindow.window_put_same _ _ _ _ _
theorem read_half0k_other (v : View sig κ sp S2x512x256 e) (f : v.ty.Contents Val) (inb) (w) (L) :
    half0k (v.read Val (v.writes Val f (⟨Rect.unit ![1, 0, 0] ![1, 512, 256] inb, w⟩ :: L))) = half0k (v.read Val (v.writes Val f L)) := by
  rw [View.read_writes_cons_put v f inb w L rfl]
  exact VecWindow.window_put_of_disjoint _ _ _ _ _ _ _ (0 : Fin 3) (.inl (Nat.le_refl 1))
theorem read_half1k_other (v : View sig κ sp S2x512x256 e) (f : v.ty.Contents Val) (inb) (w) (L) :
    half1k (v.read Val (v.writes Val f (⟨Rect.unit ![0, 0, 0] ![1, 512, 256] inb, w⟩ :: L))) = half1k (v.read Val (v.writes Val f L)) := by
  rw [View.read_writes_cons_put v f inb w L rfl]
  exact VecWindow.window_put_of_disjoint _ _ _ _ _ _ _ (0 : Fin 3) (.inr (Nat.le_refl 1))
theorem load_half0k (v : View sig κ sp S2x512x256 e) (f : v.ty.Contents Val) (inb) :
    v.readAt Val (Rect.unit (s := S2x512x256) ![0, 0, 0] ![1, 512, 256] inb).toLoadRect f = half0k (v.read Val f) := View.readAt_unit v f inb rfl _
theorem load_half1k (v : View sig κ sp S2x512x256 e) (f : v.ty.Contents Val) (inb) :
    v.readAt Val (Rect.unit (s := S2x512x256) ![1, 0, 0] ![1, 512, 256] inb).toLoadRect f = half1k (v.read Val f) := View.readAt_unit v f inb rfl _

theorem read_half0v_same (v : View sig κ sp S2x512x128 e) (f : v.ty.Contents Val) (inb) (w) (L) :
    half0v (v.read Val (v.writes Val f (⟨Rect.unit ![0, 0, 0] ![1, 512, 128] inb, w⟩ :: L))) = w := by
  rw [View.read_writes_cons_put v f inb w L rfl]; exact VecWindow.window_put_same _ _ _ _ _
theorem read_half1v_same (v : View sig κ sp S2x512x128 e) (f : v.ty.Contents Val) (inb) (w) (L) :
    half1v (v.read Val (v.writes Val f (⟨Rect.unit ![1, 0, 0] ![1, 512, 128] inb, w⟩ :: L))) = w := by
  rw [View.read_writes_cons_put v f inb w L rfl]; exact VecWindow.window_put_same _ _ _ _ _
theorem read_half0v_other (v : View sig κ sp S2x512x128 e) (f : v.ty.Contents Val) (inb) (w) (L) :
    half0v (v.read Val (v.writes Val f (⟨Rect.unit ![1, 0, 0] ![1, 512, 128] inb, w⟩ :: L))) = half0v (v.read Val (v.writes Val f L)) := by
  rw [View.read_writes_cons_put v f inb w L rfl]
  exact VecWindow.window_put_of_disjoint _ _ _ _ _ _ _ (0 : Fin 3) (.inl (Nat.le_refl 1))
theorem read_half1v_other (v : View sig κ sp S2x512x128 e) (f : v.ty.Contents Val) (inb) (w) (L) :
    half1v (v.read Val (v.writes Val f (⟨Rect.unit ![0, 0, 0] ![1, 512, 128] inb, w⟩ :: L))) = half1v (v.read Val (v.writes Val f L)) := by
  rw [View.read_writes_cons_put v f inb w L rfl]
  exact VecWindow.window_put_of_disjoint _ _ _ _ _ _ _ (0 : Fin 3) (.inr (Nat.le_refl 1))
theorem load_half0v (v : View sig κ sp S2x512x128 e) (f : v.ty.Contents Val) (inb) :
    v.readAt Val (Rect.unit (s := S2x512x128) ![0, 0, 0] ![1, 512, 128] inb).toLoadRect f = half0v (v.read Val f) := View.readAt_unit v f inb rfl _
theorem load_half1v (v : View sig κ sp S2x512x128 e) (f : v.ty.Contents Val) (inb) :
    v.readAt Val (Rect.unit (s := S2x512x128) ![1, 0, 0] ![1, 512, 128] inb).toLoadRect f = half1v (v.read Val f) := View.readAt_unit v f inb rfl _

theorem load_lo256 (v : View sig κ sp S1024x256 e) (f : v.ty.Contents Val) (inb) :
    v.readAt Val (Rect.unit (s := S1024x256) ![0, 0] ![512, 256] inb).toLoadRect f = lo256 (v.read Val f) := View.readAt_unit v f inb rfl _
theorem load_hi256 (v : View sig κ sp S1024x256 e) (f : v.ty.Contents Val) (inb) :
    v.readAt Val (Rect.unit (s := S1024x256) ![512, 0] ![512, 256] inb).toLoadRect f = hi256 (v.read Val f) := View.readAt_unit v f inb rfl _
theorem load_lo128 (v : View sig κ sp S1024x128 e) (f : v.ty.Contents Val) (inb) :
    v.readAt Val (Rect.unit (s := S1024x128) ![0, 0] ![512, 128] inb).toLoadRect f = lo128 (v.read Val f) := View.readAt_unit v f inb rfl _
theorem load_hi128 (v : View sig κ sp S1024x128 e) (f : v.ty.Contents Val) (inb) :
    v.readAt Val (Rect.unit (s := S1024x128) ![512, 0] ![512, 128] inb).toLoadRect f = hi128 (v.read Val f) := View.readAt_unit v f inb rfl _
theorem load_rows256 (v : View sig κ sp S8192x256 e) (f : v.ty.Contents Val) {off : Fin 2 → ℕ} (inb) (o : ℕ) (h : o + 512 ≤ 8192) (ho : off = ![o, 0]) :
    v.readAt Val (Rect.unit (s := S8192x256) off ![512, 256] inb).toLoadRect f = rows256 (v.read Val f) o h := View.readAt_unit v f inb ho _
theorem load_rows128 (v : View sig κ sp S8192x128 e) (f : v.ty.Contents Val) {off : Fin 2 → ℕ} (inb) (o : ℕ) (h : o + 512 ≤ 8192) (ho : off = ![o, 0]) :
    v.readAt Val (Rect.unit (s := S8192x128) off ![512, 128] inb).toLoadRect f = rows128 (v.read Val f) o h := View.readAt_unit v f inb ho _

end Halves

end Cert.Proof.Run

end
-- ==== Proof.Run.TileIdeal.lean ====
/-
  The kernel's tiles on real values: what each of the tile functions gives, element by element, where all that is loaded is real.
-/
module

public import proofs.«01_k».proof.Proof.Run.State
public import Idealize.ShloMosaic.Lib.Pointwise

@[expose] public section

set_option maxRecDepth 16384

noncomputable section

namespace Cert.Proof.Run

open Cert.KernelIdeal Cert.KernelIdeal.Gen
open Idealize.ShloMosaic
open Idealize.ShloMosaic.TcCoe Idealize.ShloMosaic.Tactic

/-- The lanes' numbers. -/
abbrev lanes : IVec S1x128 32 := iota Kind.tc S1x128 32 [1] iota_S1x128_d1_w32

theorem coe_sum {n : ℕ} (f : Fin n → ℝ) : (∑ x, ((f x : ℝ) : EReal)) = ((∑ x, f x : ℝ) : EReal) := by
  induction n with
  | zero => simp
  | succ n ih => rw [Fin.sum_univ_succ, Fin.sum_univ_succ, ih, EReal.coe_add]

/-- One head's real matrices by numbers of row and column: queries, cotangents, the rows' statistics, keys and values; and the head's number. -/
structure Mats where
  Q : ℕ → ℕ → ℝ
  D : ℕ → ℕ → ℝ
  T : ℕ → ℕ → ℝ
  K : ℕ → ℕ → ℝ
  V : ℕ → ℕ → ℝ
  head : ℕ

namespace Mats

variable (X : Mats)

/-- The probability of key `c` for query `r`, with the causal mask. -/
def M (r c : ℕ) : ℝ :=
  if c ≤ r then Real.rpow 2 ((∑ e : Fin 256, X.Q r e.val * X.K c e.val) * ((Real.sqrt 192)⁻¹ * (Real.log 2)⁻¹) - X.T r (2 * X.head) * (Real.log 2)⁻¹) else 0

/-- The score's gradient of query `r` and key `c`. -/
def DS (r c : ℕ) : ℝ :=
  X.M r c * ((∑ e : Fin 128, X.D r e.val * X.V c e.val) - X.T r (2 * X.head + 1)) * (Real.sqrt 192)⁻¹

end Mats

theorem select_le (a b : Fin 512) (x : EReal) :
    Scalar.select (IntOp.cmpi CmpIPredicate.sle (BitVec.ofNat 32 b.val) (BitVec.ofNat 32 a.val)) x (0 : EReal) = if b.val ≤ a.val then x else 0 := by
  have hs : ∀ n : Fin 512, (BitVec.ofNat 32 n.val).toInt = (n.val : ℤ) := by decide +kernel
  by_cases h : b.val ≤ a.val
  · have : (BitVec.ofNat 32 b.val).sle (BitVec.ofNat 32 a.val) = true := by
      rw [BitVec.sle, hs, hs]; exact decide_eq_true (by omega)
    simp [Scalar.select, IntOp.cmpi, this, h]
  · have : (BitVec.ofNat 32 b.val).sle (BitVec.ofNat 32 a.val) = false := by
      rw [BitVec.sle, hs, hs]; exact decide_eq_false (by omega)
    simp [Scalar.select, IntOp.cmpi, this, h]

theorem statCol_val (w : BitVec 32) (n : ℕ) (hn : n < 128) (hw : ∀ l : Fin 128, BitVec.ofNat 32 l.val = w ↔ l.val = n) (T : ℕ → ℕ → ℝ) (o : ℕ) (st : Vec Ideal S512x128 .f32)
    (hst : ∀ (a : Fin 512) (l : Fin 128), st (ix2 a l) = ((T (o + a.val) l.val : ℝ) : EReal)) (a : Fin 512) (b : Fin 1) :
    statCol (F := Ideal) lanes w st (ix2 a b) = ((T (o + a.val) n : ℝ) : EReal) := by
  pointwise [statCol]
  rw [Finset.sum_eq_single (⟨n, hn⟩ : Fin 128)]
  · rw [hst]
    have : BitVec.ofNat 32 n = w := (hw ⟨n, hn⟩).mpr rfl
    simp [Scalar.select, IntOp.cmpi, this]
  · intro l _ hl
    have : BitVec.ofNat 32 l.val ≠ w := fun h => hl (Fin.ext ((hw l).mp h))
    have hb : (BitVec.ofNat 32 l.val == w) = false := by simpa using this
    simp [Scalar.select, IntOp.cmpi, hb]
  · intro h; exact absurd (Finset.mem_univ _) h

section Tile

variable (X : Mats) (hX : X.head < 4) (o c0 : ℕ) (diag : Bool)
  (q : Vec Ideal S512x256 .bf16) (d : Vec Ideal S512x128 .bf16) (st : Vec Ideal S512x128 .f32) (k : Vec Ideal S512x256 .bf16) (v : Vec Ideal S512x128 .bf16)
  (hq : ∀ (a : Fin 512) (e : Fin 256), q (ix2 a e) = ((X.Q (o + a.val) e.val : ℝ) : EReal))
  (hd : ∀ (a : Fin 512) (e : Fin 128), d (ix2 a e) = ((X.D (o + a.val) e.val : ℝ) : EReal))
  (hst : ∀ (a : Fin 512) (e : Fin 128), st (ix2 a e) = ((X.T (o + a.val) e.val : ℝ) : EReal))
  (hk : ∀ (a : Fin 512) (e : Fin 256), k (ix2 a e) = ((X.K (c0 + a.val) e.val : ℝ) : EReal))
  (hv : ∀ (a : Fin 512) (e : Fin 128), v (ix2 a e) = ((X.V (c0 + a.val) e.val : ℝ) : EReal))
  (hdiag : if diag then c0 = o else c0 + 512 ≤ o)

include hX

theorem head_lane (l : Fin 128) : BitVec.ofNat 32 l.val = Scalar.muli 2#32 (BitVec.ofNat 32 X.head) ↔ l.val = 2 * X.head := by
  generalize X.head = h at *
  have : ∀ h : Fin 4, ∀ l : Fin 128, BitVec.ofNat 32 l.val = Scalar.muli 2#32 (BitVec.ofNat 32 h.val) ↔ l.val = 2 * h.val := by decide +kernel
  exact this ⟨h, hX⟩ l

theorem head_lane' (l : Fin 128) : BitVec.ofNat 32 l.val = Scalar.addi (Scalar.muli 2#32 (BitVec.ofNat 32 X.head)) 1#32 ↔ l.val = 2 * X.head + 1 := by
  generalize X.head = h at *
  have : ∀ h : Fin 4, ∀ l : Fin 128, BitVec.ofNat 32 l.val = Scalar.addi (Scalar.muli 2#32 (BitVec.ofNat 32 h.val)) 1#32 ↔ l.val = 2 * h.val + 1 := by decide +kernel
  exact this ⟨h, hX⟩ l

include hst

theorem lse2_val (a : Fin 512) (b : Fin 1) :
    lse2 (F := Ideal) (BitVec.ofNat 32 X.head) lanes st (ix2 a b) = ((X.T (o + a.val) (2 * X.head) * (Real.log 2)⁻¹ : ℝ) : EReal) := by
  have h := statCol_val _ (2 * X.head) (by omega) (head_lane X hX) X.T o st hst a b
  have e : (Named.named κ "log2_e" 0x3FB8AA3B#32 : Ideal .f32) = (((Real.log 2)⁻¹ : ℝ) : EReal) := rfl
  pointwise [lse2]
  rw [h, e, EReal.coe_mul]

theorem delta_val (a : Fin 512) (b : Fin 1) :
    delta (F := Ideal) (BitVec.ofNat 32 X.head) lanes st (ix2 a b) = ((X.T (o + a.val) (2 * X.head + 1) : ℝ) : EReal) :=
  statCol_val _ (2 * X.head + 1) (by omega) (head_lane' X hX) X.T o st hst a b

include hq hk hdiag

theorem probs_val (a b : Fin 512) :
    probs (F := Ideal) diag (BitVec.ofNat 32 X.head) lanes q st k (ix2 a b) = ((X.M (o + a.val) (c0 + b.val) : ℝ) : EReal) := by
  have h : ∀ a b, lse2 (F := Ideal) (BitVec.ofNat 32 X.head) lanes st (ix2 a b) = _ := lse2_val X hX o st hst
  have e : (Named.named κ "exp2_scale" 0x3DD53B95#32 : Ideal .f32) = (((Real.sqrt 192)⁻¹ * (Real.log 2)⁻¹ : ℝ) : EReal) := rfl
  have hp : ∀ r c, X.M r c = if c ≤ r then Real.rpow 2 ((∑ e : Fin 256, X.Q r e.val * X.K c e.val) * ((Real.sqrt 192)⁻¹ * (Real.log 2)⁻¹) - X.T r (2 * X.head) * (Real.log 2)⁻¹) else 0 := fun _ _ => rfl
  cases diag
  · have hd' : c0 + 512 ≤ o := hdiag
    have hle : c0 + b.val ≤ o + a.val := by omega
    pointwise [probs, cond_false, cond_true]
    rw [h, e]
    simp only [hq, hk, ← EReal.coe_mul, coe_sum]
    rw [hp, if_pos hle, ← EReal.coe_sub]
    exact Ideal.exp2_coe _
  · have hd' : c0 = o := hdiag
    subst hd'
    pointwise [probs, cond_false, cond_true]
    rw [h, e]
    simp only [hq, hk, ← EReal.coe_mul, coe_sum]
    rw [select_le, hp, ← EReal.coe_sub]
    by_cases hba : b.val ≤ a.val
    · rw [if_pos hba, if_pos (by omega)]; exact Ideal.exp2_coe _
    · rw [if_neg hba, if_neg (by omega)]; exact EReal.coe_zero.symm

theorem dvStep_val (hd : ∀ (a : Fin 512) (e : Fin 128), d (ix2 a e) = ((X.D (o + a.val) e.val : ℝ) : EReal)) (A : ℕ → ℕ → ℝ) (acc : Vec Ideal S1x512x128 .f32) (z : Fin 1)
    (ha : ∀ (b : Fin 512) (e : Fin 128), acc (ix3 z b e) = ((A b.val e.val : ℝ) : EReal)) (b : Fin 512) (e : Fin 128) :
    dvStep (F := Ideal) diag (BitVec.ofNat 32 X.head) lanes q d st k acc (ix3 z b e)
      = ((A b.val e.val + ∑ a : Fin 512, X.M (o + a.val) (c0 + b.val) * X.D (o + a.val) e.val : ℝ) : EReal) := by
  have hp : ∀ a b, probs (F := Ideal) diag (BitVec.ofNat 32 X.head) lanes q st k (ix2 a b) = _ := probs_val X hX o c0 diag q st k hq hst hk hdiag
  obtain rfl : z = 0 := Subsingleton.elim _ _
  pointwise [dvStep]
  simp only [hp, hd, ha, ← EReal.coe_mul, coe_sum, ← EReal.coe_add]

include hd hv

theorem dscores_val (a b : Fin 512) :
    dscores (F := Ideal) diag (BitVec.ofNat 32 X.head) lanes q d st k v (ix2 a b) = ((X.DS (o + a.val) (c0 + b.val) : ℝ) : EReal) := by
  have hp : ∀ a b, probs (F := Ideal) diag (BitVec.ofNat 32 X.head) lanes q st k (ix2 a b) = _ := probs_val X hX o c0 diag q st k hq hst hk hdiag
  have hl : ∀ a b, delta (F := Ideal) (BitVec.ofNat 32 X.head) lanes st (ix2 a b) = _ := delta_val X hX o st hst
  have e : (Named.named κ "att_scale" 0x3D93CD3A#32 : Ideal .f32) = (((Real.sqrt 192)⁻¹ : ℝ) : EReal) := rfl
  pointwise [dscores]
  rw [hl, e]
  simp only [hp, hd, hv, ← EReal.coe_mul, coe_sum, ← EReal.coe_sub]
  rfl

theorem dkStep_val (A : ℕ → ℕ → ℝ) (acc : Vec Ideal S1x512x256 .f32) (z : Fin 1)
    (ha : ∀ (b : Fin 512) (e : Fin 256), acc (ix3 z b e) = ((A b.val e.val : ℝ) : EReal)) (b : Fin 512) (e : Fin 256) :
    dkStep (F := Ideal) diag (BitVec.ofNat 32 X.head) lanes q d st k v acc (ix3 z b e)
      = ((A b.val e.val + ∑ a : Fin 512, X.DS (o + a.val) (c0 + b.val) * X.Q (o + a.val) e.val : ℝ) : EReal) := by
  have hp : ∀ a b, dscores (F := Ideal) diag (BitVec.ofNat 32 X.head) lanes q d st k v (ix2 a b) = _ := dscores_val X hX o c0 diag q d st k v hq hd hst hk hv hdiag
  obtain rfl : z = 0 := Subsingleton.elim _ _
  pointwise [dkStep]
  simp only [hp, hq, ha, ← EReal.coe_mul, coe_sum, ← EReal.coe_add]

theorem dqPart_val (a : Fin 512) (e : Fin 256) :
    dqPart (F := Ideal) diag (BitVec.ofNat 32 X.head) lanes q d st k v (ix2 a e)
      = ((∑ b : Fin 512, X.DS (o + a.val) (c0 + b.val) * X.K (c0 + b.val) e.val : ℝ) : EReal) := by
  have hp : ∀ a b, dscores (F := Ideal) diag (BitVec.ofNat 32 X.head) lanes q d st k v (ix2 a b) = _ := dscores_val X hX o c0 diag q d st k v hq hd hst hk hv hdiag
  pointwise [dqPart]
  simp only [hp, hk, ← EReal.coe_mul, coe_sum]

theorem dqStep1_val (Y : ℕ → ℕ → ℝ) (old : Vec Ideal S512x256 .f32) (ho : ∀ (a : Fin 512) (e : Fin 256), old (ix2 a e) = ((Y (o + a.val) e.val : ℝ) : EReal)) (a : Fin 512) (e : Fin 256) :
    dqStep1 (F := Ideal) diag (BitVec.ofNat 32 X.head) lanes q d st k v old (ix2 a e)
      = ((Y (o + a.val) e.val + ∑ b : Fin 512, X.DS (o + a.val) (c0 + b.val) * X.K (c0 + b.val) e.val : ℝ) : EReal) := by
  have hp : ∀ a e, dqPart (F := Ideal) diag (BitVec.ofNat 32 X.head) lanes q d st k v (ix2 a e) = _ := dqPart_val X hX o c0 diag q d st k v hq hd hst hk hv hdiag
  pointwise [dqStep1]
  simp only [hp, ho, ← EReal.coe_add]

end Tile

section Pair

variable (X : Mats) (hX : X.head < 4) (o c0 c1 : ℕ) (diag : Bool)
  (q : Vec Ideal S512x256 .bf16) (d : Vec Ideal S512x128 .bf16) (st : Vec Ideal S512x128 .f32) (k0 k1 : Vec Ideal S512x256 .bf16) (v0 v1 : Vec Ideal S512x128 .bf16)
  (hq : ∀ (a : Fin 512) (e : Fin 256), q (ix2 a e) = ((X.Q (o + a.val) e.val : ℝ) : EReal))
  (hd : ∀ (a : Fin 512) (e : Fin 128), d (ix2 a e) = ((X.D (o + a.val) e.val : ℝ) : EReal))
  (hst : ∀ (a : Fin 512) (e : Fin 128), st (ix2 a e) = ((X.T (o + a.val) e.val : ℝ) : EReal))
  (hk0 : ∀ (a : Fin 512) (e : Fin 256), k0 (ix2 a e) = ((X.K (c0 + a.val) e.val : ℝ) : EReal))
  (hv0 : ∀ (a : Fin 512) (e : Fin 128), v0 (ix2 a e) = ((X.V (c0 + a.val) e.val : ℝ) : EReal))
  (hk1 : ∀ (a : Fin 512) (e : Fin 256), k1 (ix2 a e) = ((X.K (c1 + a.val) e.val : ℝ) : EReal))
  (hv1 : ∀ (a : Fin 512) (e : Fin 128), v1 (ix2 a e) = ((X.V (c1 + a.val) e.val : ℝ) : EReal))
  (h0 : c0 + 512 ≤ o) (h1 : if diag then c1 = o else c1 + 512 ≤ o)
include hX hq hd hst hk0 hv0 hk1 hv1 h0 h1

theorem dqStep2_val (Y : ℕ → ℕ → ℝ) (old : Vec Ideal S512x256 .f32) (ho : ∀ (a : Fin 512) (e : Fin 256), old (ix2 a e) = ((Y (o + a.val) e.val : ℝ) : EReal)) (a : Fin 512) (e : Fin 256) :
    dqStep2 (F := Ideal) diag (BitVec.ofNat 32 X.head) lanes q d st k0 k1 v0 v1 old (ix2 a e)
      = ((Y (o + a.val) e.val + ((∑ b : Fin 512, X.DS (o + a.val) (c0 + b.val) * X.K (c0 + b.val) e.val)
          + ∑ b : Fin 512, X.DS (o + a.val) (c1 + b.val) * X.K (c1 + b.val) e.val) : ℝ) : EReal) := by
  have p0 : ∀ a e, dqPart (F := Ideal) false (BitVec.ofNat 32 X.head) lanes q d st k0 v0 (ix2 a e) = _ := dqPart_val X hX o c0 false q d st k0 v0 hq hd hst hk0 hv0 h0
  have p1 : ∀ a e, dqPart (F := Ideal) diag (BitVec.ofNat 32 X.head) lanes q d st k1 v1 (ix2 a e) = _ := dqPart_val X hX o c1 diag q d st k1 v1 hq hd hst hk1 hv1 h1
  pointwise [dqStep2]
  simp only [p0, p1, ho, ← EReal.coe_add]

end Pair

end Cert.Proof.Run

end
-- ==== Proof.Value.Attention.lean ====
/-
  Causal attention and its gradient on real numbers: the scores, the softmax of every row, and the gradients that the chain rule gives.
-/
module

public import proofs.«01_k».proof.Proof.Run.TileIdeal

@[expose] public section

noncomputable section

namespace Cert.Proof.Value

open Cert.Proof.Run

/-- The inputs: queries, keys, values and the cotangent, by row, head and lane. -/
structure Att where
  q : Fin 8192 → Fin 4 → Fin 192 → ℝ
  k : Fin 8192 → Fin 4 → Fin 192 → ℝ
  v : Fin 8192 → Fin 4 → Fin 128 → ℝ
  d : Fin 8192 → Fin 4 → Fin 128 → ℝ

namespace Att

variable (A : Att) (h : Fin 4) (r c : Fin 8192)

/-- The score of query `r` and key `c`. -/
def sc : ℝ := (∑ e, A.q r h e * A.k c h e) * (Real.sqrt 192)⁻¹

/-- The greatest score of the keys that query `r` sees. -/
def mx : ℝ := (Finset.univ.filter fun c : Fin 8192 => c ≤ r).sup' ⟨r, by simp⟩ (A.sc h r)

/-- The exponential of a score less the row's greatest, zero for a key that the query does not see. -/
def ex : ℝ := if c ≤ r then Real.exp (A.sc h r c - A.mx h r) else 0

/-- The row's sum of exponentials. -/
def dn : ℝ := ∑ c, A.ex h r c

/-- The probability of key `c`. -/
def pr : ℝ := A.ex h r c / A.dn h r

/-- The probability's cotangent. -/
def dp : ℝ := ∑ e, A.d r h e * A.v c h e

/-- The attention's output at query `r`, against its cotangent. -/
def dl : ℝ := ∑ e, (∑ c, A.v c h e * A.pr h r c) * A.d r h e

/-- The gradient of the product of query `r` and key `c`. -/
def ds : ℝ := A.pr h r c * (A.dp h r c - A.dl h r) * (Real.sqrt 192)⁻¹

theorem ex_nonneg : 0 ≤ A.ex h r c := by
  unfold ex; split
  · exact (Real.exp_pos _).le
  · exact le_rfl

theorem dn_pos : 0 < A.dn h r :=
  Finset.sum_pos' (fun c _ => A.ex_nonneg h r c) ⟨r, Finset.mem_univ _, by unfold ex; rw [if_pos le_rfl]; exact Real.exp_pos _⟩

/-- The output against its cotangent is the probabilities against theirs. -/
theorem dl_eq : A.dl h r = ∑ c, A.pr h r c * A.dp h r c := by
  unfold dl dp
  simp only [Finset.sum_mul, Finset.mul_sum]
  rw [Finset.sum_comm]
  exact Finset.sum_congr rfl fun c _ => Finset.sum_congr rfl fun e _ => by ring

/-- The probability from the row's logarithm of the sum of exponentials, as a power of two. -/
theorem pow_eq (hc : c ≤ r) :
    Real.rpow 2 ((∑ e, A.q r h e * A.k c h e) * ((Real.sqrt 192)⁻¹ * (Real.log 2)⁻¹) - (A.mx h r + Real.log (A.dn h r)) * (Real.log 2)⁻¹) = A.pr h r c := by
  have h2 : Real.log 2 ≠ 0 := (Real.log_pos one_lt_two).ne'
  have e : (∑ e, A.q r h e * A.k c h e) * ((Real.sqrt 192)⁻¹ * (Real.log 2)⁻¹) - (A.mx h r + Real.log (A.dn h r)) * (Real.log 2)⁻¹
      = (A.sc h r c - A.mx h r - Real.log (A.dn h r)) * (Real.log 2)⁻¹ := by unfold sc; ring
  rw [e, Real.rpow_eq_pow, Real.rpow_def_of_pos two_pos, mul_comm, mul_assoc, inv_mul_cancel₀ h2, mul_one, Real.exp_sub, Real.exp_log (A.dn_pos h r)]
  unfold pr ex
  rw [if_pos hc]

theorem pr_zero (hc : ¬ c ≤ r) : A.pr h r c = 0 := by unfold pr ex; rw [if_neg hc, zero_div]

/-! ## The same on extended reals -/

/-- The row's greatest score, masked scores at −∞. -/
theorem max_val (x : Fin 8192 → EReal) (hx : ∀ c, x c = if c ≤ r then ((A.sc h r c : ℝ) : EReal) else ⊥) :
    (Finset.univ : Finset (Fin 8192)).fold max ⊥ x = ((A.mx h r : ℝ) : EReal) := by
  have e : (Finset.univ : Finset (Fin 8192)).fold max ⊥ x = Finset.univ.sup x := rfl
  rw [e]
  apply le_antisymm
  · refine Finset.sup_le fun c _ => ?_
    rw [hx]
    split
    · rename_i hc
      have hm : c ∈ Finset.univ.filter fun c : Fin 8192 => c ≤ r := by rw [Finset.mem_filter]; exact ⟨Finset.mem_univ c, hc⟩
      have hs : A.sc h r c ≤ A.mx h r := Finset.le_sup' (A.sc h r) hm
      exact EReal.coe_le_coe_iff.mpr hs
    · exact bot_le
  · obtain ⟨c, hc, he⟩ := Finset.exists_mem_eq_sup' (s := Finset.univ.filter fun c : Fin 8192 => c ≤ r) ⟨r, by simp⟩ (A.sc h r)
    have : ((A.mx h r : ℝ) : EReal) = x c := by
      rw [hx, if_pos (Finset.mem_filter.mp hc).2]; exact congrArg _ he
    rw [this]
    exact Finset.le_sup (f := x) (Finset.mem_univ c)

end Att

end Cert.Proof.Value

end
-- ==== Proof.Value.Host.lean ====
/-
  The host's lines, operation by operation, on real inputs: the masked scores, their softmax, and what the forward pass saves for the kernel.
-/
module

public import proofs.«01_k».proof.Proof.Value.Attention
public import Idealize.ShloMosaic.Lib.Pointwise

@[expose] public section

set_option maxRecDepth 16384

noncomputable section

namespace Cert.Proof.Value

open Cert.KernelIdeal Cert.KernelIdeal.Gen
open Cert.Proof.Run
open Idealize.ShloMosaic
open Idealize.ShloMosaic.TcCoe Idealize.ShloMosaic.Tactic

/-! ## The lines -/

/-- The causal mask of every head. -/
def mask : IVec S4x8192x8192 1 :=
  broadcastInDim S4x8192x8192 ![1, 2] bcast_S8192x8192_S4x8192x8192_1_2
    (cmpi .sle (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

/-- The scores of every head, −∞ where masked. -/
def scores (q k : FVec Ideal S8192x4x192 .f32) : FVec Ideal S4x8192x8192 .f32 :=
  select mask
    (mulf (Host.dotGeneral dot_S8192x4x192_S8192x4x192_S4x8192x8192_2_2_0_0_1_1 none q k)
      (broadcastInDim S4x8192x8192 ![] bcast_S_S4x8192x8192 (Host.rsqrt (constant S_ .f32 0x43400000#32))))
    (broadcastInDim S4x8192x8192 ![] bcast_S_S4x8192x8192 (constant S_ .f32 0xFF800000#32))

/-- The greatest of every row. -/
def rowMax (s : FVec Ideal S4x8192x8192 .f32) : FVec Ideal S4x8192 .f32 :=
  Host.reduce FloatOps.maximumf s (constant S_ .f32 0xFF800000#32) reducesTo_S4x8192x8192_S4x8192_d2 h_S_

/-- The exponentials of a matrix less a column. -/
def expos (s : FVec Ideal S4x8192x8192 .f32) (b : FVec Ideal S4x8192 .f32) : FVec Ideal S4x8192x8192 .f32 :=
  Host.exp (subf s (broadcastInDim S4x8192x8192 ![0, 1, 2] bcast_S4x8192x1_S4x8192x8192_0_1_2 (broadcastInDim S4x8192x1 ![0, 1] bcast_S4x8192_S4x8192x1_0_1 b)))

/-- The sum of every row, as a column. -/
def rowSum (e : FVec Ideal S4x8192x8192 .f32) : FVec Ideal S4x8192x1 .f32 :=
  broadcastInDim S4x8192x1 ![0, 1] bcast_S4x8192_S4x8192x1_0_1 (Host.reduceAdd e (constant S_ .f32 0x00000000#32) reducesTo_S4x8192x8192_S4x8192_d2 h_S_)

/-- A matrix divided by a column. -/
def quot (e : FVec Ideal S4x8192x8192 .f32) (l : FVec Ideal S4x8192x1 .f32) : FVec Ideal S4x8192x8192 .f32 :=
  Host.divf e (broadcastInDim S4x8192x8192 ![0, 1, 2] bcast_S4x8192x1_S4x8192x8192_0_1_2 l)

/-- The logarithm of every row's sum of exponentials, from the greatest score and the sum of the others over it. -/
def lse (b : FVec Ideal S4x8192 .f32) (l : FVec Ideal S4x8192x1 .f32) : FVec Ideal S8192x4 .f32 :=
  transpose S8192x4 [1, 0] (shapeCast S4x8192 (addf (broadcastInDim S4x8192x1 ![0, 1] bcast_S4x8192_S4x8192x1_0_1 b) (Host.log l)) shapeCasts_S4x8192x1_S4x8192) transposes_S4x8192_S8192x4_1_0

/-- The attention's output against its cotangent. -/
def outDot (p : FVec Ideal S4x8192x8192 .f32) (v d : FVec Ideal S8192x4x128 .f32) : FVec Ideal S8192x4 .f32 :=
  Host.reduceAdd (mulf (transpose S8192x4x128 [2, 0, 1] (Host.dotGeneral dot_S8192x4x128_S4x8192x8192_S4x128x8192_0_2_2_1_1_0 none v p) transposes_S4x128x8192_S8192x4x128_2_0_1) d)
    (constant S_ .f32 0x00000000#32) reducesTo_S8192x4x128_S8192x4_d2 h_S_

/-- The two side by side, head by head, in 128 lanes. -/
def stats (a b : FVec Ideal S8192x4 .f32) : FVec Ideal S8192x128 .f32 :=
  pad S8192x128 ![0, 0] ![0, 120] ![0, 0]
    (shapeCast S8192x8 (concatenate S8192x4x2 2 [⟨S8192x4x1, broadcastInDim S8192x4x1 ![0, 1] bcast_S8192x4_S8192x4x1_0_1 a⟩, ⟨S8192x4x1, broadcastInDim S8192x4x1 ![0, 1] bcast_S8192x4_S8192x4x1_0_1 b⟩] concatenates_S8192x4x1_S8192x4x1_S8192x4x2_d2) shapeCasts_S8192x4x2_S8192x8)
    (sitofp .f32 (constantI S_ 32 0#32)) pads_S8192x8_S8192x128_000_01200 h_S_

/-! ## Their elements -/

theorem rsqrt_192 : Ideal.rsqrt (Ideal.ofBits .f32 0x43400000#32) = (((Real.sqrt 192)⁻¹ : ℝ) : EReal) := by
  have e : Ideal.ofBits .f32 0x43400000#32 = ((192 : ℝ) : EReal) := by
    simp only [Ideal.ofBits, Ideal.ieee]
    simp
    show (((12582912 : ℝ) : EReal)) * ((((2 ^ 16 : ℝ)⁻¹ : ℝ)) : EReal) = ((192 : ℝ) : EReal)
    rw [← EReal.coe_mul]
    norm_num
  rw [e, Ideal.rsqrt_coe, if_neg (by norm_num), if_neg (by norm_num)]

theorem neg_inf : Ideal.ofBits .f32 0xFF800000#32 = (⊥ : EReal) := by simp [Ideal.ofBits, Ideal.ieee]

theorem toInt_row (n : Fin 8192) : (BitVec.ofNat 32 n.val).toInt = (n.val : ℤ) := by
  have h := n.isLt
  rw [BitVec.toInt_eq_toNat_of_lt (by rw [BitVec.toNat_ofNat]; omega), BitVec.toNat_ofNat]
  omega

theorem select_row (r c : Fin 8192) (x y : EReal) :
    Scalar.select (IntOp.cmpi CmpIPredicate.sle (BitVec.ofNat 32 c.val) (BitVec.ofNat 32 r.val)) x y = if c ≤ r then x else y := by
  by_cases h : c ≤ r
  · have : (BitVec.ofNat 32 c.val).sle (BitVec.ofNat 32 r.val) = true := by
      rw [BitVec.sle, toInt_row, toInt_row]; exact decide_eq_true (by have := Fin.le_def.mp h; omega)
    simp [Scalar.select, IntOp.cmpi, this, h]
  · have : (BitVec.ofNat 32 c.val).sle (BitVec.ofNat 32 r.val) = false := by
      rw [BitVec.sle, toInt_row, toInt_row]; exact decide_eq_false (by have := mt Fin.le_def.mpr h; omega)
    simp [Scalar.select, IntOp.cmpi, this, h]

variable (A : Att) (h : Fin 4) (r c : Fin 8192)

section Scores

variable (q k : FVec Ideal S8192x4x192 .f32)
  (hq : ∀ r h e, q (ix3 r h e) = ((A.q r h e : ℝ) : EReal)) (hk : ∀ r h e, k (ix3 r h e) = ((A.k r h e : ℝ) : EReal))

include hq hk

theorem scores_val : scores q k (ix3 h r c) = if c ≤ r then ((A.sc h r c : ℝ) : EReal) else ⊥ := by
  pointwise [scores, mask]
  simp only [hq, hk]
  rw [select_row, rsqrt_192, neg_inf]
  simp only [← EReal.coe_mul]
  rw [coe_sum, ← EReal.coe_mul]
  rfl

end Scores

theorem rowMax_val (s : FVec Ideal S4x8192x8192 .f32) (hs : ∀ h r c, s (ix3 h r c) = if c ≤ r then ((A.sc h r c : ℝ) : EReal) else ⊥) :
    rowMax s (ix2 h r) = ((A.mx h r : ℝ) : EReal) := by
  unfold rowMax
  rw [Host.reduce_eq_fold]
  pointwise
  rw [neg_inf]
  exact A.max_val h r _ fun c => hs h r c

theorem expos_val (s : FVec Ideal S4x8192x8192 .f32) (hs : ∀ h r c, s (ix3 h r c) = if c ≤ r then ((A.sc h r c : ℝ) : EReal) else ⊥)
    (b : FVec Ideal S4x8192 .f32) (hb : ∀ h r, b (ix2 h r) = ((A.mx h r : ℝ) : EReal)) :
    expos s b (ix3 h r c) = ((A.ex h r c : ℝ) : EReal) := by
  pointwise [expos]
  rw [hs, hb]
  unfold Att.ex
  split
  · rw [← EReal.coe_sub, Ideal.exp_coe]
  · rw [EReal.bot_sub, Ideal.exp_bot]; rfl

theorem rowSum_val (e : FVec Ideal S4x8192x8192 .f32) (he : ∀ h r c, e (ix3 h r c) = ((A.ex h r c : ℝ) : EReal)) (u : Fin 1) :
    rowSum e (ix3 h r u) = ((A.dn h r : ℝ) : EReal) := by
  pointwise [rowSum]
  simp only [he]
  rw [coe_sum]
  rfl

theorem quot_val (e : FVec Ideal S4x8192x8192 .f32) (he : ∀ h r c, e (ix3 h r c) = ((A.ex h r c : ℝ) : EReal))
    (l : FVec Ideal S4x8192x1 .f32) (hl : ∀ h r u, l (ix3 h r u) = ((A.dn h r : ℝ) : EReal)) :
    quot e l (ix3 h r c) = ((A.pr h r c : ℝ) : EReal) := by
  pointwise [quot]
  rw [he, hl, Ideal.div_coe (A.dn_pos h r).ne', ← EReal.coe_mul]
  rw [mul_one_div]
  rfl

theorem lse_val (b : FVec Ideal S4x8192 .f32) (hb : ∀ h r, b (ix2 h r) = ((A.mx h r : ℝ) : EReal))
    (l : FVec Ideal S4x8192x1 .f32) (hl : ∀ h r u, l (ix3 h r u) = ((A.dn h r : ℝ) : EReal)) :
    lse b l (ix2 r h) = ((A.mx h r + Real.log (A.dn h r) : ℝ) : EReal) := by
  pointwise [lse]
  rw [hb, hl, Ideal.log_coe, if_neg (A.dn_pos h r).not_ge, EReal.coe_add]

theorem outDot_val (p : FVec Ideal S4x8192x8192 .f32) (hp : ∀ h r c, p (ix3 h r c) = ((A.pr h r c : ℝ) : EReal))
    (v d : FVec Ideal S8192x4x128 .f32) (hv : ∀ r h e, v (ix3 r h e) = ((A.v r h e : ℝ) : EReal)) (hd : ∀ r h e, d (ix3 r h e) = ((A.d r h e : ℝ) : EReal)) :
    outDot p v d (ix2 r h) = ((A.dl h r : ℝ) : EReal) := by
  pointwise [outDot]
  simp only [hp, hv, hd, ← EReal.coe_mul, coe_sum]
  simp [Att.dl]

theorem stats_val (a b : FVec Ideal S8192x4 .f32) (l : Fin 128) :
    stats a b (ix2 r l) = if hl : l.val < 8 then if l.val % 2 = 0 then a (ix2 r ⟨l.val / 2, by omega⟩) else b (ix2 r ⟨l.val / 2, by omega⟩) else 0 := by
  pointwise [stats]
  have z : (FloatOps.sitofp FTy.f32 0#32 : Ideal .f32) = (0 : EReal) := by
    show ((((0#32 : BitVec 32).toInt : ℤ) : ℝ) : EReal) = 0
    simp
  rw [z]
  congr 1
  funext hl
  by_cases h2 : l.val % 2 = 0
  · rw [dif_pos (by omega), if_pos h2]
  · rw [dif_neg (by omega), if_neg h2]

end Cert.Proof.Value

end
-- ==== Proof.Run.TripVal.lean ====
/-
  What one trip of the counted loop does to the values of its buffers: four tiles below the diagonal.
-/
module

public import proofs.«01_k».proof.Proof.Run.State
public import proofs.«01_k».proof.Proof.Run.Loop

@[expose] public section

set_option maxRecDepth 16384

noncomputable section

namespace Cert.Proof.Run

open Cert.KernelIdeal Cert.KernelIdeal.Gen
open Idealize.ShloMosaic
open Idealize.ShloMosaic.TcCoe Idealize.ShloMosaic.Tactic

variable {F : FTy → Type} [FloatOps F] [Named F]

section Trip

variable (c : Dev nD) (i : grid0.Coords)
  (arg2 : Memref sig .tc .vmem S8192x256 .bf16) (harg2 : arg2.IsWhole) (arg3 : Memref sig .tc .vmem S8192x128 .bf16) (harg3 : arg3.IsWhole)
  (arg4 : Memref sig .tc .vmem S8192x128 .f32) (harg4 : arg4.IsWhole) (arg5 : Memref sig .tc .vmem S1024x256 .bf16) (harg5 : arg5.IsWhole)
  (arg6 : Memref sig .tc .vmem S1024x128 .bf16) (harg6 : arg6.IsWhole) (arg7 : Memref sig .tc .vmem S8192x256 .f32) (harg7 : arg7.IsWhole)
  (arg8 : Memref sig .tc .vmem S1024x256 .f32) (harg8 : arg8.IsWhole) (arg9 : Memref sig .tc .vmem S1024x128 .f32) (harg9 : arg9.IsWhole)
  (arg10 : Memref sig .tc .vmem S2x512x256 .f32) (harg10 : arg10.IsWhole) (arg11 : Memref sig .tc .vmem S2x512x128 .f32) (harg11 : arg11.IsWhole)
  (arg0 arg1 : BitVec 32) (v11 : IVec S1x128 32) (v202 c0_i32_113 c1_i32_114 v222 : BitVec 32)
  (f2 : Bf (F := F) c arg2) (f3 : Bf (F := F) c arg3) (f4 : Bf (F := F) c arg4) (f5 : Bf (F := F) c arg5) (f6 : Bf (F := F) c arg6)

/-- The values of the three buffers. -/
def stOf (a : Accs (F := F) c arg7 arg10 arg11) : St F where
  dq := arg7.view.read (Elt F) a.1
  dk0 := half0k (arg10.view.read (Elt F) a.2.1)
  dk1 := half1k (arg10.view.read (Elt F) a.2.1)
  dv0 := half0v (arg11.view.read (Elt F) a.2.2)
  dv1 := half1v (arg11.view.read (Elt F) a.2.2)

/-- The rows at which a trip's four tiles start. -/
theorem trip_off (k : Fin (k0_t1_loop i).trips) :
    k0_off5 i k = ![1024 * (i 1).val + 1024 + 2048 * k.val, 0] ∧ k0_off6 i k = ![1024 * (i 1).val + 1024 + 2048 * k.val, 0]
      ∧ k0_off7 i k 1#32 = ![1024 * (i 1).val + 1024 + 2048 * k.val + 512, 0] ∧ k0_off8 i k 1#32 = ![1024 * (i 1).val + 1024 + 2048 * k.val + 512, 0]
      ∧ k0_off7 i k 2#32 = ![1024 * (i 1).val + 1024 + 2048 * k.val + 1024, 0] ∧ k0_off8 i k 2#32 = ![1024 * (i 1).val + 1024 + 2048 * k.val + 1024, 0]
      ∧ k0_off9 i k = ![1024 * (i 1).val + 1024 + 2048 * k.val + 1536, 0] ∧ k0_off10 i k = ![1024 * (i 1).val + 1024 + 2048 * k.val + 1536, 0] := by
  refine ⟨off5_eq i k, off6_eq i k, (off7a_eq i k).trans ?_, (off8a_eq i k).trans ?_, (off7b_eq i k).trans ?_, (off8b_eq i k).trans ?_, (off9_eq i k).trans ?_, (off10_eq i k).trans ?_⟩ <;>
  · congr 1; omega

set_option maxHeartbeats 4000000 in
theorem trip_dq (k : Fin (k0_t1_loop i).trips) (a : Accs (F := F) c arg7 arg10 arg11) (h : 1024 * (i 1).val + 1024 + 2048 * k.val + 2048 ≤ 8192) :
    (stOf c arg7 arg10 arg11 (next c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 k a)).dq
      = (tile4 arg0 v11 (arg2.view.read (Elt F) f2) (arg3.view.read (Elt F) f3) (arg4.view.read (Elt F) f4) (arg5.view.read (Elt F) f5) (arg6.view.read (Elt F) f6)
          (1024 * (i 1).val + 1024 + 2048 * k.val) h (stOf c arg7 arg10 arg11 a)).dq := by
  obtain ⟨e5, e6, e7, e8, e9, e10, e11, e12⟩ := trip_off i k
  generalize 1024 * (i 1).val + 1024 + 2048 * k.val = o at *
  have q0 := fun inb => load_rows256 arg2.view f2 inb o (by omega) e5
  have q1 := fun inb => load_rows256 arg2.view f2 inb (o + 512) (by omega) e7
  have q2 := fun inb => load_rows256 arg2.view f2 inb (o + 1024) (by omega) e9
  have q3 := fun inb => load_rows256 arg2.view f2 inb (o + 1536) (by omega) e11
  have d0 := fun inb => load_rows128 arg3.view f3 inb o (by omega) e6
  have d1 := fun inb => load_rows128 arg3.view f3 inb (o + 512) (by omega) e8
  have d2 := fun inb => load_rows128 arg3.view f3 inb (o + 1024) (by omega) e10
  have d3 := fun inb => load_rows128 arg3.view f3 inb (o + 1536) (by omega) e12
  have s0 := fun inb => load_rows128 arg4.view f4 inb o (by omega) e6
  have s1 := fun inb => load_rows128 arg4.view f4 inb (o + 512) (by omega) e8
  have s2 := fun inb => load_rows128 arg4.view f4 inb (o + 1024) (by omega) e10
  have s3 := fun inb => load_rows128 arg4.view f4 inb (o + 1536) (by omega) e12
  have y0 := fun inb => load_rows256 arg7.view a.1 inb o (by omega) e5
  have y1 := fun inb => load_rows256 arg7.view a.1 inb (o + 512) (by omega) e7
  have y2 := fun inb => load_rows256 arg7.view a.1 inb (o + 1024) (by omega) e9
  have y3 := fun inb => load_rows256 arg7.view a.1 inb (o + 1536) (by omega) e11
  unfold next tripRun stOf tile4 tile
  dsimp only
  rw [View.read_writes_cons_put _ _ _ _ _ e11, View.read_writes_cons_put _ _ _ _ _ e9, View.read_writes_cons_put _ _ _ _ _ e7, View.read_writes_cons_put _ _ _ _ _ e5, View.writes_nil]
  rw [rows256_put _ (o + 1024) (o + 1536) _ (by omega), rows256_put _ (o + 512) (o + 1536) _ (by omega), rows256_put _ o (o + 1536) _ (by omega),
    rows256_put _ (o + 512) (o + 1024) _ (by omega), rows256_put _ o (o + 1024) _ (by omega), rows256_put _ o (o + 512) _ (by omega)]
  simp only [tripRun.sl.H10_2, tripRun.sl.H10_3, tripRun.sl.H10_4, tripRun.sl.H10_5, tripRun.sl.H10_6, tripRun.sl.H10_7, tripRun.sl.H11_2, tripRun.sl.H11_3, tripRun.sl.H11_4, tripRun.sl.H11_5, tripRun.sl.H11_6, tripRun.sl.H11_7, tripRun.sl.r_1, tripRun.sl.r_2, tripRun.sl.r_3, tripRun.sl.r_4, tripRun.sl.r_5, tripRun.sl.r_6, tripRun.sl.r_7, tripRun.sl.r_8, tripRun.sl.r_9, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_40, tripRun.sl.r_41, tripRun.sl.r_42, tripRun.sl.r_43, tripRun.sl.r, tripRun.sl.v327, tripRun.sl.v344, tripRun.sl.v360, tripRun.sl.v400, tripRun.sl.v417, tripRun.sl.v433, tripRun.sl.v450, tripRun.sl.v459, tripRun.sl.v510, tripRun.sl.v527, tripRun.sl.v543, tripRun.sl.v560, tripRun.sl.v569, tripRun.sl.v575, tripRun.sl.v576, tripRun.sl.v616, tripRun.sl.v633, tripRun.sl.v649, tripRun.sl.v666, tripRun.sl.v675,
    q0, q1, q2, q3, d0, d1, d2, d3, s0, s1, s2, s3, y0, y1, y2, y3, load_lo256, load_hi256, load_lo128, load_hi128]
  rfl

set_option maxHeartbeats 4000000 in
theorem trip_dk0 (k : Fin (k0_t1_loop i).trips) (a : Accs (F := F) c arg7 arg10 arg11) (h : 1024 * (i 1).val + 1024 + 2048 * k.val + 2048 ≤ 8192) :
    (stOf c arg7 arg10 arg11 (next c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 k a)).dk0
      = (tile4 arg0 v11 (arg2.view.read (Elt F) f2) (arg3.view.read (Elt F) f3) (arg4.view.read (Elt F) f4) (arg5.view.read (Elt F) f5) (arg6.view.read (Elt F) f6)
          (1024 * (i 1).val + 1024 + 2048 * k.val) h (stOf c arg7 arg10 arg11 a)).dk0 := by
  obtain ⟨e5, e6, e7, e8, e9, e10, e11, e12⟩ := trip_off i k
  generalize 1024 * (i 1).val + 1024 + 2048 * k.val = o at *
  have q0 := fun inb => load_rows256 arg2.view f2 inb o (by omega) e5
  have q1 := fun inb => load_rows256 arg2.view f2 inb (o + 512) (by omega) e7
  have q2 := fun inb => load_rows256 arg2.view f2 inb (o + 1024) (by omega) e9
  have q3 := fun inb => load_rows256 arg2.view f2 inb (o + 1536) (by omega) e11
  have d0 := fun inb => load_rows128 arg3.view f3 inb o (by omega) e6
  have d1 := fun inb => load_rows128 arg3.view f3 inb (o + 512) (by omega) e8
  have d2 := fun inb => load_rows128 arg3.view f3 inb (o + 1024) (by omega) e10
  have d3 := fun inb => load_rows128 arg3.view f3 inb (o + 1536) (by omega) e12
  have s0 := fun inb => load_rows128 arg4.view f4 inb o (by omega) e6
  have s1 := fun inb => load_rows128 arg4.view f4 inb (o + 512) (by omega) e8
  have s2 := fun inb => load_rows128 arg4.view f4 inb (o + 1024) (by omega) e10
  have s3 := fun inb => load_rows128 arg4.view f4 inb (o + 1536) (by omega) e12
  unfold next tripRun stOf tile4 tile
  dsimp only
  simp only [tripRun.sl.H10_2, tripRun.sl.H10_3, tripRun.sl.H10_4, tripRun.sl.H10_5, tripRun.sl.H10_6, tripRun.sl.H10_7, tripRun.sl.H11_2, tripRun.sl.H11_3, tripRun.sl.H11_4, tripRun.sl.H11_5, tripRun.sl.H11_6, tripRun.sl.H11_7, tripRun.sl.r_1, tripRun.sl.r_2, tripRun.sl.r_3, tripRun.sl.r_4, tripRun.sl.r_5, tripRun.sl.r_6, tripRun.sl.r_7, tripRun.sl.r_8, tripRun.sl.r_9, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_40, tripRun.sl.r_41, tripRun.sl.r_42, tripRun.sl.r_43, tripRun.sl.r, tripRun.sl.v327, tripRun.sl.v344, tripRun.sl.v360, tripRun.sl.v400, tripRun.sl.v417, tripRun.sl.v433, tripRun.sl.v450, tripRun.sl.v459, tripRun.sl.v510, tripRun.sl.v527, tripRun.sl.v543, tripRun.sl.v560, tripRun.sl.v569, tripRun.sl.v575, tripRun.sl.v576, tripRun.sl.v616, tripRun.sl.v633, tripRun.sl.v649, tripRun.sl.v666, tripRun.sl.v675,
    View.readCov, read_half0k_same, read_half0k_other, load_half0k, View.writes_nil,
    q0, q1, q2, q3, d0, d1, d2, d3, s0, s1, s2, s3, load_lo256, load_hi256, load_lo128, load_hi128]
  rfl

set_option maxHeartbeats 4000000 in
theorem trip_dk1 (k : Fin (k0_t1_loop i).trips) (a : Accs (F := F) c arg7 arg10 arg11) (h : 1024 * (i 1).val + 1024 + 2048 * k.val + 2048 ≤ 8192) :
    (stOf c arg7 arg10 arg11 (next c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 k a)).dk1
      = (tile4 arg0 v11 (arg2.view.read (Elt F) f2) (arg3.view.read (Elt F) f3) (arg4.view.read (Elt F) f4) (arg5.view.read (Elt F) f5) (arg6.view.read (Elt F) f6)
          (1024 * (i 1).val + 1024 + 2048 * k.val) h (stOf c arg7 arg10 arg11 a)).dk1 := by
  obtain ⟨e5, e6, e7, e8, e9, e10, e11, e12⟩ := trip_off i k
  generalize 1024 * (i 1).val + 1024 + 2048 * k.val = o at *
  have q0 := fun inb => load_rows256 arg2.view f2 inb o (by omega) e5
  have q1 := fun inb => load_rows256 arg2.view f2 inb (o + 512) (by omega) e7
  have q2 := fun inb => load_rows256 arg2.view f2 inb (o + 1024) (by omega) e9
  have q3 := fun inb => load_rows256 arg2.view f2 inb (o + 1536) (by omega) e11
  have d0 := fun inb => load_rows128 arg3.view f3 inb o (by omega) e6
  have d1 := fun inb => load_rows128 arg3.view f3 inb (o + 512) (by omega) e8
  have d2 := fun inb => load_rows128 arg3.view f3 inb (o + 1024) (by omega) e10
  have d3 := fun inb => load_rows128 arg3.view f3 inb (o + 1536) (by omega) e12
  have s0 := fun inb => load_rows128 arg4.view f4 inb o (by omega) e6
  have s1 := fun inb => load_rows128 arg4.view f4 inb (o + 512) (by omega) e8
  have s2 := fun inb => load_rows128 arg4.view f4 inb (o + 1024) (by omega) e10
  have s3 := fun inb => load_rows128 arg4.view f4 inb (o + 1536) (by omega) e12
  unfold next tripRun stOf tile4 tile
  dsimp only
  simp only [tripRun.sl.H10_2, tripRun.sl.H10_3, tripRun.sl.H10_4, tripRun.sl.H10_5, tripRun.sl.H10_6, tripRun.sl.H10_7, tripRun.sl.H11_2, tripRun.sl.H11_3, tripRun.sl.H11_4, tripRun.sl.H11_5, tripRun.sl.H11_6, tripRun.sl.H11_7, tripRun.sl.r_1, tripRun.sl.r_2, tripRun.sl.r_3, tripRun.sl.r_4, tripRun.sl.r_5, tripRun.sl.r_6, tripRun.sl.r_7, tripRun.sl.r_8, tripRun.sl.r_9, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_40, tripRun.sl.r_41, tripRun.sl.r_42, tripRun.sl.r_43, tripRun.sl.r, tripRun.sl.v327, tripRun.sl.v344, tripRun.sl.v360, tripRun.sl.v400, tripRun.sl.v417, tripRun.sl.v433, tripRun.sl.v450, tripRun.sl.v459, tripRun.sl.v510, tripRun.sl.v527, tripRun.sl.v543, tripRun.sl.v560, tripRun.sl.v569, tripRun.sl.v575, tripRun.sl.v576, tripRun.sl.v616, tripRun.sl.v633, tripRun.sl.v649, tripRun.sl.v666, tripRun.sl.v675,
    View.readCov, read_half1k_same, read_half1k_other, load_half1k, View.writes_nil,
    q0, q1, q2, q3, d0, d1, d2, d3, s0, s1, s2, s3, load_lo256, load_hi256, load_lo128, load_hi128]
  rfl

set_option maxHeartbeats 4000000 in
theorem trip_dv0 (k : Fin (k0_t1_loop i).trips) (a : Accs (F := F) c arg7 arg10 arg11) (h : 1024 * (i 1).val + 1024 + 2048 * k.val + 2048 ≤ 8192) :
    (stOf c arg7 arg10 arg11 (next c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 k a)).dv0
      = (tile4 arg0 v11 (arg2.view.read (Elt F) f2) (arg3.view.read (Elt F) f3) (arg4.view.read (Elt F) f4) (arg5.view.read (Elt F) f5) (arg6.view.read (Elt F) f6)
          (1024 * (i 1).val + 1024 + 2048 * k.val) h (stOf c arg7 arg10 arg11 a)).dv0 := by
  obtain ⟨e5, e6, e7, e8, e9, e10, e11, e12⟩ := trip_off i k
  generalize 1024 * (i 1).val + 1024 + 2048 * k.val = o at *
  have q0 := fun inb => load_rows256 arg2.view f2 inb o (by omega) e5
  have q1 := fun inb => load_rows256 arg2.view f2 inb (o + 512) (by omega) e7
  have q2 := fun inb => load_rows256 arg2.view f2 inb (o + 1024) (by omega) e9
  have q3 := fun inb => load_rows256 arg2.view f2 inb (o + 1536) (by omega) e11
  have d0 := fun inb => load_rows128 arg3.view f3 inb o (by omega) e6
  have d1 := fun inb => load_rows128 arg3.view f3 inb (o + 512) (by omega) e8
  have d2 := fun inb => load_rows128 arg3.view f3 inb (o + 1024) (by omega) e10
  have d3 := fun inb => load_rows128 arg3.view f3 inb (o + 1536) (by omega) e12
  have s0 := fun inb => load_rows128 arg4.view f4 inb o (by omega) e6
  have s1 := fun inb => load_rows128 arg4.view f4 inb (o + 512) (by omega) e8
  have s2 := fun inb => load_rows128 arg4.view f4 inb (o + 1024) (by omega) e10
  have s3 := fun inb => load_rows128 arg4.view f4 inb (o + 1536) (by omega) e12
  unfold next tripRun stOf tile4 tile
  dsimp only
  simp only [tripRun.sl.H10_2, tripRun.sl.H10_3, tripRun.sl.H10_4, tripRun.sl.H10_5, tripRun.sl.H10_6, tripRun.sl.H10_7, tripRun.sl.H11_2, tripRun.sl.H11_3, tripRun.sl.H11_4, tripRun.sl.H11_5, tripRun.sl.H11_6, tripRun.sl.H11_7, tripRun.sl.r_1, tripRun.sl.r_2, tripRun.sl.r_3, tripRun.sl.r_4, tripRun.sl.r_5, tripRun.sl.r_6, tripRun.sl.r_7, tripRun.sl.r_8, tripRun.sl.r_9, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_40, tripRun.sl.r_41, tripRun.sl.r_42, tripRun.sl.r_43, tripRun.sl.r, tripRun.sl.v327, tripRun.sl.v344, tripRun.sl.v360, tripRun.sl.v400, tripRun.sl.v417, tripRun.sl.v433, tripRun.sl.v450, tripRun.sl.v459, tripRun.sl.v510, tripRun.sl.v527, tripRun.sl.v543, tripRun.sl.v560, tripRun.sl.v569, tripRun.sl.v575, tripRun.sl.v576, tripRun.sl.v616, tripRun.sl.v633, tripRun.sl.v649, tripRun.sl.v666, tripRun.sl.v675,
    View.readCov, read_half0v_same, read_half0v_other, load_half0v, View.writes_nil,
    q0, q1, q2, q3, d0, d1, d2, d3, s0, s1, s2, s3, load_lo256, load_hi256, load_lo128, load_hi128]
  rfl

set_option maxHeartbeats 4000000 in
theorem trip_dv1 (k : Fin (k0_t1_loop i).trips) (a : Accs (F := F) c arg7 arg10 arg11) (h : 1024 * (i 1).val + 1024 + 2048 * k.val + 2048 ≤ 8192) :
    (stOf c arg7 arg10 arg11 (next c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 k a)).dv1
      = (tile4 arg0 v11 (arg2.view.read (Elt F) f2) (arg3.view.read (Elt F) f3) (arg4.view.read (Elt F) f4) (arg5.view.read (Elt F) f5) (arg6.view.read (Elt F) f6)
          (1024 * (i 1).val + 1024 + 2048 * k.val) h (stOf c arg7 arg10 arg11 a)).dv1 := by
  obtain ⟨e5, e6, e7, e8, e9, e10, e11, e12⟩ := trip_off i k
  generalize 1024 * (i 1).val + 1024 + 2048 * k.val = o at *
  have q0 := fun inb => load_rows256 arg2.view f2 inb o (by omega) e5
  have q1 := fun inb => load_rows256 arg2.view f2 inb (o + 512) (by omega) e7
  have q2 := fun inb => load_rows256 arg2.view f2 inb (o + 1024) (by omega) e9
  have q3 := fun inb => load_rows256 arg2.view f2 inb (o + 1536) (by omega) e11
  have d0 := fun inb => load_rows128 arg3.view f3 inb o (by omega) e6
  have d1 := fun inb => load_rows128 arg3.view f3 inb (o + 512) (by omega) e8
  have d2 := fun inb => load_rows128 arg3.view f3 inb (o + 1024) (by omega) e10
  have d3 := fun inb => load_rows128 arg3.view f3 inb (o + 1536) (by omega) e12
  have s0 := fun inb => load_rows128 arg4.view f4 inb o (by omega) e6
  have s1 := fun inb => load_rows128 arg4.view f4 inb (o + 512) (by omega) e8
  have s2 := fun inb => load_rows128 arg4.view f4 inb (o + 1024) (by omega) e10
  have s3 := fun inb => load_rows128 arg4.view f4 inb (o + 1536) (by omega) e12
  unfold next tripRun stOf tile4 tile
  dsimp only
  simp only [tripRun.sl.H10_2, tripRun.sl.H10_3, tripRun.sl.H10_4, tripRun.sl.H10_5, tripRun.sl.H10_6, tripRun.sl.H10_7, tripRun.sl.H11_2, tripRun.sl.H11_3, tripRun.sl.H11_4, tripRun.sl.H11_5, tripRun.sl.H11_6, tripRun.sl.H11_7, tripRun.sl.r_1, tripRun.sl.r_2, tripRun.sl.r_3, tripRun.sl.r_4, tripRun.sl.r_5, tripRun.sl.r_6, tripRun.sl.r_7, tripRun.sl.r_8, tripRun.sl.r_9, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_40, tripRun.sl.r_41, tripRun.sl.r_42, tripRun.sl.r_43, tripRun.sl.r, tripRun.sl.v327, tripRun.sl.v344, tripRun.sl.v360, tripRun.sl.v400, tripRun.sl.v417, tripRun.sl.v433, tripRun.sl.v450, tripRun.sl.v459, tripRun.sl.v510, tripRun.sl.v527, tripRun.sl.v543, tripRun.sl.v560, tripRun.sl.v569, tripRun.sl.v575, tripRun.sl.v576, tripRun.sl.v616, tripRun.sl.v633, tripRun.sl.v649, tripRun.sl.v666, tripRun.sl.v675,
    View.readCov, read_half1v_same, read_half1v_other, load_half1v, View.writes_nil,
    q0, q1, q2, q3, d0, d1, d2, d3, s0, s1, s2, s3, load_lo256, load_hi256, load_lo128, load_hi128]
  rfl

/-- One trip takes the buffers' values through four tiles below the diagonal. -/
theorem stOf_next (k : Fin (k0_t1_loop i).trips) (a : Accs (F := F) c arg7 arg10 arg11) (h : 1024 * (i 1).val + 1024 + 2048 * k.val + 2048 ≤ 8192) :
    stOf c arg7 arg10 arg11 (next c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 k a)
      = tile4 arg0 v11 (arg2.view.read (Elt F) f2) (arg3.view.read (Elt F) f3) (arg4.view.read (Elt F) f4) (arg5.view.read (Elt F) f5) (arg6.view.read (Elt F) f6)
          (1024 * (i 1).val + 1024 + 2048 * k.val) h (stOf c arg7 arg10 arg11 a) :=
  St.ext (trip_dq c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 k a h) (trip_dk0 c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 k a h) (trip_dk1 c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 k a h) (trip_dv0 c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 k a h) (trip_dv1 c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 k a h)

end Trip

end Cert.Proof.Run

end
-- ==== Proof.Run.LoopVal.lean ====
/-
  The values of the buffers before the counted loop, after it, and at the end of the body, at a grid point: the tiles of one block of keys from the diagonal on.
-/
module

public import proofs.«01_k».proof.Proof.Run.TripVal

@[expose] public section

set_option maxRecDepth 16384

noncomputable section

namespace Cert.Proof.Run

open Cert.KernelIdeal Cert.KernelIdeal.Gen
open Idealize.ShloMosaic
open Idealize.ShloMosaic.TcCoe Idealize.ShloMosaic.Tactic

variable {F : FTy → Type} [FloatOps F] [Named F]

theorem off1_eq : ∀ i : grid0.Coords, k0_off1 i = ![1024 * (i 1).val, 0] := by decide +kernel
theorem off2_eq : ∀ i : grid0.Coords, k0_off2 i = ![1024 * (i 1).val, 0] := by decide +kernel
theorem off3_eq : ∀ i : grid0.Coords, k0_off3 i = ![1024 * (i 1).val + 512, 0] := by decide +kernel
theorem off4_eq : ∀ i : grid0.Coords, k0_off4 i = ![1024 * (i 1).val + 512, 0] := by decide +kernel

section Spec

variable (arg0 : BitVec 32) (v11 : IVec S1x128 32) (x2 : Vec F S8192x256 .bf16) (x3 : Vec F S8192x128 .bf16) (x4 : Vec F S8192x128 .f32)
  (x5 : Vec F S1024x256 .bf16) (x6 : Vec F S1024x128 .bf16) (j : Fin 8)

/-- The two tiles that the diagonal crosses, from accumulators at zero. -/
def start (dq : Vec F S8192x256 .f32) : St F :=
  tile arg0 v11 x2 x3 x4 x5 x6 true (1024 * j.val + 512) (by omega) (tileTop arg0 v11 x2 x3 x4 x5 x6 (1024 * j.val) (by omega)
    ⟨dq, half0k k0_pay190, half1k k0_pay190, half0v k0_pay191, half1v k0_pay191⟩)

/-- The first `k` trips of the counted loop. -/
def loopSt (s : St F) : ℕ → St F
  | 0 => s
  | k + 1 => if h : 1024 * j.val + 1024 + 2048 * k + 2048 ≤ 8192 then tile4 arg0 v11 x2 x3 x4 x5 x6 (1024 * j.val + 1024 + 2048 * k) h (loopSt s k) else loopSt s k

theorem loopSt_succ (s : St F) (k : ℕ) (h : 1024 * j.val + 1024 + 2048 * k + 2048 ≤ 8192) :
    loopSt arg0 v11 x2 x3 x4 x5 x6 j s (k + 1) = tile4 arg0 v11 x2 x3 x4 x5 x6 (1024 * j.val + 1024 + 2048 * k) h (loopSt arg0 v11 x2 x3 x4 x5 x6 j s k) := by
  rw [loopSt, dif_pos h]

/-- The last two tiles, which an even block of keys has left after the loop. -/
def lastPair (h : j.val % 2 = 0) (s : St F) : St F :=
  tile arg0 v11 x2 x3 x4 x5 x6 false (1024 * j.val + 1024 + 2048 * ((7 - j.val) / 2) + 512) (by omega)
    (tile arg0 v11 x2 x3 x4 x5 x6 false (1024 * j.val + 1024 + 2048 * ((7 - j.val) / 2)) (by omega) s)

/-- All tiles of a block of keys, on the queries' gradient `dq`. -/
def blockSt (dq : Vec F S8192x256 .f32) : St F :=
  if h : j.val % 2 = 0 then lastPair arg0 v11 x2 x3 x4 x5 x6 j h (loopSt arg0 v11 x2 x3 x4 x5 x6 j (start arg0 v11 x2 x3 x4 x5 x6 j dq) ((7 - j.val) / 2))
  else loopSt arg0 v11 x2 x3 x4 x5 x6 j (start arg0 v11 x2 x3 x4 x5 x6 j dq) ((7 - j.val) / 2)

end Spec

section Loop

variable (c : Dev nD) (i : grid0.Coords)
  (arg2 : Memref sig .tc .vmem S8192x256 .bf16) (harg2 : arg2.IsWhole) (arg3 : Memref sig .tc .vmem S8192x128 .bf16) (harg3 : arg3.IsWhole)
  (arg4 : Memref sig .tc .vmem S8192x128 .f32) (harg4 : arg4.IsWhole) (arg5 : Memref sig .tc .vmem S1024x256 .bf16) (harg5 : arg5.IsWhole)
  (arg6 : Memref sig .tc .vmem S1024x128 .bf16) (harg6 : arg6.IsWhole) (arg7 : Memref sig .tc .vmem S8192x256 .f32) (harg7 : arg7.IsWhole)
  (arg8 : Memref sig .tc .vmem S1024x256 .f32) (harg8 : arg8.IsWhole) (arg9 : Memref sig .tc .vmem S1024x128 .f32) (harg9 : arg9.IsWhole)
  (arg10 : Memref sig .tc .vmem S2x512x256 .f32) (harg10 : arg10.IsWhole) (arg11 : Memref sig .tc .vmem S2x512x128 .f32) (harg11 : arg11.IsWhole)
  (arg0 arg1 : BitVec 32) (v11 : IVec S1x128 32) (v202 c0_i32_113 c1_i32_114 v222 : BitVec 32)
  (f2 : Bf (F := F) c arg2) (f3 : Bf (F := F) c arg3) (f4 : Bf (F := F) c arg4) (f5 : Bf (F := F) c arg5) (f6 : Bf (F := F) c arg6)

theorem stOf_accs (a : Accs (F := F) c arg7 arg10 arg11) (n : ℕ) (hn : n ≤ (k0_t1_loop i).trips) :
    stOf c arg7 arg10 arg11 (accs c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 a n) = loopSt arg0 v11 (arg2.view.read (Elt F) f2) (arg3.view.read (Elt F) f3) (arg4.view.read (Elt F) f4) (arg5.view.read (Elt F) f5) (arg6.view.read (Elt F) f6) (i 1) (stOf c arg7 arg10 arg11 a) n := by
  induction n with
  | zero => rfl
  | succ k ih =>
    have ht := trips1_eq i
    have hj : (i 1).val < 8 := (i 1).isLt
    have h : 1024 * (i 1).val + 1024 + 2048 * k + 2048 ≤ 8192 := by omega
    refine Eq.trans ?_ (loopSt_succ arg0 v11 (arg2.view.read (Elt F) f2) (arg3.view.read (Elt F) f3) (arg4.view.read (Elt F) f4) (arg5.view.read (Elt F) f5) (arg6.view.read (Elt F) f6) (i 1) (stOf c arg7 arg10 arg11 a) k h).symm
    rw [← ih (by omega)]
    have hs := accs_succ c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 a ⟨k, hn⟩
    rw [show accs c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 a (k + 1) = _ from hs]
    exact stOf_next c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 ⟨k, hn⟩ _ h

theorem st_eq (w7 : Bf (F := F) c arg7) (w10 : Bf (F := F) c arg10) (w11 : Bf (F := F) c arg11) (n : ℕ) (hn : n ≤ (k0_t1_loop i).trips) :
    stOf c arg7 arg10 arg11 (st7 c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 w7 w10 w11 n, st10 c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 w7 w10 w11 n, st11 c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 w7 w10 w11 n)
      = loopSt arg0 v11 (arg2.view.read (Elt F) f2) (arg3.view.read (Elt F) f3) (arg4.view.read (Elt F) f4) (arg5.view.read (Elt F) f5) (arg6.view.read (Elt F) f6) (i 1) (stOf c arg7 arg10 arg11 (w7, w10, w11)) n := by
  rw [← stOf_accs c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 (w7, w10, w11) n hn]
  cases n <;> rfl

theorem st7_val (w7 : Bf (F := F) c arg7) (w10 : Bf (F := F) c arg10) (w11 : Bf (F := F) c arg11) :
    arg7.view.read (Elt F) (st7 c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 w7 w10 w11 ((7 - (i 1).val) / 2))
      = (loopSt arg0 v11 (arg2.view.read (Elt F) f2) (arg3.view.read (Elt F) f3) (arg4.view.read (Elt F) f4) (arg5.view.read (Elt F) f5) (arg6.view.read (Elt F) f6) (i 1) (stOf c arg7 arg10 arg11 (w7, w10, w11)) ((7 - (i 1).val) / 2)).dq := by
  exact congrArg St.dq (st_eq c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 w7 w10 w11 _ (Nat.le_of_eq (trips1_eq i).symm))

theorem st10a_val (w7 : Bf (F := F) c arg7) (w10 : Bf (F := F) c arg10) (w11 : Bf (F := F) c arg11) :
    half0k (arg10.view.read (Elt F) (st10 c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 w7 w10 w11 ((7 - (i 1).val) / 2)))
      = (loopSt arg0 v11 (arg2.view.read (Elt F) f2) (arg3.view.read (Elt F) f3) (arg4.view.read (Elt F) f4) (arg5.view.read (Elt F) f5) (arg6.view.read (Elt F) f6) (i 1) (stOf c arg7 arg10 arg11 (w7, w10, w11)) ((7 - (i 1).val) / 2)).dk0 := by
  exact congrArg St.dk0 (st_eq c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 w7 w10 w11 _ (Nat.le_of_eq (trips1_eq i).symm))

theorem st10b_val (w7 : Bf (F := F) c arg7) (w10 : Bf (F := F) c arg10) (w11 : Bf (F := F) c arg11) :
    half1k (arg10.view.read (Elt F) (st10 c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 w7 w10 w11 ((7 - (i 1).val) / 2)))
      = (loopSt arg0 v11 (arg2.view.read (Elt F) f2) (arg3.view.read (Elt F) f3) (arg4.view.read (Elt F) f4) (arg5.view.read (Elt F) f5) (arg6.view.read (Elt F) f6) (i 1) (stOf c arg7 arg10 arg11 (w7, w10, w11)) ((7 - (i 1).val) / 2)).dk1 := by
  exact congrArg St.dk1 (st_eq c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 w7 w10 w11 _ (Nat.le_of_eq (trips1_eq i).symm))

theorem st11a_val (w7 : Bf (F := F) c arg7) (w10 : Bf (F := F) c arg10) (w11 : Bf (F := F) c arg11) :
    half0v (arg11.view.read (Elt F) (st11 c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 w7 w10 w11 ((7 - (i 1).val) / 2)))
      = (loopSt arg0 v11 (arg2.view.read (Elt F) f2) (arg3.view.read (Elt F) f3) (arg4.view.read (Elt F) f4) (arg5.view.read (Elt F) f5) (arg6.view.read (Elt F) f6) (i 1) (stOf c arg7 arg10 arg11 (w7, w10, w11)) ((7 - (i 1).val) / 2)).dv0 := by
  exact congrArg St.dv0 (st_eq c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 w7 w10 w11 _ (Nat.le_of_eq (trips1_eq i).symm))

theorem st11b_val (w7 : Bf (F := F) c arg7) (w10 : Bf (F := F) c arg10) (w11 : Bf (F := F) c arg11) :
    half1v (arg11.view.read (Elt F) (st11 c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 w7 w10 w11 ((7 - (i 1).val) / 2)))
      = (loopSt arg0 v11 (arg2.view.read (Elt F) f2) (arg3.view.read (Elt F) f3) (arg4.view.read (Elt F) f4) (arg5.view.read (Elt F) f5) (arg6.view.read (Elt F) f6) (i 1) (stOf c arg7 arg10 arg11 (w7, w10, w11)) ((7 - (i 1).val) / 2)).dv1 := by
  exact congrArg St.dv1 (st_eq c i arg2 harg2 arg3 harg3 arg4 harg4 arg5 harg5 arg6 harg6 arg7 harg7 arg8 harg8 arg9 harg9 arg10 harg10 arg11 harg11 arg0 arg1 v11 v202 c0_i32_113 c1_i32_114 v222 f2 f3 f4 f5 f6 w7 w10 w11 _ (Nat.le_of_eq (trips1_eq i).symm))

end Loop

theorem write_slice_cons {κ : Kind} {sp : Space} {s : Shape} {e : EltTy} {Val : EltTy → Type} (v : View sig κ sp s e) (f : v.ty.Contents Val) (r : Rect s)
    (w : r.shape.Idx → Val e) (L : List (View.Piece Val s e)) :
    (v.slice r).write Val (v.writes Val f L) w Finset.univ = v.writes Val f (⟨r, w⟩ :: L) := rfl

theorem read_zero10 {κ : Kind} {sp : Space} {e : EltTy} {Val : EltTy → Type} (v : View sig κ sp S2x512x256 e) (f : v.ty.Contents Val) (inb) (w) (L) :
    v.read Val (v.writes Val f (⟨Rect.unit ![0, 0, 0] ![2, 512, 256] inb, w⟩ :: L)) = w := View.read_writes_full v f inb w L
theorem read_zero11 {κ : Kind} {sp : Space} {e : EltTy} {Val : EltTy → Type} (v : View sig κ sp S2x512x128 e) (f : v.ty.Contents Val) (inb) (w) (L) :
    v.read Val (v.writes Val f (⟨Rect.unit ![0, 0, 0] ![2, 512, 128] inb, w⟩ :: L)) = w := View.read_writes_full v f inb w L
theorem read_zero7 {κ : Kind} {sp : Space} {e : EltTy} {Val : EltTy → Type} (v : View sig κ sp S8192x256 e) (f : v.ty.Contents Val) (inb) (w) (L) :
    v.read Val (v.writes Val f (⟨Rect.unit ![0, 0] ![8192, 256] inb, w⟩ :: L)) = w := View.read_writes_full v f inb w L
theorem put_rows256 {κ : Kind} {sp : Space} {e : EltTy} {Val : EltTy → Type} (v : View sig κ sp S8192x256 e) (f : v.ty.Contents Val) {off : Fin 2 → ℕ} (inb) (w) (L) (o : ℕ)
    (h : off = ![o, 0]) :
    v.read Val (v.writes Val f (⟨Rect.unit (s := S8192x256) off ![512, 256] inb, w⟩ :: L)) = VecWindow.put (v.read Val (v.writes Val f L)) ![o, 0] ![512, 256] w :=
  View.read_writes_cons_put v f inb w L h
theorem read_lo256 {κ : Kind} {sp : Space} {e : EltTy} {Val : EltTy → Type} (v : View sig κ sp S1024x256 e) (f : v.ty.Contents Val) (inb inb') (w w') :
    lo256 (v.read Val (v.writes Val f [⟨Rect.unit ![512, 0] ![512, 256] inb, w⟩, ⟨Rect.unit ![0, 0] ![512, 256] inb', w'⟩])) = w' := by
  rw [View.read_writes_cons_put v f inb w _ rfl, View.read_writes_cons_put v f inb' w' _ rfl]
  refine (VecWindow.window_put_of_disjoint _ _ _ _ _ _ _ (0 : Fin 2) (.inl (Nat.le_refl 512))).trans ?_
  exact VecWindow.window_put_same _ _ _ _ _
theorem read_hi256 {κ : Kind} {sp : Space} {e : EltTy} {Val : EltTy → Type} (v : View sig κ sp S1024x256 e) (f : v.ty.Contents Val) (inb) (w) (L) :
    hi256 (v.read Val (v.writes Val f (⟨Rect.unit ![512, 0] ![512, 256] inb, w⟩ :: L))) = w := by
  rw [View.read_writes_cons_put v f inb w _ rfl]
  exact VecWindow.window_put_same _ _ _ _ _
theorem read_lo128 {κ : Kind} {sp : Space} {e : EltTy} {Val : EltTy → Type} (v : View sig κ sp S1024x128 e) (f : v.ty.Contents Val) (inb inb') (w w') :
    lo128 (v.read Val (v.writes Val f [⟨Rect.unit ![512, 0] ![512, 128] inb, w⟩, ⟨Rect.unit ![0, 0] ![512, 128] inb', w'⟩])) = w' := by
  rw [View.read_writes_cons_put v f inb w _ rfl, View.read_writes_cons_put v f inb' w' _ rfl]
  refine (VecWindow.window_put_of_disjoint _ _ _ _ _ _ _ (0 : Fin 2) (.inl (Nat.le_refl 512))).trans ?_
  exact VecWindow.window_put_same _ _ _ _ _
theorem read_hi128 {κ : Kind} {sp : Space} {e : EltTy} {Val : EltTy → Type} (v : View sig κ sp S1024x128 e) (f : v.ty.Contents Val) (inb) (w) (L) :
    hi128 (v.read Val (v.writes Val f (⟨Rect.unit ![512, 0] ![512, 128] inb, w⟩ :: L))) = w := by
  rw [View.read_writes_cons_put v f inb w _ rfl]
  exact VecWindow.window_put_same _ _ _ _ _

end Cert.Proof.Run

end
-- ==== Proof.Run.BlockIdeal.lean ====
/-
  One block of keys on real values: after its tiles the accumulators hold the sums over all rows of queries, and the queries' gradient has the block's part added.
-/
module

public import proofs.«01_k».proof.Proof.Run.LoopVal
public import proofs.«01_k».proof.Proof.Run.TileIdeal

@[expose] public section

set_option maxRecDepth 16384

noncomputable section

namespace Cert.Proof.Run

open Cert.KernelIdeal Cert.KernelIdeal.Gen
open Idealize.ShloMosaic
open Idealize.ShloMosaic.TcCoe Idealize.ShloMosaic.Tactic

namespace Mats

variable (X : Mats)

/-- The keys' gradient from the first `R` queries. -/
def AK (R c e : ℕ) : ℝ := ∑ r ∈ Finset.range R, X.DS r c * X.Q r e
/-- The values' gradient from the first `R` queries. -/
def AV (R c e : ℕ) : ℝ := ∑ r ∈ Finset.range R, X.M r c * X.D r e
/-- The queries' gradient from the first `C` keys. -/
def AQ (C r e : ℕ) : ℝ := ∑ c ∈ Finset.range C, X.DS r c * X.K c e

theorem M_of_lt {r c : ℕ} (h : r < c) : X.M r c = 0 := if_neg (by omega)
theorem DS_of_lt {r c : ℕ} (h : r < c) : X.DS r c = 0 := by rw [DS, M_of_lt X h, zero_mul, zero_mul]
theorem AK_add (R c e : ℕ) : X.AK (R + 512) c e = X.AK R c e + ∑ a : Fin 512, X.DS (R + a.val) c * X.Q (R + a.val) e := by
  rw [AK, Finset.sum_range_add, Finset.sum_range (n := 512)]; rfl
theorem AV_add (R c e : ℕ) : X.AV (R + 512) c e = X.AV R c e + ∑ a : Fin 512, X.M (R + a.val) c * X.D (R + a.val) e := by
  rw [AV, Finset.sum_range_add, Finset.sum_range (n := 512)]; rfl
theorem AQ_add (C r e : ℕ) : X.AQ (C + 512) r e = X.AQ C r e + ∑ b : Fin 512, X.DS r (C + b.val) * X.K (C + b.val) e := by
  rw [AQ, Finset.sum_range_add, Finset.sum_range (n := 512)]; rfl
theorem AQ_add2 (C r e : ℕ) : X.AQ (C + 1024) r e = X.AQ C r e + ((∑ b : Fin 512, X.DS r (C + b.val) * X.K (C + b.val) e)
    + ∑ b : Fin 512, X.DS r (C + 512 + b.val) * X.K (C + 512 + b.val) e) := by
  rw [show C + 1024 = C + 512 + 512 from rfl, AQ_add, AQ_add, add_assoc]
theorem AK_zero {R c : ℕ} (e : ℕ) (h : R ≤ c) : X.AK R c e = 0 :=
  Finset.sum_eq_zero fun r hr => by rw [X.DS_of_lt (by have := Finset.mem_range.mp hr; omega), zero_mul]
theorem AV_zero {R c : ℕ} (e : ℕ) (h : R ≤ c) : X.AV R c e = 0 :=
  Finset.sum_eq_zero fun r hr => by rw [X.M_of_lt (by have := Finset.mem_range.mp hr; omega), zero_mul]
theorem AQ_top {C r : ℕ} (e : ℕ) (h : r < C) : X.AQ (C + 512) r e = X.AQ C r e := by
  rw [AQ_add, Finset.sum_eq_zero, add_zero]
  intro b _; rw [X.DS_of_lt (by omega), zero_mul]

end Mats

section Windows

variable {α : Type}

theorem rows256_apply (x : S8192x256.Idx → α) (o : ℕ) (h : o + 512 ≤ 8192) (a : Fin 512) (e : Fin 256) : rows256 x o h (ix2 a e) = x (ix2 ⟨o + a.val, by omega⟩ e) :=
  congrArg x (funext fun t => Fin.ext (by
    fin_cases t
    · show o + 1 * a.val = o + a.val; omega
    · show 0 + 1 * e.val = e.val; omega))
theorem rows128_apply (x : S8192x128.Idx → α) (o : ℕ) (h : o + 512 ≤ 8192) (a : Fin 512) (e : Fin 128) : rows128 x o h (ix2 a e) = x (ix2 ⟨o + a.val, by omega⟩ e) :=
  congrArg x (funext fun t => Fin.ext (by
    fin_cases t
    · show o + 1 * a.val = o + a.val; omega
    · show 0 + 1 * e.val = e.val; omega))

theorem put_apply_in (x : S8192x256.Idx → α) (o : ℕ) (w : S512x256.Idx → α) (r : Fin 8192) (e : Fin 256) (a : Fin 512) (h : r.val = o + a.val) :
    VecWindow.put x ![o, 0] S512x256.size w (ix2 r e) = w (ix2 a e) := by
  have hh : ∀ t : Fin 2, (![o, 0] : Fin 2 → ℕ) t ≤ ((ix2 r e : S8192x256.Idx) t).val ∧ ((ix2 r e : S8192x256.Idx) t).val < (![o, 0] : Fin 2 → ℕ) t + S512x256.size t := by
    intro t; fin_cases t
    · show o ≤ r.val ∧ r.val < o + 512; omega
    · show 0 ≤ e.val ∧ e.val < 0 + 256; omega
  refine (dif_pos hh).trans (congrArg w (funext fun t => Fin.ext ?_))
  fin_cases t
  · show r.val - o = a.val; omega
  · show e.val - 0 = e.val; omega
theorem put_apply_out (x : S8192x256.Idx → α) (o : ℕ) (w : S512x256.Idx → α) (r : Fin 8192) (e : Fin 256) (h : r.val < o ∨ o + 512 ≤ r.val) :
    VecWindow.put x ![o, 0] S512x256.size w (ix2 r e) = x (ix2 r e) := by
  refine dif_neg fun hh => ?_
  have := hh (0 : Fin 2)
  have : o ≤ r.val ∧ r.val < o + 512 := this
  omega

end Windows

section Block

variable (X : Mats) (hX : X.head < 4) (j : Fin 8) (x2 : Vec Ideal S8192x256 .bf16) (x3 : Vec Ideal S8192x128 .bf16) (x4 : Vec Ideal S8192x128 .f32)
  (x5 : Vec Ideal S1024x256 .bf16) (x6 : Vec Ideal S1024x128 .bf16)

/-- All that the block's tiles load is real. -/
structure Loads : Prop where
  q : ∀ (r : Fin 8192) (e : Fin 256), x2 (ix2 r e) = ((X.Q r.val e.val : ℝ) : EReal)
  d : ∀ (r : Fin 8192) (e : Fin 128), x3 (ix2 r e) = ((X.D r.val e.val : ℝ) : EReal)
  t : ∀ (r : Fin 8192) (e : Fin 128), x4 (ix2 r e) = ((X.T r.val e.val : ℝ) : EReal)
  k : ∀ (b : Fin 1024) (e : Fin 256), x5 (ix2 b e) = ((X.K (1024 * j.val + b.val) e.val : ℝ) : EReal)
  v : ∀ (b : Fin 1024) (e : Fin 128), x6 (ix2 b e) = ((X.V (1024 * j.val + b.val) e.val : ℝ) : EReal)

/-- The buffers when the first `R` rows of queries have met the block `j` of keys. -/
structure Inv (R : ℕ) (s : St Ideal) : Prop where
  dq : ∀ (r : Fin 8192) (e : Fin 256), s.dq (ix2 r e) = (((if r.val < R then X.AQ (1024 * j.val + 1024) r.val e.val else X.AQ (1024 * j.val) r.val e.val) : ℝ) : EReal)
  dk0 : ∀ (z : Fin 1) (b : Fin 512) (e : Fin 256), s.dk0 (ix3 z b e) = ((X.AK R (1024 * j.val + b.val) e.val : ℝ) : EReal)
  dk1 : ∀ (z : Fin 1) (b : Fin 512) (e : Fin 256), s.dk1 (ix3 z b e) = ((X.AK R (1024 * j.val + 512 + b.val) e.val : ℝ) : EReal)
  dv0 : ∀ (z : Fin 1) (b : Fin 512) (e : Fin 128), s.dv0 (ix3 z b e) = ((X.AV R (1024 * j.val + b.val) e.val : ℝ) : EReal)
  dv1 : ∀ (z : Fin 1) (b : Fin 512) (e : Fin 128), s.dv1 (ix3 z b e) = ((X.AV R (1024 * j.val + 512 + b.val) e.val : ℝ) : EReal)

variable (L : Loads X j x2 x3 x4 x5 x6)

include L in
theorem loads_q (o : ℕ) (h : o + 512 ≤ 8192) (a : Fin 512) (e : Fin 256) : rows256 x2 o h (ix2 a e) = ((X.Q (o + a.val) e.val : ℝ) : EReal) := by
  rw [rows256_apply]; exact L.q _ _
include L in
theorem loads_d (o : ℕ) (h : o + 512 ≤ 8192) (a : Fin 512) (e : Fin 128) : rows128 x3 o h (ix2 a e) = ((X.D (o + a.val) e.val : ℝ) : EReal) := by
  rw [rows128_apply]; exact L.d _ _
include L in
theorem loads_t (o : ℕ) (h : o + 512 ≤ 8192) (a : Fin 512) (e : Fin 128) : rows128 x4 o h (ix2 a e) = ((X.T (o + a.val) e.val : ℝ) : EReal) := by
  rw [rows128_apply]; exact L.t _ _
include L in
theorem loads_k0 (a : Fin 512) (e : Fin 256) : lo256 x5 (ix2 a e) = ((X.K (1024 * j.val + a.val) e.val : ℝ) : EReal) :=
  (congrArg x5 (funext fun t => Fin.ext (by
      fin_cases t
      · show 0 + 1 * a.val = a.val; omega
      · show 0 + 1 * e.val = e.val; omega))).trans (L.k ⟨a.val, by omega⟩ e)
include L in
theorem loads_v0 (a : Fin 512) (e : Fin 128) : lo128 x6 (ix2 a e) = ((X.V (1024 * j.val + a.val) e.val : ℝ) : EReal) :=
  (congrArg x6 (funext fun t => Fin.ext (by
      fin_cases t
      · show 0 + 1 * a.val = a.val; omega
      · show 0 + 1 * e.val = e.val; omega))).trans (L.v ⟨a.val, by omega⟩ e)
include L in
theorem loads_k1 (a : Fin 512) (e : Fin 256) : hi256 x5 (ix2 a e) = ((X.K (1024 * j.val + 512 + a.val) e.val : ℝ) : EReal) := by
  rw [add_assoc]
  exact (congrArg x5 (funext fun t => Fin.ext (by
      fin_cases t
      · show 512 + 1 * a.val = 512 + a.val; omega
      · show 0 + 1 * e.val = e.val; omega))).trans (L.k ⟨512 + a.val, by omega⟩ e)
include L in
theorem loads_v1 (a : Fin 512) (e : Fin 128) : hi128 x6 (ix2 a e) = ((X.V (1024 * j.val + 512 + a.val) e.val : ℝ) : EReal) := by
  rw [add_assoc]
  exact (congrArg x6 (funext fun t => Fin.ext (by
      fin_cases t
      · show 512 + 1 * a.val = 512 + a.val; omega
      · show 0 + 1 * e.val = e.val; omega))).trans (L.v ⟨512 + a.val, by omega⟩ e)

include hX L

theorem tile_inv (diag : Bool) (o : ℕ) (h : o + 512 ≤ 8192) (s : St Ideal) (ho : if diag then 1024 * j.val + 512 = o else 1024 * j.val + 1024 ≤ o)
    (I : Inv X j o s) : Inv X j (o + 512) (tile (BitVec.ofNat 32 X.head) lanes x2 x3 x4 x5 x6 diag o h s) := by
  have hq := loads_q X j x2 x3 x4 x5 x6 L o h
  have hd := loads_d X j x2 x3 x4 x5 x6 L o h
  have ht := loads_t X j x2 x3 x4 x5 x6 L o h
  have hk0 := loads_k0 X j x2 x3 x4 x5 x6 L
  have hk1 := loads_k1 X j x2 x3 x4 x5 x6 L
  have hv0 := loads_v0 X j x2 x3 x4 x5 x6 L
  have hv1 := loads_v1 X j x2 x3 x4 x5 x6 L
  have h0 : 1024 * j.val + 512 ≤ o := by cases diag <;> simp at ho <;> omega
  have h1 : if diag then 1024 * j.val + 512 = o else 1024 * j.val + 512 + 512 ≤ o := by cases diag <;> simp at ho ⊢ <;> omega
  constructor
  · intro r e
    by_cases hr : o ≤ r.val ∧ r.val < o + 512
    · have ha : r.val = o + (⟨r.val - o, by omega⟩ : Fin 512).val := by show r.val = o + (r.val - o); omega
      refine (put_apply_in _ o _ r e ⟨r.val - o, by omega⟩ ha).trans ?_
      refine (dqStep2_val X hX o (1024 * j.val) (1024 * j.val + 512) diag _ _ _ _ _ _ _ hq hd ht hk0 hv0 hk1 hv1 h0 h1 (X.AQ (1024 * j.val)) _ ?_ _ e).trans ?_
      · intro a e
        rw [rows256_apply, I.dq, if_neg (by show ¬ o + a.val < o; omega)]
      · rw [if_pos hr.2, X.AQ_add2, ← ha]
    · refine (put_apply_out _ o _ r e (by omega)).trans ?_
      rw [I.dq]
      by_cases h' : r.val < o
      · rw [if_pos h', if_pos (by omega)]
      · rw [if_neg h', if_neg (by omega)]
  · intro z b e
    refine (dkStep_val X hX o (1024 * j.val) false _ _ _ _ _ hq hd ht hk0 hv0 h0 (fun b e => X.AK o (1024 * j.val + b) e) _ z (I.dk0 z) b e).trans ?_
    rw [X.AK_add]
  · intro z b e
    refine (dkStep_val X hX o (1024 * j.val + 512) diag _ _ _ _ _ hq hd ht hk1 hv1 h1 (fun b e => X.AK o (1024 * j.val + 512 + b) e) _ z (I.dk1 z) b e).trans ?_
    rw [X.AK_add]
  · intro z b e
    refine (dvStep_val X hX o (1024 * j.val) false _ _ _ _ hq ht hk0 h0 hd (fun b e => X.AV o (1024 * j.val + b) e) _ z (I.dv0 z) b e).trans ?_
    rw [X.AV_add]
  · intro z b e
    refine (dvStep_val X hX o (1024 * j.val + 512) diag _ _ _ _ hq ht hk1 h1 hd (fun b e => X.AV o (1024 * j.val + 512 + b) e) _ z (I.dv1 z) b e).trans ?_
    rw [X.AV_add]

theorem tileTop_inv (h : 1024 * j.val + 512 ≤ 8192) (s : St Ideal) (I : Inv X j (1024 * j.val) s) :
    Inv X j (1024 * j.val + 512) (tileTop (BitVec.ofNat 32 X.head) lanes x2 x3 x4 x5 x6 (1024 * j.val) h s) := by
  have hq := loads_q X j x2 x3 x4 x5 x6 L _ h
  have hd := loads_d X j x2 x3 x4 x5 x6 L _ h
  have ht := loads_t X j x2 x3 x4 x5 x6 L _ h
  have hk0 := loads_k0 X j x2 x3 x4 x5 x6 L
  have hv0 := loads_v0 X j x2 x3 x4 x5 x6 L
  constructor
  · intro r e
    by_cases hr : 1024 * j.val ≤ r.val ∧ r.val < 1024 * j.val + 512
    · have ha : r.val = 1024 * j.val + (⟨r.val - 1024 * j.val, by omega⟩ : Fin 512).val := by show r.val = 1024 * j.val + (r.val - 1024 * j.val); omega
      refine (put_apply_in _ (1024 * j.val) _ r e ⟨r.val - 1024 * j.val, by omega⟩ ha).trans ?_
      refine (dqStep1_val X hX (1024 * j.val) (1024 * j.val) true _ _ _ _ _ hq hd ht hk0 hv0 rfl (X.AQ (1024 * j.val)) _ ?_ _ e).trans ?_
      · intro a e
        rw [rows256_apply, I.dq, if_neg (by show ¬ 1024 * j.val + a.val < 1024 * j.val; omega)]
      · rw [if_pos hr.2, show 1024 * j.val + 1024 = 1024 * j.val + 512 + 512 from rfl, X.AQ_top _ hr.2, X.AQ_add, ← ha]
    · refine (put_apply_out _ (1024 * j.val) _ r e (by omega)).trans ?_
      rw [I.dq]
      by_cases h' : r.val < 1024 * j.val
      · rw [if_pos h', if_pos (by omega)]
      · rw [if_neg h', if_neg (by omega)]
  · intro z b e
    refine (dkStep_val X hX (1024 * j.val) (1024 * j.val) true _ _ _ _ _ hq hd ht hk0 hv0 rfl (fun b e => X.AK (1024 * j.val) (1024 * j.val + b) e) _ z (I.dk0 z) b e).trans ?_
    rw [X.AK_add]
  · intro z b e
    rw [X.AK_zero _ (by omega)]
    refine (I.dk1 z b e).trans ?_
    rw [X.AK_zero _ (by omega)]
  · intro z b e
    refine (dvStep_val X hX (1024 * j.val) (1024 * j.val) true _ _ _ _ hq ht hk0 rfl hd (fun b e => X.AV (1024 * j.val) (1024 * j.val + b) e) _ z (I.dv0 z) b e).trans ?_
    rw [X.AV_add]
  · intro z b e
    rw [X.AV_zero _ (by omega)]
    refine (I.dv1 z b e).trans ?_
    rw [X.AV_zero _ (by omega)]

theorem start_inv (dq : Vec Ideal S8192x256 .f32) (hdq : ∀ (r : Fin 8192) (e : Fin 256), dq (ix2 r e) = ((X.AQ (1024 * j.val) r.val e.val : ℝ) : EReal)) :
    Inv X j (1024 * j.val + 1024) (start (BitVec.ofNat 32 X.head) lanes x2 x3 x4 x5 x6 j dq) := by
  have zk : ∀ i, (k0_pay190 (F := Ideal)) i = ((0 : ℝ) : EReal) := fun i => by
    unfold k0_pay190; pointwise; exact EReal.coe_zero.symm
  have zv : ∀ i, (k0_pay191 (F := Ideal)) i = ((0 : ℝ) : EReal) := fun i => by
    unfold k0_pay191; pointwise; exact EReal.coe_zero.symm
  have zk' := funext zk
  have zv' := funext zv
  refine tile_inv X hX j x2 x3 x4 x5 x6 L true (1024 * j.val + 512) _ _ rfl (tileTop_inv X hX j x2 x3 x4 x5 x6 L _ _ ⟨?_, ?_, ?_, ?_, ?_⟩)
  · intro r e
    refine (hdq r e).trans ?_
    by_cases h : r.val < 1024 * j.val
    · rw [if_pos h, show 1024 * j.val + 1024 = 1024 * j.val + 512 + 512 from rfl, X.AQ_top _ (by omega), X.AQ_top _ h]
    · rw [if_neg h]
  · intro z b e; rw [X.AK_zero _ (by omega)]; rw [zk']; rfl
  · intro z b e; rw [X.AK_zero _ (by omega)]; rw [zk']; rfl
  · intro z b e; rw [X.AV_zero _ (by omega)]; rw [zv']; rfl
  · intro z b e; rw [X.AV_zero _ (by omega)]; rw [zv']; rfl

theorem tile_inv_off (o o' : ℕ) (h : o + 512 ≤ 8192) (s : St Ideal) (ho : 1024 * j.val + 1024 ≤ o) (I : Inv X j o s) (ho' : o' = o + 512) :
    Inv X j o' (tile (BitVec.ofNat 32 X.head) lanes x2 x3 x4 x5 x6 false o h s) := by
  subst ho'
  exact tile_inv X hX j x2 x3 x4 x5 x6 L false o h s (by simpa using ho) I

theorem tile4_inv (o : ℕ) (h : o + 2048 ≤ 8192) (s : St Ideal) (ho : 1024 * j.val + 1024 ≤ o) (I : Inv X j o s) :
    Inv X j (o + 2048) (tile4 (BitVec.ofNat 32 X.head) lanes x2 x3 x4 x5 x6 o h s) :=
  tile_inv_off X hX j x2 x3 x4 x5 x6 L (o + 1536) _ _ _ (by omega) (tile_inv_off X hX j x2 x3 x4 x5 x6 L (o + 1024) _ _ _ (by omega)
    (tile_inv_off X hX j x2 x3 x4 x5 x6 L (o + 512) _ _ _ (by omega) (tile_inv_off X hX j x2 x3 x4 x5 x6 L o _ _ _ (by omega) I rfl) rfl) rfl) rfl

theorem loop_inv (s : St Ideal) (I : Inv X j (1024 * j.val + 1024) s) (n : ℕ) (hn : n ≤ (7 - j.val) / 2) :
    Inv X j (1024 * j.val + 1024 + 2048 * n) (loopSt (BitVec.ofNat 32 X.head) lanes x2 x3 x4 x5 x6 j s n) := by
  induction n with
  | zero => exact I
  | succ n ih =>
    have hj := j.isLt
    rw [loopSt_succ _ _ _ _ _ _ _ _ _ _ (by omega)]
    have t := ih (by omega)
    exact tile4_inv X hX j x2 x3 x4 x5 x6 L (1024 * j.val + 1024 + 2048 * n) (by omega) _ (by omega) t

/-- At the end of an odd block's tiles. -/
theorem odd_inv (dq : Vec Ideal S8192x256 .f32) (hdq : ∀ (r : Fin 8192) (e : Fin 256), dq (ix2 r e) = ((X.AQ (1024 * j.val) r.val e.val : ℝ) : EReal)) (hj : j.val % 2 ≠ 0) :
    Inv X j 8192 (loopSt (BitVec.ofNat 32 X.head) lanes x2 x3 x4 x5 x6 j (start (BitVec.ofNat 32 X.head) lanes x2 x3 x4 x5 x6 j dq) ((7 - j.val) / 2)) := by
  have t := loop_inv X hX j x2 x3 x4 x5 x6 L _ (start_inv X hX j x2 x3 x4 x5 x6 L dq hdq) ((7 - j.val) / 2) (Nat.le_refl _)
  have hj8 := j.isLt
  rwa [show 1024 * j.val + 1024 + 2048 * ((7 - j.val) / 2) = 8192 by omega] at t

/-- At the end of an even block's tiles. -/
theorem even_inv (dq : Vec Ideal S8192x256 .f32) (hdq : ∀ (r : Fin 8192) (e : Fin 256), dq (ix2 r e) = ((X.AQ (1024 * j.val) r.val e.val : ℝ) : EReal)) (hj : j.val % 2 = 0) :
    Inv X j 8192 (lastPair (BitVec.ofNat 32 X.head) lanes x2 x3 x4 x5 x6 j hj
      (loopSt (BitVec.ofNat 32 X.head) lanes x2 x3 x4 x5 x6 j (start (BitVec.ofNat 32 X.head) lanes x2 x3 x4 x5 x6 j dq) ((7 - j.val) / 2))) := by
  have t := loop_inv X hX j x2 x3 x4 x5 x6 L _ (start_inv X hX j x2 x3 x4 x5 x6 L dq hdq) ((7 - j.val) / 2) (Nat.le_refl _)
  have hj8 := j.isLt
  exact tile_inv_off X hX j x2 x3 x4 x5 x6 L (1024 * j.val + 1024 + 2048 * ((7 - j.val) / 2) + 512) 8192 (by omega) _ (by omega)
    (tile_inv_off X hX j x2 x3 x4 x5 x6 L (1024 * j.val + 1024 + 2048 * ((7 - j.val) / 2)) _ (by omega) _ (by omega) t rfl) (by omega)

end Block

end Cert.Proof.Run

end
-- ==== Proof.Run.BodyValA.lean ====
/-
  The values of the buffers at the end of the body, at a head's first point.
-/
module

public import proofs.«01_k».proof.Proof.Run.LoopVal
public import proofs.«01_k».proof.Proof.Run.BodyA

@[expose] public section

set_option maxRecDepth 16384

noncomputable section

namespace Cert.Proof.Run

open Cert.KernelIdeal Cert.KernelIdeal.Gen
open Idealize.ShloMosaic
open Idealize.ShloMosaic.TcCoe Idealize.ShloMosaic.Tactic

variable {F : FTy → Type} [FloatOps F] [Named F]

section

variable (c : Dev nD) (i : grid0.Coords)
  (arg2 : Memref sig .tc .vmem S8192x256 .bf16) (harg2 : arg2.IsWhole) (arg3 : Memref sig .tc .vmem S8192x128 .bf16) (harg3 : arg3.IsWhole)
  (arg4 : Memref sig .tc .vmem S8192x128 .f32) (harg4 : arg4.IsWhole) (arg5 : Memref sig .tc .vmem S1024x256 .bf16) (harg5 : arg5.IsWhole)
  (arg6 : Memref sig .tc .vmem S1024x128 .bf16) (harg6 : arg6.IsWhole) (arg7 : Memref sig .tc .vmem S8192x256 .f32) (harg7 : arg7.IsWhole)
  (arg8 : Memref sig .tc .vmem S1024x256 .f32) (harg8 : arg8.IsWhole) (arg9 : Memref sig .tc .vmem S1024x128 .f32) (harg9 : arg9.IsWhole)
  (arg10 : Memref sig .tc .vmem S2x512x256 .f32) (harg10 : arg10.IsWhole) (arg11 : Memref sig .tc .vmem S2x512x128 .f32) (harg11 : arg11.IsWhole)
  (hc1 : cond1 i) (hc2 : k0_cond2 i = 1#1)
  (f2 : Bf (F := F) c arg2) (f3 : Bf (F := F) c arg3) (f4 : Bf (F := F) c arg4) (f5 : Bf (F := F) c arg5) (f6 : Bf (F := F) c arg6)
  (f7 : Bf (F := F) c arg7) (f8 : Bf (F := F) c arg8) (f9 : Bf (F := F) c arg9) (f10 : Bf (F := F) c arg10) (f11 : Bf (F := F) c arg11)

set_option maxHeartbeats 8000000 in
theorem bodyA_dq : arg7.view.read (Elt F) (bodyA c i arg2 harg2 arg3 harg3 arg4 harg4 arg5 harg5 arg6 harg6 arg7 harg7 arg8 harg8 arg9 harg9 arg10 harg10 arg11 harg11 hc1 hc2 f2 f3 f4 f5 f6 f7 f8 f9 f10 f11).1
    = (lastPair (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) ((cond2_iff i).mp hc2) (loopSt (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) (start (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) k0_pay189) ((7 - (i 1).val) / 2))).dq := by
  have hj : (i 1).val < 8 := (i 1).isLt
  have ht : Scf.trips (k0_t1_loop i).lb (k0_t1_loop i).ub (k0_t1_loop i).st = (7 - (i 1).val) / 2 := trips1_eq i
  dsimp only [k0_t1_loop] at ht
  have q0 := fun inb => load_rows256 arg2.view f2 inb (1024 * (i 1).val) (by omega) (off1_eq i)
  have q1 := fun inb => load_rows256 arg2.view f2 inb (1024 * (i 1).val + 512) (by omega) (off3_eq i)
  have d0 := fun inb => load_rows128 arg3.view f3 inb (1024 * (i 1).val) (by omega) (off2_eq i)
  have d1 := fun inb => load_rows128 arg3.view f3 inb (1024 * (i 1).val + 512) (by omega) (off4_eq i)
  have s0 := fun inb => load_rows128 arg4.view f4 inb (1024 * (i 1).val) (by omega) (off2_eq i)
  have s1 := fun inb => load_rows128 arg4.view f4 inb (1024 * (i 1).val + 512) (by omega) (off4_eq i)
  have y0 := fun f inb => load_rows256 (Val := Elt F) arg7.view f inb (1024 * (i 1).val) (by omega) (off1_eq i)
  have y1 := fun f inb => load_rows256 (Val := Elt F) arg7.view f inb (1024 * (i 1).val + 512) (by omega) (off3_eq i)
  have p0 := fun f inb w L => put_rows256 (Val := Elt F) arg7.view f inb w L (1024 * (i 1).val) (off1_eq i)
  have p1 := fun f inb w L => put_rows256 (Val := Elt F) arg7.view f inb w L (1024 * (i 1).val + 512) (off3_eq i)
  have r1 := fun (x : Vec F S8192x256 .f32) w => rows256_put x (1024 * (i 1).val) (1024 * (i 1).val + 512) (by omega) (by omega) w
  have he := (cond2_iff i).mp hc2
  have o5 := off19_eq i
  have o6 := off20_eq i
  rw [show 1024 * (i 1).val + 1536 + 2048 * ((7 - (i 1).val) / 2) = 1024 * (i 1).val + 1024 + 2048 * ((7 - (i 1).val) / 2) + 512 by omega] at o5 o6
  have q2 := fun inb => load_rows256 arg2.view f2 inb (1024 * (i 1).val + 1024 + 2048 * ((7 - (i 1).val) / 2)) (by omega) (off17_eq i)
  have q3 := fun inb => load_rows256 arg2.view f2 inb (1024 * (i 1).val + 1024 + 2048 * ((7 - (i 1).val) / 2) + 512) (by omega) o5
  have d2 := fun inb => load_rows128 arg3.view f3 inb (1024 * (i 1).val + 1024 + 2048 * ((7 - (i 1).val) / 2)) (by omega) (off18_eq i)
  have d3 := fun inb => load_rows128 arg3.view f3 inb (1024 * (i 1).val + 1024 + 2048 * ((7 - (i 1).val) / 2) + 512) (by omega) o6
  have s2 := fun inb => load_rows128 arg4.view f4 inb (1024 * (i 1).val + 1024 + 2048 * ((7 - (i 1).val) / 2)) (by omega) (off18_eq i)
  have s3 := fun inb => load_rows128 arg4.view f4 inb (1024 * (i 1).val + 1024 + 2048 * ((7 - (i 1).val) / 2) + 512) (by omega) o6
  have y2 := fun f inb => load_rows256 (Val := Elt F) arg7.view f inb (1024 * (i 1).val + 1024 + 2048 * ((7 - (i 1).val) / 2)) (by omega) (off17_eq i)
  have y3 := fun f inb => load_rows256 (Val := Elt F) arg7.view f inb (1024 * (i 1).val + 1024 + 2048 * ((7 - (i 1).val) / 2) + 512) (by omega) o5
  have p2 := fun f inb w L => put_rows256 (Val := Elt F) arg7.view f inb w L (1024 * (i 1).val + 1024 + 2048 * ((7 - (i 1).val) / 2)) (off17_eq i)
  have p3 := fun f inb w L => put_rows256 (Val := Elt F) arg7.view f inb w L (1024 * (i 1).val + 1024 + 2048 * ((7 - (i 1).val) / 2) + 512) o5
  have r2 := fun (x : Vec F S8192x256 .f32) w => rows256_put x (1024 * (i 1).val + 1024 + 2048 * ((7 - (i 1).val) / 2)) (1024 * (i 1).val + 1024 + 2048 * ((7 - (i 1).val) / 2) + 512) (by omega) (by omega) w
  unfold bodyA lastPair start
  dsimp only
  simp only [bodyA.sl.v11, bodyA.sl.r_39, bodyA.sl.v91, bodyA.sl.v207, bodyA.sl.r_42, bodyA.sl.H10_2_1, bodyA.sl.v328, bodyA.sl.r_41, bodyA.sl.v256, bodyA.sl.r_33, bodyA.sl.r_37, bodyA.sl.r_16, bodyA.sl.v370, bodyA.sl.r_8, bodyA.sl.H11_2_1, bodyA.sl.v0, bodyA.sl.H11_2, bodyA.sl.r_38, bodyA.sl.v2, bodyA.sl.H11_4, bodyA.sl.r_14, bodyA.sl.v270, bodyA.sl.r_19, bodyA.sl.cst_97, bodyA.sl.v203, bodyA.sl.v253, bodyA.sl.r_27, bodyA.sl.v194, bodyA.sl.v206, bodyA.sl.v220, bodyA.sl.H11_1, bodyA.sl.v169, bodyA.sl.r_21, bodyA.sl.r_40, bodyA.sl.v251, bodyA.sl.r_30, bodyA.sl.v148, bodyA.sl.r_35, bodyA.sl.v215, bodyA.sl.v219, bodyA.sl.cst_207, bodyA.sl.v244, bodyA.sl.v377, bodyA.sl.v265, bodyA.sl.H11_3_1, bodyA.sl.v131, bodyA.sl.v90, bodyA.sl.r_23, bodyA.sl.v208, bodyA.sl.r_12, bodyA.sl.v217, bodyA.sl.v216, bodyA.sl.v12, bodyA.sl.v266, bodyA.sl.v1, bodyA.sl.H10_4, bodyA.sl.r_31, bodyA.sl.H11_4_1, bodyA.sl.v267, bodyA.sl.v198, bodyA.sl.r_7, bodyA.sl.v467, bodyA.sl.r_36, bodyA.sl.H10_1, bodyA.sl.v476, bodyA.sl.r_2, bodyA.sl.v268, bodyA.sl.r_5, bodyA.sl.v196, bodyA.sl.v254, bodyA.sl.H10_4_1, bodyA.sl.r_1, bodyA.sl.v197, bodyA.sl.v221, bodyA.sl.r_15, bodyA.sl.r_29, bodyA.sl.v241, bodyA.sl.v257, bodyA.sl.cst_225, bodyA.sl.r_11, bodyA.sl.v58, bodyA.sl.H7_2, bodyA.sl.r_3, bodyA.sl.v224, bodyA.sl.r_17, bodyA.sl.r_13, bodyA.sl.r_18, bodyA.sl.r_24, bodyA.sl.v344, bodyA.sl.v264, bodyA.sl.H10_3_1, bodyA.sl.v247, bodyA.sl.H10_2, bodyA.sl.r_34, bodyA.sl.v218, bodyA.sl.v214, bodyA.sl.v201, bodyA.sl.v434, bodyA.sl.v271, bodyA.sl.v450, bodyA.sl.v263, bodyA.sl.v223, bodyA.sl.v13, bodyA.sl.v75, bodyA.sl.v204, bodyA.sl.v188, bodyA.sl.v187, bodyA.sl.v255, bodyA.sl.r_20, bodyA.sl.r_9, bodyA.sl.v193, bodyA.sl.v186, bodyA.sl.r_25, bodyA.sl.v252, bodyA.sl.v376, bodyA.sl.r, bodyA.sl.H11_3, bodyA.sl.r_4, bodyA.sl.v192, bodyA.sl.r_10, bodyA.sl.H10_3, bodyA.sl.H7_1, bodyA.sl.v238, bodyA.sl.v269, bodyA.sl.r_6, bodyA.sl.v417, bodyA.sl.v311, bodyA.sl.r_22, bodyA.sl.v205, bodyA.sl.r_28, bodyA.sl.v189, bodyA.sl.r_32, bodyA.sl.v250, bodyA.sl.v361, bodyA.sl.r_26,
    write_slice_cons, View.readCov, read_half0k_same, read_half0k_other, load_half0k, read_half1k_same, read_half1k_other, load_half1k, read_half0v_same, read_half0v_other, load_half0v, read_half1v_same, read_half1v_other, load_half1v, View.writes_nil,
    read_lo256, read_hi256, read_lo128, read_hi128, load_lo256, load_hi256, load_lo128, load_hi128, read_zero7, read_zero10, read_zero11,
    ht, q0, q1, d0, d1, s0, s1, y0, y1, p0, p1, r1, q2, q3, d2, d3, s2, s3, y2, y3, p2, p3, r2]
  rw [st7_val]
  simp only [stOf, tile, tileTop, read_half0k_same, read_half0k_other, load_half0k, read_half1k_same, read_half1k_other, load_half1k, read_half0v_same, read_half0v_other, load_half0v, read_half1v_same, read_half1v_other, load_half1v, View.writes_nil, read_zero7, read_zero10, read_zero11, ht, q0, q1, d0, d1, s0, s1, y0, y1, p0, p1, r1, q2, q3, d2, d3, s2, s3, y2, y3, p2, p3, r2]
  rfl

set_option maxHeartbeats 8000000 in
theorem bodyA_dk0 : lo256 (arg8.view.read (Elt F) (bodyA c i arg2 harg2 arg3 harg3 arg4 harg4 arg5 harg5 arg6 harg6 arg7 harg7 arg8 harg8 arg9 harg9 arg10 harg10 arg11 harg11 hc1 hc2 f2 f3 f4 f5 f6 f7 f8 f9 f10 f11).2.1)
    = k0_pay227 (lastPair (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) ((cond2_iff i).mp hc2) (loopSt (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) (start (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) k0_pay189) ((7 - (i 1).val) / 2))).dk0 := by
  have hj : (i 1).val < 8 := (i 1).isLt
  have ht : Scf.trips (k0_t1_loop i).lb (k0_t1_loop i).ub (k0_t1_loop i).st = (7 - (i 1).val) / 2 := trips1_eq i
  dsimp only [k0_t1_loop] at ht
  have q0 := fun inb => load_rows256 arg2.view f2 inb (1024 * (i 1).val) (by omega) (off1_eq i)
  have q1 := fun inb => load_rows256 arg2.view f2 inb (1024 * (i 1).val + 512) (by omega) (off3_eq i)
  have d0 := fun inb => load_rows128 arg3.view f3 inb (1024 * (i 1).val) (by omega) (off2_eq i)
  have d1 := fun inb => load_rows128 arg3.view f3 inb (1024 * (i 1).val + 512) (by omega) (off4_eq i)
  have s0 := fun inb => load_rows128 arg4.view f4 inb (1024 * (i 1).val) (by omega) (off2_eq i)
  have s1 := fun inb => load_rows128 arg4.view f4 inb (1024 * (i 1).val + 512) (by omega) (off4_eq i)
  have y0 := fun f inb => load_rows256 (Val := Elt F) arg7.view f inb (1024 * (i 1).val) (by omega) (off1_eq i)
  have y1 := fun f inb => load_rows256 (Val := Elt F) arg7.view f inb (1024 * (i 1).val + 512) (by omega) (off3_eq i)
  have p0 := fun f inb w L => put_rows256 (Val := Elt F) arg7.view f inb w L (1024 * (i 1).val) (off1_eq i)
  have p1 := fun f inb w L => put_rows256 (Val := Elt F) arg7.view f inb w L (1024 * (i 1).val + 512) (off3_eq i)
  have r1 := fun (x : Vec F S8192x256 .f32) w => rows256_put x (1024 * (i 1).val) (1024 * (i 1).val + 512) (by omega) (by omega) w
  have he := (cond2_iff i).mp hc2
  have o5 := off19_eq i
  have o6 := off20_eq i
  rw [show 1024 * (i 1).val + 1536 + 2048 * ((7 - (i 1).val) / 2) = 1024 * (i 1).val + 1024 + 2048 * ((7 - (i 1).val) / 2) + 512 by omega] at o5 o6
  have q2 := fun inb => load_rows256 arg2.view f2 inb (1024 * (i 1).val + 1024 + 2048 * ((7 - (i 1).val) / 2)) (by omega) (off17_eq i)
  have q3 := fun inb => load_rows256 arg2.view f2 inb (1024 * (i 1).val + 1024 + 2048 * ((7 - (i 1).val) / 2) + 512) (by omega) o5
  have d2 := fun inb => load_rows128 arg3.view f3 inb (1024 * (i 1).val + 1024 + 2048 * ((7 - (i 1).val) / 2)) (by omega) (off18_eq i)
  have d3 := fun inb => load_rows128 arg3.view f3 inb (1024 * (i 1).val + 1024 + 2048 * ((7 - (i 1).val) / 2) + 512) (by omega) o6
  have s2 := fun inb => load_rows128 arg4.view f4 inb (1024 * (i 1).val + 1024 + 2048 * ((7 - (i 1).val) / 2)) (by omega) (off18_eq i)
  have s3 := fun inb => load_rows128 arg4.view f4 inb (1024 * (i 1).val + 1024 + 2048 * ((7 - (i 1).val) / 2) + 512) (by omega) o6
  have y2 := fun f inb => load_rows256 (Val := Elt F) arg7.view f inb (1024 * (i 1).val + 1024 + 2048 * ((7 - (i 1).val) / 2)) (by omega) (off17_eq i)
  have y3 := fun f inb => load_rows256 (Val := Elt F) arg7.view f inb (1024 * (i 1).val + 1024 + 2048 * ((7 - (i 1).val) / 2) + 512) (by omega) o5
  have p2 := fun f inb w L => put_rows256 (Val := Elt F) arg7.view f inb w L (1024 * (i 1).val + 1024 + 2048 * ((7 - (i 1).val) / 2)) (off17_eq i)
  have p3 := fun f inb w L => put_rows256 (Val := Elt F) arg7.view f inb w L (1024 * (i 1).val + 1024 + 2048 * ((7 - (i 1).val) / 2) + 512) o5
  have r2 := fun (x : Vec F S8192x256 .f32) w => rows256_put x (1024 * (i 1).val + 1024 + 2048 * ((7 - (i 1).val) / 2)) (1024 * (i 1).val + 1024 + 2048 * ((7 - (i 1).val) / 2) + 512) (by omega) (by omega) w
  unfold bodyA lastPair start
  dsimp only
  simp only [bodyA.sl.v11, bodyA.sl.r_39, bodyA.sl.v91, bodyA.sl.v207, bodyA.sl.r_42, bodyA.sl.H10_2_1, bodyA.sl.v328, bodyA.sl.r_41, bodyA.sl.v256, bodyA.sl.r_33, bodyA.sl.r_37, bodyA.sl.r_16, bodyA.sl.v370, bodyA.sl.r_8, bodyA.sl.H11_2_1, bodyA.sl.v0, bodyA.sl.H11_2, bodyA.sl.r_38, bodyA.sl.v2, bodyA.sl.H11_4, bodyA.sl.r_14, bodyA.sl.v270, bodyA.sl.r_19, bodyA.sl.cst_97, bodyA.sl.v203, bodyA.sl.v253, bodyA.sl.r_27, bodyA.sl.v194, bodyA.sl.v206, bodyA.sl.v220, bodyA.sl.H11_1, bodyA.sl.v169, bodyA.sl.r_21, bodyA.sl.r_40, bodyA.sl.v251, bodyA.sl.r_30, bodyA.sl.v148, bodyA.sl.r_35, bodyA.sl.v215, bodyA.sl.v219, bodyA.sl.cst_207, bodyA.sl.v244, bodyA.sl.v377, bodyA.sl.v265, bodyA.sl.H11_3_1, bodyA.sl.v131, bodyA.sl.v90, bodyA.sl.r_23, bodyA.sl.v208, bodyA.sl.r_12, bodyA.sl.v217, bodyA.sl.v216, bodyA.sl.v12, bodyA.sl.v266, bodyA.sl.v1, bodyA.sl.H10_4, bodyA.sl.r_31, bodyA.sl.H11_4_1, bodyA.sl.v267, bodyA.sl.v198, bodyA.sl.r_7, bodyA.sl.v467, bodyA.sl.r_36, bodyA.sl.H10_1, bodyA.sl.v476, bodyA.sl.r_2, bodyA.sl.v268, bodyA.sl.r_5, bodyA.sl.v196, bodyA.sl.v254, bodyA.sl.H10_4_1, bodyA.sl.r_1, bodyA.sl.v197, bodyA.sl.v221, bodyA.sl.r_15, bodyA.sl.r_29, bodyA.sl.v241, bodyA.sl.v257, bodyA.sl.cst_225, bodyA.sl.r_11, bodyA.sl.v58, bodyA.sl.H7_2, bodyA.sl.r_3, bodyA.sl.v224, bodyA.sl.r_17, bodyA.sl.r_13, bodyA.sl.r_18, bodyA.sl.r_24, bodyA.sl.v344, bodyA.sl.v264, bodyA.sl.H10_3_1, bodyA.sl.v247, bodyA.sl.H10_2, bodyA.sl.r_34, bodyA.sl.v218, bodyA.sl.v214, bodyA.sl.v201, bodyA.sl.v434, bodyA.sl.v271, bodyA.sl.v450, bodyA.sl.v263, bodyA.sl.v223, bodyA.sl.v13, bodyA.sl.v75, bodyA.sl.v204, bodyA.sl.v188, bodyA.sl.v187, bodyA.sl.v255, bodyA.sl.r_20, bodyA.sl.r_9, bodyA.sl.v193, bodyA.sl.v186, bodyA.sl.r_25, bodyA.sl.v252, bodyA.sl.v376, bodyA.sl.r, bodyA.sl.H11_3, bodyA.sl.r_4, bodyA.sl.v192, bodyA.sl.r_10, bodyA.sl.H10_3, bodyA.sl.H7_1, bodyA.sl.v238, bodyA.sl.v269, bodyA.sl.r_6, bodyA.sl.v417, bodyA.sl.v311, bodyA.sl.r_22, bodyA.sl.v205, bodyA.sl.r_28, bodyA.sl.v189, bodyA.sl.r_32, bodyA.sl.v250, bodyA.sl.v361, bodyA.sl.r_26,
    write_slice_cons, View.readCov, read_half0k_same, read_half0k_other, load_half0k, read_half1k_same, read_half1k_other, load_half1k, read_half0v_same, read_half0v_other, load_half0v, read_half1v_same, read_half1v_other, load_half1v, View.writes_nil,
    read_lo256, read_hi256, read_lo128, read_hi128, load_lo256, load_hi256, load_lo128, load_hi128, read_zero7, read_zero10, read_zero11,
    ht, q0, q1, d0, d1, s0, s1, y0, y1, p0, p1, r1, q2, q3, d2, d3, s2, s3, y2, y3, p2, p3, r2]
  rw [st10a_val]
  simp only [stOf, tile, tileTop, read_half0k_same, read_half0k_other, load_half0k, read_half1k_same, read_half1k_other, load_half1k, read_half0v_same, read_half0v_other, load_half0v, read_half1v_same, read_half1v_other, load_half1v, View.writes_nil, read_zero7, read_zero10, read_zero11, ht, q0, q1, d0, d1, s0, s1, y0, y1, p0, p1, r1, q2, q3, d2, d3, s2, s3, y2, y3, p2, p3, r2]
  rfl

set_option maxHeartbeats 8000000 in
theorem bodyA_dk1 : hi256 (arg8.view.read (Elt F) (bodyA c i arg2 harg2 arg3 harg3 arg4 harg4 arg5 harg5 arg6 harg6 arg7 harg7 arg8 harg8 arg9 harg9 arg10 harg10 arg11 harg11 hc1 hc2 f2 f3 f4 f5 f6 f7 f8 f9 f10 f11).2.1)
    = k0_pay229 (lastPair (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) ((cond2_iff i).mp hc2) (loopSt (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) (start (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) k0_pay189) ((7 - (i 1).val) / 2))).dk1 := by
  have hj : (i 1).val < 8 := (i 1).isLt
  have ht : Scf.trips (k0_t1_loop i).lb (k0_t1_loop i).ub (k0_t1_loop i).st = (7 - (i 1).val) / 2 := trips1_eq i
  dsimp only [k0_t1_loop] at ht
  have q0 := fun inb => load_rows256 arg2.view f2 inb (1024 * (i 1).val) (by omega) (off1_eq i)
  have q1 := fun inb => load_rows256 arg2.view f2 inb (1024 * (i 1).val + 512) (by omega) (off3_eq i)
  have d0 := fun inb => load_rows128 arg3.view f3 inb (1024 * (i 1).val) (by omega) (off2_eq i)
  have d1 := fun inb => load_rows128 arg3.view f3 inb (1024 * (i 1).val + 512) (by omega) (off4_eq i)
  have s0 := fun inb => load_rows128 arg4.view f4 inb (1024 * (i 1).val) (by omega) (off2_eq i)
  have s1 := fun inb => load_rows128 arg4.view f4 inb (1024 * (i 1).val + 512) (by omega) (off4_eq i)
  have y0 := fun f inb => load_rows256 (Val := Elt F) arg7.view f inb (1024 * (i 1).val) (by omega) (off1_eq i)
  have y1 := fun f inb => load_rows256 (Val := Elt F) arg7.view f inb (1024 * (i 1).val + 512) (by omega) (off3_eq i)
  have p0 := fun f inb w L => put_rows256 (Val := Elt F) arg7.view f inb w L (1024 * (i 1).val) (off1_eq i)
  have p1 := fun f inb w L => put_rows256 (Val := Elt F) arg7.view f inb w L (1024 * (i 1).val + 512) (off3_eq i)
  have r1 := fun (x : Vec F S8192x256 .f32) w => rows256_put x (1024 * (i 1).val) (1024 * (i 1).val + 512) (by omega) (by omega) w
  have he := (cond2_iff i).mp hc2
  have o5 := off19_eq i
  have o6 := off20_eq i
  rw [show 1024 * (i 1).val + 1536 + 2048 * ((7 - (i 1).val) / 2) = 1024 * (i 1).val + 1024 + 2048 * ((7 - (i 1).val) / 2) + 512 by omega] at o5 o6
  have q2 := fun inb => load_rows256 arg2.view f2 inb (1024 * (i 1).val + 1024 + 2048 * ((7 - (i 1).val) / 2)) (by omega) (off17_eq i)
  have q3 := fun inb => load_rows256 arg2.view f2 inb (1024 * (i 1).val + 1024 + 2048 * ((7 - (i 1).val) / 2) + 512) (by omega) o5
  have d2 := fun inb => load_rows128 arg3.view f3 inb (1024 * (i 1).val + 1024 + 2048 * ((7 - (i 1).val) / 2)) (by omega) (off18_eq i)
  have d3 := fun inb => load_rows128 arg3.view f3 inb (1024 * (i 1).val + 1024 + 2048 * ((7 - (i 1).val) / 2) + 512) (by omega) o6
  have s2 := fun inb => load_rows128 arg4.view f4 inb (1024 * (i 1).val + 1024 + 2048 * ((7 - (i 1).val) / 2)) (by omega) (off18_eq i)
  have s3 := fun inb => load_rows128 arg4.view f4 inb (1024 * (i 1).val + 1024 + 2048 * ((7 - (i 1).val) / 2) + 512) (by omega) o6
  have y2 := fun f inb => load_rows256 (Val := Elt F) arg7.view f inb (1024 * (i 1).val + 1024 + 2048 * ((7 - (i 1).val) / 2)) (by omega) (off17_eq i)
  have y3 := fun f inb => load_rows256 (Val := Elt F) arg7.view f inb (1024 * (i 1).val + 1024 + 2048 * ((7 - (i 1).val) / 2) + 512) (by omega) o5
  have p2 := fun f inb w L => put_rows256 (Val := Elt F) arg7.view f inb w L (1024 * (i 1).val + 1024 + 2048 * ((7 - (i 1).val) / 2)) (off17_eq i)
  have p3 := fun f inb w L => put_rows256 (Val := Elt F) arg7.view f inb w L (1024 * (i 1).val + 1024 + 2048 * ((7 - (i 1).val) / 2) + 512) o5
  have r2 := fun (x : Vec F S8192x256 .f32) w => rows256_put x (1024 * (i 1).val + 1024 + 2048 * ((7 - (i 1).val) / 2)) (1024 * (i 1).val + 1024 + 2048 * ((7 - (i 1).val) / 2) + 512) (by omega) (by omega) w
  unfold bodyA lastPair start
  dsimp only
  simp only [bodyA.sl.v11, bodyA.sl.r_39, bodyA.sl.v91, bodyA.sl.v207, bodyA.sl.r_42, bodyA.sl.H10_2_1, bodyA.sl.v328, bodyA.sl.r_41, bodyA.sl.v256, bodyA.sl.r_33, bodyA.sl.r_37, bodyA.sl.r_16, bodyA.sl.v370, bodyA.sl.r_8, bodyA.sl.H11_2_1, bodyA.sl.v0, bodyA.sl.H11_2, bodyA.sl.r_38, bodyA.sl.v2, bodyA.sl.H11_4, bodyA.sl.r_14, bodyA.sl.v270, bodyA.sl.r_19, bodyA.sl.cst_97, bodyA.sl.v203, bodyA.sl.v253, bodyA.sl.r_27, bodyA.sl.v194, bodyA.sl.v206, bodyA.sl.v220, bodyA.sl.H11_1, bodyA.sl.v169, bodyA.sl.r_21, bodyA.sl.r_40, bodyA.sl.v251, bodyA.sl.r_30, bodyA.sl.v148, bodyA.sl.r_35, bodyA.sl.v215, bodyA.sl.v219, bodyA.sl.cst_207, bodyA.sl.v244, bodyA.sl.v377, bodyA.sl.v265, bodyA.sl.H11_3_1, bodyA.sl.v131, bodyA.sl.v90, bodyA.sl.r_23, bodyA.sl.v208, bodyA.sl.r_12, bodyA.sl.v217, bodyA.sl.v216, bodyA.sl.v12, bodyA.sl.v266, bodyA.sl.v1, bodyA.sl.H10_4, bodyA.sl.r_31, bodyA.sl.H11_4_1, bodyA.sl.v267, bodyA.sl.v198, bodyA.sl.r_7, bodyA.sl.v467, bodyA.sl.r_36, bodyA.sl.H10_1, bodyA.sl.v476, bodyA.sl.r_2, bodyA.sl.v268, bodyA.sl.r_5, bodyA.sl.v196, bodyA.sl.v254, bodyA.sl.H10_4_1, bodyA.sl.r_1, bodyA.sl.v197, bodyA.sl.v221, bodyA.sl.r_15, bodyA.sl.r_29, bodyA.sl.v241, bodyA.sl.v257, bodyA.sl.cst_225, bodyA.sl.r_11, bodyA.sl.v58, bodyA.sl.H7_2, bodyA.sl.r_3, bodyA.sl.v224, bodyA.sl.r_17, bodyA.sl.r_13, bodyA.sl.r_18, bodyA.sl.r_24, bodyA.sl.v344, bodyA.sl.v264, bodyA.sl.H10_3_1, bodyA.sl.v247, bodyA.sl.H10_2, bodyA.sl.r_34, bodyA.sl.v218, bodyA.sl.v214, bodyA.sl.v201, bodyA.sl.v434, bodyA.sl.v271, bodyA.sl.v450, bodyA.sl.v263, bodyA.sl.v223, bodyA.sl.v13, bodyA.sl.v75, bodyA.sl.v204, bodyA.sl.v188, bodyA.sl.v187, bodyA.sl.v255, bodyA.sl.r_20, bodyA.sl.r_9, bodyA.sl.v193, bodyA.sl.v186, bodyA.sl.r_25, bodyA.sl.v252, bodyA.sl.v376, bodyA.sl.r, bodyA.sl.H11_3, bodyA.sl.r_4, bodyA.sl.v192, bodyA.sl.r_10, bodyA.sl.H10_3, bodyA.sl.H7_1, bodyA.sl.v238, bodyA.sl.v269, bodyA.sl.r_6, bodyA.sl.v417, bodyA.sl.v311, bodyA.sl.r_22, bodyA.sl.v205, bodyA.sl.r_28, bodyA.sl.v189, bodyA.sl.r_32, bodyA.sl.v250, bodyA.sl.v361, bodyA.sl.r_26,
    write_slice_cons, View.readCov, read_half0k_same, read_half0k_other, load_half0k, read_half1k_same, read_half1k_other, load_half1k, read_half0v_same, read_half0v_other, load_half0v, read_half1v_same, read_half1v_other, load_half1v, View.writes_nil,
    read_lo256, read_hi256, read_lo128, read_hi128, load_lo256, load_hi256, load_lo128, load_hi128, read_zero7, read_zero10, read_zero11,
    ht, q0, q1, d0, d1, s0, s1, y0, y1, p0, p1, r1, q2, q3, d2, d3, s2, s3, y2, y3, p2, p3, r2]
  rw [st10b_val]
  simp only [stOf, tile, tileTop, read_half0k_same, read_half0k_other, load_half0k, read_half1k_same, read_half1k_other, load_half1k, read_half0v_same, read_half0v_other, load_half0v, read_half1v_same, read_half1v_other, load_half1v, View.writes_nil, read_zero7, read_zero10, read_zero11, ht, q0, q1, d0, d1, s0, s1, y0, y1, p0, p1, r1, q2, q3, d2, d3, s2, s3, y2, y3, p2, p3, r2]
  rfl

set_option maxHeartbeats 8000000 in
theorem bodyA_dv0 : lo128 (arg9.view.read (Elt F) (bodyA c i arg2 harg2 arg3 harg3 arg4 harg4 arg5 harg5 arg6 harg6 arg7 harg7 arg8 harg8 arg9 harg9 arg10 harg10 arg11 harg11 hc1 hc2 f2 f3 f4 f5 f6 f7 f8 f9 f10 f11).2.2.1)
    = k0_pay228 (lastPair (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) ((cond2_iff i).mp hc2) (loopSt (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) (start (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) k0_pay189) ((7 - (i 1).val) / 2))).dv0 := by
  have hj : (i 1).val < 8 := (i 1).isLt
  have ht : Scf.trips (k0_t1_loop i).lb (k0_t1_loop i).ub (k0_t1_loop i).st = (7 - (i 1).val) / 2 := trips1_eq i
  dsimp only [k0_t1_loop] at ht
  have q0 := fun inb => load_rows256 arg2.view f2 inb (1024 * (i 1).val) (by omega) (off1_eq i)
  have q1 := fun inb => load_rows256 arg2.view f2 inb (1024 * (i 1).val + 512) (by omega) (off3_eq i)
  have d0 := fun inb => load_rows128 arg3.view f3 inb (1024 * (i 1).val) (by omega) (off2_eq i)
  have d1 := fun inb => load_rows128 arg3.view f3 inb (1024 * (i 1).val + 512) (by omega) (off4_eq i)
  have s0 := fun inb => load_rows128 arg4.view f4 inb (1024 * (i 1).val) (by omega) (off2_eq i)
  have s1 := fun inb => load_rows128 arg4.view f4 inb (1024 * (i 1).val + 512) (by omega) (off4_eq i)
  have y0 := fun f inb => load_rows256 (Val := Elt F) arg7.view f inb (1024 * (i 1).val) (by omega) (off1_eq i)
  have y1 := fun f inb => load_rows256 (Val := Elt F) arg7.view f inb (1024 * (i 1).val + 512) (by omega) (off3_eq i)
  have p0 := fun f inb w L => put_rows256 (Val := Elt F) arg7.view f inb w L (1024 * (i 1).val) (off1_eq i)
  have p1 := fun f inb w L => put_rows256 (Val := Elt F) arg7.view f inb w L (1024 * (i 1).val + 512) (off3_eq i)
  have r1 := fun (x : Vec F S8192x256 .f32) w => rows256_put x (1024 * (i 1).val) (1024 * (i 1).val + 512) (by omega) (by omega) w
  have he := (cond2_iff i).mp hc2
  have o5 := off19_eq i
  have o6 := off20_eq i
  rw [show 1024 * (i 1).val + 1536 + 2048 * ((7 - (i 1).val) / 2) = 1024 * (i 1).val + 1024 + 2048 * ((7 - (i 1).val) / 2) + 512 by omega] at o5 o6
  have q2 := fun inb => load_rows256 arg2.view f2 inb (1024 * (i 1).val + 1024 + 2048 * ((7 - (i 1).val) / 2)) (by omega) (off17_eq i)
  have q3 := fun inb => load_rows256 arg2.view f2 inb (1024 * (i 1).val + 1024 + 2048 * ((7 - (i 1).val) / 2) + 512) (by omega) o5
  have d2 := fun inb => load_rows128 arg3.view f3 inb (1024 * (i 1).val + 1024 + 2048 * ((7 - (i 1).val) / 2)) (by omega) (off18_eq i)
  have d3 := fun inb => load_rows128 arg3.view f3 inb (1024 * (i 1).val + 1024 + 2048 * ((7 - (i 1).val) / 2) + 512) (by omega) o6
  have s2 := fun inb => load_rows128 arg4.view f4 inb (1024 * (i 1).val + 1024 + 2048 * ((7 - (i 1).val) / 2)) (by omega) (off18_eq i)
  have s3 := fun inb => load_rows128 arg4.view f4 inb (1024 * (i 1).val + 1024 + 2048 * ((7 - (i 1).val) / 2) + 512) (by omega) o6
  have y2 := fun f inb => load_rows256 (Val := Elt F) arg7.view f inb (1024 * (i 1).val + 1024 + 2048 * ((7 - (i 1).val) / 2)) (by omega) (off17_eq i)
  have y3 := fun f inb => load_rows256 (Val := Elt F) arg7.view f inb (1024 * (i 1).val + 1024 + 2048 * ((7 - (i 1).val) / 2) + 512) (by omega) o5
  have p2 := fun f inb w L => put_rows256 (Val := Elt F) arg7.view f inb w L (1024 * (i 1).val + 1024 + 2048 * ((7 - (i 1).val) / 2)) (off17_eq i)
  have p3 := fun f inb w L => put_rows256 (Val := Elt F) arg7.view f inb w L (1024 * (i 1).val + 1024 + 2048 * ((7 - (i 1).val) / 2) + 512) o5
  have r2 := fun (x : Vec F S8192x256 .f32) w => rows256_put x (1024 * (i 1).val + 1024 + 2048 * ((7 - (i 1).val) / 2)) (1024 * (i 1).val + 1024 + 2048 * ((7 - (i 1).val) / 2) + 512) (by omega) (by omega) w
  unfold bodyA lastPair start
  dsimp only
  simp only [bodyA.sl.v11, bodyA.sl.r_39, bodyA.sl.v91, bodyA.sl.v207, bodyA.sl.r_42, bodyA.sl.H10_2_1, bodyA.sl.v328, bodyA.sl.r_41, bodyA.sl.v256, bodyA.sl.r_33, bodyA.sl.r_37, bodyA.sl.r_16, bodyA.sl.v370, bodyA.sl.r_8, bodyA.sl.H11_2_1, bodyA.sl.v0, bodyA.sl.H11_2, bodyA.sl.r_38, bodyA.sl.v2, bodyA.sl.H11_4, bodyA.sl.r_14, bodyA.sl.v270, bodyA.sl.r_19, bodyA.sl.cst_97, bodyA.sl.v203, bodyA.sl.v253, bodyA.sl.r_27, bodyA.sl.v194, bodyA.sl.v206, bodyA.sl.v220, bodyA.sl.H11_1, bodyA.sl.v169, bodyA.sl.r_21, bodyA.sl.r_40, bodyA.sl.v251, bodyA.sl.r_30, bodyA.sl.v148, bodyA.sl.r_35, bodyA.sl.v215, bodyA.sl.v219, bodyA.sl.cst_207, bodyA.sl.v244, bodyA.sl.v377, bodyA.sl.v265, bodyA.sl.H11_3_1, bodyA.sl.v131, bodyA.sl.v90, bodyA.sl.r_23, bodyA.sl.v208, bodyA.sl.r_12, bodyA.sl.v217, bodyA.sl.v216, bodyA.sl.v12, bodyA.sl.v266, bodyA.sl.v1, bodyA.sl.H10_4, bodyA.sl.r_31, bodyA.sl.H11_4_1, bodyA.sl.v267, bodyA.sl.v198, bodyA.sl.r_7, bodyA.sl.v467, bodyA.sl.r_36, bodyA.sl.H10_1, bodyA.sl.v476, bodyA.sl.r_2, bodyA.sl.v268, bodyA.sl.r_5, bodyA.sl.v196, bodyA.sl.v254, bodyA.sl.H10_4_1, bodyA.sl.r_1, bodyA.sl.v197, bodyA.sl.v221, bodyA.sl.r_15, bodyA.sl.r_29, bodyA.sl.v241, bodyA.sl.v257, bodyA.sl.cst_225, bodyA.sl.r_11, bodyA.sl.v58, bodyA.sl.H7_2, bodyA.sl.r_3, bodyA.sl.v224, bodyA.sl.r_17, bodyA.sl.r_13, bodyA.sl.r_18, bodyA.sl.r_24, bodyA.sl.v344, bodyA.sl.v264, bodyA.sl.H10_3_1, bodyA.sl.v247, bodyA.sl.H10_2, bodyA.sl.r_34, bodyA.sl.v218, bodyA.sl.v214, bodyA.sl.v201, bodyA.sl.v434, bodyA.sl.v271, bodyA.sl.v450, bodyA.sl.v263, bodyA.sl.v223, bodyA.sl.v13, bodyA.sl.v75, bodyA.sl.v204, bodyA.sl.v188, bodyA.sl.v187, bodyA.sl.v255, bodyA.sl.r_20, bodyA.sl.r_9, bodyA.sl.v193, bodyA.sl.v186, bodyA.sl.r_25, bodyA.sl.v252, bodyA.sl.v376, bodyA.sl.r, bodyA.sl.H11_3, bodyA.sl.r_4, bodyA.sl.v192, bodyA.sl.r_10, bodyA.sl.H10_3, bodyA.sl.H7_1, bodyA.sl.v238, bodyA.sl.v269, bodyA.sl.r_6, bodyA.sl.v417, bodyA.sl.v311, bodyA.sl.r_22, bodyA.sl.v205, bodyA.sl.r_28, bodyA.sl.v189, bodyA.sl.r_32, bodyA.sl.v250, bodyA.sl.v361, bodyA.sl.r_26,
    write_slice_cons, View.readCov, read_half0k_same, read_half0k_other, load_half0k, read_half1k_same, read_half1k_other, load_half1k, read_half0v_same, read_half0v_other, load_half0v, read_half1v_same, read_half1v_other, load_half1v, View.writes_nil,
    read_lo256, read_hi256, read_lo128, read_hi128, load_lo256, load_hi256, load_lo128, load_hi128, read_zero7, read_zero10, read_zero11,
    ht, q0, q1, d0, d1, s0, s1, y0, y1, p0, p1, r1, q2, q3, d2, d3, s2, s3, y2, y3, p2, p3, r2]
  rw [st11a_val]
  simp only [stOf, tile, tileTop, read_half0k_same, read_half0k_other, load_half0k, read_half1k_same, read_half1k_other, load_half1k, read_half0v_same, read_half0v_other, load_half0v, read_half1v_same, read_half1v_other, load_half1v, View.writes_nil, read_zero7, read_zero10, read_zero11, ht, q0, q1, d0, d1, s0, s1, y0, y1, p0, p1, r1, q2, q3, d2, d3, s2, s3, y2, y3, p2, p3, r2]
  rfl

set_option maxHeartbeats 8000000 in
theorem bodyA_dv1 : hi128 (arg9.view.read (Elt F) (bodyA c i arg2 harg2 arg3 harg3 arg4 harg4 arg5 harg5 arg6 harg6 arg7 harg7 arg8 harg8 arg9 harg9 arg10 harg10 arg11 harg11 hc1 hc2 f2 f3 f4 f5 f6 f7 f8 f9 f10 f11).2.2.1)
    = k0_pay230 (lastPair (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) ((cond2_iff i).mp hc2) (loopSt (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) (start (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) k0_pay189) ((7 - (i 1).val) / 2))).dv1 := by
  have hj : (i 1).val < 8 := (i 1).isLt
  have ht : Scf.trips (k0_t1_loop i).lb (k0_t1_loop i).ub (k0_t1_loop i).st = (7 - (i 1).val) / 2 := trips1_eq i
  dsimp only [k0_t1_loop] at ht
  have q0 := fun inb => load_rows256 arg2.view f2 inb (1024 * (i 1).val) (by omega) (off1_eq i)
  have q1 := fun inb => load_rows256 arg2.view f2 inb (1024 * (i 1).val + 512) (by omega) (off3_eq i)
  have d0 := fun inb => load_rows128 arg3.view f3 inb (1024 * (i 1).val) (by omega) (off2_eq i)
  have d1 := fun inb => load_rows128 arg3.view f3 inb (1024 * (i 1).val + 512) (by omega) (off4_eq i)
  have s0 := fun inb => load_rows128 arg4.view f4 inb (1024 * (i 1).val) (by omega) (off2_eq i)
  have s1 := fun inb => load_rows128 arg4.view f4 inb (1024 * (i 1).val + 512) (by omega) (off4_eq i)
  have y0 := fun f inb => load_rows256 (Val := Elt F) arg7.view f inb (1024 * (i 1).val) (by omega) (off1_eq i)
  have y1 := fun f inb => load_rows256 (Val := Elt F) arg7.view f inb (1024 * (i 1).val + 512) (by omega) (off3_eq i)
  have p0 := fun f inb w L => put_rows256 (Val := Elt F) arg7.view f inb w L (1024 * (i 1).val) (off1_eq i)
  have p1 := fun f inb w L => put_rows256 (Val := Elt F) arg7.view f inb w L (1024 * (i 1).val + 512) (off3_eq i)
  have r1 := fun (x : Vec F S8192x256 .f32) w => rows256_put x (1024 * (i 1).val) (1024 * (i 1).val + 512) (by omega) (by omega) w
  have he := (cond2_iff i).mp hc2
  have o5 := off19_eq i
  have o6 := off20_eq i
  rw [show 1024 * (i 1).val + 1536 + 2048 * ((7 - (i 1).val) / 2) = 1024 * (i 1).val + 1024 + 2048 * ((7 - (i 1).val) / 2) + 512 by omega] at o5 o6
  have q2 := fun inb => load_rows256 arg2.view f2 inb (1024 * (i 1).val + 1024 + 2048 * ((7 - (i 1).val) / 2)) (by omega) (off17_eq i)
  have q3 := fun inb => load_rows256 arg2.view f2 inb (1024 * (i 1).val + 1024 + 2048 * ((7 - (i 1).val) / 2) + 512) (by omega) o5
  have d2 := fun inb => load_rows128 arg3.view f3 inb (1024 * (i 1).val + 1024 + 2048 * ((7 - (i 1).val) / 2)) (by omega) (off18_eq i)
  have d3 := fun inb => load_rows128 arg3.view f3 inb (1024 * (i 1).val + 1024 + 2048 * ((7 - (i 1).val) / 2) + 512) (by omega) o6
  have s2 := fun inb => load_rows128 arg4.view f4 inb (1024 * (i 1).val + 1024 + 2048 * ((7 - (i 1).val) / 2)) (by omega) (off18_eq i)
  have s3 := fun inb => load_rows128 arg4.view f4 inb (1024 * (i 1).val + 1024 + 2048 * ((7 - (i 1).val) / 2) + 512) (by omega) o6
  have y2 := fun f inb => load_rows256 (Val := Elt F) arg7.view f inb (1024 * (i 1).val + 1024 + 2048 * ((7 - (i 1).val) / 2)) (by omega) (off17_eq i)
  have y3 := fun f inb => load_rows256 (Val := Elt F) arg7.view f inb (1024 * (i 1).val + 1024 + 2048 * ((7 - (i 1).val) / 2) + 512) (by omega) o5
  have p2 := fun f inb w L => put_rows256 (Val := Elt F) arg7.view f inb w L (1024 * (i 1).val + 1024 + 2048 * ((7 - (i 1).val) / 2)) (off17_eq i)
  have p3 := fun f inb w L => put_rows256 (Val := Elt F) arg7.view f inb w L (1024 * (i 1).val + 1024 + 2048 * ((7 - (i 1).val) / 2) + 512) o5
  have r2 := fun (x : Vec F S8192x256 .f32) w => rows256_put x (1024 * (i 1).val + 1024 + 2048 * ((7 - (i 1).val) / 2)) (1024 * (i 1).val + 1024 + 2048 * ((7 - (i 1).val) / 2) + 512) (by omega) (by omega) w
  unfold bodyA lastPair start
  dsimp only
  simp only [bodyA.sl.v11, bodyA.sl.r_39, bodyA.sl.v91, bodyA.sl.v207, bodyA.sl.r_42, bodyA.sl.H10_2_1, bodyA.sl.v328, bodyA.sl.r_41, bodyA.sl.v256, bodyA.sl.r_33, bodyA.sl.r_37, bodyA.sl.r_16, bodyA.sl.v370, bodyA.sl.r_8, bodyA.sl.H11_2_1, bodyA.sl.v0, bodyA.sl.H11_2, bodyA.sl.r_38, bodyA.sl.v2, bodyA.sl.H11_4, bodyA.sl.r_14, bodyA.sl.v270, bodyA.sl.r_19, bodyA.sl.cst_97, bodyA.sl.v203, bodyA.sl.v253, bodyA.sl.r_27, bodyA.sl.v194, bodyA.sl.v206, bodyA.sl.v220, bodyA.sl.H11_1, bodyA.sl.v169, bodyA.sl.r_21, bodyA.sl.r_40, bodyA.sl.v251, bodyA.sl.r_30, bodyA.sl.v148, bodyA.sl.r_35, bodyA.sl.v215, bodyA.sl.v219, bodyA.sl.cst_207, bodyA.sl.v244, bodyA.sl.v377, bodyA.sl.v265, bodyA.sl.H11_3_1, bodyA.sl.v131, bodyA.sl.v90, bodyA.sl.r_23, bodyA.sl.v208, bodyA.sl.r_12, bodyA.sl.v217, bodyA.sl.v216, bodyA.sl.v12, bodyA.sl.v266, bodyA.sl.v1, bodyA.sl.H10_4, bodyA.sl.r_31, bodyA.sl.H11_4_1, bodyA.sl.v267, bodyA.sl.v198, bodyA.sl.r_7, bodyA.sl.v467, bodyA.sl.r_36, bodyA.sl.H10_1, bodyA.sl.v476, bodyA.sl.r_2, bodyA.sl.v268, bodyA.sl.r_5, bodyA.sl.v196, bodyA.sl.v254, bodyA.sl.H10_4_1, bodyA.sl.r_1, bodyA.sl.v197, bodyA.sl.v221, bodyA.sl.r_15, bodyA.sl.r_29, bodyA.sl.v241, bodyA.sl.v257, bodyA.sl.cst_225, bodyA.sl.r_11, bodyA.sl.v58, bodyA.sl.H7_2, bodyA.sl.r_3, bodyA.sl.v224, bodyA.sl.r_17, bodyA.sl.r_13, bodyA.sl.r_18, bodyA.sl.r_24, bodyA.sl.v344, bodyA.sl.v264, bodyA.sl.H10_3_1, bodyA.sl.v247, bodyA.sl.H10_2, bodyA.sl.r_34, bodyA.sl.v218, bodyA.sl.v214, bodyA.sl.v201, bodyA.sl.v434, bodyA.sl.v271, bodyA.sl.v450, bodyA.sl.v263, bodyA.sl.v223, bodyA.sl.v13, bodyA.sl.v75, bodyA.sl.v204, bodyA.sl.v188, bodyA.sl.v187, bodyA.sl.v255, bodyA.sl.r_20, bodyA.sl.r_9, bodyA.sl.v193, bodyA.sl.v186, bodyA.sl.r_25, bodyA.sl.v252, bodyA.sl.v376, bodyA.sl.r, bodyA.sl.H11_3, bodyA.sl.r_4, bodyA.sl.v192, bodyA.sl.r_10, bodyA.sl.H10_3, bodyA.sl.H7_1, bodyA.sl.v238, bodyA.sl.v269, bodyA.sl.r_6, bodyA.sl.v417, bodyA.sl.v311, bodyA.sl.r_22, bodyA.sl.v205, bodyA.sl.r_28, bodyA.sl.v189, bodyA.sl.r_32, bodyA.sl.v250, bodyA.sl.v361, bodyA.sl.r_26,
    write_slice_cons, View.readCov, read_half0k_same, read_half0k_other, load_half0k, read_half1k_same, read_half1k_other, load_half1k, read_half0v_same, read_half0v_other, load_half0v, read_half1v_same, read_half1v_other, load_half1v, View.writes_nil,
    read_lo256, read_hi256, read_lo128, read_hi128, load_lo256, load_hi256, load_lo128, load_hi128, read_zero7, read_zero10, read_zero11,
    ht, q0, q1, d0, d1, s0, s1, y0, y1, p0, p1, r1, q2, q3, d2, d3, s2, s3, y2, y3, p2, p3, r2]
  rw [st11b_val]
  simp only [stOf, tile, tileTop, read_half0k_same, read_half0k_other, load_half0k, read_half1k_same, read_half1k_other, load_half1k, read_half0v_same, read_half0v_other, load_half0v, read_half1v_same, read_half1v_other, load_half1v, View.writes_nil, read_zero7, read_zero10, read_zero11, ht, q0, q1, d0, d1, s0, s1, y0, y1, p0, p1, r1, q2, q3, d2, d3, s2, s3, y2, y3, p2, p3, r2]
  rfl

end

end Cert.Proof.Run

end
-- ==== Proof.Run.BodyValB.lean ====
/-
  The values of the buffers at the end of the body, at an even point that is not a head's first.
-/
module

public import proofs.«01_k».proof.Proof.Run.LoopVal
public import proofs.«01_k».proof.Proof.Run.BodyB

@[expose] public section

set_option maxRecDepth 16384

noncomputable section

namespace Cert.Proof.Run

open Cert.KernelIdeal Cert.KernelIdeal.Gen
open Idealize.ShloMosaic
open Idealize.ShloMosaic.TcCoe Idealize.ShloMosaic.Tactic

variable {F : FTy → Type} [FloatOps F] [Named F]

section

variable (c : Dev nD) (i : grid0.Coords)
  (arg2 : Memref sig .tc .vmem S8192x256 .bf16) (harg2 : arg2.IsWhole) (arg3 : Memref sig .tc .vmem S8192x128 .bf16) (harg3 : arg3.IsWhole)
  (arg4 : Memref sig .tc .vmem S8192x128 .f32) (harg4 : arg4.IsWhole) (arg5 : Memref sig .tc .vmem S1024x256 .bf16) (harg5 : arg5.IsWhole)
  (arg6 : Memref sig .tc .vmem S1024x128 .bf16) (harg6 : arg6.IsWhole) (arg7 : Memref sig .tc .vmem S8192x256 .f32) (harg7 : arg7.IsWhole)
  (arg8 : Memref sig .tc .vmem S1024x256 .f32) (harg8 : arg8.IsWhole) (arg9 : Memref sig .tc .vmem S1024x128 .f32) (harg9 : arg9.IsWhole)
  (arg10 : Memref sig .tc .vmem S2x512x256 .f32) (harg10 : arg10.IsWhole) (arg11 : Memref sig .tc .vmem S2x512x128 .f32) (harg11 : arg11.IsWhole)
  (hc1 : ¬ cond1 i) (hc2 : k0_cond2 i = 1#1)
  (f2 : Bf (F := F) c arg2) (f3 : Bf (F := F) c arg3) (f4 : Bf (F := F) c arg4) (f5 : Bf (F := F) c arg5) (f6 : Bf (F := F) c arg6)
  (f7 : Bf (F := F) c arg7) (f8 : Bf (F := F) c arg8) (f9 : Bf (F := F) c arg9) (f10 : Bf (F := F) c arg10) (f11 : Bf (F := F) c arg11)

set_option maxHeartbeats 8000000 in
theorem bodyB_dq : arg7.view.read (Elt F) (bodyB c i arg2 harg2 arg3 harg3 arg4 harg4 arg5 harg5 arg6 harg6 arg7 harg7 arg8 harg8 arg9 harg9 arg10 harg10 arg11 harg11 hc1 hc2 f2 f3 f4 f5 f6 f7 f8 f9 f10 f11).1
    = (lastPair (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) ((cond2_iff i).mp hc2) (loopSt (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) (start (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) (arg7.view.read (Elt F) f7)) ((7 - (i 1).val) / 2))).dq := by
  have hj : (i 1).val < 8 := (i 1).isLt
  have ht : Scf.trips (k0_t1_loop i).lb (k0_t1_loop i).ub (k0_t1_loop i).st = (7 - (i 1).val) / 2 := trips1_eq i
  dsimp only [k0_t1_loop] at ht
  have q0 := fun inb => load_rows256 arg2.view f2 inb (1024 * (i 1).val) (by omega) (off1_eq i)
  have q1 := fun inb => load_rows256 arg2.view f2 inb (1024 * (i 1).val + 512) (by omega) (off3_eq i)
  have d0 := fun inb => load_rows128 arg3.view f3 inb (1024 * (i 1).val) (by omega) (off2_eq i)
  have d1 := fun inb => load_rows128 arg3.view f3 inb (1024 * (i 1).val + 512) (by omega) (off4_eq i)
  have s0 := fun inb => load_rows128 arg4.view f4 inb (1024 * (i 1).val) (by omega) (off2_eq i)
  have s1 := fun inb => load_rows128 arg4.view f4 inb (1024 * (i 1).val + 512) (by omega) (off4_eq i)
  have y0 := fun f inb => load_rows256 (Val := Elt F) arg7.view f inb (1024 * (i 1).val) (by omega) (off1_eq i)
  have y1 := fun f inb => load_rows256 (Val := Elt F) arg7.view f inb (1024 * (i 1).val + 512) (by omega) (off3_eq i)
  have p0 := fun f inb w L => put_rows256 (Val := Elt F) arg7.view f inb w L (1024 * (i 1).val) (off1_eq i)
  have p1 := fun f inb w L => put_rows256 (Val := Elt F) arg7.view f inb w L (1024 * (i 1).val + 512) (off3_eq i)
  have r1 := fun (x : Vec F S8192x256 .f32) w => rows256_put x (1024 * (i 1).val) (1024 * (i 1).val + 512) (by omega) (by omega) w
  have he := (cond2_iff i).mp hc2
  have o5 := off19_eq i
  have o6 := off20_eq i
  rw [show 1024 * (i 1).val + 1536 + 2048 * ((7 - (i 1).val) / 2) = 1024 * (i 1).val + 1024 + 2048 * ((7 - (i 1).val) / 2) + 512 by omega] at o5 o6
  have q2 := fun inb => load_rows256 arg2.view f2 inb (1024 * (i 1).val + 1024 + 2048 * ((7 - (i 1).val) / 2)) (by omega) (off17_eq i)
  have q3 := fun inb => load_rows256 arg2.view f2 inb (1024 * (i 1).val + 1024 + 2048 * ((7 - (i 1).val) / 2) + 512) (by omega) o5
  have d2 := fun inb => load_rows128 arg3.view f3 inb (1024 * (i 1).val + 1024 + 2048 * ((7 - (i 1).val) / 2)) (by omega) (off18_eq i)
  have d3 := fun inb => load_rows128 arg3.view f3 inb (1024 * (i 1).val + 1024 + 2048 * ((7 - (i 1).val) / 2) + 512) (by omega) o6
  have s2 := fun inb => load_rows128 arg4.view f4 inb (1024 * (i 1).val + 1024 + 2048 * ((7 - (i 1).val) / 2)) (by omega) (off18_eq i)
  have s3 := fun inb => load_rows128 arg4.view f4 inb (1024 * (i 1).val + 1024 + 2048 * ((7 - (i 1).val) / 2) + 512) (by omega) o6
  have y2 := fun f inb => load_rows256 (Val := Elt F) arg7.view f inb (1024 * (i 1).val + 1024 + 2048 * ((7 - (i 1).val) / 2)) (by omega) (off17_eq i)
  have y3 := fun f inb => load_rows256 (Val := Elt F) arg7.view f inb (1024 * (i 1).val + 1024 + 2048 * ((7 - (i 1).val) / 2) + 512) (by omega) o5
  have p2 := fun f inb w L => put_rows256 (Val := Elt F) arg7.view f inb w L (1024 * (i 1).val + 1024 + 2048 * ((7 - (i 1).val) / 2)) (off17_eq i)
  have p3 := fun f inb w L => put_rows256 (Val := Elt F) arg7.view f inb w L (1024 * (i 1).val + 1024 + 2048 * ((7 - (i 1).val) / 2) + 512) o5
  have r2 := fun (x : Vec F S8192x256 .f32) w => rows256_put x (1024 * (i 1).val + 1024 + 2048 * ((7 - (i 1).val) / 2)) (1024 * (i 1).val + 1024 + 2048 * ((7 - (i 1).val) / 2) + 512) (by omega) (by omega) w
  unfold bodyB lastPair start
  dsimp only
  simp only [bodyB.sl.v244, bodyB.sl.v251, bodyB.sl.v148, bodyB.sl.r_29, bodyB.sl.v476, bodyB.sl.r_9, bodyB.sl.r_32, bodyB.sl.cst_97, bodyB.sl.v2, bodyB.sl.v208, bodyB.sl.v196, bodyB.sl.r_19, bodyB.sl.v224, bodyB.sl.H10_3, bodyB.sl.r, bodyB.sl.v370, bodyB.sl.H10_4, bodyB.sl.H10_4_1, bodyB.sl.v434, bodyB.sl.H10_1, bodyB.sl.r_36, bodyB.sl.cst_207, bodyB.sl.v255, bodyB.sl.r_1, bodyB.sl.r_17, bodyB.sl.r_18, bodyB.sl.r_42, bodyB.sl.r_13, bodyB.sl.v252, bodyB.sl.r_20, bodyB.sl.v0, bodyB.sl.v267, bodyB.sl.r_30, bodyB.sl.v218, bodyB.sl.v204, bodyB.sl.v361, bodyB.sl.cst_225, bodyB.sl.H10_2_1, bodyB.sl.r_33, bodyB.sl.v192, bodyB.sl.H11_2, bodyB.sl.v58, bodyB.sl.H10_2, bodyB.sl.v265, bodyB.sl.v254, bodyB.sl.r_12, bodyB.sl.r_35, bodyB.sl.v207, bodyB.sl.v257, bodyB.sl.v256, bodyB.sl.r_5, bodyB.sl.v131, bodyB.sl.r_11, bodyB.sl.v263, bodyB.sl.r_6, bodyB.sl.v247, bodyB.sl.v253, bodyB.sl.v11, bodyB.sl.r_16, bodyB.sl.H11_1, bodyB.sl.v219, bodyB.sl.r_34, bodyB.sl.v241, bodyB.sl.r_4, bodyB.sl.v376, bodyB.sl.r_21, bodyB.sl.r_25, bodyB.sl.v12, bodyB.sl.H11_3, bodyB.sl.v344, bodyB.sl.r_27, bodyB.sl.r_28, bodyB.sl.v377, bodyB.sl.v266, bodyB.sl.v328, bodyB.sl.v169, bodyB.sl.r_14, bodyB.sl.r_40, bodyB.sl.v186, bodyB.sl.v214, bodyB.sl.v268, bodyB.sl.v217, bodyB.sl.v13, bodyB.sl.H11_4, bodyB.sl.H11_2_1, bodyB.sl.v197, bodyB.sl.v264, bodyB.sl.r_10, bodyB.sl.v205, bodyB.sl.r_41, bodyB.sl.v90, bodyB.sl.v220, bodyB.sl.v223, bodyB.sl.r_8, bodyB.sl.v467, bodyB.sl.v238, bodyB.sl.r_24, bodyB.sl.v450, bodyB.sl.H10_3_1, bodyB.sl.v75, bodyB.sl.r_2, bodyB.sl.r_7, bodyB.sl.v193, bodyB.sl.v1, bodyB.sl.v188, bodyB.sl.r_39, bodyB.sl.v189, bodyB.sl.v206, bodyB.sl.r_22, bodyB.sl.H11_3_1, bodyB.sl.r_23, bodyB.sl.v270, bodyB.sl.v215, bodyB.sl.r_37, bodyB.sl.v269, bodyB.sl.v91, bodyB.sl.v250, bodyB.sl.v187, bodyB.sl.v311, bodyB.sl.v216, bodyB.sl.v271, bodyB.sl.v194, bodyB.sl.r_15, bodyB.sl.v201, bodyB.sl.r_31, bodyB.sl.v195, bodyB.sl.v417, bodyB.sl.v198, bodyB.sl.r_3, bodyB.sl.v221, bodyB.sl.v203, bodyB.sl.r_38, bodyB.sl.H11_4_1, bodyB.sl.r_26,
    write_slice_cons, View.readCov, read_half0k_same, read_half0k_other, load_half0k, read_half1k_same, read_half1k_other, load_half1k, read_half0v_same, read_half0v_other, load_half0v, read_half1v_same, read_half1v_other, load_half1v, View.writes_nil,
    read_lo256, read_hi256, read_lo128, read_hi128, load_lo256, load_hi256, load_lo128, load_hi128, read_zero7, read_zero10, read_zero11,
    ht, q0, q1, d0, d1, s0, s1, y0, y1, p0, p1, r1, q2, q3, d2, d3, s2, s3, y2, y3, p2, p3, r2]
  rw [st7_val]
  simp only [stOf, tile, tileTop, read_half0k_same, read_half0k_other, load_half0k, read_half1k_same, read_half1k_other, load_half1k, read_half0v_same, read_half0v_other, load_half0v, read_half1v_same, read_half1v_other, load_half1v, View.writes_nil, read_zero7, read_zero10, read_zero11, ht, q0, q1, d0, d1, s0, s1, y0, y1, p0, p1, r1, q2, q3, d2, d3, s2, s3, y2, y3, p2, p3, r2]
  rfl

set_option maxHeartbeats 8000000 in
theorem bodyB_dk0 : lo256 (arg8.view.read (Elt F) (bodyB c i arg2 harg2 arg3 harg3 arg4 harg4 arg5 harg5 arg6 harg6 arg7 harg7 arg8 harg8 arg9 harg9 arg10 harg10 arg11 harg11 hc1 hc2 f2 f3 f4 f5 f6 f7 f8 f9 f10 f11).2.1)
    = k0_pay227 (lastPair (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) ((cond2_iff i).mp hc2) (loopSt (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) (start (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) (arg7.view.read (Elt F) f7)) ((7 - (i 1).val) / 2))).dk0 := by
  have hj : (i 1).val < 8 := (i 1).isLt
  have ht : Scf.trips (k0_t1_loop i).lb (k0_t1_loop i).ub (k0_t1_loop i).st = (7 - (i 1).val) / 2 := trips1_eq i
  dsimp only [k0_t1_loop] at ht
  have q0 := fun inb => load_rows256 arg2.view f2 inb (1024 * (i 1).val) (by omega) (off1_eq i)
  have q1 := fun inb => load_rows256 arg2.view f2 inb (1024 * (i 1).val + 512) (by omega) (off3_eq i)
  have d0 := fun inb => load_rows128 arg3.view f3 inb (1024 * (i 1).val) (by omega) (off2_eq i)
  have d1 := fun inb => load_rows128 arg3.view f3 inb (1024 * (i 1).val + 512) (by omega) (off4_eq i)
  have s0 := fun inb => load_rows128 arg4.view f4 inb (1024 * (i 1).val) (by omega) (off2_eq i)
  have s1 := fun inb => load_rows128 arg4.view f4 inb (1024 * (i 1).val + 512) (by omega) (off4_eq i)
  have y0 := fun f inb => load_rows256 (Val := Elt F) arg7.view f inb (1024 * (i 1).val) (by omega) (off1_eq i)
  have y1 := fun f inb => load_rows256 (Val := Elt F) arg7.view f inb (1024 * (i 1).val + 512) (by omega) (off3_eq i)
  have p0 := fun f inb w L => put_rows256 (Val := Elt F) arg7.view f inb w L (1024 * (i 1).val) (off1_eq i)
  have p1 := fun f inb w L => put_rows256 (Val := Elt F) arg7.view f inb w L (1024 * (i 1).val + 512) (off3_eq i)
  have r1 := fun (x : Vec F S8192x256 .f32) w => rows256_put x (1024 * (i 1).val) (1024 * (i 1).val + 512) (by omega) (by omega) w
  have he := (cond2_iff i).mp hc2
  have o5 := off19_eq i
  have o6 := off20_eq i
  rw [show 1024 * (i 1).val + 1536 + 2048 * ((7 - (i 1).val) / 2) = 1024 * (i 1).val + 1024 + 2048 * ((7 - (i 1).val) / 2) + 512 by omega] at o5 o6
  have q2 := fun inb => load_rows256 arg2.view f2 inb (1024 * (i 1).val + 1024 + 2048 * ((7 - (i 1).val) / 2)) (by omega) (off17_eq i)
  have q3 := fun inb => load_rows256 arg2.view f2 inb (1024 * (i 1).val + 1024 + 2048 * ((7 - (i 1).val) / 2) + 512) (by omega) o5
  have d2 := fun inb => load_rows128 arg3.view f3 inb (1024 * (i 1).val + 1024 + 2048 * ((7 - (i 1).val) / 2)) (by omega) (off18_eq i)
  have d3 := fun inb => load_rows128 arg3.view f3 inb (1024 * (i 1).val + 1024 + 2048 * ((7 - (i 1).val) / 2) + 512) (by omega) o6
  have s2 := fun inb => load_rows128 arg4.view f4 inb (1024 * (i 1).val + 1024 + 2048 * ((7 - (i 1).val) / 2)) (by omega) (off18_eq i)
  have s3 := fun inb => load_rows128 arg4.view f4 inb (1024 * (i 1).val + 1024 + 2048 * ((7 - (i 1).val) / 2) + 512) (by omega) o6
  have y2 := fun f inb => load_rows256 (Val := Elt F) arg7.view f inb (1024 * (i 1).val + 1024 + 2048 * ((7 - (i 1).val) / 2)) (by omega) (off17_eq i)
  have y3 := fun f inb => load_rows256 (Val := Elt F) arg7.view f inb (1024 * (i 1).val + 1024 + 2048 * ((7 - (i 1).val) / 2) + 512) (by omega) o5
  have p2 := fun f inb w L => put_rows256 (Val := Elt F) arg7.view f inb w L (1024 * (i 1).val + 1024 + 2048 * ((7 - (i 1).val) / 2)) (off17_eq i)
  have p3 := fun f inb w L => put_rows256 (Val := Elt F) arg7.view f inb w L (1024 * (i 1).val + 1024 + 2048 * ((7 - (i 1).val) / 2) + 512) o5
  have r2 := fun (x : Vec F S8192x256 .f32) w => rows256_put x (1024 * (i 1).val + 1024 + 2048 * ((7 - (i 1).val) / 2)) (1024 * (i 1).val + 1024 + 2048 * ((7 - (i 1).val) / 2) + 512) (by omega) (by omega) w
  unfold bodyB lastPair start
  dsimp only
  simp only [bodyB.sl.v244, bodyB.sl.v251, bodyB.sl.v148, bodyB.sl.r_29, bodyB.sl.v476, bodyB.sl.r_9, bodyB.sl.r_32, bodyB.sl.cst_97, bodyB.sl.v2, bodyB.sl.v208, bodyB.sl.v196, bodyB.sl.r_19, bodyB.sl.v224, bodyB.sl.H10_3, bodyB.sl.r, bodyB.sl.v370, bodyB.sl.H10_4, bodyB.sl.H10_4_1, bodyB.sl.v434, bodyB.sl.H10_1, bodyB.sl.r_36, bodyB.sl.cst_207, bodyB.sl.v255, bodyB.sl.r_1, bodyB.sl.r_17, bodyB.sl.r_18, bodyB.sl.r_42, bodyB.sl.r_13, bodyB.sl.v252, bodyB.sl.r_20, bodyB.sl.v0, bodyB.sl.v267, bodyB.sl.r_30, bodyB.sl.v218, bodyB.sl.v204, bodyB.sl.v361, bodyB.sl.cst_225, bodyB.sl.H10_2_1, bodyB.sl.r_33, bodyB.sl.v192, bodyB.sl.H11_2, bodyB.sl.v58, bodyB.sl.H10_2, bodyB.sl.v265, bodyB.sl.v254, bodyB.sl.r_12, bodyB.sl.r_35, bodyB.sl.v207, bodyB.sl.v257, bodyB.sl.v256, bodyB.sl.r_5, bodyB.sl.v131, bodyB.sl.r_11, bodyB.sl.v263, bodyB.sl.r_6, bodyB.sl.v247, bodyB.sl.v253, bodyB.sl.v11, bodyB.sl.r_16, bodyB.sl.H11_1, bodyB.sl.v219, bodyB.sl.r_34, bodyB.sl.v241, bodyB.sl.r_4, bodyB.sl.v376, bodyB.sl.r_21, bodyB.sl.r_25, bodyB.sl.v12, bodyB.sl.H11_3, bodyB.sl.v344, bodyB.sl.r_27, bodyB.sl.r_28, bodyB.sl.v377, bodyB.sl.v266, bodyB.sl.v328, bodyB.sl.v169, bodyB.sl.r_14, bodyB.sl.r_40, bodyB.sl.v186, bodyB.sl.v214, bodyB.sl.v268, bodyB.sl.v217, bodyB.sl.v13, bodyB.sl.H11_4, bodyB.sl.H11_2_1, bodyB.sl.v197, bodyB.sl.v264, bodyB.sl.r_10, bodyB.sl.v205, bodyB.sl.r_41, bodyB.sl.v90, bodyB.sl.v220, bodyB.sl.v223, bodyB.sl.r_8, bodyB.sl.v467, bodyB.sl.v238, bodyB.sl.r_24, bodyB.sl.v450, bodyB.sl.H10_3_1, bodyB.sl.v75, bodyB.sl.r_2, bodyB.sl.r_7, bodyB.sl.v193, bodyB.sl.v1, bodyB.sl.v188, bodyB.sl.r_39, bodyB.sl.v189, bodyB.sl.v206, bodyB.sl.r_22, bodyB.sl.H11_3_1, bodyB.sl.r_23, bodyB.sl.v270, bodyB.sl.v215, bodyB.sl.r_37, bodyB.sl.v269, bodyB.sl.v91, bodyB.sl.v250, bodyB.sl.v187, bodyB.sl.v311, bodyB.sl.v216, bodyB.sl.v271, bodyB.sl.v194, bodyB.sl.r_15, bodyB.sl.v201, bodyB.sl.r_31, bodyB.sl.v195, bodyB.sl.v417, bodyB.sl.v198, bodyB.sl.r_3, bodyB.sl.v221, bodyB.sl.v203, bodyB.sl.r_38, bodyB.sl.H11_4_1, bodyB.sl.r_26,
    write_slice_cons, View.readCov, read_half0k_same, read_half0k_other, load_half0k, read_half1k_same, read_half1k_other, load_half1k, read_half0v_same, read_half0v_other, load_half0v, read_half1v_same, read_half1v_other, load_half1v, View.writes_nil,
    read_lo256, read_hi256, read_lo128, read_hi128, load_lo256, load_hi256, load_lo128, load_hi128, read_zero7, read_zero10, read_zero11,
    ht, q0, q1, d0, d1, s0, s1, y0, y1, p0, p1, r1, q2, q3, d2, d3, s2, s3, y2, y3, p2, p3, r2]
  rw [st10a_val]
  simp only [stOf, tile, tileTop, read_half0k_same, read_half0k_other, load_half0k, read_half1k_same, read_half1k_other, load_half1k, read_half0v_same, read_half0v_other, load_half0v, read_half1v_same, read_half1v_other, load_half1v, View.writes_nil, read_zero7, read_zero10, read_zero11, ht, q0, q1, d0, d1, s0, s1, y0, y1, p0, p1, r1, q2, q3, d2, d3, s2, s3, y2, y3, p2, p3, r2]
  rfl

set_option maxHeartbeats 8000000 in
theorem bodyB_dk1 : hi256 (arg8.view.read (Elt F) (bodyB c i arg2 harg2 arg3 harg3 arg4 harg4 arg5 harg5 arg6 harg6 arg7 harg7 arg8 harg8 arg9 harg9 arg10 harg10 arg11 harg11 hc1 hc2 f2 f3 f4 f5 f6 f7 f8 f9 f10 f11).2.1)
    = k0_pay229 (lastPair (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) ((cond2_iff i).mp hc2) (loopSt (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) (start (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) (arg7.view.read (Elt F) f7)) ((7 - (i 1).val) / 2))).dk1 := by
  have hj : (i 1).val < 8 := (i 1).isLt
  have ht : Scf.trips (k0_t1_loop i).lb (k0_t1_loop i).ub (k0_t1_loop i).st = (7 - (i 1).val) / 2 := trips1_eq i
  dsimp only [k0_t1_loop] at ht
  have q0 := fun inb => load_rows256 arg2.view f2 inb (1024 * (i 1).val) (by omega) (off1_eq i)
  have q1 := fun inb => load_rows256 arg2.view f2 inb (1024 * (i 1).val + 512) (by omega) (off3_eq i)
  have d0 := fun inb => load_rows128 arg3.view f3 inb (1024 * (i 1).val) (by omega) (off2_eq i)
  have d1 := fun inb => load_rows128 arg3.view f3 inb (1024 * (i 1).val + 512) (by omega) (off4_eq i)
  have s0 := fun inb => load_rows128 arg4.view f4 inb (1024 * (i 1).val) (by omega) (off2_eq i)
  have s1 := fun inb => load_rows128 arg4.view f4 inb (1024 * (i 1).val + 512) (by omega) (off4_eq i)
  have y0 := fun f inb => load_rows256 (Val := Elt F) arg7.view f inb (1024 * (i 1).val) (by omega) (off1_eq i)
  have y1 := fun f inb => load_rows256 (Val := Elt F) arg7.view f inb (1024 * (i 1).val + 512) (by omega) (off3_eq i)
  have p0 := fun f inb w L => put_rows256 (Val := Elt F) arg7.view f inb w L (1024 * (i 1).val) (off1_eq i)
  have p1 := fun f inb w L => put_rows256 (Val := Elt F) arg7.view f inb w L (1024 * (i 1).val + 512) (off3_eq i)
  have r1 := fun (x : Vec F S8192x256 .f32) w => rows256_put x (1024 * (i 1).val) (1024 * (i 1).val + 512) (by omega) (by omega) w
  have he := (cond2_iff i).mp hc2
  have o5 := off19_eq i
  have o6 := off20_eq i
  rw [show 1024 * (i 1).val + 1536 + 2048 * ((7 - (i 1).val) / 2) = 1024 * (i 1).val + 1024 + 2048 * ((7 - (i 1).val) / 2) + 512 by omega] at o5 o6
  have q2 := fun inb => load_rows256 arg2.view f2 inb (1024 * (i 1).val + 1024 + 2048 * ((7 - (i 1).val) / 2)) (by omega) (off17_eq i)
  have q3 := fun inb => load_rows256 arg2.view f2 inb (1024 * (i 1).val + 1024 + 2048 * ((7 - (i 1).val) / 2) + 512) (by omega) o5
  have d2 := fun inb => load_rows128 arg3.view f3 inb (1024 * (i 1).val + 1024 + 2048 * ((7 - (i 1).val) / 2)) (by omega) (off18_eq i)
  have d3 := fun inb => load_rows128 arg3.view f3 inb (1024 * (i 1).val + 1024 + 2048 * ((7 - (i 1).val) / 2) + 512) (by omega) o6
  have s2 := fun inb => load_rows128 arg4.view f4 inb (1024 * (i 1).val + 1024 + 2048 * ((7 - (i 1).val) / 2)) (by omega) (off18_eq i)
  have s3 := fun inb => load_rows128 arg4.view f4 inb (1024 * (i 1).val + 1024 + 2048 * ((7 - (i 1).val) / 2) + 512) (by omega) o6
  have y2 := fun f inb => load_rows256 (Val := Elt F) arg7.view f inb (1024 * (i 1).val + 1024 + 2048 * ((7 - (i 1).val) / 2)) (by omega) (off17_eq i)
  have y3 := fun f inb => load_rows256 (Val := Elt F) arg7.view f inb (1024 * (i 1).val + 1024 + 2048 * ((7 - (i 1).val) / 2) + 512) (by omega) o5
  have p2 := fun f inb w L => put_rows256 (Val := Elt F) arg7.view f inb w L (1024 * (i 1).val + 1024 + 2048 * ((7 - (i 1).val) / 2)) (off17_eq i)
  have p3 := fun f inb w L => put_rows256 (Val := Elt F) arg7.view f inb w L (1024 * (i 1).val + 1024 + 2048 * ((7 - (i 1).val) / 2) + 512) o5
  have r2 := fun (x : Vec F S8192x256 .f32) w => rows256_put x (1024 * (i 1).val + 1024 + 2048 * ((7 - (i 1).val) / 2)) (1024 * (i 1).val + 1024 + 2048 * ((7 - (i 1).val) / 2) + 512) (by omega) (by omega) w
  unfold bodyB lastPair start
  dsimp only
  simp only [bodyB.sl.v244, bodyB.sl.v251, bodyB.sl.v148, bodyB.sl.r_29, bodyB.sl.v476, bodyB.sl.r_9, bodyB.sl.r_32, bodyB.sl.cst_97, bodyB.sl.v2, bodyB.sl.v208, bodyB.sl.v196, bodyB.sl.r_19, bodyB.sl.v224, bodyB.sl.H10_3, bodyB.sl.r, bodyB.sl.v370, bodyB.sl.H10_4, bodyB.sl.H10_4_1, bodyB.sl.v434, bodyB.sl.H10_1, bodyB.sl.r_36, bodyB.sl.cst_207, bodyB.sl.v255, bodyB.sl.r_1, bodyB.sl.r_17, bodyB.sl.r_18, bodyB.sl.r_42, bodyB.sl.r_13, bodyB.sl.v252, bodyB.sl.r_20, bodyB.sl.v0, bodyB.sl.v267, bodyB.sl.r_30, bodyB.sl.v218, bodyB.sl.v204, bodyB.sl.v361, bodyB.sl.cst_225, bodyB.sl.H10_2_1, bodyB.sl.r_33, bodyB.sl.v192, bodyB.sl.H11_2, bodyB.sl.v58, bodyB.sl.H10_2, bodyB.sl.v265, bodyB.sl.v254, bodyB.sl.r_12, bodyB.sl.r_35, bodyB.sl.v207, bodyB.sl.v257, bodyB.sl.v256, bodyB.sl.r_5, bodyB.sl.v131, bodyB.sl.r_11, bodyB.sl.v263, bodyB.sl.r_6, bodyB.sl.v247, bodyB.sl.v253, bodyB.sl.v11, bodyB.sl.r_16, bodyB.sl.H11_1, bodyB.sl.v219, bodyB.sl.r_34, bodyB.sl.v241, bodyB.sl.r_4, bodyB.sl.v376, bodyB.sl.r_21, bodyB.sl.r_25, bodyB.sl.v12, bodyB.sl.H11_3, bodyB.sl.v344, bodyB.sl.r_27, bodyB.sl.r_28, bodyB.sl.v377, bodyB.sl.v266, bodyB.sl.v328, bodyB.sl.v169, bodyB.sl.r_14, bodyB.sl.r_40, bodyB.sl.v186, bodyB.sl.v214, bodyB.sl.v268, bodyB.sl.v217, bodyB.sl.v13, bodyB.sl.H11_4, bodyB.sl.H11_2_1, bodyB.sl.v197, bodyB.sl.v264, bodyB.sl.r_10, bodyB.sl.v205, bodyB.sl.r_41, bodyB.sl.v90, bodyB.sl.v220, bodyB.sl.v223, bodyB.sl.r_8, bodyB.sl.v467, bodyB.sl.v238, bodyB.sl.r_24, bodyB.sl.v450, bodyB.sl.H10_3_1, bodyB.sl.v75, bodyB.sl.r_2, bodyB.sl.r_7, bodyB.sl.v193, bodyB.sl.v1, bodyB.sl.v188, bodyB.sl.r_39, bodyB.sl.v189, bodyB.sl.v206, bodyB.sl.r_22, bodyB.sl.H11_3_1, bodyB.sl.r_23, bodyB.sl.v270, bodyB.sl.v215, bodyB.sl.r_37, bodyB.sl.v269, bodyB.sl.v91, bodyB.sl.v250, bodyB.sl.v187, bodyB.sl.v311, bodyB.sl.v216, bodyB.sl.v271, bodyB.sl.v194, bodyB.sl.r_15, bodyB.sl.v201, bodyB.sl.r_31, bodyB.sl.v195, bodyB.sl.v417, bodyB.sl.v198, bodyB.sl.r_3, bodyB.sl.v221, bodyB.sl.v203, bodyB.sl.r_38, bodyB.sl.H11_4_1, bodyB.sl.r_26,
    write_slice_cons, View.readCov, read_half0k_same, read_half0k_other, load_half0k, read_half1k_same, read_half1k_other, load_half1k, read_half0v_same, read_half0v_other, load_half0v, read_half1v_same, read_half1v_other, load_half1v, View.writes_nil,
    read_lo256, read_hi256, read_lo128, read_hi128, load_lo256, load_hi256, load_lo128, load_hi128, read_zero7, read_zero10, read_zero11,
    ht, q0, q1, d0, d1, s0, s1, y0, y1, p0, p1, r1, q2, q3, d2, d3, s2, s3, y2, y3, p2, p3, r2]
  rw [st10b_val]
  simp only [stOf, tile, tileTop, read_half0k_same, read_half0k_other, load_half0k, read_half1k_same, read_half1k_other, load_half1k, read_half0v_same, read_half0v_other, load_half0v, read_half1v_same, read_half1v_other, load_half1v, View.writes_nil, read_zero7, read_zero10, read_zero11, ht, q0, q1, d0, d1, s0, s1, y0, y1, p0, p1, r1, q2, q3, d2, d3, s2, s3, y2, y3, p2, p3, r2]
  rfl

set_option maxHeartbeats 8000000 in
theorem bodyB_dv0 : lo128 (arg9.view.read (Elt F) (bodyB c i arg2 harg2 arg3 harg3 arg4 harg4 arg5 harg5 arg6 harg6 arg7 harg7 arg8 harg8 arg9 harg9 arg10 harg10 arg11 harg11 hc1 hc2 f2 f3 f4 f5 f6 f7 f8 f9 f10 f11).2.2.1)
    = k0_pay228 (lastPair (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) ((cond2_iff i).mp hc2) (loopSt (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) (start (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) (arg7.view.read (Elt F) f7)) ((7 - (i 1).val) / 2))).dv0 := by
  have hj : (i 1).val < 8 := (i 1).isLt
  have ht : Scf.trips (k0_t1_loop i).lb (k0_t1_loop i).ub (k0_t1_loop i).st = (7 - (i 1).val) / 2 := trips1_eq i
  dsimp only [k0_t1_loop] at ht
  have q0 := fun inb => load_rows256 arg2.view f2 inb (1024 * (i 1).val) (by omega) (off1_eq i)
  have q1 := fun inb => load_rows256 arg2.view f2 inb (1024 * (i 1).val + 512) (by omega) (off3_eq i)
  have d0 := fun inb => load_rows128 arg3.view f3 inb (1024 * (i 1).val) (by omega) (off2_eq i)
  have d1 := fun inb => load_rows128 arg3.view f3 inb (1024 * (i 1).val + 512) (by omega) (off4_eq i)
  have s0 := fun inb => load_rows128 arg4.view f4 inb (1024 * (i 1).val) (by omega) (off2_eq i)
  have s1 := fun inb => load_rows128 arg4.view f4 inb (1024 * (i 1).val + 512) (by omega) (off4_eq i)
  have y0 := fun f inb => load_rows256 (Val := Elt F) arg7.view f inb (1024 * (i 1).val) (by omega) (off1_eq i)
  have y1 := fun f inb => load_rows256 (Val := Elt F) arg7.view f inb (1024 * (i 1).val + 512) (by omega) (off3_eq i)
  have p0 := fun f inb w L => put_rows256 (Val := Elt F) arg7.view f inb w L (1024 * (i 1).val) (off1_eq i)
  have p1 := fun f inb w L => put_rows256 (Val := Elt F) arg7.view f inb w L (1024 * (i 1).val + 512) (off3_eq i)
  have r1 := fun (x : Vec F S8192x256 .f32) w => rows256_put x (1024 * (i 1).val) (1024 * (i 1).val + 512) (by omega) (by omega) w
  have he := (cond2_iff i).mp hc2
  have o5 := off19_eq i
  have o6 := off20_eq i
  rw [show 1024 * (i 1).val + 1536 + 2048 * ((7 - (i 1).val) / 2) = 1024 * (i 1).val + 1024 + 2048 * ((7 - (i 1).val) / 2) + 512 by omega] at o5 o6
  have q2 := fun inb => load_rows256 arg2.view f2 inb (1024 * (i 1).val + 1024 + 2048 * ((7 - (i 1).val) / 2)) (by omega) (off17_eq i)
  have q3 := fun inb => load_rows256 arg2.view f2 inb (1024 * (i 1).val + 1024 + 2048 * ((7 - (i 1).val) / 2) + 512) (by omega) o5
  have d2 := fun inb => load_rows128 arg3.view f3 inb (1024 * (i 1).val + 1024 + 2048 * ((7 - (i 1).val) / 2)) (by omega) (off18_eq i)
  have d3 := fun inb => load_rows128 arg3.view f3 inb (1024 * (i 1).val + 1024 + 2048 * ((7 - (i 1).val) / 2) + 512) (by omega) o6
  have s2 := fun inb => load_rows128 arg4.view f4 inb (1024 * (i 1).val + 1024 + 2048 * ((7 - (i 1).val) / 2)) (by omega) (off18_eq i)
  have s3 := fun inb => load_rows128 arg4.view f4 inb (1024 * (i 1).val + 1024 + 2048 * ((7 - (i 1).val) / 2) + 512) (by omega) o6
  have y2 := fun f inb => load_rows256 (Val := Elt F) arg7.view f inb (1024 * (i 1).val + 1024 + 2048 * ((7 - (i 1).val) / 2)) (by omega) (off17_eq i)
  have y3 := fun f inb => load_rows256 (Val := Elt F) arg7.view f inb (1024 * (i 1).val + 1024 + 2048 * ((7 - (i 1).val) / 2) + 512) (by omega) o5
  have p2 := fun f inb w L => put_rows256 (Val := Elt F) arg7.view f inb w L (1024 * (i 1).val + 1024 + 2048 * ((7 - (i 1).val) / 2)) (off17_eq i)
  have p3 := fun f inb w L => put_rows256 (Val := Elt F) arg7.view f inb w L (1024 * (i 1).val + 1024 + 2048 * ((7 - (i 1).val) / 2) + 512) o5
  have r2 := fun (x : Vec F S8192x256 .f32) w => rows256_put x (1024 * (i 1).val + 1024 + 2048 * ((7 - (i 1).val) / 2)) (1024 * (i 1).val + 1024 + 2048 * ((7 - (i 1).val) / 2) + 512) (by omega) (by omega) w
  unfold bodyB lastPair start
  dsimp only
  simp only [bodyB.sl.v244, bodyB.sl.v251, bodyB.sl.v148, bodyB.sl.r_29, bodyB.sl.v476, bodyB.sl.r_9, bodyB.sl.r_32, bodyB.sl.cst_97, bodyB.sl.v2, bodyB.sl.v208, bodyB.sl.v196, bodyB.sl.r_19, bodyB.sl.v224, bodyB.sl.H10_3, bodyB.sl.r, bodyB.sl.v370, bodyB.sl.H10_4, bodyB.sl.H10_4_1, bodyB.sl.v434, bodyB.sl.H10_1, bodyB.sl.r_36, bodyB.sl.cst_207, bodyB.sl.v255, bodyB.sl.r_1, bodyB.sl.r_17, bodyB.sl.r_18, bodyB.sl.r_42, bodyB.sl.r_13, bodyB.sl.v252, bodyB.sl.r_20, bodyB.sl.v0, bodyB.sl.v267, bodyB.sl.r_30, bodyB.sl.v218, bodyB.sl.v204, bodyB.sl.v361, bodyB.sl.cst_225, bodyB.sl.H10_2_1, bodyB.sl.r_33, bodyB.sl.v192, bodyB.sl.H11_2, bodyB.sl.v58, bodyB.sl.H10_2, bodyB.sl.v265, bodyB.sl.v254, bodyB.sl.r_12, bodyB.sl.r_35, bodyB.sl.v207, bodyB.sl.v257, bodyB.sl.v256, bodyB.sl.r_5, bodyB.sl.v131, bodyB.sl.r_11, bodyB.sl.v263, bodyB.sl.r_6, bodyB.sl.v247, bodyB.sl.v253, bodyB.sl.v11, bodyB.sl.r_16, bodyB.sl.H11_1, bodyB.sl.v219, bodyB.sl.r_34, bodyB.sl.v241, bodyB.sl.r_4, bodyB.sl.v376, bodyB.sl.r_21, bodyB.sl.r_25, bodyB.sl.v12, bodyB.sl.H11_3, bodyB.sl.v344, bodyB.sl.r_27, bodyB.sl.r_28, bodyB.sl.v377, bodyB.sl.v266, bodyB.sl.v328, bodyB.sl.v169, bodyB.sl.r_14, bodyB.sl.r_40, bodyB.sl.v186, bodyB.sl.v214, bodyB.sl.v268, bodyB.sl.v217, bodyB.sl.v13, bodyB.sl.H11_4, bodyB.sl.H11_2_1, bodyB.sl.v197, bodyB.sl.v264, bodyB.sl.r_10, bodyB.sl.v205, bodyB.sl.r_41, bodyB.sl.v90, bodyB.sl.v220, bodyB.sl.v223, bodyB.sl.r_8, bodyB.sl.v467, bodyB.sl.v238, bodyB.sl.r_24, bodyB.sl.v450, bodyB.sl.H10_3_1, bodyB.sl.v75, bodyB.sl.r_2, bodyB.sl.r_7, bodyB.sl.v193, bodyB.sl.v1, bodyB.sl.v188, bodyB.sl.r_39, bodyB.sl.v189, bodyB.sl.v206, bodyB.sl.r_22, bodyB.sl.H11_3_1, bodyB.sl.r_23, bodyB.sl.v270, bodyB.sl.v215, bodyB.sl.r_37, bodyB.sl.v269, bodyB.sl.v91, bodyB.sl.v250, bodyB.sl.v187, bodyB.sl.v311, bodyB.sl.v216, bodyB.sl.v271, bodyB.sl.v194, bodyB.sl.r_15, bodyB.sl.v201, bodyB.sl.r_31, bodyB.sl.v195, bodyB.sl.v417, bodyB.sl.v198, bodyB.sl.r_3, bodyB.sl.v221, bodyB.sl.v203, bodyB.sl.r_38, bodyB.sl.H11_4_1, bodyB.sl.r_26,
    write_slice_cons, View.readCov, read_half0k_same, read_half0k_other, load_half0k, read_half1k_same, read_half1k_other, load_half1k, read_half0v_same, read_half0v_other, load_half0v, read_half1v_same, read_half1v_other, load_half1v, View.writes_nil,
    read_lo256, read_hi256, read_lo128, read_hi128, load_lo256, load_hi256, load_lo128, load_hi128, read_zero7, read_zero10, read_zero11,
    ht, q0, q1, d0, d1, s0, s1, y0, y1, p0, p1, r1, q2, q3, d2, d3, s2, s3, y2, y3, p2, p3, r2]
  rw [st11a_val]
  simp only [stOf, tile, tileTop, read_half0k_same, read_half0k_other, load_half0k, read_half1k_same, read_half1k_other, load_half1k, read_half0v_same, read_half0v_other, load_half0v, read_half1v_same, read_half1v_other, load_half1v, View.writes_nil, read_zero7, read_zero10, read_zero11, ht, q0, q1, d0, d1, s0, s1, y0, y1, p0, p1, r1, q2, q3, d2, d3, s2, s3, y2, y3, p2, p3, r2]
  rfl

set_option maxHeartbeats 8000000 in
theorem bodyB_dv1 : hi128 (arg9.view.read (Elt F) (bodyB c i arg2 harg2 arg3 harg3 arg4 harg4 arg5 harg5 arg6 harg6 arg7 harg7 arg8 harg8 arg9 harg9 arg10 harg10 arg11 harg11 hc1 hc2 f2 f3 f4 f5 f6 f7 f8 f9 f10 f11).2.2.1)
    = k0_pay230 (lastPair (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) ((cond2_iff i).mp hc2) (loopSt (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) (start (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) (arg7.view.read (Elt F) f7)) ((7 - (i 1).val) / 2))).dv1 := by
  have hj : (i 1).val < 8 := (i 1).isLt
  have ht : Scf.trips (k0_t1_loop i).lb (k0_t1_loop i).ub (k0_t1_loop i).st = (7 - (i 1).val) / 2 := trips1_eq i
  dsimp only [k0_t1_loop] at ht
  have q0 := fun inb => load_rows256 arg2.view f2 inb (1024 * (i 1).val) (by omega) (off1_eq i)
  have q1 := fun inb => load_rows256 arg2.view f2 inb (1024 * (i 1).val + 512) (by omega) (off3_eq i)
  have d0 := fun inb => load_rows128 arg3.view f3 inb (1024 * (i 1).val) (by omega) (off2_eq i)
  have d1 := fun inb => load_rows128 arg3.view f3 inb (1024 * (i 1).val + 512) (by omega) (off4_eq i)
  have s0 := fun inb => load_rows128 arg4.view f4 inb (1024 * (i 1).val) (by omega) (off2_eq i)
  have s1 := fun inb => load_rows128 arg4.view f4 inb (1024 * (i 1).val + 512) (by omega) (off4_eq i)
  have y0 := fun f inb => load_rows256 (Val := Elt F) arg7.view f inb (1024 * (i 1).val) (by omega) (off1_eq i)
  have y1 := fun f inb => load_rows256 (Val := Elt F) arg7.view f inb (1024 * (i 1).val + 512) (by omega) (off3_eq i)
  have p0 := fun f inb w L => put_rows256 (Val := Elt F) arg7.view f inb w L (1024 * (i 1).val) (off1_eq i)
  have p1 := fun f inb w L => put_rows256 (Val := Elt F) arg7.view f inb w L (1024 * (i 1).val + 512) (off3_eq i)
  have r1 := fun (x : Vec F S8192x256 .f32) w => rows256_put x (1024 * (i 1).val) (1024 * (i 1).val + 512) (by omega) (by omega) w
  have he := (cond2_iff i).mp hc2
  have o5 := off19_eq i
  have o6 := off20_eq i
  rw [show 1024 * (i 1).val + 1536 + 2048 * ((7 - (i 1).val) / 2) = 1024 * (i 1).val + 1024 + 2048 * ((7 - (i 1).val) / 2) + 512 by omega] at o5 o6
  have q2 := fun inb => load_rows256 arg2.view f2 inb (1024 * (i 1).val + 1024 + 2048 * ((7 - (i 1).val) / 2)) (by omega) (off17_eq i)
  have q3 := fun inb => load_rows256 arg2.view f2 inb (1024 * (i 1).val + 1024 + 2048 * ((7 - (i 1).val) / 2) + 512) (by omega) o5
  have d2 := fun inb => load_rows128 arg3.view f3 inb (1024 * (i 1).val + 1024 + 2048 * ((7 - (i 1).val) / 2)) (by omega) (off18_eq i)
  have d3 := fun inb => load_rows128 arg3.view f3 inb (1024 * (i 1).val + 1024 + 2048 * ((7 - (i 1).val) / 2) + 512) (by omega) o6
  have s2 := fun inb => load_rows128 arg4.view f4 inb (1024 * (i 1).val + 1024 + 2048 * ((7 - (i 1).val) / 2)) (by omega) (off18_eq i)
  have s3 := fun inb => load_rows128 arg4.view f4 inb (1024 * (i 1).val + 1024 + 2048 * ((7 - (i 1).val) / 2) + 512) (by omega) o6
  have y2 := fun f inb => load_rows256 (Val := Elt F) arg7.view f inb (1024 * (i 1).val + 1024 + 2048 * ((7 - (i 1).val) / 2)) (by omega) (off17_eq i)
  have y3 := fun f inb => load_rows256 (Val := Elt F) arg7.view f inb (1024 * (i 1).val + 1024 + 2048 * ((7 - (i 1).val) / 2) + 512) (by omega) o5
  have p2 := fun f inb w L => put_rows256 (Val := Elt F) arg7.view f inb w L (1024 * (i 1).val + 1024 + 2048 * ((7 - (i 1).val) / 2)) (off17_eq i)
  have p3 := fun f inb w L => put_rows256 (Val := Elt F) arg7.view f inb w L (1024 * (i 1).val + 1024 + 2048 * ((7 - (i 1).val) / 2) + 512) o5
  have r2 := fun (x : Vec F S8192x256 .f32) w => rows256_put x (1024 * (i 1).val + 1024 + 2048 * ((7 - (i 1).val) / 2)) (1024 * (i 1).val + 1024 + 2048 * ((7 - (i 1).val) / 2) + 512) (by omega) (by omega) w
  unfold bodyB lastPair start
  dsimp only
  simp only [bodyB.sl.v244, bodyB.sl.v251, bodyB.sl.v148, bodyB.sl.r_29, bodyB.sl.v476, bodyB.sl.r_9, bodyB.sl.r_32, bodyB.sl.cst_97, bodyB.sl.v2, bodyB.sl.v208, bodyB.sl.v196, bodyB.sl.r_19, bodyB.sl.v224, bodyB.sl.H10_3, bodyB.sl.r, bodyB.sl.v370, bodyB.sl.H10_4, bodyB.sl.H10_4_1, bodyB.sl.v434, bodyB.sl.H10_1, bodyB.sl.r_36, bodyB.sl.cst_207, bodyB.sl.v255, bodyB.sl.r_1, bodyB.sl.r_17, bodyB.sl.r_18, bodyB.sl.r_42, bodyB.sl.r_13, bodyB.sl.v252, bodyB.sl.r_20, bodyB.sl.v0, bodyB.sl.v267, bodyB.sl.r_30, bodyB.sl.v218, bodyB.sl.v204, bodyB.sl.v361, bodyB.sl.cst_225, bodyB.sl.H10_2_1, bodyB.sl.r_33, bodyB.sl.v192, bodyB.sl.H11_2, bodyB.sl.v58, bodyB.sl.H10_2, bodyB.sl.v265, bodyB.sl.v254, bodyB.sl.r_12, bodyB.sl.r_35, bodyB.sl.v207, bodyB.sl.v257, bodyB.sl.v256, bodyB.sl.r_5, bodyB.sl.v131, bodyB.sl.r_11, bodyB.sl.v263, bodyB.sl.r_6, bodyB.sl.v247, bodyB.sl.v253, bodyB.sl.v11, bodyB.sl.r_16, bodyB.sl.H11_1, bodyB.sl.v219, bodyB.sl.r_34, bodyB.sl.v241, bodyB.sl.r_4, bodyB.sl.v376, bodyB.sl.r_21, bodyB.sl.r_25, bodyB.sl.v12, bodyB.sl.H11_3, bodyB.sl.v344, bodyB.sl.r_27, bodyB.sl.r_28, bodyB.sl.v377, bodyB.sl.v266, bodyB.sl.v328, bodyB.sl.v169, bodyB.sl.r_14, bodyB.sl.r_40, bodyB.sl.v186, bodyB.sl.v214, bodyB.sl.v268, bodyB.sl.v217, bodyB.sl.v13, bodyB.sl.H11_4, bodyB.sl.H11_2_1, bodyB.sl.v197, bodyB.sl.v264, bodyB.sl.r_10, bodyB.sl.v205, bodyB.sl.r_41, bodyB.sl.v90, bodyB.sl.v220, bodyB.sl.v223, bodyB.sl.r_8, bodyB.sl.v467, bodyB.sl.v238, bodyB.sl.r_24, bodyB.sl.v450, bodyB.sl.H10_3_1, bodyB.sl.v75, bodyB.sl.r_2, bodyB.sl.r_7, bodyB.sl.v193, bodyB.sl.v1, bodyB.sl.v188, bodyB.sl.r_39, bodyB.sl.v189, bodyB.sl.v206, bodyB.sl.r_22, bodyB.sl.H11_3_1, bodyB.sl.r_23, bodyB.sl.v270, bodyB.sl.v215, bodyB.sl.r_37, bodyB.sl.v269, bodyB.sl.v91, bodyB.sl.v250, bodyB.sl.v187, bodyB.sl.v311, bodyB.sl.v216, bodyB.sl.v271, bodyB.sl.v194, bodyB.sl.r_15, bodyB.sl.v201, bodyB.sl.r_31, bodyB.sl.v195, bodyB.sl.v417, bodyB.sl.v198, bodyB.sl.r_3, bodyB.sl.v221, bodyB.sl.v203, bodyB.sl.r_38, bodyB.sl.H11_4_1, bodyB.sl.r_26,
    write_slice_cons, View.readCov, read_half0k_same, read_half0k_other, load_half0k, read_half1k_same, read_half1k_other, load_half1k, read_half0v_same, read_half0v_other, load_half0v, read_half1v_same, read_half1v_other, load_half1v, View.writes_nil,
    read_lo256, read_hi256, read_lo128, read_hi128, load_lo256, load_hi256, load_lo128, load_hi128, read_zero7, read_zero10, read_zero11,
    ht, q0, q1, d0, d1, s0, s1, y0, y1, p0, p1, r1, q2, q3, d2, d3, s2, s3, y2, y3, p2, p3, r2]
  rw [st11b_val]
  simp only [stOf, tile, tileTop, read_half0k_same, read_half0k_other, load_half0k, read_half1k_same, read_half1k_other, load_half1k, read_half0v_same, read_half0v_other, load_half0v, read_half1v_same, read_half1v_other, load_half1v, View.writes_nil, read_zero7, read_zero10, read_zero11, ht, q0, q1, d0, d1, s0, s1, y0, y1, p0, p1, r1, q2, q3, d2, d3, s2, s3, y2, y3, p2, p3, r2]
  rfl

end

end Cert.Proof.Run

end
-- ==== Proof.Run.BodyValC.lean ====
/-
  The values of the buffers at the end of the body, at an odd point.
-/
module

public import proofs.«01_k».proof.Proof.Run.LoopVal
public import proofs.«01_k».proof.Proof.Run.BodyC

@[expose] public section

set_option maxRecDepth 16384

noncomputable section

namespace Cert.Proof.Run

open Cert.KernelIdeal Cert.KernelIdeal.Gen
open Idealize.ShloMosaic
open Idealize.ShloMosaic.TcCoe Idealize.ShloMosaic.Tactic

variable {F : FTy → Type} [FloatOps F] [Named F]

section

variable (c : Dev nD) (i : grid0.Coords)
  (arg2 : Memref sig .tc .vmem S8192x256 .bf16) (harg2 : arg2.IsWhole) (arg3 : Memref sig .tc .vmem S8192x128 .bf16) (harg3 : arg3.IsWhole)
  (arg4 : Memref sig .tc .vmem S8192x128 .f32) (harg4 : arg4.IsWhole) (arg5 : Memref sig .tc .vmem S1024x256 .bf16) (harg5 : arg5.IsWhole)
  (arg6 : Memref sig .tc .vmem S1024x128 .bf16) (harg6 : arg6.IsWhole) (arg7 : Memref sig .tc .vmem S8192x256 .f32) (harg7 : arg7.IsWhole)
  (arg8 : Memref sig .tc .vmem S1024x256 .f32) (harg8 : arg8.IsWhole) (arg9 : Memref sig .tc .vmem S1024x128 .f32) (harg9 : arg9.IsWhole)
  (arg10 : Memref sig .tc .vmem S2x512x256 .f32) (harg10 : arg10.IsWhole) (arg11 : Memref sig .tc .vmem S2x512x128 .f32) (harg11 : arg11.IsWhole)
  (hc1 : ¬ cond1 i) (hc2 : ¬ k0_cond2 i = 1#1)
  (f2 : Bf (F := F) c arg2) (f3 : Bf (F := F) c arg3) (f4 : Bf (F := F) c arg4) (f5 : Bf (F := F) c arg5) (f6 : Bf (F := F) c arg6)
  (f7 : Bf (F := F) c arg7) (f8 : Bf (F := F) c arg8) (f9 : Bf (F := F) c arg9) (f10 : Bf (F := F) c arg10) (f11 : Bf (F := F) c arg11)

set_option maxHeartbeats 8000000 in
theorem bodyC_dq : arg7.view.read (Elt F) (bodyC c i arg2 harg2 arg3 harg3 arg4 harg4 arg5 harg5 arg6 harg6 arg7 harg7 arg8 harg8 arg9 harg9 arg10 harg10 arg11 harg11 hc1 hc2 f2 f3 f4 f5 f6 f7 f8 f9 f10 f11).1
    = (loopSt (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) (start (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) (arg7.view.read (Elt F) f7)) ((7 - (i 1).val) / 2)).dq := by
  have hj : (i 1).val < 8 := (i 1).isLt
  have ht : Scf.trips (k0_t1_loop i).lb (k0_t1_loop i).ub (k0_t1_loop i).st = (7 - (i 1).val) / 2 := trips1_eq i
  dsimp only [k0_t1_loop] at ht
  have q0 := fun inb => load_rows256 arg2.view f2 inb (1024 * (i 1).val) (by omega) (off1_eq i)
  have q1 := fun inb => load_rows256 arg2.view f2 inb (1024 * (i 1).val + 512) (by omega) (off3_eq i)
  have d0 := fun inb => load_rows128 arg3.view f3 inb (1024 * (i 1).val) (by omega) (off2_eq i)
  have d1 := fun inb => load_rows128 arg3.view f3 inb (1024 * (i 1).val + 512) (by omega) (off4_eq i)
  have s0 := fun inb => load_rows128 arg4.view f4 inb (1024 * (i 1).val) (by omega) (off2_eq i)
  have s1 := fun inb => load_rows128 arg4.view f4 inb (1024 * (i 1).val + 512) (by omega) (off4_eq i)
  have y0 := fun f inb => load_rows256 (Val := Elt F) arg7.view f inb (1024 * (i 1).val) (by omega) (off1_eq i)
  have y1 := fun f inb => load_rows256 (Val := Elt F) arg7.view f inb (1024 * (i 1).val + 512) (by omega) (off3_eq i)
  have p0 := fun f inb w L => put_rows256 (Val := Elt F) arg7.view f inb w L (1024 * (i 1).val) (off1_eq i)
  have p1 := fun f inb w L => put_rows256 (Val := Elt F) arg7.view f inb w L (1024 * (i 1).val + 512) (off3_eq i)
  have r1 := fun (x : Vec F S8192x256 .f32) w => rows256_put x (1024 * (i 1).val) (1024 * (i 1).val + 512) (by omega) (by omega) w
  unfold bodyC start
  dsimp only
  simp only [bodyC.sl.v75, bodyC.sl.r_17, bodyC.sl.v197, bodyC.sl.v223, bodyC.sl.cst_97, bodyC.sl.v224, bodyC.sl.v188, bodyC.sl.v0, bodyC.sl.H11_1, bodyC.sl.v207, bodyC.sl.v2, bodyC.sl.r_11, bodyC.sl.r, bodyC.sl.r_8, bodyC.sl.r_7, bodyC.sl.r_12, bodyC.sl.v13, bodyC.sl.v90, bodyC.sl.r_2, bodyC.sl.v187, bodyC.sl.r_15, bodyC.sl.v195, bodyC.sl.v216, bodyC.sl.H11_2, bodyC.sl.v189, bodyC.sl.r_14, bodyC.sl.r_5, bodyC.sl.v218, bodyC.sl.v204, bodyC.sl.v1, bodyC.sl.v205, bodyC.sl.r_3, bodyC.sl.v186, bodyC.sl.v217, bodyC.sl.v11, bodyC.sl.H10_4, bodyC.sl.v215, bodyC.sl.v193, bodyC.sl.H10_3, bodyC.sl.r_13, bodyC.sl.r_6, bodyC.sl.v58, bodyC.sl.v148, bodyC.sl.H11_4, bodyC.sl.v194, bodyC.sl.H10_1, bodyC.sl.v206, bodyC.sl.v12, bodyC.sl.v198, bodyC.sl.v221, bodyC.sl.v203, bodyC.sl.r_9, bodyC.sl.v244, bodyC.sl.r_1, bodyC.sl.v192, bodyC.sl.H11_3, bodyC.sl.v241, bodyC.sl.v247, bodyC.sl.v220, bodyC.sl.v219, bodyC.sl.v91, bodyC.sl.v169, bodyC.sl.H10_2, bodyC.sl.r_4, bodyC.sl.v196, bodyC.sl.v208, bodyC.sl.r_10, bodyC.sl.v214, bodyC.sl.r_16, bodyC.sl.v131, bodyC.sl.v201, bodyC.sl.v238,
    write_slice_cons, View.readCov, read_half0k_same, read_half0k_other, load_half0k, read_half1k_same, read_half1k_other, load_half1k, read_half0v_same, read_half0v_other, load_half0v, read_half1v_same, read_half1v_other, load_half1v, View.writes_nil,
    read_lo256, read_hi256, read_lo128, read_hi128, load_lo256, load_hi256, load_lo128, load_hi128, read_zero7, read_zero10, read_zero11,
    ht, q0, q1, d0, d1, s0, s1, y0, y1, p0, p1, r1]
  rw [st7_val]
  simp only [stOf, tile, tileTop, read_half0k_same, read_half0k_other, load_half0k, read_half1k_same, read_half1k_other, load_half1k, read_half0v_same, read_half0v_other, load_half0v, read_half1v_same, read_half1v_other, load_half1v, View.writes_nil, read_zero7, read_zero10, read_zero11, ht, q0, q1, d0, d1, s0, s1, y0, y1, p0, p1, r1]
  rfl

set_option maxHeartbeats 8000000 in
theorem bodyC_dk0 : lo256 (arg8.view.read (Elt F) (bodyC c i arg2 harg2 arg3 harg3 arg4 harg4 arg5 harg5 arg6 harg6 arg7 harg7 arg8 harg8 arg9 harg9 arg10 harg10 arg11 harg11 hc1 hc2 f2 f3 f4 f5 f6 f7 f8 f9 f10 f11).2.1)
    = k0_pay227 (loopSt (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) (start (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) (arg7.view.read (Elt F) f7)) ((7 - (i 1).val) / 2)).dk0 := by
  have hj : (i 1).val < 8 := (i 1).isLt
  have ht : Scf.trips (k0_t1_loop i).lb (k0_t1_loop i).ub (k0_t1_loop i).st = (7 - (i 1).val) / 2 := trips1_eq i
  dsimp only [k0_t1_loop] at ht
  have q0 := fun inb => load_rows256 arg2.view f2 inb (1024 * (i 1).val) (by omega) (off1_eq i)
  have q1 := fun inb => load_rows256 arg2.view f2 inb (1024 * (i 1).val + 512) (by omega) (off3_eq i)
  have d0 := fun inb => load_rows128 arg3.view f3 inb (1024 * (i 1).val) (by omega) (off2_eq i)
  have d1 := fun inb => load_rows128 arg3.view f3 inb (1024 * (i 1).val + 512) (by omega) (off4_eq i)
  have s0 := fun inb => load_rows128 arg4.view f4 inb (1024 * (i 1).val) (by omega) (off2_eq i)
  have s1 := fun inb => load_rows128 arg4.view f4 inb (1024 * (i 1).val + 512) (by omega) (off4_eq i)
  have y0 := fun f inb => load_rows256 (Val := Elt F) arg7.view f inb (1024 * (i 1).val) (by omega) (off1_eq i)
  have y1 := fun f inb => load_rows256 (Val := Elt F) arg7.view f inb (1024 * (i 1).val + 512) (by omega) (off3_eq i)
  have p0 := fun f inb w L => put_rows256 (Val := Elt F) arg7.view f inb w L (1024 * (i 1).val) (off1_eq i)
  have p1 := fun f inb w L => put_rows256 (Val := Elt F) arg7.view f inb w L (1024 * (i 1).val + 512) (off3_eq i)
  have r1 := fun (x : Vec F S8192x256 .f32) w => rows256_put x (1024 * (i 1).val) (1024 * (i 1).val + 512) (by omega) (by omega) w
  unfold bodyC start
  dsimp only
  simp only [bodyC.sl.v75, bodyC.sl.r_17, bodyC.sl.v197, bodyC.sl.v223, bodyC.sl.cst_97, bodyC.sl.v224, bodyC.sl.v188, bodyC.sl.v0, bodyC.sl.H11_1, bodyC.sl.v207, bodyC.sl.v2, bodyC.sl.r_11, bodyC.sl.r, bodyC.sl.r_8, bodyC.sl.r_7, bodyC.sl.r_12, bodyC.sl.v13, bodyC.sl.v90, bodyC.sl.r_2, bodyC.sl.v187, bodyC.sl.r_15, bodyC.sl.v195, bodyC.sl.v216, bodyC.sl.H11_2, bodyC.sl.v189, bodyC.sl.r_14, bodyC.sl.r_5, bodyC.sl.v218, bodyC.sl.v204, bodyC.sl.v1, bodyC.sl.v205, bodyC.sl.r_3, bodyC.sl.v186, bodyC.sl.v217, bodyC.sl.v11, bodyC.sl.H10_4, bodyC.sl.v215, bodyC.sl.v193, bodyC.sl.H10_3, bodyC.sl.r_13, bodyC.sl.r_6, bodyC.sl.v58, bodyC.sl.v148, bodyC.sl.H11_4, bodyC.sl.v194, bodyC.sl.H10_1, bodyC.sl.v206, bodyC.sl.v12, bodyC.sl.v198, bodyC.sl.v221, bodyC.sl.v203, bodyC.sl.r_9, bodyC.sl.v244, bodyC.sl.r_1, bodyC.sl.v192, bodyC.sl.H11_3, bodyC.sl.v241, bodyC.sl.v247, bodyC.sl.v220, bodyC.sl.v219, bodyC.sl.v91, bodyC.sl.v169, bodyC.sl.H10_2, bodyC.sl.r_4, bodyC.sl.v196, bodyC.sl.v208, bodyC.sl.r_10, bodyC.sl.v214, bodyC.sl.r_16, bodyC.sl.v131, bodyC.sl.v201, bodyC.sl.v238,
    write_slice_cons, View.readCov, read_half0k_same, read_half0k_other, load_half0k, read_half1k_same, read_half1k_other, load_half1k, read_half0v_same, read_half0v_other, load_half0v, read_half1v_same, read_half1v_other, load_half1v, View.writes_nil,
    read_lo256, read_hi256, read_lo128, read_hi128, load_lo256, load_hi256, load_lo128, load_hi128, read_zero7, read_zero10, read_zero11,
    ht, q0, q1, d0, d1, s0, s1, y0, y1, p0, p1, r1]
  rw [st10a_val]
  simp only [stOf, tile, tileTop, read_half0k_same, read_half0k_other, load_half0k, read_half1k_same, read_half1k_other, load_half1k, read_half0v_same, read_half0v_other, load_half0v, read_half1v_same, read_half1v_other, load_half1v, View.writes_nil, read_zero7, read_zero10, read_zero11, ht, q0, q1, d0, d1, s0, s1, y0, y1, p0, p1, r1]
  rfl

set_option maxHeartbeats 8000000 in
theorem bodyC_dk1 : hi256 (arg8.view.read (Elt F) (bodyC c i arg2 harg2 arg3 harg3 arg4 harg4 arg5 harg5 arg6 harg6 arg7 harg7 arg8 harg8 arg9 harg9 arg10 harg10 arg11 harg11 hc1 hc2 f2 f3 f4 f5 f6 f7 f8 f9 f10 f11).2.1)
    = k0_pay229 (loopSt (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) (start (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) (arg7.view.read (Elt F) f7)) ((7 - (i 1).val) / 2)).dk1 := by
  have hj : (i 1).val < 8 := (i 1).isLt
  have ht : Scf.trips (k0_t1_loop i).lb (k0_t1_loop i).ub (k0_t1_loop i).st = (7 - (i 1).val) / 2 := trips1_eq i
  dsimp only [k0_t1_loop] at ht
  have q0 := fun inb => load_rows256 arg2.view f2 inb (1024 * (i 1).val) (by omega) (off1_eq i)
  have q1 := fun inb => load_rows256 arg2.view f2 inb (1024 * (i 1).val + 512) (by omega) (off3_eq i)
  have d0 := fun inb => load_rows128 arg3.view f3 inb (1024 * (i 1).val) (by omega) (off2_eq i)
  have d1 := fun inb => load_rows128 arg3.view f3 inb (1024 * (i 1).val + 512) (by omega) (off4_eq i)
  have s0 := fun inb => load_rows128 arg4.view f4 inb (1024 * (i 1).val) (by omega) (off2_eq i)
  have s1 := fun inb => load_rows128 arg4.view f4 inb (1024 * (i 1).val + 512) (by omega) (off4_eq i)
  have y0 := fun f inb => load_rows256 (Val := Elt F) arg7.view f inb (1024 * (i 1).val) (by omega) (off1_eq i)
  have y1 := fun f inb => load_rows256 (Val := Elt F) arg7.view f inb (1024 * (i 1).val + 512) (by omega) (off3_eq i)
  have p0 := fun f inb w L => put_rows256 (Val := Elt F) arg7.view f inb w L (1024 * (i 1).val) (off1_eq i)
  have p1 := fun f inb w L => put_rows256 (Val := Elt F) arg7.view f inb w L (1024 * (i 1).val + 512) (off3_eq i)
  have r1 := fun (x : Vec F S8192x256 .f32) w => rows256_put x (1024 * (i 1).val) (1024 * (i 1).val + 512) (by omega) (by omega) w
  unfold bodyC start
  dsimp only
  simp only [bodyC.sl.v75, bodyC.sl.r_17, bodyC.sl.v197, bodyC.sl.v223, bodyC.sl.cst_97, bodyC.sl.v224, bodyC.sl.v188, bodyC.sl.v0, bodyC.sl.H11_1, bodyC.sl.v207, bodyC.sl.v2, bodyC.sl.r_11, bodyC.sl.r, bodyC.sl.r_8, bodyC.sl.r_7, bodyC.sl.r_12, bodyC.sl.v13, bodyC.sl.v90, bodyC.sl.r_2, bodyC.sl.v187, bodyC.sl.r_15, bodyC.sl.v195, bodyC.sl.v216, bodyC.sl.H11_2, bodyC.sl.v189, bodyC.sl.r_14, bodyC.sl.r_5, bodyC.sl.v218, bodyC.sl.v204, bodyC.sl.v1, bodyC.sl.v205, bodyC.sl.r_3, bodyC.sl.v186, bodyC.sl.v217, bodyC.sl.v11, bodyC.sl.H10_4, bodyC.sl.v215, bodyC.sl.v193, bodyC.sl.H10_3, bodyC.sl.r_13, bodyC.sl.r_6, bodyC.sl.v58, bodyC.sl.v148, bodyC.sl.H11_4, bodyC.sl.v194, bodyC.sl.H10_1, bodyC.sl.v206, bodyC.sl.v12, bodyC.sl.v198, bodyC.sl.v221, bodyC.sl.v203, bodyC.sl.r_9, bodyC.sl.v244, bodyC.sl.r_1, bodyC.sl.v192, bodyC.sl.H11_3, bodyC.sl.v241, bodyC.sl.v247, bodyC.sl.v220, bodyC.sl.v219, bodyC.sl.v91, bodyC.sl.v169, bodyC.sl.H10_2, bodyC.sl.r_4, bodyC.sl.v196, bodyC.sl.v208, bodyC.sl.r_10, bodyC.sl.v214, bodyC.sl.r_16, bodyC.sl.v131, bodyC.sl.v201, bodyC.sl.v238,
    write_slice_cons, View.readCov, read_half0k_same, read_half0k_other, load_half0k, read_half1k_same, read_half1k_other, load_half1k, read_half0v_same, read_half0v_other, load_half0v, read_half1v_same, read_half1v_other, load_half1v, View.writes_nil,
    read_lo256, read_hi256, read_lo128, read_hi128, load_lo256, load_hi256, load_lo128, load_hi128, read_zero7, read_zero10, read_zero11,
    ht, q0, q1, d0, d1, s0, s1, y0, y1, p0, p1, r1]
  rw [st10b_val]
  simp only [stOf, tile, tileTop, read_half0k_same, read_half0k_other, load_half0k, read_half1k_same, read_half1k_other, load_half1k, read_half0v_same, read_half0v_other, load_half0v, read_half1v_same, read_half1v_other, load_half1v, View.writes_nil, read_zero7, read_zero10, read_zero11, ht, q0, q1, d0, d1, s0, s1, y0, y1, p0, p1, r1]
  rfl

set_option maxHeartbeats 8000000 in
theorem bodyC_dv0 : lo128 (arg9.view.read (Elt F) (bodyC c i arg2 harg2 arg3 harg3 arg4 harg4 arg5 harg5 arg6 harg6 arg7 harg7 arg8 harg8 arg9 harg9 arg10 harg10 arg11 harg11 hc1 hc2 f2 f3 f4 f5 f6 f7 f8 f9 f10 f11).2.2.1)
    = k0_pay228 (loopSt (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) (start (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) (arg7.view.read (Elt F) f7)) ((7 - (i 1).val) / 2)).dv0 := by
  have hj : (i 1).val < 8 := (i 1).isLt
  have ht : Scf.trips (k0_t1_loop i).lb (k0_t1_loop i).ub (k0_t1_loop i).st = (7 - (i 1).val) / 2 := trips1_eq i
  dsimp only [k0_t1_loop] at ht
  have q0 := fun inb => load_rows256 arg2.view f2 inb (1024 * (i 1).val) (by omega) (off1_eq i)
  have q1 := fun inb => load_rows256 arg2.view f2 inb (1024 * (i 1).val + 512) (by omega) (off3_eq i)
  have d0 := fun inb => load_rows128 arg3.view f3 inb (1024 * (i 1).val) (by omega) (off2_eq i)
  have d1 := fun inb => load_rows128 arg3.view f3 inb (1024 * (i 1).val + 512) (by omega) (off4_eq i)
  have s0 := fun inb => load_rows128 arg4.view f4 inb (1024 * (i 1).val) (by omega) (off2_eq i)
  have s1 := fun inb => load_rows128 arg4.view f4 inb (1024 * (i 1).val + 512) (by omega) (off4_eq i)
  have y0 := fun f inb => load_rows256 (Val := Elt F) arg7.view f inb (1024 * (i 1).val) (by omega) (off1_eq i)
  have y1 := fun f inb => load_rows256 (Val := Elt F) arg7.view f inb (1024 * (i 1).val + 512) (by omega) (off3_eq i)
  have p0 := fun f inb w L => put_rows256 (Val := Elt F) arg7.view f inb w L (1024 * (i 1).val) (off1_eq i)
  have p1 := fun f inb w L => put_rows256 (Val := Elt F) arg7.view f inb w L (1024 * (i 1).val + 512) (off3_eq i)
  have r1 := fun (x : Vec F S8192x256 .f32) w => rows256_put x (1024 * (i 1).val) (1024 * (i 1).val + 512) (by omega) (by omega) w
  unfold bodyC start
  dsimp only
  simp only [bodyC.sl.v75, bodyC.sl.r_17, bodyC.sl.v197, bodyC.sl.v223, bodyC.sl.cst_97, bodyC.sl.v224, bodyC.sl.v188, bodyC.sl.v0, bodyC.sl.H11_1, bodyC.sl.v207, bodyC.sl.v2, bodyC.sl.r_11, bodyC.sl.r, bodyC.sl.r_8, bodyC.sl.r_7, bodyC.sl.r_12, bodyC.sl.v13, bodyC.sl.v90, bodyC.sl.r_2, bodyC.sl.v187, bodyC.sl.r_15, bodyC.sl.v195, bodyC.sl.v216, bodyC.sl.H11_2, bodyC.sl.v189, bodyC.sl.r_14, bodyC.sl.r_5, bodyC.sl.v218, bodyC.sl.v204, bodyC.sl.v1, bodyC.sl.v205, bodyC.sl.r_3, bodyC.sl.v186, bodyC.sl.v217, bodyC.sl.v11, bodyC.sl.H10_4, bodyC.sl.v215, bodyC.sl.v193, bodyC.sl.H10_3, bodyC.sl.r_13, bodyC.sl.r_6, bodyC.sl.v58, bodyC.sl.v148, bodyC.sl.H11_4, bodyC.sl.v194, bodyC.sl.H10_1, bodyC.sl.v206, bodyC.sl.v12, bodyC.sl.v198, bodyC.sl.v221, bodyC.sl.v203, bodyC.sl.r_9, bodyC.sl.v244, bodyC.sl.r_1, bodyC.sl.v192, bodyC.sl.H11_3, bodyC.sl.v241, bodyC.sl.v247, bodyC.sl.v220, bodyC.sl.v219, bodyC.sl.v91, bodyC.sl.v169, bodyC.sl.H10_2, bodyC.sl.r_4, bodyC.sl.v196, bodyC.sl.v208, bodyC.sl.r_10, bodyC.sl.v214, bodyC.sl.r_16, bodyC.sl.v131, bodyC.sl.v201, bodyC.sl.v238,
    write_slice_cons, View.readCov, read_half0k_same, read_half0k_other, load_half0k, read_half1k_same, read_half1k_other, load_half1k, read_half0v_same, read_half0v_other, load_half0v, read_half1v_same, read_half1v_other, load_half1v, View.writes_nil,
    read_lo256, read_hi256, read_lo128, read_hi128, load_lo256, load_hi256, load_lo128, load_hi128, read_zero7, read_zero10, read_zero11,
    ht, q0, q1, d0, d1, s0, s1, y0, y1, p0, p1, r1]
  rw [st11a_val]
  simp only [stOf, tile, tileTop, read_half0k_same, read_half0k_other, load_half0k, read_half1k_same, read_half1k_other, load_half1k, read_half0v_same, read_half0v_other, load_half0v, read_half1v_same, read_half1v_other, load_half1v, View.writes_nil, read_zero7, read_zero10, read_zero11, ht, q0, q1, d0, d1, s0, s1, y0, y1, p0, p1, r1]
  rfl

set_option maxHeartbeats 8000000 in
theorem bodyC_dv1 : hi128 (arg9.view.read (Elt F) (bodyC c i arg2 harg2 arg3 harg3 arg4 harg4 arg5 harg5 arg6 harg6 arg7 harg7 arg8 harg8 arg9 harg9 arg10 harg10 arg11 harg11 hc1 hc2 f2 f3 f4 f5 f6 f7 f8 f9 f10 f11).2.2.1)
    = k0_pay230 (loopSt (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) (start (BitVec.ofNat 32 (i 0).val) (iota Kind.tc S1x128 32 [1] iota_S1x128_d1_w32) (arg2.view.read (Elt F) f2) (arg3.view.read (Elt F) f3) (arg4.view.read (Elt F) f4) (arg5.view.read (Elt F) f5) (arg6.view.read (Elt F) f6) (i 1) (arg7.view.read (Elt F) f7)) ((7 - (i 1).val) / 2)).dv1 := by
  have hj : (i 1).val < 8 := (i 1).isLt
  have ht : Scf.trips (k0_t1_loop i).lb (k0_t1_loop i).ub (k0_t1_loop i).st = (7 - (i 1).val) / 2 := trips1_eq i
  dsimp only [k0_t1_loop] at ht
  have q0 := fun inb => load_rows256 arg2.view f2 inb (1024 * (i 1).val) (by omega) (off1_eq i)
  have q1 := fun inb => load_rows256 arg2.view f2 inb (1024 * (i 1).val + 512) (by omega) (off3_eq i)
  have d0 := fun inb => load_rows128 arg3.view f3 inb (1024 * (i 1).val) (by omega) (off2_eq i)
  have d1 := fun inb => load_rows128 arg3.view f3 inb (1024 * (i 1).val + 512) (by omega) (off4_eq i)
  have s0 := fun inb => load_rows128 arg4.view f4 inb (1024 * (i 1).val) (by omega) (off2_eq i)
  have s1 := fun inb => load_rows128 arg4.view f4 inb (1024 * (i 1).val + 512) (by omega) (off4_eq i)
  have y0 := fun f inb => load_rows256 (Val := Elt F) arg7.view f inb (1024 * (i 1).val) (by omega) (off1_eq i)
  have y1 := fun f inb => load_rows256 (Val := Elt F) arg7.view f inb (1024 * (i 1).val + 512) (by omega) (off3_eq i)
  have p0 := fun f inb w L => put_rows256 (Val := Elt F) arg7.view f inb w L (1024 * (i 1).val) (off1_eq i)
  have p1 := fun f inb w L => put_rows256 (Val := Elt F) arg7.view f inb w L (1024 * (i 1).val + 512) (off3_eq i)
  have r1 := fun (x : Vec F S8192x256 .f32) w => rows256_put x (1024 * (i 1).val) (1024 * (i 1).val + 512) (by omega) (by omega) w
  unfold bodyC start
  dsimp only
  simp only [bodyC.sl.v75, bodyC.sl.r_17, bodyC.sl.v197, bodyC.sl.v223, bodyC.sl.cst_97, bodyC.sl.v224, bodyC.sl.v188, bodyC.sl.v0, bodyC.sl.H11_1, bodyC.sl.v207, bodyC.sl.v2, bodyC.sl.r_11, bodyC.sl.r, bodyC.sl.r_8, bodyC.sl.r_7, bodyC.sl.r_12, bodyC.sl.v13, bodyC.sl.v90, bodyC.sl.r_2, bodyC.sl.v187, bodyC.sl.r_15, bodyC.sl.v195, bodyC.sl.v216, bodyC.sl.H11_2, bodyC.sl.v189, bodyC.sl.r_14, bodyC.sl.r_5, bodyC.sl.v218, bodyC.sl.v204, bodyC.sl.v1, bodyC.sl.v205, bodyC.sl.r_3, bodyC.sl.v186, bodyC.sl.v217, bodyC.sl.v11, bodyC.sl.H10_4, bodyC.sl.v215, bodyC.sl.v193, bodyC.sl.H10_3, bodyC.sl.r_13, bodyC.sl.r_6, bodyC.sl.v58, bodyC.sl.v148, bodyC.sl.H11_4, bodyC.sl.v194, bodyC.sl.H10_1, bodyC.sl.v206, bodyC.sl.v12, bodyC.sl.v198, bodyC.sl.v221, bodyC.sl.v203, bodyC.sl.r_9, bodyC.sl.v244, bodyC.sl.r_1, bodyC.sl.v192, bodyC.sl.H11_3, bodyC.sl.v241, bodyC.sl.v247, bodyC.sl.v220, bodyC.sl.v219, bodyC.sl.v91, bodyC.sl.v169, bodyC.sl.H10_2, bodyC.sl.r_4, bodyC.sl.v196, bodyC.sl.v208, bodyC.sl.r_10, bodyC.sl.v214, bodyC.sl.r_16, bodyC.sl.v131, bodyC.sl.v201, bodyC.sl.v238,
    write_slice_cons, View.readCov, read_half0k_same, read_half0k_other, load_half0k, read_half1k_same, read_half1k_other, load_half1k, read_half0v_same, read_half0v_other, load_half0v, read_half1v_same, read_half1v_other, load_half1v, View.writes_nil,
    read_lo256, read_hi256, read_lo128, read_hi128, load_lo256, load_hi256, load_lo128, load_hi128, read_zero7, read_zero10, read_zero11,
    ht, q0, q1, d0, d1, s0, s1, y0, y1, p0, p1, r1]
  rw [st11b_val]
  simp only [stOf, tile, tileTop, read_half0k_same, read_half0k_other, load_half0k, read_half1k_same, read_half1k_other, load_half1k, read_half0v_same, read_half0v_other, load_half0v, read_half1v_same, read_half1v_other, load_half1v, View.writes_nil, read_zero7, read_zero10, read_zero11, ht, q0, q1, d0, d1, s0, s1, y0, y1, p0, p1, r1]
  rfl

end

end Cert.Proof.Run

end
-- ==== Proof.Run.BodyIdeal.lean ====
/-
  The kernel's body at any grid point on real values: the three outputs hold the gradients' real sums.
-/
module

public import proofs.«01_k».proof.Proof.Run.BlockIdeal
public import proofs.«01_k».proof.Proof.Run.BodyValA
public import proofs.«01_k».proof.Proof.Run.BodyValB
public import proofs.«01_k».proof.Proof.Run.BodyValC
public import proofs.«01_k».proof.Proof.Run.BodyAny

@[expose] public section

set_option maxRecDepth 16384

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

theorem cond1_iff_j : ∀ i : grid0.Coords, cond1 i ↔ (i 1).val = 0 := by decide +kernel

/-- The queries' gradient after the first `j + 1` blocks of keys, -/
def outQ (X : Mats) (j : ℕ) : Vec Ideal S8192x256 .f32 := fun y => ((X.AQ (1024 * j + 1024) (y 0).val (y 1).val : ℝ) : EReal)
/-- the keys' gradient of block `j`, -/
def outK (X : Mats) (j : ℕ) : Vec Ideal S1024x256 .f32 := fun y => ((X.AK 8192 (1024 * j + (y 0).val) (y 1).val : ℝ) : EReal)
/-- and the values'. -/
def outV (X : Mats) (j : ℕ) : Vec Ideal S1024x128 .f32 := fun y => ((X.AV 8192 (1024 * j + (y 0).val) (y 1).val : ℝ) : EReal)

theorem out_q (X : Mats) (j : Fin 8) (s : St Ideal) (I : Inv X j 8192 s) : s.dq = outQ X j.val := by
  funext y; idx_vars y; revert y0 y1; intro r e
  refine (I.dq r e).trans ?_
  rw [if_pos r.isLt]; rfl

theorem out_k (X : Mats) (j : Fin 8) (s : St Ideal) (I : Inv X j 8192 s) (x : Vec Ideal S1024x256 .f32) (h0 : lo256 x = k0_pay227 s.dk0) (h1 : hi256 x = k0_pay229 s.dk1) :
    x = outK X j.val := by
  funext y; idx_vars y; revert y0 y1; intro r e
  by_cases h : r.val < 512
  · have h0' := congrFun h0 (ix2 ⟨r.val, h⟩ e)
    have hl : lo256 x (ix2 ⟨r.val, h⟩ e) = x (ix2 r e) := congrArg x (funext fun t => Fin.ext (by
      fin_cases t
      · show 0 + 1 * r.val = r.val; omega
      · show 0 + 1 * e.val = e.val; omega))
    have hp : k0_pay227 (F := Ideal) s.dk0 (ix2 ⟨r.val, h⟩ e) = s.dk0 (ix3 (0 : Fin 1) ⟨r.val, h⟩ e) := by unfold k0_pay227; pointwise
    exact hl.symm.trans (h0'.trans (hp.trans (I.dk0 0 ⟨r.val, h⟩ e)))
  · have hr : r.val - 512 < 512 := by omega
    have h1' := congrFun h1 (ix2 ⟨r.val - 512, hr⟩ e)
    have hl : hi256 x (ix2 ⟨r.val - 512, hr⟩ e) = x (ix2 r e) := congrArg x (funext fun t => Fin.ext (by
      fin_cases t
      · show 512 + 1 * (r.val - 512) = r.val; omega
      · show 0 + 1 * e.val = e.val; omega))
    have hp : k0_pay229 (F := Ideal) s.dk1 (ix2 ⟨r.val - 512, hr⟩ e) = s.dk1 (ix3 (0 : Fin 1) ⟨r.val - 512, hr⟩ e) := by unfold k0_pay229; pointwise
    refine hl.symm.trans (h1'.trans (hp.trans ((I.dk1 0 ⟨r.val - 512, hr⟩ e).trans ?_)))
    rw [show 1024 * j.val + 512 + (⟨r.val - 512, hr⟩ : Fin 512).val = 1024 * j.val + r.val by show 1024 * j.val + 512 + (r.val - 512) = _; omega]
    rfl

theorem out_v (X : Mats) (j : Fin 8) (s : St Ideal) (I : Inv X j 8192 s) (x : Vec Ideal S1024x128 .f32) (h0 : lo128 x = k0_pay228 s.dv0) (h1 : hi128 x = k0_pay230 s.dv1) :
    x = outV X j.val := by
  funext y; idx_vars y; revert y0 y1; intro r e
  by_cases h : r.val < 512
  · have h0' := congrFun h0 (ix2 ⟨r.val, h⟩ e)
    have hl : lo128 x (ix2 ⟨r.val, h⟩ e) = x (ix2 r e) := congrArg x (funext fun t => Fin.ext (by
      fin_cases t
      · show 0 + 1 * r.val = r.val; omega
      · show 0 + 1 * e.val = e.val; omega))
    have hp : k0_pay228 (F := Ideal) s.dv0 (ix2 ⟨r.val, h⟩ e) = s.dv0 (ix3 (0 : Fin 1) ⟨r.val, h⟩ e) := by unfold k0_pay228; pointwise
    exact hl.symm.trans (h0'.trans (hp.trans (I.dv0 0 ⟨r.val, h⟩ e)))
  · have hr : r.val - 512 < 512 := by omega
    have h1' := congrFun h1 (ix2 ⟨r.val - 512, hr⟩ e)
    have hl : hi128 x (ix2 ⟨r.val - 512, hr⟩ e) = x (ix2 r e) := congrArg x (funext fun t => Fin.ext (by
      fin_cases t
      · show 512 + 1 * (r.val - 512) = r.val; omega
      · show 0 + 1 * e.val = e.val; omega))
    have hp : k0_pay230 (F := Ideal) s.dv1 (ix2 ⟨r.val - 512, hr⟩ e) = s.dv1 (ix3 (0 : Fin 1) ⟨r.val - 512, hr⟩ e) := by unfold k0_pay230; pointwise
    refine hl.symm.trans (h1'.trans (hp.trans ((I.dv1 0 ⟨r.val - 512, hr⟩ e).trans ?_)))
    rw [show 1024 * j.val + 512 + (⟨r.val - 512, hr⟩ : Fin 512).val = 1024 * j.val + r.val by show 1024 * j.val + 512 + (r.val - 512) = _; omega]
    rfl

local notation "𝕄" => MT nD τ sig Unit (Elt Ideal) ℕ (UR sig nD τ) ℕ

attribute [local irreducible] bodyA bodyB bodyC

set_option maxHeartbeats 2000000 in
/-- The body at any point, its inputs real and the queries' gradient at the sum over the earlier blocks of keys: the outputs end at the real sums. -/
theorem body_val (X : Mats) (c : Dev nD) (i : grid0.Coords)
  (arg2 : Memref sig .tc .vmem S8192x256 .bf16) (harg2 : arg2.IsWhole) (arg3 : Memref sig .tc .vmem S8192x128 .bf16) (harg3 : arg3.IsWhole)
  (arg4 : Memref sig .tc .vmem S8192x128 .f32) (harg4 : arg4.IsWhole) (arg5 : Memref sig .tc .vmem S1024x256 .bf16) (harg5 : arg5.IsWhole)
  (arg6 : Memref sig .tc .vmem S1024x128 .bf16) (harg6 : arg6.IsWhole) (arg7 : Memref sig .tc .vmem S8192x256 .f32) (harg7 : arg7.IsWhole)
  (arg8 : Memref sig .tc .vmem S1024x256 .f32) (harg8 : arg8.IsWhole) (arg9 : Memref sig .tc .vmem S1024x128 .f32) (harg9 : arg9.IsWhole)
  (arg10 : Memref sig .tc .vmem S2x512x256 .f32) (harg10 : arg10.IsWhole) (arg11 : Memref sig .tc .vmem S2x512x128 .f32) (harg11 : arg11.IsWhole)
  (x2 : Vec Ideal S8192x256 .bf16) (x3 : Vec Ideal S8192x128 .bf16) (x4 : Vec Ideal S8192x128 .f32) (x5 : Vec Ideal S1024x256 .bf16) (x6 : Vec Ideal S1024x128 .bf16) (x7 : Vec Ideal S8192x256 .f32)
  (hX : X.head = (i 0).val) (L : Loads X (i 1) x2 x3 x4 x5 x6) (h7 : ¬ cond1 i → ∀ (r : Fin 8192) (e : Fin 256), x7 (ix2 r e) = ((X.AQ (1024 * (i 1).val) r.val e.val : ℝ) : EReal)) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (outQ X (i 1).val) ∗ owns (c : Thread nD τ) arg8 fullShare (outK X (i 1).val) ∗ owns (c : Thread nD τ) arg9 fullShare (outV X (i 1).val) ∗ (∃ d, owns (c : Thread nD τ) arg10 fullShare d) ∗ (∃ d, owns (c : Thread nD τ) arg11 fullShare d)) -∗ K ⟨⟩))
      ⊢ wp frame (wpE (defs₀ (F := Ideal)) Variants.none (c : Thread nD τ) none) Set.univ (cc0_flash_backward (F := Ideal) i arg2 harg2 arg3 harg3 arg4 harg4 arg5 harg5 arg6 harg6 arg7 harg7 arg8 harg8 arg9 harg9 arg10 harg10 arg11 harg11) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  have hX4 : X.head < 4 := by rw [hX]; exact (i 0).isLt
  have hd : ∀ (r : Fin 8192) (e : Fin 256), ¬ cond1 i → x7 (ix2 r e) = _ := fun r e h => h7 h r e
  subst hf2 hf3 hf4 hf5 hf6 hf7
  by_cases h1 : cond1 i
  · have h2 := cond2_of_cond1 i h1
    have hz : ∀ (r : Fin 8192) (e : Fin 256), (k0_pay189 (F := Ideal)) (ix2 r e) = ((X.AQ (1024 * (i 1).val) r.val e.val : ℝ) : EReal) := by
      intro r e
      rw [(cond1_iff_j i).mp h1]
      unfold k0_pay189; pointwise; exact EReal.coe_zero.symm
    have I := even_inv X hX4 (i 1) _ _ _ _ _ L (k0_pay189 (F := Ideal)) hz ((cond2_iff i).mp h2)
    rw [hX] at I
    have e7 := (bodyA_dq c i arg2 harg2 arg3 harg3 arg4 harg4 arg5 harg5 arg6 harg6 arg7 harg7 arg8 harg8 arg9 harg9 arg10 harg10 arg11 harg11 h1 h2 f2 f3 f4 f5 f6 f7 f8 f9 f10 f11).trans (out_q X (i 1) _ I)
    have e8 := out_k X (i 1) _ I _ (bodyA_dk0 c i arg2 harg2 arg3 harg3 arg4 harg4 arg5 harg5 arg6 harg6 arg7 harg7 arg8 harg8 arg9 harg9 arg10 harg10 arg11 harg11 h1 h2 f2 f3 f4 f5 f6 f7 f8 f9 f10 f11) (bodyA_dk1 c i arg2 harg2 arg3 harg3 arg4 harg4 arg5 harg5 arg6 harg6 arg7 harg7 arg8 harg8 arg9 harg9 arg10 harg10 arg11 harg11 h1 h2 f2 f3 f4 f5 f6 f7 f8 f9 f10 f11)
    have e9 := out_v X (i 1) _ I _ (bodyA_dv0 c i arg2 harg2 arg3 harg3 arg4 harg4 arg5 harg5 arg6 harg6 arg7 harg7 arg8 harg8 arg9 harg9 arg10 harg10 arg11 harg11 h1 h2 f2 f3 f4 f5 f6 f7 f8 f9 f10 f11) (bodyA_dv1 c i arg2 harg2 arg3 harg3 arg4 harg4 arg5 harg5 arg6 harg6 arg7 harg7 arg8 harg8 arg9 harg9 arg10 harg10 arg11 harg11 h1 h2 f2 f3 f4 f5 f6 f7 f8 f9 f10 f11)
    iapply (wp_wand_r Idealize.ShloMosaic.frame (wpE (defs₀ (F := Ideal)) Variants.none (c : Thread nD τ) none) Set.univ)
    isplitl [H2 H3 H4 H5 H6 H7 H8 H9 H10 H11]
    · iapply (bodyA c i arg2 harg2 arg3 harg3 arg4 harg4 arg5 harg5 arg6 harg6 arg7 harg7 arg8 harg8 arg9 harg9 arg10 harg10 arg11 harg11 h1 h2 f2 f3 f4 f5 f6 f7 f8 f9 f10 f11).2.2.2
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iintro %_ ⟨H2, H3, H4, H5, H6, H7, H8, H9, ⟨%g10, H10⟩, ⟨%g11, H11⟩⟩
    iapply Hk
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; exact e7
    isplitl [H8]
    · iexists _; isplitr; swap; · iexact H8
      ipureintro; exact e8
    isplitl [H9]
    · iexists _; isplitr; swap; · iexact H9
      ipureintro; exact e9
    isplitl [H10]
    · iexists _, _; isplitr; swap; · iexact H10
      ipureintro; rfl
    iexists _, _; isplitr; swap; · iexact H11
    ipureintro; rfl
  · by_cases h2 : k0_cond2 i = 1#1
    · skip
      have I := even_inv X hX4 (i 1) _ _ _ _ _ L _ (h7 h1) ((cond2_iff i).mp h2)
      rw [hX] at I
      have e7 := (bodyB_dq c i arg2 harg2 arg3 harg3 arg4 harg4 arg5 harg5 arg6 harg6 arg7 harg7 arg8 harg8 arg9 harg9 arg10 harg10 arg11 harg11 h1 h2 f2 f3 f4 f5 f6 f7 f8 f9 f10 f11).trans (out_q X (i 1) _ I)
      have e8 := out_k X (i 1) _ I _ (bodyB_dk0 c i arg2 harg2 arg3 harg3 arg4 harg4 arg5 harg5 arg6 harg6 arg7 harg7 arg8 harg8 arg9 harg9 arg10 harg10 arg11 harg11 h1 h2 f2 f3 f4 f5 f6 f7 f8 f9 f10 f11) (bodyB_dk1 c i arg2 harg2 arg3 harg3 arg4 harg4 arg5 harg5 arg6 harg6 arg7 harg7 arg8 harg8 arg9 harg9 arg10 harg10 arg11 harg11 h1 h2 f2 f3 f4 f5 f6 f7 f8 f9 f10 f11)
      have e9 := out_v X (i 1) _ I _ (bodyB_dv0 c i arg2 harg2 arg3 harg3 arg4 harg4 arg5 harg5 arg6 harg6 arg7 harg7 arg8 harg8 arg9 harg9 arg10 harg10 arg11 harg11 h1 h2 f2 f3 f4 f5 f6 f7 f8 f9 f10 f11) (bodyB_dv1 c i arg2 harg2 arg3 harg3 arg4 harg4 arg5 harg5 arg6 harg6 arg7 harg7 arg8 harg8 arg9 harg9 arg10 harg10 arg11 harg11 h1 h2 f2 f3 f4 f5 f6 f7 f8 f9 f10 f11)
      iapply (wp_wand_r Idealize.ShloMosaic.frame (wpE (defs₀ (F := Ideal)) Variants.none (c : Thread nD τ) none) Set.univ)
      isplitl [H2 H3 H4 H5 H6 H7 H8 H9 H10 H11]
      · iapply (bodyB c i arg2 harg2 arg3 harg3 arg4 harg4 arg5 harg5 arg6 harg6 arg7 harg7 arg8 harg8 arg9 harg9 arg10 harg10 arg11 harg11 h1 h2 f2 f3 f4 f5 f6 f7 f8 f9 f10 f11).2.2.2
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexact H11
      iintro %_ ⟨H2, H3, H4, H5, H6, H7, H8, H9, ⟨%g10, H10⟩, ⟨%g11, H11⟩⟩
      iapply Hk
      isplitl [H2]
      · iexists _; isplitr; swap; · iexact H2
        ipureintro; rfl
      isplitl [H3]
      · iexists _; isplitr; swap; · iexact H3
        ipureintro; rfl
      isplitl [H4]
      · iexists _; isplitr; swap; · iexact H4
        ipureintro; rfl
      isplitl [H5]
      · iexists _; isplitr; swap; · iexact H5
        ipureintro; rfl
      isplitl [H6]
      · iexists _; isplitr; swap; · iexact H6
        ipureintro; rfl
      isplitl [H7]
      · iexists _; isplitr; swap; · iexact H7
        ipureintro; exact e7
      isplitl [H8]
      · iexists _; isplitr; swap; · iexact H8
        ipureintro; exact e8
      isplitl [H9]
      · iexists _; isplitr; swap; · iexact H9
        ipureintro; exact e9
      isplitl [H10]
      · iexists _, _; isplitr; swap; · iexact H10
        ipureintro; rfl
      iexists _, _; isplitr; swap; · iexact H11
      ipureintro; rfl
    · skip
      have I := odd_inv X hX4 (i 1) _ _ _ _ _ L _ (h7 h1) (fun h => h2 ((cond2_iff i).mpr h))
      rw [hX] at I
      have e7 := (bodyC_dq c i arg2 harg2 arg3 harg3 arg4 harg4 arg5 harg5 arg6 harg6 arg7 harg7 arg8 harg8 arg9 harg9 arg10 harg10 arg11 harg11 h1 h2 f2 f3 f4 f5 f6 f7 f8 f9 f10 f11).trans (out_q X (i 1) _ I)
      have e8 := out_k X (i 1) _ I _ (bodyC_dk0 c i arg2 harg2 arg3 harg3 arg4 harg4 arg5 harg5 arg6 harg6 arg7 harg7 arg8 harg8 arg9 harg9 arg10 harg10 arg11 harg11 h1 h2 f2 f3 f4 f5 f6 f7 f8 f9 f10 f11) (bodyC_dk1 c i arg2 harg2 arg3 harg3 arg4 harg4 arg5 harg5 arg6 harg6 arg7 harg7 arg8 harg8 arg9 harg9 arg10 harg10 arg11 harg11 h1 h2 f2 f3 f4 f5 f6 f7 f8 f9 f10 f11)
      have e9 := out_v X (i 1) _ I _ (bodyC_dv0 c i arg2 harg2 arg3 harg3 arg4 harg4 arg5 harg5 arg6 harg6 arg7 harg7 arg8 harg8 arg9 harg9 arg10 harg10 arg11 harg11 h1 h2 f2 f3 f4 f5 f6 f7 f8 f9 f10 f11) (bodyC_dv1 c i arg2 harg2 arg3 harg3 arg4 harg4 arg5 harg5 arg6 harg6 arg7 harg7 arg8 harg8 arg9 harg9 arg10 harg10 arg11 harg11 h1 h2 f2 f3 f4 f5 f6 f7 f8 f9 f10 f11)
      iapply (wp_wand_r Idealize.ShloMosaic.frame (wpE (defs₀ (F := Ideal)) Variants.none (c : Thread nD τ) none) Set.univ)
      isplitl [H2 H3 H4 H5 H6 H7 H8 H9 H10 H11]
      · iapply (bodyC c i arg2 harg2 arg3 harg3 arg4 harg4 arg5 harg5 arg6 harg6 arg7 harg7 arg8 harg8 arg9 harg9 arg10 harg10 arg11 harg11 h1 h2 f2 f3 f4 f5 f6 f7 f8 f9 f10 f11).2.2.2
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexact H11
      iintro %_ ⟨H2, H3, H4, H5, H6, H7, H8, H9, ⟨%g10, H10⟩, ⟨%g11, H11⟩⟩
      iapply Hk
      isplitl [H2]
      · iexists _; isplitr; swap; · iexact H2
        ipureintro; rfl
      isplitl [H3]
      · iexists _; isplitr; swap; · iexact H3
        ipureintro; rfl
      isplitl [H4]
      · iexists _; isplitr; swap; · iexact H4
        ipureintro; rfl
      isplitl [H5]
      · iexists _; isplitr; swap; · iexact H5
        ipureintro; rfl
      isplitl [H6]
      · iexists _; isplitr; swap; · iexact H6
        ipureintro; rfl
      isplitl [H7]
      · iexists _; isplitr; swap; · iexact H7
        ipureintro; exact e7
      isplitl [H8]
      · iexists _; isplitr; swap; · iexact H8
        ipureintro; exact e8
      isplitl [H9]
      · iexists _; isplitr; swap; · iexact H9
        ipureintro; exact e9
      isplitl [H10]
      · iexists _, _; isplitr; swap; · iexact H10
        ipureintro; rfl
      iexists _, _; isplitr; swap; · iexact H11
      ipureintro; rfl

end Cert.Proof.Run

end
-- ==== Proof.Run.ValueLaunch.lean ====
/-
  The launch on real values: every run ends with the three result arrays at the gradients' real sums, block by block.
-/
module

public import proofs.«01_k».proof.Proof.Run.BodyIdeal
public import proofs.«01_k».proof.Proof.Run.Frame
public import Idealize.ShloMosaic.Lib.Pipeline.ValueKit

@[expose] public section

set_option maxRecDepth 16384

noncomputable section

namespace Cert.Proof.Run.Valued

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem coords0 : ∀ t : Fin cfg0.N, (grid0.coords t 0).val = t.val / 8 :=
  (by decide +kernel : ∀ t : Fin grid0.N, (grid0.coords t 0).val = t.val / 8)
theorem coords1 : ∀ t : Fin cfg0.N, (grid0.coords t 1).val = t.val % 8 :=
  (by decide +kernel : ∀ t : Fin grid0.N, (grid0.coords t 1).val = t.val % 8)

variable (m : (ℓ : Loc nD τ sig) → Buf (Elt Ideal) ℓ) (ρ : Dev nD → PrngReg) (X : Dev nD → ℕ → Mats)

/-- What the launch's arrays hold is real, head by head. -/
structure Entry : Prop where
  head : ∀ c h, (X c h).head = h
  loads : ∀ c (t : Fin cfg0.N), Loads (X c (t.val / 8)) (grid0.coords t 1) (iblk m c 0 t) (iblk m c 1 t) (iblk m c 2 t) (iblk m c 3 t) (iblk m c 4 t)

variable (E : Entry m X)

/-! ## The pipeline's data -/

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outQ (X c (t.val / 8)) (t.val % 8)
    | ⟨6, _⟩ => outK (X c (t.val / 8)) (t.val % 8)
    | ⟨7, _⟩ => outV (X c (t.val / 8)) (t.val % 8)
  Φ _ := Pipeline.ΦA spec0 c
  q _ := fullShare
  owed _ := 0

theorem A_eq (c : Dev nD) (w : Fin cfg0.W) : (dats m X 0 c).A w = V m c (Pipeline.arrRef spec0 w) := by dsimp only [dats]

theorem after_0 (c : Dev nD) (t : Fin cfg0.N) : (dats m X 0 c).after 0 t = iblk m c 0 t := by dsimp only [dats]
theorem before_0 (c : Dev nD) (t : Fin cfg0.N) (d) : (dats m X 0 c).before 0 t d = iblk m c 0 t :=
  before0_0_of m (dats m X 0 c) (A_eq m X c 0) (after_0 m X c) t d
theorem after_1 (c : Dev nD) (t : Fin cfg0.N) : (dats m X 0 c).after 1 t = iblk m c 1 t := by dsimp only [dats]
theorem before_1 (c : Dev nD) (t : Fin cfg0.N) (d) : (dats m X 0 c).before 1 t d = iblk m c 1 t :=
  before0_1_of m (dats m X 0 c) (A_eq m X c 1) (after_1 m X c) t d
theorem after_2 (c : Dev nD) (t : Fin cfg0.N) : (dats m X 0 c).after 2 t = iblk m c 2 t := by dsimp only [dats]
theorem before_2 (c : Dev nD) (t : Fin cfg0.N) (d) : (dats m X 0 c).before 2 t d = iblk m c 2 t :=
  before0_2_of m (dats m X 0 c) (A_eq m X c 2) (after_2 m X c) t d
theorem after_3 (c : Dev nD) (t : Fin cfg0.N) : (dats m X 0 c).after 3 t = iblk m c 3 t := by dsimp only [dats]
theorem before_3 (c : Dev nD) (t : Fin cfg0.N) (d) : (dats m X 0 c).before 3 t d = iblk m c 3 t :=
  before0_3_of m (dats m X 0 c) (A_eq m X c 3) (after_3 m X c) t d
theorem after_4 (c : Dev nD) (t : Fin cfg0.N) : (dats m X 0 c).after 4 t = iblk m c 4 t := by dsimp only [dats]
theorem before_4 (c : Dev nD) (t : Fin cfg0.N) (d) : (dats m X 0 c).before 4 t d = iblk m c 4 t :=
  before0_4_of m (dats m X 0 c) (A_eq m X c 4) (after_4 m X c) t d

theorem after_5 (c : Dev nD) (t : Fin cfg0.N) : (dats m X 0 c).after 5 t = outQ (X c (t.val / 8)) (t.val % 8) := by dsimp only [dats]
theorem after_6 (c : Dev nD) (t : Fin cfg0.N) : (dats m X 0 c).after 6 t = outK (X c (t.val / 8)) (t.val % 8) := by dsimp only [dats]
theorem after_7 (c : Dev nD) (t : Fin cfg0.N) : (dats m X 0 c).after 7 t = outV (X c (t.val / 8)) (t.val % 8) := by dsimp only [dats]

/-- Within a head, the queries' gradient is found as the point before left it. -/
theorem before_5 (c : Dev nD) (t : Fin cfg0.N) (h : ¬ t.val % 8 = 0) (d) :
    (dats m X 0 c).before 5 t d = outQ (X c (t.val / 8)) (t.val % 8 - 1) := by
  have hf : (cfg0.win 5).flush ⟨t.val - 1, Nat.lt_of_le_of_lt (Nat.sub_le _ _) t.isLt⟩ = false :=
    Bool.eq_false_iff.mpr fun hf => by
      have := (flush0_5 ⟨t.val - 1, Nat.lt_of_le_of_lt (Nat.sub_le _ _) t.isLt⟩).mp hf
      simp only at this; omega
  rw [(dats m X 0 c).before_out_kept 5 rfl t (by omega) hf (fun _ => rfl) (fun _ _ => rfl), after_5]
  rw [show (t.val - 1) / 8 = t.val / 8 by omega, show (t.val - 1) % 8 = t.val % 8 - 1 by omega]

/-- Where a head goes on, the body finds the sums over the earlier blocks of keys. -/
theorem found (c : Dev nD) (t : Fin cfg0.N) (d) (h : ¬ cond1 (grid0.coords t)) (r : Fin 8192) (e : Fin 256) :
    (dats m X 0 c).before 5 t d (ix2 r e) = (((X c (t.val / 8)).AQ (1024 * (grid0.coords t 1).val) r.val e.val : ℝ) : EReal) := by
  have h0 : ¬ t.val % 8 = 0 := fun h0 => h ((cond1_iff t).mpr h0)
  rw [before_5 m X c t h0, coords1 t]
  show (((X c (t.val / 8)).AQ (1024 * (t.val % 8 - 1) + 1024) r.val e.val : ℝ) : EReal) = _
  rw [show 1024 * (t.val % 8 - 1) + 1024 = 1024 * (t.val % 8) by omega]

/-! ## The body at a point -/

/-- What the pipeline hands the body, -/
def bodyPre (c : Dev nD) (t : Fin cfg0.N) : sProp 𝕄 :=
  iprop((dats m X 0 c).Φ t.castSucc ∗ (dats m X 0 c).owesAt () t.castSucc
    ∗ (∃ d, owns (c : Thread nD τ) (ms0 t) fullShare ((dats m X 0 c).before 0 t d))
    ∗ (∃ d, owns (c : Thread nD τ) (ms1 t) fullShare ((dats m X 0 c).before 1 t d))
    ∗ (∃ d, owns (c : Thread nD τ) (ms2 t) fullShare ((dats m X 0 c).before 2 t d))
    ∗ (∃ d, owns (c : Thread nD τ) (ms3 t) fullShare ((dats m X 0 c).before 3 t d))
    ∗ (∃ d, owns (c : Thread nD τ) (ms4 t) fullShare ((dats m X 0 c).before 4 t d))
    ∗ (∃ d, owns (c : Thread nD τ) (ms5 t) fullShare ((dats m X 0 c).before 5 t d))
    ∗ (∃ d, owns (c : Thread nD τ) (ms6 t) fullShare ((dats m X 0 c).before 6 t d))
    ∗ (∃ d, owns (c : Thread nD τ) (ms7 t) fullShare ((dats m X 0 c).before 7 t d)))

/-- and what it takes back. -/
def bodyPost (c : Dev nD) (t : Fin cfg0.N) : sProp 𝕄 :=
  iprop((dats m X 0 c).Φ t.succ ∗ (dats m X 0 c).owesAt () t.succ
    ∗ owns (c : Thread nD τ) (ms0 t) fullShare ((dats m X 0 c).after 0 t)
    ∗ owns (c : Thread nD τ) (ms1 t) fullShare ((dats m X 0 c).after 1 t)
    ∗ owns (c : Thread nD τ) (ms2 t) fullShare ((dats m X 0 c).after 2 t)
    ∗ owns (c : Thread nD τ) (ms3 t) fullShare ((dats m X 0 c).after 3 t)
    ∗ owns (c : Thread nD τ) (ms4 t) fullShare ((dats m X 0 c).after 4 t)
    ∗ owns (c : Thread nD τ) (ms5 t) fullShare ((dats m X 0 c).after 5 t)
    ∗ owns (c : Thread nD τ) (ms6 t) fullShare ((dats m X 0 c).after 6 t)
    ∗ owns (c : Thread nD τ) (ms7 t) fullShare ((dats m X 0 c).after 7 t))

set_option maxHeartbeats 2000000 in
include E in
theorem sound_body (c : Dev nD) (t : Fin cfg0.N) :
    bodyPre m X c t ⊢ wp frame (wpE (defs₀ (F := Ideal)) Variants.none c none) Set.univ (bodyAt0 t) (fun _ => bodyPost m X c t) := by
  unfold bodyPre bodyPost bodyAt0
  simp only [before_0, before_1, before_2, before_3, before_4]
  rw [show (dats m X 0 c).Φ t.succ = (dats m X 0 c).Φ t.castSucc from rfl,
    show (dats m X 0 c).owesAt () t.succ = (dats m X 0 c).owesAt () t.castSucc from rfl,
    after_0, after_1, after_2, after_3, after_4, after_5, after_6, after_7]
  rw [show (dats m X 0 c).Φ t.castSucc = Pipeline.ΦA spec0 c from rfl, carried_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hb := fun K => body_val (X c (t.val / 8)) c (grid0.coords t) (ms0 t) (hstage0_0 _) (ms1 t) (hstage0_1 _) (ms2 t) (hstage0_2 _) (ms3 t) (hstage0_3 _) (ms4 t) (hstage0_4 _) (ms5 t) (hstage0_5 _) (ms6 t) (hstage0_6 _) (ms7 t) (hstage0_7 _) sc0 (Memref.isWhole_whole _) sc1 (Memref.isWhole_whole _)
    (iblk m c 0 t) (iblk m c 1 t) (iblk m c 2 t) (iblk m c 3 t) (iblk m c 4 t) ((dats m X 0 c).before 5 t d5)
    ((E.head c _).trans (coords0 t).symm) (E.loads c t) (found m X c t d5) K
  rw [coords1 t] at hb
  iapply (hb _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

include E in
theorem obligation (c : Dev nD) : BodyObligation (dats m X 0 c) (defs₀ (F := Ideal)) Variants.none () Set.univ := fun t => by
  rw [bigSep_W0, bigSep_W0, row]
  exact triple_restated (sound_body m X E c t) rfl .rfl fun _ => .rfl

/-! ## The launch -/

include E in
set_option backward.isDefEq.respectTransparency.types false in
theorem launch : θ_run defs (onTc (τ := τ) (main (F := Ideal))) (s₀ m ρ)
    (fun r => Pipeline.FramePost cfgs (dats m X) (0 : Fin 1) (V m) r ∧ r.2.sem = fun _ => 0) :=
  Pipeline.θ_run_frame cfgs (dats m X) (0 : Fin 1) launch0 defs₀ Variants.none m ρ main
    (hbody := fun c => (obligation m X E c).loose) (hshare := fun c => (dats m X 0 c).share_full fun _ => rfl)
    (howed := fun _ _ => rfl) (V := V m) (hmain := hmain m Variants.none) (hA := A_eq m X) (hΦ := fun _ _ => rfl)
    (Q' := fun r => Pipeline.FramePost cfgs (dats m X) (0 : Fin 1) (V m) r ∧ r.2.sem = fun _ => 0) (hQ' := fun _ h => h)

end Cert.Proof.Run.Valued

end
-- ==== Proof.Run.ValueArrays.lean ====
/-
  The three result arrays after a run on real values, element by element.
-/
module

public import proofs.«01_k».proof.Proof.Run.ValueLaunch

@[expose] public section

set_option maxRecDepth 16384

noncomputable section

namespace Cert.Proof.Run.Valued

open Cert.KernelIdeal Cert.KernelIdeal.Gen
open Idealize.ShloMosaic
open Idealize.ShloMosaic.TcCoe Idealize.ShloMosaic.Tactic
open Idealize.ShloMosaic.Pipeline (Dat Cfg Window)

variable (m : (ℓ : Loc nD τ sig) → Buf (Elt Ideal) ℓ) (ρ : Dev nD → PrngReg) (X : Dev nD → ℕ → Mats)

/-- The queries' gradient, heads side by side at 256 columns each, -/
def arrQ (c : Dev nD) : S8192x1024.Idx → EReal := fun y => (((X c ((y 1).val / 256)).AQ 8192 (y 0).val ((y 1).val % 256) : ℝ) : EReal)
/-- the keys', -/
def arrK (c : Dev nD) : S8192x1024.Idx → EReal := fun y => (((X c ((y 1).val / 256)).AK 8192 (y 0).val ((y 1).val % 256) : ℝ) : EReal)
/-- and the values', at 128 columns each. -/
def arrV (c : Dev nD) : S8192x512.Idx → EReal := fun y => (((X c ((y 1).val / 128)).AV 8192 (y 0).val ((y 1).val % 128) : ℝ) : EReal)

theorem idx5 : ∀ t : Fin cfg0.N, win0_5.index t = ![0, t.val / 8] := (by decide +kernel : ∀ t : Fin grid0.N, win0_5.index t = ![0, t.val / 8])
theorem idx6 : ∀ t : Fin cfg0.N, win0_6.index t = ![t.val % 8, t.val / 8] := (by decide +kernel : ∀ t : Fin grid0.N, win0_6.index t = ![t.val % 8, t.val / 8])
theorem idx7 : ∀ t : Fin cfg0.N, win0_7.index t = ![t.val % 8, t.val / 8] := (by decide +kernel : ∀ t : Fin grid0.N, win0_7.index t = ![t.val % 8, t.val / 8])

theorem final5 (c : Dev nD) : (dats m X 0 c).arrAt 5 cfg0.N = arrQ X c := by
  refine (dats m X 0 c).arrAt_eq_of_covers 5 _ (by decide +kernel) fun t hf y => ?_
  have y0 : (y 0).val < 8192 := (y 0).isLt
  have y1 : (y 1).val < 256 := (y 1).isLt
  have h7 := (flush0_5 t).mp hf
  have e0 : (((win0_5.blk t).view.emb y) 0 : ℕ) = (y 0).val := by blk_simp [idx5 t]; try omega
  have e1 : (((win0_5.blk t).view.emb y) 1 : ℕ) = 256 * (t.val / 8) + (y 1).val := by blk_simp [idx5 t]; try omega
  blk_simp [idx5 t]
  rw [after_5]
  unfold outQ arrQ
  rw [e0, e1, show (256 * (t.val / 8) + (y 1).val) / 256 = t.val / 8 by omega, show (256 * (t.val / 8) + (y 1).val) % 256 = (y 1).val by omega]
  rw [h7]

theorem final6 (c : Dev nD) : (dats m X 0 c).arrAt 6 cfg0.N = arrK X c := by
  refine (dats m X 0 c).arrAt_eq_of_covers 6 _ (by decide +kernel) fun t hf y => ?_
  have y0 : (y 0).val < 1024 := (y 0).isLt
  have y1 : (y 1).val < 256 := (y 1).isLt
  have e0 : (((win0_6.blk t).view.emb y) 0 : ℕ) = 1024 * (t.val % 8) + (y 0).val := by blk_simp [idx6 t]; try omega
  have e1 : (((win0_6.blk t).view.emb y) 1 : ℕ) = 256 * (t.val / 8) + (y 1).val := by blk_simp [idx6 t]; try omega
  blk_simp [idx6 t]
  rw [after_6]
  unfold outK arrK
  rw [e0, e1, show (256 * (t.val / 8) + (y 1).val) / 256 = t.val / 8 by omega, show (256 * (t.val / 8) + (y 1).val) % 256 = (y 1).val by omega]

theorem final7 (c : Dev nD) : (dats m X 0 c).arrAt 7 cfg0.N = arrV X c := by
  refine (dats m X 0 c).arrAt_eq_of_covers 7 _ (by decide +kernel) fun t hf y => ?_
  have y0 : (y 0).val < 1024 := (y 0).isLt
  have y1 : (y 1).val < 128 := (y 1).isLt
  have e0 : (((win0_7.blk t).view.emb y) 0 : ℕ) = 1024 * (t.val % 8) + (y 0).val := by blk_simp [idx7 t]; try omega
  have e1 : (((win0_7.blk t).view.emb y) 1 : ℕ) = 128 * (t.val / 8) + (y 1).val := by blk_simp [idx7 t]; try omega
  blk_simp [idx7 t]
  rw [after_7]
  unfold outV arrV
  rw [e0, e1, show (128 * (t.val / 8) + (y 1).val) / 128 = t.val / 8 by omega, show (128 * (t.val / 8) + (y 1).val) % 128 = (y 1).val by omega]

/-- From real arrays at the launch's entry every run ends with the results at the real sums and the arguments unchanged. -/
theorem values (E : Entry m X) : θ_run defs (onTc (τ := τ) (main (F := Ideal))) ⟨m, fun _ => 0, ρ⟩ (fun r => ∀ c : Dev nD,
      r.2.mem ((c.tc : Thread nD τ).loc main_v43_0) = arrQ X c
      ∧ r.2.mem ((c.tc : Thread nD τ).loc main_v43_1) = arrK X c
      ∧ r.2.mem ((c.tc : Thread nD τ).loc main_v43_2) = arrV X c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h.1 c).1 5).trans (final5 m X c), ((h.1 c).1 6).trans (final6 m X c), ((h.1 c).1 7).trans (final7 m X c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩) (launch m ρ X E)

end Cert.Proof.Run.Valued

end
-- ==== Proof.Value.Entry.lean ====
/-
  The arrays at the launch's entry, on real inputs.
-/
module

public import proofs.«01_k».proof.Proof.Value.Host
public import proofs.«01_k».proof.Proof.Run.ValueArrays

@[expose] public section

set_option maxRecDepth 16384

noncomputable section

namespace Cert.Proof.Value

open Cert.KernelIdeal Cert.KernelIdeal.Gen
open Cert.Proof.Run Cert.Proof.Run.Valued
open Idealize.ShloMosaic
open Idealize.ShloMosaic.TcCoe Idealize.ShloMosaic.Tactic

/-! ## The kernel's matrices of one head -/

/-- What the kernel is given of head `h`: the inputs with lanes of zeros, and the rows' statistics of every head. -/
def mats (A : Att) (h : ℕ) : Mats where
  Q r e := if hh : (r < 8192 ∧ h < 4) ∧ e < 192 then A.q ⟨r, hh.1.1⟩ ⟨h, hh.1.2⟩ ⟨e, hh.2⟩ else 0
  K r e := if hh : (r < 8192 ∧ h < 4) ∧ e < 192 then A.k ⟨r, hh.1.1⟩ ⟨h, hh.1.2⟩ ⟨e, hh.2⟩ else 0
  D r e := if hh : (r < 8192 ∧ h < 4) ∧ e < 128 then A.d ⟨r, hh.1.1⟩ ⟨h, hh.1.2⟩ ⟨e, hh.2⟩ else 0
  V r e := if hh : (r < 8192 ∧ h < 4) ∧ e < 128 then A.v ⟨r, hh.1.1⟩ ⟨h, hh.1.2⟩ ⟨e, hh.2⟩ else 0
  T r l := if hh : r < 8192 ∧ l < 8 then
      if l % 2 = 0 then A.mx ⟨l / 2, by omega⟩ ⟨r, hh.1⟩ + Real.log (A.dn ⟨l / 2, by omega⟩ ⟨r, hh.1⟩) else A.dl ⟨l / 2, by omega⟩ ⟨r, hh.1⟩
    else 0
  head := h

/-! ## The arrays -/

variable (m : (ℓ : Loc nD τ sig) → Buf (Elt Ideal) ℓ) (b : Dev nD) (A : Att)
  (hq : ∀ r h e, (m ((b.tc : Thread nD τ).loc main_arg0) : S8192x4x192.Idx → EReal) (ix3 r h e) = ((A.q r h e : ℝ) : EReal))
  (hk : ∀ r h e, (m ((b.tc : Thread nD τ).loc main_arg1) : S8192x4x192.Idx → EReal) (ix3 r h e) = ((A.k r h e : ℝ) : EReal))
  (hv : ∀ r h e, (m ((b.tc : Thread nD τ).loc main_arg2) : S8192x4x128.Idx → EReal) (ix3 r h e) = ((A.v r h e : ℝ) : EReal))
  (hd : ∀ r h e, (m ((b.tc : Thread nD τ).loc main_arg3) : S8192x4x128.Idx → EReal) (ix3 r h e) = ((A.d r h e : ℝ) : EReal))

/-- A matrix of heads at 192 lanes, at 256 lanes each and the heads side by side. -/
def wide (x : FVec Ideal S8192x4x192 .f32) : FVec Ideal S8192x1024 .bf16 :=
  truncf .bf16 (shapeCast S8192x1024 (pad S8192x4x256 ![0, 0, 0] ![0, 0, 64] ![0, 0, 0] x (sitofp .f32 (constantI S_ 32 0#32)) pads_S8192x4x192_S8192x4x256_000_000_0640 h_S_) shapeCasts_S8192x4x256_S8192x1024) bitsLt_bf16_f32

theorem sitofp_zero : (FloatOps.sitofp FTy.f32 0#32 : Ideal .f32) = (0 : EReal) := by
  show ((((0#32 : BitVec 32).toInt : ℤ) : ℝ) : EReal) = 0
  simp

theorem wide_val (x : FVec Ideal S8192x4x192 .f32) (f : Fin 8192 → Fin 4 → Fin 192 → ℝ) (hx : ∀ r h e, x (ix3 r h e) = ((f r h e : ℝ) : EReal)) (r : Fin 8192) (l : Fin 1024) :
    wide x (ix2 r l) = ((if hh : (r.val < 8192 ∧ l.val / 256 < 4) ∧ l.val % 256 < 192 then f ⟨r.val, hh.1.1⟩ ⟨l.val / 256, hh.1.2⟩ ⟨l.val % 256, hh.2⟩ else 0 : ℝ) : EReal) := by
  pointwise [wide]
  rw [sitofp_zero]
  by_cases hl : l.val % 256 < 192
  · have h1 : l.val / 256 < 4 ∧ l.val % 256 < 192 := ⟨by omega, hl⟩
    have e1 := hx r ⟨l.val / 256, h1.1⟩ ⟨l.val % 256, hl⟩
    refine (dif_pos h1).trans (e1.trans (congrArg (fun z : ℝ => (z : EReal)) ?_))
    split_ifs
    rfl
  · have h1 : ¬ (l.val / 256 < 4 ∧ l.val % 256 < 192) := fun hh => hl hh.2
    refine (dif_neg h1).trans (EReal.coe_zero.symm.trans (congrArg (fun z : ℝ => (z : EReal)) ?_))
    split_ifs
    rfl

theorem V35 : V m b main_v35 = wide (m ((b.tc : Thread nD τ).loc main_arg0)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

theorem V38 : V m b main_v38 = wide (m ((b.tc : Thread nD τ).loc main_arg1)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

/-- A matrix of heads at 128 lanes, the heads side by side. -/
def flat (x : FVec Ideal S8192x4x128 .f32) : FVec Ideal S8192x512 .bf16 :=
  truncf .bf16 (shapeCast S8192x512 x shapeCasts_S8192x4x128_S8192x512) bitsLt_bf16_f32

theorem flat_val (x : FVec Ideal S8192x4x128 .f32) (f : Fin 8192 → Fin 4 → Fin 128 → ℝ) (hx : ∀ r h e, x (ix3 r h e) = ((f r h e : ℝ) : EReal)) (r : Fin 8192) (l : Fin 512) :
    flat x (ix2 r l) = ((if hh : (r.val < 8192 ∧ l.val / 128 < 4) ∧ l.val % 128 < 128 then f ⟨r.val, hh.1.1⟩ ⟨l.val / 128, hh.1.2⟩ ⟨l.val % 128, hh.2⟩ else 0 : ℝ) : EReal) := by
  pointwise [flat]
  have h2 : l.val / 128 < 4 ∧ l.val % 128 < 128 := ⟨by omega, by omega⟩
  have e1 := hx r ⟨l.val / 128, h2.1⟩ ⟨l.val % 128, h2.2⟩
  refine e1.trans (congrArg (fun z : ℝ => (z : EReal)) ?_)
  split_ifs
  rfl

theorem V40 : V m b main_v40 = flat (m ((b.tc : Thread nD τ).loc main_arg2)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

theorem V42 : V m b main_v42 = flat (m ((b.tc : Thread nD τ).loc main_arg3)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

/-- The exponentials of the forward pass. -/
def fwdE : FVec Ideal S4x8192x8192 .f32 :=
  expos (scores (m ((b.tc : Thread nD τ).loc main_arg0)) (m ((b.tc : Thread nD τ).loc main_arg1))) (rowMax (scores (m ((b.tc : Thread nD τ).loc main_arg0)) (m ((b.tc : Thread nD τ).loc main_arg1))))

theorem V32 : V m b main_v32 = stats (lse (rowMax (scores (m ((b.tc : Thread nD τ).loc main_arg0)) (m ((b.tc : Thread nD τ).loc main_arg1)))) (rowSum (fwdE m b)))
      (outDot (quot (fwdE m b) (rowSum (fwdE m b))) (m ((b.tc : Thread nD τ).loc main_arg2)) (m ((b.tc : Thread nD τ).loc main_arg3))) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

theorem idx0 : ∀ t : Fin cfg0.N, win0_0.index t = ![0, t.val / 8] := (by decide +kernel : ∀ t : Fin grid0.N, win0_0.index t = ![0, t.val / 8])
theorem idx1 : ∀ t : Fin cfg0.N, win0_1.index t = ![0, t.val / 8] := (by decide +kernel : ∀ t : Fin grid0.N, win0_1.index t = ![0, t.val / 8])
theorem idx2 : ∀ t : Fin cfg0.N, win0_2.index t = ![0, 0] := (by decide +kernel : ∀ t : Fin grid0.N, win0_2.index t = ![0, 0])
theorem idx3 : ∀ t : Fin cfg0.N, win0_3.index t = ![t.val % 8, t.val / 8] := (by decide +kernel : ∀ t : Fin grid0.N, win0_3.index t = ![t.val % 8, t.val / 8])
theorem idx4 : ∀ t : Fin cfg0.N, win0_4.index t = ![t.val % 8, t.val / 8] := (by decide +kernel : ∀ t : Fin grid0.N, win0_4.index t = ![t.val % 8, t.val / 8])

theorem point_lt (t : Fin cfg0.N) : t.val < 32 := t.isLt

theorem fit {n : ℕ} (t : Fin cfg0.N) (e : Fin n) : n * (t.val / 8) + e.val < n * 4 := by
  have h := point_lt t
  have h1 : n * (t.val / 8) ≤ n * 3 := Nat.mul_le_mul_left n (by omega)
  have := e.isLt
  omega

theorem fitRow (t : Fin cfg0.N) (r : Fin 1024) : 1024 * (t.val % 8) + r.val < 8192 := by
  have := r.isLt
  omega

theorem blk0 (t : Fin cfg0.N) (r : Fin 8192) (e : Fin 256) : (iblk m b 0 t : S8192x256.Idx → EReal) (ix2 r e) = (V m b main_v35 : S8192x1024.Idx → EReal) (ix2 r ⟨256 * (t.val / 8) + e.val, fit t e⟩) := by
  refine congrArg (V m b main_v35 : S8192x1024.Idx → EReal) (funext fun i => Fin.ext ?_)
  fin_cases i
  · show (((win0_0.blk t).view.emb (ix2 r e)) 0 : ℕ) = r.val
    blk_simp [idx0 t]; try omega
  · show (((win0_0.blk t).view.emb (ix2 r e)) 1 : ℕ) = 256 * (t.val / 8) + e.val
    blk_simp [idx0 t]; try omega

theorem blk1 (t : Fin cfg0.N) (r : Fin 8192) (e : Fin 128) : (iblk m b 1 t : S8192x128.Idx → EReal) (ix2 r e) = (V m b main_v42 : S8192x512.Idx → EReal) (ix2 r ⟨128 * (t.val / 8) + e.val, fit t e⟩) := by
  refine congrArg (V m b main_v42 : S8192x512.Idx → EReal) (funext fun i => Fin.ext ?_)
  fin_cases i
  · show (((win0_1.blk t).view.emb (ix2 r e)) 0 : ℕ) = r.val
    blk_simp [idx1 t]; try omega
  · show (((win0_1.blk t).view.emb (ix2 r e)) 1 : ℕ) = 128 * (t.val / 8) + e.val
    blk_simp [idx1 t]; try omega

theorem blk2 (t : Fin cfg0.N) (r : Fin 8192) (e : Fin 128) : (iblk m b 2 t : S8192x128.Idx → EReal) (ix2 r e) = (V m b main_v32 : S8192x128.Idx → EReal) (ix2 r e) := by
  refine congrArg (V m b main_v32 : S8192x128.Idx → EReal) (funext fun i => Fin.ext ?_)
  fin_cases i
  · show (((win0_2.blk t).view.emb (ix2 r e)) 0 : ℕ) = r.val
    blk_simp [idx2 t]; try omega
  · show (((win0_2.blk t).view.emb (ix2 r e)) 1 : ℕ) = e.val
    blk_simp [idx2 t]; try omega

theorem blk3 (t : Fin cfg0.N) (r : Fin 1024) (e : Fin 256) :
    (iblk m b 3 t : S1024x256.Idx → EReal) (ix2 r e) = (V m b main_v38 : S8192x1024.Idx → EReal) (ix2 ⟨1024 * (t.val % 8) + r.val, fitRow t r⟩ ⟨256 * (t.val / 8) + e.val, fit t e⟩) := by
  refine congrArg (V m b main_v38 : S8192x1024.Idx → EReal) (funext fun i => Fin.ext ?_)
  fin_cases i
  · show (((win0_3.blk t).view.emb (ix2 r e)) 0 : ℕ) = 1024 * (t.val % 8) + r.val
    blk_simp [idx3 t]; try omega
  · show (((win0_3.blk t).view.emb (ix2 r e)) 1 : ℕ) = 256 * (t.val / 8) + e.val
    blk_simp [idx3 t]; try omega

theorem blk4 (t : Fin cfg0.N) (r : Fin 1024) (e : Fin 128) :
    (iblk m b 4 t : S1024x128.Idx → EReal) (ix2 r e) = (V m b main_v40 : S8192x512.Idx → EReal) (ix2 ⟨1024 * (t.val % 8) + r.val, fitRow t r⟩ ⟨128 * (t.val / 8) + e.val, fit t e⟩) := by
  refine congrArg (V m b main_v40 : S8192x512.Idx → EReal) (funext fun i => Fin.ext ?_)
  fin_cases i
  · show (((win0_4.blk t).view.emb (ix2 r e)) 0 : ℕ) = 1024 * (t.val % 8) + r.val
    blk_simp [idx4 t]; try omega
  · show (((win0_4.blk t).view.emb (ix2 r e)) 1 : ℕ) = 128 * (t.val / 8) + e.val
    blk_simp [idx4 t]; try omega

/-! ## The blocks -/

section Blocks

include hq

theorem load_q (t : Fin cfg0.N) (r : Fin 8192) (e : Fin 256) : (iblk m b 0 t : S8192x256.Idx → EReal) (ix2 r e) = (((mats A (t.val / 8)).Q r.val e.val : ℝ) : EReal) := by
  have e1 : (256 * (t.val / 8) + e.val) / 256 = t.val / 8 := by omega
  have e2 : (256 * (t.val / 8) + e.val) % 256 = e.val := by omega
  rw [blk0, V35, wide_val _ A.q hq]
  simp only [e1, e2]
  rfl

end Blocks

include hk in
theorem load_k (t : Fin cfg0.N) (r : Fin 1024) (e : Fin 256) :
    (iblk m b 3 t : S1024x256.Idx → EReal) (ix2 r e) = (((mats A (t.val / 8)).K (1024 * (t.val % 8) + r.val) e.val : ℝ) : EReal) := by
  have e1 : (256 * (t.val / 8) + e.val) / 256 = t.val / 8 := by omega
  have e2 : (256 * (t.val / 8) + e.val) % 256 = e.val := by omega
  rw [blk3, V38, wide_val _ A.k hk]
  simp only [e1, e2]
  rfl

include hd in
theorem load_d (t : Fin cfg0.N) (r : Fin 8192) (e : Fin 128) : (iblk m b 1 t : S8192x128.Idx → EReal) (ix2 r e) = (((mats A (t.val / 8)).D r.val e.val : ℝ) : EReal) := by
  have e1 : (128 * (t.val / 8) + e.val) / 128 = t.val / 8 := by omega
  have e2 : (128 * (t.val / 8) + e.val) % 128 = e.val := by omega
  rw [blk1, V42, flat_val _ A.d hd]
  simp only [e1, e2]
  rfl

include hv in
theorem load_v (t : Fin cfg0.N) (r : Fin 1024) (e : Fin 128) :
    (iblk m b 4 t : S1024x128.Idx → EReal) (ix2 r e) = (((mats A (t.val / 8)).V (1024 * (t.val % 8) + r.val) e.val : ℝ) : EReal) := by
  have e1 : (128 * (t.val / 8) + e.val) / 128 = t.val / 8 := by omega
  have e2 : (128 * (t.val / 8) + e.val) % 128 = e.val := by omega
  rw [blk4, V40, flat_val _ A.v hv]
  simp only [e1, e2]
  rfl

include hq hk in
theorem fwdE_val (h : Fin 4) (r c : Fin 8192) : fwdE m b (ix3 h r c) = ((A.ex h r c : ℝ) : EReal) :=
  expos_val A h r c _ (fun h r c => scores_val A h r c _ _ hq hk) _ (fun h r => rowMax_val A h r _ fun h r c => scores_val A h r c _ _ hq hk)

include hq hk hv hd in
theorem load_t (t : Fin cfg0.N) (r : Fin 8192) (l : Fin 128) (n : ℕ) : (iblk m b 2 t : S8192x128.Idx → EReal) (ix2 r l) = (((mats A n).T r.val l.val : ℝ) : EReal) := by
  have he := fwdE_val m b A hq hk
  have hn := fun h r u => rowSum_val A h r _ he u
  have hp := fun h r c => quot_val A h r c _ he _ hn
  have hm := fun h r => rowMax_val A h r _ fun h r c => scores_val A h r c _ _ hq hk
  rw [blk2, V32, stats_val]
  unfold mats
  dsimp only
  by_cases hl : l.val < 8
  · have h2 : r.val < 8192 ∧ l.val < 8 := ⟨r.isLt, hl⟩
    refine (dif_pos hl).trans (Eq.trans ?_ (congrArg (fun z : ℝ => (z : EReal)) (dif_pos h2).symm))
    by_cases h3 : l.val % 2 = 0
    · rw [if_pos h3, if_pos h3]
      exact lse_val A _ r _ hm _ hn
    · rw [if_neg h3, if_neg h3]
      exact outDot_val A _ r _ hp _ _ hv hd
  · have h2 : ¬ (r.val < 8192 ∧ l.val < 8) := fun hh => hl hh.2
    refine (dif_neg hl).trans (EReal.coe_zero.symm.trans (congrArg (fun z : ℝ => (z : EReal)) ?_))
    split_ifs
    rfl

end Cert.Proof.Value

end
-- ==== Proof.Value.Sums.lean ====
/-
  The kernel's sums over its padded matrices are the sums of the chain rule.
-/
module

public import proofs.«01_k».proof.Proof.Value.Entry

@[expose] public section

noncomputable section

namespace Cert.Proof.Value

open Cert.Proof.Run

variable (A : Att) (h : Fin 4) (r c : Fin 8192)

theorem mats_Q (e : ℕ) (he : e < 192) : (mats A h.val).Q r.val e = A.q r h ⟨e, he⟩ := dif_pos ⟨⟨r.isLt, h.isLt⟩, he⟩
theorem mats_K (e : ℕ) (he : e < 192) : (mats A h.val).K c.val e = A.k c h ⟨e, he⟩ := dif_pos ⟨⟨c.isLt, h.isLt⟩, he⟩
theorem mats_D (e : ℕ) (he : e < 128) : (mats A h.val).D r.val e = A.d r h ⟨e, he⟩ := dif_pos ⟨⟨r.isLt, h.isLt⟩, he⟩
theorem mats_V (e : ℕ) (he : e < 128) : (mats A h.val).V c.val e = A.v c h ⟨e, he⟩ := dif_pos ⟨⟨c.isLt, h.isLt⟩, he⟩
theorem mats_Q_pad (n a e : ℕ) (he : ¬ e < 192) : (mats A n).Q a e = 0 := dif_neg fun hh => he hh.2
theorem mats_K_pad (n a e : ℕ) (he : ¬ e < 192) : (mats A n).K a e = 0 := dif_neg fun hh => he hh.2

/-- A sum over 256 lanes of which the last 64 are zero. -/
theorem sum_lanes (f : ℕ → ℝ) (hf : ∀ e, ¬ e < 192 → f e = 0) : ∑ e : Fin 256, f e.val = ∑ e : Fin 192, f e.val := by
  rw [← Finset.sum_range (n := 256), ← Finset.sum_range (n := 192)]
  refine (Finset.sum_subset (Finset.range_subset_range.mpr (by omega)) fun e _ he => hf e fun hh => he (Finset.mem_range.mpr hh)).symm

theorem dot_qk : ∑ e : Fin 256, (mats A h.val).Q r.val e.val * (mats A h.val).K c.val e.val = ∑ e, A.q r h e * A.k c h e := by
  rw [sum_lanes (fun e => (mats A h.val).Q r.val e * (mats A h.val).K c.val e) fun e he => by rw [mats_Q_pad A _ _ e he, zero_mul]]
  exact Finset.sum_congr rfl fun e _ => by rw [mats_Q A h r e.val e.isLt, mats_K A h c e.val e.isLt]

theorem dot_dv : ∑ e : Fin 128, (mats A h.val).D r.val e.val * (mats A h.val).V c.val e.val = A.dp h r c :=
  Finset.sum_congr rfl fun e _ => by rw [mats_D A h r e.val e.isLt, mats_V A h c e.val e.isLt]

theorem stat_lse : (mats A h.val).T r.val (2 * h.val) = A.mx h r + Real.log (A.dn h r) := by
  have h1 : r.val < 8192 ∧ 2 * h.val < 8 := ⟨r.isLt, by omega⟩
  have h2 : (⟨2 * h.val / 2, by omega⟩ : Fin 4) = h := Fin.ext (by show 2 * h.val / 2 = h.val; omega)
  refine (dif_pos h1).trans ((if_pos (by omega)).trans ?_)
  rw [h2]

theorem stat_dot : (mats A h.val).T r.val (2 * h.val + 1) = A.dl h r := by
  have h1 : r.val < 8192 ∧ 2 * h.val + 1 < 8 := ⟨r.isLt, by omega⟩
  have h2 : (⟨(2 * h.val + 1) / 2, by omega⟩ : Fin 4) = h := Fin.ext (by show (2 * h.val + 1) / 2 = h.val; omega)
  refine (dif_pos h1).trans ((if_neg (by omega)).trans ?_)
  rw [h2]

theorem mats_M : (mats A h.val).M r.val c.val = A.pr h r c := by
  unfold Mats.M
  split_ifs with hc
  · rw [dot_qk]
    show Real.rpow 2 (_ - (mats A h.val).T r.val (2 * h.val) * _) = _
    rw [stat_lse]
    exact A.pow_eq h r c hc
  · exact (A.pr_zero h r c hc).symm

theorem mats_DS : (mats A h.val).DS r.val c.val = A.ds h r c := by
  unfold Mats.DS
  rw [mats_M, dot_dv]
  show A.pr h r c * (A.dp h r c - (mats A h.val).T r.val (2 * h.val + 1)) * _ = _
  rw [stat_dot]
  rfl

theorem sum_AQ (e : ℕ) : (mats A h.val).AQ 8192 r.val e = if he : e < 192 then ∑ c, A.ds h r c * A.k c h ⟨e, he⟩ else 0 := by
  unfold Mats.AQ
  rw [Finset.sum_range]
  split_ifs with he
  · exact Finset.sum_congr rfl fun c _ => by rw [mats_DS, mats_K A h c e he]
  · exact Finset.sum_eq_zero fun c _ => by rw [mats_K_pad A _ _ e he, mul_zero]

theorem sum_AK (e : ℕ) : (mats A h.val).AK 8192 c.val e = if he : e < 192 then ∑ r, A.ds h r c * A.q r h ⟨e, he⟩ else 0 := by
  unfold Mats.AK
  rw [Finset.sum_range]
  split_ifs with he
  · exact Finset.sum_congr rfl fun r _ => by rw [mats_DS, mats_Q A h r e he]
  · exact Finset.sum_eq_zero fun r _ => by rw [mats_Q_pad A _ _ e he, mul_zero]

theorem sum_AV (e : Fin 128) : (mats A h.val).AV 8192 c.val e.val = ∑ r, A.d r h e * A.pr h r c := by
  unfold Mats.AV
  rw [Finset.sum_range]
  exact Finset.sum_congr rfl fun r _ => by rw [mats_M, mats_D A h r e.val e.isLt, mul_comm]

end Cert.Proof.Value

end
-- ==== Proof.Value.Reference.lean ====
/-
  The reference on real inputs: every element of its three results, as the sums of the chain rule.
-/
module

public import proofs.«01_k».proof.Proof.Value.Host
public import proofs.«01_k».proof.Proof.Gen.ReferenceIdeal.Run

@[expose] public section

set_option maxRecDepth 16384

noncomputable section

namespace Cert.Proof.Value

open Cert.ReferenceIdeal Cert.ReferenceIdeal.Gen Cert.ReferenceIdeal.Value
open Cert.Proof.Run
open Idealize.ShloMosaic
open Idealize.ShloMosaic.TcCoe Idealize.ShloMosaic.Tactic

/-! ## The lines that the kernel's host code does not have -/

/-- The greatest of every row, against −∞ once more. -/
def rowMax' (s : FVec Ideal S4x8192x8192 .f32) : FVec Ideal S4x8192 .f32 :=
  maximumf (broadcastInDim S4x8192 ![] bcast_S_S4x8192 (constant S_ .f32 0xFF800000#32)) (rowMax s)

/-- The cotangent with its rows last. -/
def ctT (d : FVec Ideal S8192x4x128 .f32) : FVec Ideal S4x128x8192 .f32 := transpose S4x128x8192 [1, 2, 0] d transposes_S8192x4x128_S4x128x8192_1_2_0

/-- The probabilities' cotangent. -/
def probCt (d v : FVec Ideal S8192x4x128 .f32) : FVec Ideal S4x8192x8192 .f32 :=
  Host.dotGeneral dot_S4x128x8192_S8192x4x128_S4x8192x8192_1_2_2_0_0_1 none (ctT d) v

/-- Less the cotangent of every row's sum of exponentials. -/
def sumCt (g e : FVec Ideal S4x8192x8192 .f32) (l : FVec Ideal S4x8192x1 .f32) : FVec Ideal S4x8192x1 .f32 :=
  Host.negf (shapeCast S4x8192x1 (Host.reduceAdd (mulf (mulf g (broadcastInDim S4x8192x8192 ![0, 1, 2] bcast_S4x8192x1_S4x8192x8192_0_1_2
    (Host.divf (broadcastInDim S4x8192x1 ![] bcast_S_S4x8192x1 (constant S_ .f32 0x3F800000#32)) (mulf l l)))) e) (constant S_ .f32 0x00000000#32) reducesTo_S4x8192x8192_S4x8192_d2 h_S_)
    shapeCasts_S4x8192_S4x8192x1)

/-- The cotangent of the products of queries and keys. -/
def scoreCt (g e : FVec Ideal S4x8192x8192 .f32) (l n : FVec Ideal S4x8192x1 .f32) : FVec Ideal S4x8192x8192 .f32 :=
  mulf (select mask
    (mulf (addf (Host.divf g (broadcastInDim S4x8192x8192 ![0, 1, 2] bcast_S4x8192x1_S4x8192x8192_0_1_2 l))
      (broadcastInDim S4x8192x8192 ![0, 1] bcast_S4x8192_S4x8192x8192_0_1 (Host.reduceAdd n (constant S_ .f32 0x00000000#32) reducesTo_S4x8192x1_S4x8192_d2 h_S_))) e)
    (broadcastInDim S4x8192x8192 ![] bcast_S_S4x8192x8192 (constant S_ .f32 0x00000000#32)))
    (broadcastInDim S4x8192x8192 ![] bcast_S_S4x8192x8192 (Host.rsqrt (constant S_ .f32 0x43400000#32)))

/-- The layout of the first two results. -/
def lanes256 (x : FVec Ideal S4x8192x192 .f32) : FVec Ideal S8192x1024 .f32 :=
  shapeCast S8192x1024 (pad S8192x4x256 ![0, 0, 0] ![0, 0, 64] ![0, 0, 0] (transpose S8192x4x192 [1, 0, 2] x transposes_S4x8192x192_S8192x4x192_1_0_2)
    (sitofp .f32 (constantI S_ 32 0#32)) pads_S8192x4x192_S8192x4x256_000_000_0640 h_S_) shapeCasts_S8192x4x256_S8192x1024

/-! ## Their elements -/

variable (A : Att) (h : Fin 4) (r c : Fin 8192)

/-- −∞ is below everything. -/
theorem max_neg_inf (w : FVec Ideal S4x8192 .f32) : maximumf (broadcastInDim S4x8192 ![] bcast_S_S4x8192 (constant S_ .f32 0xFF800000#32)) w = w := by
  funext i
  show max (Ideal.ofBits .f32 0xFF800000#32) (w i) = w i
  rw [neg_inf, max_bot_left]

theorem rowMax'_val (s : FVec Ideal S4x8192x8192 .f32) (hs : ∀ h r c, s (ix3 h r c) = if c ≤ r then ((A.sc h r c : ℝ) : EReal) else ⊥) :
    rowMax' s (ix2 h r) = ((A.mx h r : ℝ) : EReal) := by
  exact (congrFun (max_neg_inf (rowMax s)) (ix2 h r)).trans (rowMax_val A h r s hs)

theorem probCt_val (d v : FVec Ideal S8192x4x128 .f32) (hd : ∀ r h e, d (ix3 r h e) = ((A.d r h e : ℝ) : EReal)) (hv : ∀ r h e, v (ix3 r h e) = ((A.v r h e : ℝ) : EReal)) :
    probCt d v (ix3 h r c) = ((A.dp h r c : ℝ) : EReal) := by
  pointwise [probCt, ctT]
  simp only [hd, hv, ← EReal.coe_mul, coe_sum]
  rfl

section Grad

variable (g : FVec Ideal S4x8192x8192 .f32) (hg : ∀ h r c, g (ix3 h r c) = ((A.dp h r c : ℝ) : EReal))
  (e : FVec Ideal S4x8192x8192 .f32) (he : ∀ h r c, e (ix3 h r c) = ((A.ex h r c : ℝ) : EReal))
  (l : FVec Ideal S4x8192x1 .f32) (hl : ∀ h r u, l (ix3 h r u) = ((A.dn h r : ℝ) : EReal))

include hg he hl

theorem sumCt_val (u : Fin 1) : sumCt g e l (ix3 h r u) = ((-(A.dl h r / A.dn h r) : ℝ) : EReal) := by
  have hn := (A.dn_pos h r).ne'
  pointwise [sumCt]
  simp only [hg, he, hl, ← EReal.coe_mul]
  rw [Ideal.div_coe (mul_ne_zero hn hn)]
  simp only [one_mul, ← EReal.coe_mul, coe_sum]
  rw [← EReal.coe_neg, A.dl_eq h r, Finset.sum_div]
  congr 2
  refine Finset.sum_congr rfl fun c _ => ?_
  unfold Att.pr
  field_simp

theorem scoreCt_val (n : FVec Ideal S4x8192x1 .f32) (hn : ∀ h r u, n (ix3 h r u) = ((-(A.dl h r / A.dn h r) : ℝ) : EReal)) :
    scoreCt g e l n (ix3 h r c) = ((A.ds h r c : ℝ) : EReal) := by
  have hd := (A.dn_pos h r).ne'
  pointwise [scoreCt, mask]
  simp only [hg, he, hl, hn]
  rw [select_row, rsqrt_192, Ideal.div_coe hd]
  simp only [← EReal.coe_mul, coe_sum, ← EReal.coe_add]
  unfold Att.ds
  split
  · congr 1
    unfold Att.pr
    simp only [Finset.univ_unique, Finset.sum_const, Finset.card_singleton, one_smul]
    field_simp
    ring
  · rename_i hc
    rw [A.pr_zero h r c hc]
    simp

end Grad

theorem lanes256_val (x : FVec Ideal S4x8192x192 .f32) (f : Fin 8192 → Fin 4 → Fin 192 → ℝ) (hx : ∀ h r e, x (ix3 h r e) = ((f r h e : ℝ) : EReal)) (l : Fin 1024) :
    lanes256 x (ix2 r l) = ((if hl : l.val % 256 < 192 then f r ⟨l.val / 256, by omega⟩ ⟨l.val % 256, hl⟩ else 0 : ℝ) : EReal) := by
  have z : (FloatOps.sitofp FTy.f32 0#32 : Ideal .f32) = (0 : EReal) := by
    show ((((0#32 : BitVec 32).toInt : ℤ) : ℝ) : EReal) = 0
    simp
  pointwise [lanes256]
  rw [z]
  by_cases hl : l.val % 256 < 192
  · have h2 : l.val / 256 < 4 ∧ l.val % 256 < 192 := ⟨by omega, hl⟩
    have e1 := hx ⟨l.val / 256, h2.1⟩ r ⟨l.val % 256, hl⟩
    simp only [dif_pos h2, dif_pos hl]
    exact e1
  · have h2 : ¬ (l.val / 256 < 4 ∧ l.val % 256 < 192) := fun hh => hl hh.2
    simp only [dif_neg h2, dif_neg hl]
    exact EReal.coe_zero.symm

/-! ## The results -/

section Results

variable (m : (ℓ : Loc nD τ sig) → Buf (Elt Ideal) ℓ) (b : Dev nD)
  (hq : ∀ r h e, (m ((b.tc : Thread nD τ).loc main_arg0) : S8192x4x192.Idx → EReal) (ix3 r h e) = ((A.q r h e : ℝ) : EReal))
  (hk : ∀ r h e, (m ((b.tc : Thread nD τ).loc main_arg1) : S8192x4x192.Idx → EReal) (ix3 r h e) = ((A.k r h e : ℝ) : EReal))
  (hv : ∀ r h e, (m ((b.tc : Thread nD τ).loc main_arg2) : S8192x4x128.Idx → EReal) (ix3 r h e) = ((A.v r h e : ℝ) : EReal))
  (hd : ∀ r h e, (m ((b.tc : Thread nD τ).loc main_arg3) : S8192x4x128.Idx → EReal) (ix3 r h e) = ((A.d r h e : ℝ) : EReal))

/-- The scores, the exponentials and their sums, and the products' cotangent. -/
def refE : FVec Ideal S4x8192x8192 .f32 :=
  expos (scores (m ((b.tc : Thread nD τ).loc main_arg0)) (m ((b.tc : Thread nD τ).loc main_arg1))) (rowMax' (scores (m ((b.tc : Thread nD τ).loc main_arg0)) (m ((b.tc : Thread nD τ).loc main_arg1))))

def refG : FVec Ideal S4x8192x8192 .f32 :=
  scoreCt (probCt (m ((b.tc : Thread nD τ).loc main_arg3)) (m ((b.tc : Thread nD τ).loc main_arg2))) (refE m b) (rowSum (refE m b))
    (sumCt (probCt (m ((b.tc : Thread nD τ).loc main_arg3)) (m ((b.tc : Thread nD τ).loc main_arg2))) (refE m b) (rowSum (refE m b)))

include hq hk

theorem refE_val : refE m b (ix3 h r c) = ((A.ex h r c : ℝ) : EReal) :=
  expos_val A h r c _ (fun h r c => scores_val A h r c _ _ hq hk) _ (fun h r => rowMax'_val A h r _ fun h r c => scores_val A h r c _ _ hq hk)

include hv hd

theorem refG_val : refG m b (ix3 h r c) = ((A.ds h r c : ℝ) : EReal) := by
  have hg := fun h r c => probCt_val A h r c _ _ hd hv
  have he := fun h r c => refE_val A h r c m b hq hk
  have hl := fun h r u => rowSum_val A h r _ he u
  exact scoreCt_val A h r c _ hg _ he _ hl _ fun h r u => sumCt_val A h r _ hg _ he _ hl u

/-- The queries' gradient. -/
theorem res65_val (l : Fin 1024) : (res_main_v65 m b : S8192x1024.Idx → EReal) (ix2 r l)
      = ((if hl : l.val % 256 < 192 then ∑ c, A.ds ⟨l.val / 256, by omega⟩ r c * A.k c ⟨l.val / 256, by omega⟩ ⟨l.val % 256, hl⟩ else 0 : ℝ) : EReal) := by
  have e : res_main_v65 m b = lanes256 (Host.dotGeneral dot_S4x8192x8192_S8192x4x192_S4x8192x192_2_0_1_2_0_1 none (refG m b) (m ((b.tc : Thread nD τ).loc main_arg1))) := rfl
  rw [e]
  refine lanes256_val r _ (fun r h e => ∑ c, A.ds h r c * A.k c h e) (fun h r e => ?_) l
  have hG := fun h r c => refG_val A h r c m b hq hk hv hd
  pointwise
  simp only [hG, hk, ← EReal.coe_mul, coe_sum]

/-- The keys' gradient. -/
theorem res67_val (l : Fin 1024) : (res_main_v67 m b : S8192x1024.Idx → EReal) (ix2 c l)
      = ((if hl : l.val % 256 < 192 then ∑ r, A.ds ⟨l.val / 256, by omega⟩ r c * A.q r ⟨l.val / 256, by omega⟩ ⟨l.val % 256, hl⟩ else 0 : ℝ) : EReal) := by
  have e : res_main_v67 m b = lanes256 (Host.dotGeneral dot_S4x8192x8192_S8192x4x192_S4x8192x192_1_0_2_2_0_1 none (refG m b) (m ((b.tc : Thread nD τ).loc main_arg0))) := rfl
  rw [e]
  refine lanes256_val c _ (fun c h e => ∑ r, A.ds h r c * A.q r h e) (fun h c e => ?_) l
  have hG := fun h r c => refG_val A h r c m b hq hk hv hd
  pointwise
  simp only [hG, hq, ← EReal.coe_mul, coe_sum]

/-- The values' gradient. -/
theorem res68_val (l : Fin 512) : (res_main_v68 m b : S8192x512.Idx → EReal) (ix2 c l)
      = ((∑ r, A.d r ⟨l.val / 128, by omega⟩ ⟨l.val % 128, by omega⟩ * A.pr ⟨l.val / 128, by omega⟩ r c : ℝ) : EReal) := by
  have e : res_main_v68 m b = shapeCast S8192x512 (transpose S8192x4x128 [2, 0, 1] (Host.dotGeneral dot_S4x128x8192_S4x8192x8192_S4x128x8192_2_1_1_2_0_0 none
      (ctT (m ((b.tc : Thread nD τ).loc main_arg3))) (quot (refE m b) (rowSum (refE m b)))) transposes_S4x128x8192_S8192x4x128_2_0_1) shapeCasts_S8192x4x128_S8192x512 := rfl
  rw [e]
  have he := fun h r c => refE_val A h r c m b hq hk
  have hp := fun h r c => quot_val A h r c _ he _ fun h r u => rowSum_val A h r _ he u
  pointwise [ctT]
  simp only [hp, hd, ← EReal.coe_mul, coe_sum]

end Results

end Cert.Proof.Value

end
-- ==== Proof.Value.Finite.lean ====
/-
  The precondition read back: every element of the four arguments is a real number.
-/
module

public import proofs.«01_k».proof.Defs
public import Idealize.ShloMosaic.Lib.ReduceAll

@[expose] public section

noncomputable section

namespace Cert.Proof.Value

open Cert.Pre_finite
open Idealize.ShloMosaic

/-- A value whose absolute value is below +∞ is real. -/
theorem real_of_olt (x : Ideal .f32) (h : FloatOps.cmpf .olt (FloatOps.hostAbsf x) (FloatOps.ofBits (F := Ideal) .f32 0x7F800000#32) = 1#1) :
    (x : EReal) = ((x : EReal).toReal : EReal) := by
  have htop : Ideal.ofBits .f32 0x7F800000#32 = ⊤ := by simp [Ideal.ofBits, Ideal.ieee]
  have h1 : Ideal.cmp .olt (max (x : EReal) (-(x : EReal))) (Ideal.ofBits .f32 0x7F800000#32) = 1#1 := h
  rw [htop] at h1
  unfold Ideal.cmp at h1
  refine (EReal.coe_toReal (fun hx => ?_) fun hx => ?_).symm
  · rw [hx] at h1; simp at h1
  · rw [hx] at h1; simp at h1

theorem andi_both {a b : IVec S_ 1} (h : andi a b = fun _ => 1#1) : (a = fun _ => 1#1) ∧ b = fun _ => 1#1 :=
  ⟨funext fun i => (IntOp.andi_eq_one.1 (congrFun h i)).1, funext fun i => (IntOp.andi_eq_one.1 (congrFun h i)).2⟩

instance : Subsingleton S_.Idx := ⟨fun a b => funext fun i => i.elim0⟩

theorem all_real [Facts] {s : Shape} {axes : List (Fin s.rank)} (x : FVec Ideal s .f32) (hb : S_.BroadcastsInDim s ![]) (hr : s.ReducesTo axes S_)
    (h : Host.reduce IntOp.andi (cmpf .olt (Host.absf x) (broadcastInDim s ![] hb (constant S_ .f32 0x7F800000#32))) (constantI S_ 1 1#1) hr Facts.h_S_ = fun _ => 1#1) (i : s.Idx) :
    (x i : EReal) = ((x i : EReal).toReal : EReal) :=
  real_of_olt (x i) (Host.reduce_andi_all _ _ hr Facts.h_S_ (fun t => t.elim0) (congrFun h _) i)

/-- Under the precondition all four arguments hold reals. -/
theorem real_args [Facts] (x0 x1 : FVec Ideal S8192x4x192 .f32) (x2 x3 : FVec Ideal S8192x4x128 .f32) (h : fn x0 x1 x2 x3 = fun _ => 1#1) :
    (∀ i, (x0 i : EReal) = ((x0 i : EReal).toReal : EReal)) ∧ (∀ i, (x1 i : EReal) = ((x1 i : EReal).toReal : EReal))
    ∧ (∀ i, (x2 i : EReal) = ((x2 i : EReal).toReal : EReal)) ∧ ∀ i, (x3 i : EReal) = ((x3 i : EReal).toReal : EReal) := by
  have h3 := andi_both h
  have h2 := andi_both h3.1
  have h1 := andi_both h2.1
  exact ⟨all_real x0 _ _ h1.1, all_real x1 _ _ h1.2, all_real x2 _ _ h2.2, all_real x3 _ _ h3.2⟩

end Cert.Proof.Value

end
-- ==== Proof.Value.Algebraic.lean ====
/-
  The kernel and the reference have equal results on real inputs.
-/
module

public import proofs.«01_k».proof.Proof.Value.Sums
public import proofs.«01_k».proof.Proof.Value.Reference
public import proofs.«01_k».proof.Proof.Value.Finite

@[expose] public section

noncomputable section

namespace Cert.Proof.Value

open Cert.Proof.Run Cert.Proof.Run.Valued
open Idealize.ShloMosaic
open Idealize.ShloMosaic.TcCoe Idealize.ShloMosaic.Tactic

attribute [local instance] Cert.KernelIdeal.Gen.facts Cert.ReferenceIdeal.Gen.facts

/-- The side conditions of the precondition. -/
theorem facts_finite : Cert.Pre_finite.Facts where
  bcast_S_S8192x4x192 := by decide
  reducesTo_S8192x4x192_S_d0_1_2 := by decide
  h_S_ := by decide
  bcast_S_S8192x4x128 := by decide
  reducesTo_S8192x4x128_S_d0_1_2 := by decide

/-! ## The launch's entry -/

section Entry

open Cert.KernelIdeal Cert.KernelIdeal.Gen

variable (m : (ℓ : Loc nD τ sig) → Buf (Elt Ideal) ℓ) (A : Dev nD → Att)
  (hq : ∀ b r h e, (m ((b.tc : Thread nD τ).loc main_arg0) : S8192x4x192.Idx → EReal) (ix3 r h e) = (((A b).q r h e : ℝ) : EReal))
  (hk : ∀ b r h e, (m ((b.tc : Thread nD τ).loc main_arg1) : S8192x4x192.Idx → EReal) (ix3 r h e) = (((A b).k r h e : ℝ) : EReal))
  (hv : ∀ b r h e, (m ((b.tc : Thread nD τ).loc main_arg2) : S8192x4x128.Idx → EReal) (ix3 r h e) = (((A b).v r h e : ℝ) : EReal))
  (hd : ∀ b r h e, (m ((b.tc : Thread nD τ).loc main_arg3) : S8192x4x128.Idx → EReal) (ix3 r h e) = (((A b).d r h e : ℝ) : EReal))

include hq hk hv hd in
/-- From real arguments the launch begins with the matrices of `mats`. -/
theorem entry : Entry m fun c h => mats (A c) h where
  head _ _ := rfl
  loads c t :=
    { q := load_q m c (A c) (hq c) t
      d := load_d m c (A c) (hd c) t
      t := fun r l => load_t m c (A c) (hq c) (hk c) (hv c) (hd c) t r l _
      k := fun r e => by rw [coords1 t]; exact load_k m c (A c) (hk c) t r e
      v := fun r e => by rw [coords1 t]; exact load_v m c (A c) (hv c) t r e }

end Entry

/-! ## The results -/

section Results

open Cert.ReferenceIdeal Cert.ReferenceIdeal.Gen Cert.ReferenceIdeal.Value

variable (m : (ℓ : Loc nD τ sig) → Buf (Elt Ideal) ℓ) (b : Dev nD) (A : Att) (X : Dev nD → ℕ → Mats) (hX : ∀ h, X b h = mats A h)
  (hq : ∀ r h e, (m ((b.tc : Thread nD τ).loc main_arg0) : S8192x4x192.Idx → EReal) (ix3 r h e) = ((A.q r h e : ℝ) : EReal))
  (hk : ∀ r h e, (m ((b.tc : Thread nD τ).loc main_arg1) : S8192x4x192.Idx → EReal) (ix3 r h e) = ((A.k r h e : ℝ) : EReal))
  (hv : ∀ r h e, (m ((b.tc : Thread nD τ).loc main_arg2) : S8192x4x128.Idx → EReal) (ix3 r h e) = ((A.v r h e : ℝ) : EReal))
  (hd : ∀ r h e, (m ((b.tc : Thread nD τ).loc main_arg3) : S8192x4x128.Idx → EReal) (ix3 r h e) = ((A.d r h e : ℝ) : EReal))

theorem pair {R L : ℕ} (y : (⟨2, ![R, L]⟩ : Shape).Idx) : ∃ (r : Fin R) (l : Fin L), y = ix2 r l :=
  ⟨y 0, y 1, funext fun i => by fin_cases i <;> rfl⟩

include hX hq hk hv hd

/-- The queries' gradients are equal, -/
theorem equal_q : (arrQ X b : S8192x1024.Idx → EReal) = res_main_v65 m b := by
  funext y
  obtain ⟨r, l, rfl⟩ := pair y
  refine Eq.trans ?_ (res65_val A r m b hq hk hv hd l).symm
  refine congrArg (fun z : ℝ => (z : EReal)) ?_
  show (X b (l.val / 256)).AQ 8192 r.val (l.val % 256) = _
  rw [hX]
  exact sum_AQ A ⟨l.val / 256, by omega⟩ r (l.val % 256)

/-- the keys', -/
theorem equal_k : (arrK X b : S8192x1024.Idx → EReal) = res_main_v67 m b := by
  funext y
  obtain ⟨c, l, rfl⟩ := pair y
  refine Eq.trans ?_ (res67_val A c m b hq hk hv hd l).symm
  refine congrArg (fun z : ℝ => (z : EReal)) ?_
  show (X b (l.val / 256)).AK 8192 c.val (l.val % 256) = _
  rw [hX]
  exact sum_AK A ⟨l.val / 256, by omega⟩ c (l.val % 256)

/-- and the values'. -/
theorem equal_v : (arrV X b : S8192x512.Idx → EReal) = res_main_v68 m b := by
  funext y
  obtain ⟨c, l, rfl⟩ := pair y
  refine Eq.trans ?_ (res68_val A c m b hq hk hv hd l).symm
  refine congrArg (fun z : ℝ => (z : EReal)) ?_
  show (X b (l.val / 128)).AV 8192 c.val (l.val % 128) = _
  rw [hX]
  exact sum_AV A ⟨l.val / 128, by omega⟩ c ⟨l.val % 128, by omega⟩

end Results

/-! ## The claim -/

section Claim

open Cert.KernelIdeal Cert.KernelIdeal.Gen

variable (m : (ℓ : Loc nD τ sig) → Buf (Elt Ideal) ℓ)

/-- The real numbers of the arguments. -/
def reals (b : Dev nD) : Att where
  q r h e := ((m ((b.tc : Thread nD τ).loc main_arg0) : S8192x4x192.Idx → EReal) (ix3 r h e)).toReal
  k r h e := ((m ((b.tc : Thread nD τ).loc main_arg1) : S8192x4x192.Idx → EReal) (ix3 r h e)).toReal
  v r h e := ((m ((b.tc : Thread nD τ).loc main_arg2) : S8192x4x128.Idx → EReal) (ix3 r h e)).toReal
  d r h e := ((m ((b.tc : Thread nD τ).loc main_arg3) : S8192x4x128.Idx → EReal) (ix3 r h e)).toReal

/-- On finite inputs the kernel's three gradients are the reference's. -/
theorem algebraic : Cert.algebraic_KernelIdeal_ReferenceIdeal_pre_finite (hKernelIdeal := Cert.KernelIdeal.Gen.facts) (hReferenceIdeal := Cert.ReferenceIdeal.Gen.facts)
    (hPre_finite := facts_finite) := by
  intro m g m' g' hpre hargs
  have hr := fun c => @real_args facts_finite _ _ _ _ (hpre c)
  have E := entry m (reals m) (fun c r h e => (hr c).1 _) (fun c r h e => (hr c).2.1 _) (fun c r h e => (hr c).2.2.1 _) (fun c r h e => (hr c).2.2.2 _)
  refine ⟨arrQ fun c h => mats (reals m c) h, arrK fun c h => mats (reals m c) h, arrV fun c h => mats (reals m c) h, values m g _ E, ?_⟩
  refine (θ_run Cert.ReferenceIdeal.defs _ _).mono (fun r h c => ?_) (Cert.ReferenceIdeal.Value.run (F := Ideal) m' g')
  have q' := fun r h e => (congrFun (hargs c).1 (ix3 r h e)).trans ((hr c).1 (ix3 r h e))
  have k' := fun r h e => (congrFun (hargs c).2.1 (ix3 r h e)).trans ((hr c).2.1 (ix3 r h e))
  have v' := fun r h e => (congrFun (hargs c).2.2.1 (ix3 r h e)).trans ((hr c).2.2.1 (ix3 r h e))
  have d' := fun r h e => (congrFun (hargs c).2.2.2 (ix3 r h e)).trans ((hr c).2.2.2 (ix3 r h e))
  exact ⟨(h c).1.trans (equal_q m' c (reals m c) _ (fun _ => rfl) q' k' v' d').symm,
    (h c).2.1.trans (equal_k m' c (reals m c) _ (fun _ => rfl) q' k' v' d').symm,
    (h c).2.2.1.trans (equal_v m' c (reals m c) _ (fun _ => rfl) q' k' v' d').symm, (h c).2.2.2⟩

end Claim

end Cert.Proof.Value

end
-- ==== Proof.Weights.WIn.lean ====
/-
  The gradient of `w_in`: the kernel's eight accumulated blocks of rows, each of eight blocks of columns, are the product over all rows.
-/
module

public import proofs.«01_k».proof.Defs
public import proofs.«01_k».proof.Proof.Gen.GradWInIdeal.Value
public import proofs.«01_k».proof.Proof.Gen.RefWInIdeal.Run
public import Idealize.ShloMosaic.Lib.Pipeline.ValueKit
public import Idealize.ShloMosaic.Lib.Pipeline.ReadBack

@[expose] public section

set_option maxRecDepth 16384

noncomputable section

namespace Cert.Proof.WIn

open Idealize.ShloMosaic
open Idealize.ShloMosaic.TcCoe Idealize.ShloMosaic.Tactic
open Idealize.ShloMosaic.Pipeline (Dat Cfg Window)

section Reference

open Cert.RefWInIdeal Cert.RefWInIdeal.Gen

/-- Eight matrices side by side. -/
def cols {R : ℕ} (x1 x2 : (⟨2, ![R, 512]⟩ : Shape).Idx → EReal) (x3 x4 x5 x6 x7 x8 : (⟨2, ![R, 256]⟩ : Shape).Idx → EReal) (r : Fin R) (l : Fin 2560) : EReal :=
  if h : l.val < 512 then x1 (ix2 r ⟨l.val, h⟩)
  else if h : l.val - 512 < 512 then x2 (ix2 r ⟨l.val - 512, h⟩)
  else if h : l.val - 512 - 512 < 256 then x3 (ix2 r ⟨l.val - 512 - 512, h⟩)
  else if h : l.val - 512 - 512 - 256 < 256 then x4 (ix2 r ⟨l.val - 512 - 512 - 256, h⟩)
  else if h : l.val - 512 - 512 - 256 - 256 < 256 then x5 (ix2 r ⟨l.val - 512 - 512 - 256 - 256, h⟩)
  else if h : l.val - 512 - 512 - 256 - 256 - 256 < 256 then x6 (ix2 r ⟨l.val - 512 - 512 - 256 - 256 - 256, h⟩)
  else if h : l.val - 512 - 512 - 256 - 256 - 256 - 256 < 256 then x7 (ix2 r ⟨l.val - 512 - 512 - 256 - 256 - 256 - 256, h⟩)
  else x8 (ix2 r ⟨l.val - 512 - 512 - 256 - 256 - 256 - 256 - 256, by omega⟩)

section Cols

variable {R : ℕ} (x1 x2 : (⟨2, ![R, 512]⟩ : Shape).Idx → EReal) (x3 x4 x5 x6 x7 x8 : (⟨2, ![R, 256]⟩ : Shape).Idx → EReal) (r : Fin R) (l : Fin 2560)

theorem cols_1 (i : Fin 512) (h : l.val = 0 + i.val) : cols x1 x2 x3 x4 x5 x6 x7 x8 r l = x1 (ix2 r i) := by
  have hi := i.isLt
  unfold cols
  rw [dif_pos (by omega)]
  exact congrArg (fun j => x1 (ix2 r j)) (Fin.ext (by show _ = i.val; simp only; omega))

theorem cols_2 (i : Fin 512) (h : l.val = 512 + i.val) : cols x1 x2 x3 x4 x5 x6 x7 x8 r l = x2 (ix2 r i) := by
  have hi := i.isLt
  unfold cols
  rw [dif_neg (by omega), dif_pos (by omega)]
  exact congrArg (fun j => x2 (ix2 r j)) (Fin.ext (by show _ = i.val; simp only; omega))

theorem cols_3 (i : Fin 256) (h : l.val = 1024 + i.val) : cols x1 x2 x3 x4 x5 x6 x7 x8 r l = x3 (ix2 r i) := by
  have hi := i.isLt
  unfold cols
  rw [dif_neg (by omega), dif_neg (by omega), dif_pos (by omega)]
  exact congrArg (fun j => x3 (ix2 r j)) (Fin.ext (by show _ = i.val; simp only; omega))

theorem cols_4 (i : Fin 256) (h : l.val = 1280 + i.val) : cols x1 x2 x3 x4 x5 x6 x7 x8 r l = x4 (ix2 r i) := by
  have hi := i.isLt
  unfold cols
  rw [dif_neg (by omega), dif_neg (by omega), dif_neg (by omega), dif_pos (by omega)]
  exact congrArg (fun j => x4 (ix2 r j)) (Fin.ext (by show _ = i.val; simp only; omega))

theorem cols_5 (i : Fin 256) (h : l.val = 1536 + i.val) : cols x1 x2 x3 x4 x5 x6 x7 x8 r l = x5 (ix2 r i) := by
  have hi := i.isLt
  unfold cols
  rw [dif_neg (by omega), dif_neg (by omega), dif_neg (by omega), dif_neg (by omega), dif_pos (by omega)]
  exact congrArg (fun j => x5 (ix2 r j)) (Fin.ext (by show _ = i.val; simp only; omega))

theorem cols_6 (i : Fin 256) (h : l.val = 1792 + i.val) : cols x1 x2 x3 x4 x5 x6 x7 x8 r l = x6 (ix2 r i) := by
  have hi := i.isLt
  unfold cols
  rw [dif_neg (by omega), dif_neg (by omega), dif_neg (by omega), dif_neg (by omega), dif_neg (by omega), dif_pos (by omega)]
  exact congrArg (fun j => x6 (ix2 r j)) (Fin.ext (by show _ = i.val; simp only; omega))

theorem cols_7 (i : Fin 256) (h : l.val = 2048 + i.val) : cols x1 x2 x3 x4 x5 x6 x7 x8 r l = x7 (ix2 r i) := by
  have hi := i.isLt
  unfold cols
  rw [dif_neg (by omega), dif_neg (by omega), dif_neg (by omega), dif_neg (by omega), dif_neg (by omega), dif_neg (by omega), dif_pos (by omega)]
  exact congrArg (fun j => x7 (ix2 r j)) (Fin.ext (by show _ = i.val; simp only; omega))

theorem cols_8 (i : Fin 256) (h : l.val = 2304 + i.val) : cols x1 x2 x3 x4 x5 x6 x7 x8 r l = x8 (ix2 r i) := by
  have hi := i.isLt
  unfold cols
  rw [dif_neg (by omega), dif_neg (by omega), dif_neg (by omega), dif_neg (by omega), dif_neg (by omega), dif_neg (by omega), dif_neg (by omega)]
  exact congrArg (fun j => x8 (ix2 r j)) (Fin.ext (by show _ = i.val; simp only; omega))

/-- Equal rows side by side are equal. -/
theorem cols_congr {R' : ℕ} (r' : Fin R') (X1 X2 : (⟨2, ![R', 512]⟩ : Shape).Idx → EReal) (X3 X4 X5 X6 X7 X8 : (⟨2, ![R', 256]⟩ : Shape).Idx → EReal)
    (h1 : ∀ i, x1 (ix2 r i) = X1 (ix2 r' i))
    (h2 : ∀ i, x2 (ix2 r i) = X2 (ix2 r' i))
    (h3 : ∀ i, x3 (ix2 r i) = X3 (ix2 r' i))
    (h4 : ∀ i, x4 (ix2 r i) = X4 (ix2 r' i))
    (h5 : ∀ i, x5 (ix2 r i) = X5 (ix2 r' i))
    (h6 : ∀ i, x6 (ix2 r i) = X6 (ix2 r' i))
    (h7 : ∀ i, x7 (ix2 r i) = X7 (ix2 r' i))
    (h8 : ∀ i, x8 (ix2 r i) = X8 (ix2 r' i)) :
    cols x1 x2 x3 x4 x5 x6 x7 x8 r l = cols X1 X2 X3 X4 X5 X6 X7 X8 r' l := by
  unfold cols
  simp only [h1, h2, h3, h4, h5, h6, h7, h8]

end Cols

/-- The product over all rows. -/
def total (a : S8192x1024.Idx → EReal) (b : Fin 8192 → Fin 2560 → EReal) : S1024x2560.Idx → EReal := fun i => ∑ r : Fin 8192, a (ix2 r (i 0)) * b r (i 1)

/-- The cotangent in one matrix. -/
def side (x1 x2 : FVec Ideal S8192x512 .bf16) (x3 x4 x5 x6 x7 x8 : FVec Ideal S8192x256 .bf16) : FVec Ideal S8192x2560 .bf16 :=
  (concatenate S8192x2560 1 [⟨S8192x512, x1⟩, ⟨S8192x512, x2⟩, ⟨S8192x256, x3⟩, ⟨S8192x256, x4⟩, ⟨S8192x256, x5⟩, ⟨S8192x256, x6⟩, ⟨S8192x256, x7⟩, ⟨S8192x256, x8⟩]
    concatenates_S8192x512_S8192x512_S8192x256_S8192x256_S8192x256_S8192x256_S8192x256_S8192x256_S8192x2560_d1 : (⟨S8192x2560, .bf16⟩ : BufTy).Contents (Elt Ideal))

theorem side_val (x1 x2 : FVec Ideal S8192x512 .bf16) (x3 x4 x5 x6 x7 x8 : FVec Ideal S8192x256 .bf16) (r : Fin 8192) (l : Fin 2560) :
    side x1 x2 x3 x4 x5 x6 x7 x8 (ix2 r l) = cols x1 x2 x3 x4 x5 x6 x7 x8 r l := by
  pointwise [side, cols]

/-- The reference's product. -/
theorem reference_val (a : FVec Ideal S8192x1024 .bf16) (x1 x2 : FVec Ideal S8192x512 .bf16) (x3 x4 x5 x6 x7 x8 : FVec Ideal S8192x256 .bf16) :
    transpose S1024x2560 [1, 0] (Host.dotGeneral (F := Ideal) dot_S8192x2560_S8192x1024_S2560x1024_0_0_1_1_n_n none
      (extf .f32 (side x1 x2 x3 x4 x5 x6 x7 x8) bitsLt_bf16_f32) (extf .f32 a bitsLt_bf16_f32)) transposes_S2560x1024_S1024x2560_1_0 = total a (cols x1 x2 x3 x4 x5 x6 x7 x8) := by
  funext i
  have hi : i = ix2 (i 0) (i 1) := funext fun n => by fin_cases n <;> rfl
  rw [hi]
  pointwise [total]
  refine Finset.sum_congr rfl fun r _ => (mul_comm _ _).trans (congrArg _ ?_)
  exact side_val _ _ _ _ _ _ _ _ r _

end Reference

section Kernel

open Cert.GradWInIdeal Cert.GradWInIdeal.Gen Cert.GradWInIdeal.Value

/-- The scratch, once the eight blocks of columns are stored in it, is the eight blocks side by side. -/
theorem scratch_val (x1 x2 : FVec Ideal S1024x512 .bf16) (x3 x4 x5 x6 x7 x8 : FVec Ideal S1024x256 .bf16) (r : Fin 1024) (l : Fin 2560) (y : S1024x2560.Idx)
    (hr : (y 0).val = r.val) (hl : (y 1).val = l.val) :
    View.canon (Val := Elt Ideal) (s := S1024x2560) (e := .bf16)
      [⟨Rect.unit ![0, 2304] ![1024, 256] inb_S1024x2560_S1024x256_0_2304, k0_pay2 (F := Ideal) x8⟩,
        ⟨Rect.unit ![0, 2048] ![1024, 256] inb_S1024x2560_S1024x256_0_2048, k0_pay1 (F := Ideal) x7⟩,
        ⟨Rect.unit ![0, 1792] ![1024, 256] inb_S1024x2560_S1024x256_0_1792, k0_pay10 (F := Ideal) x6⟩,
        ⟨Rect.unit ![0, 1536] ![1024, 256] inb_S1024x2560_S1024x256_0_1536, k0_pay9 (F := Ideal) x5⟩,
        ⟨Rect.unit ![0, 1280] ![1024, 256] inb_S1024x2560_S1024x256_0_1280, k0_pay8 (F := Ideal) x4⟩,
        ⟨Rect.unit ![0, 1024] ![1024, 256] inb_S1024x2560_S1024x256_0_1024, k0_pay7 (F := Ideal) x3⟩,
        ⟨Rect.unit ![0, 512] ![1024, 512] inb_S1024x2560_S1024x512_0_512, k0_pay6 (F := Ideal) x2⟩,
        ⟨Rect.unit ![0, 0] ![1024, 512] inb_S1024x2560_S1024x512_0_0, k0_pay5 (F := Ideal) x1⟩] y = cols x1 x2 x3 x4 x5 x6 x7 x8 r l := by
  have hlt := r.isLt
  have hlt' := l.isLt
  have inn : ∀ (o n : ℕ) (inb : ∀ a : Fin 2, (![0, o] : Fin 2 → ℕ) a + (![1024, n] : Fin 2 → ℕ) a ≤ S1024x2560.size a), o ≤ l.val → l.val < o + n →
      y ∈ (Rect.unit (s := S1024x2560) ![0, o] ![1024, n] inb).set := by
    intro o n inb h1 h2
    rw [Rect.mem_set_unit]
    intro a
    fin_cases a
    · show 0 ≤ (y 0).val ∧ (y 0).val < 0 + 1024
      omega
    · show o ≤ (y 1).val ∧ (y 1).val < o + n
      omega
  canon_tiles x h using (by
    simp only [List.exists_mem_cons_iff]
    by_cases h1 : l.val < 512
    · exact .inr (.inr (.inr (.inr (.inr (.inr (.inr (.inl (inn _ _ _ (by omega) (by omega)))))))))
    by_cases h2 : l.val < 1024
    · exact .inr (.inr (.inr (.inr (.inr (.inr (.inl (inn _ _ _ (by omega) (by omega))))))))
    by_cases h3 : l.val < 1280
    · exact .inr (.inr (.inr (.inr (.inr (.inl (inn _ _ _ (by omega) (by omega)))))))
    by_cases h4 : l.val < 1536
    · exact .inr (.inr (.inr (.inr (.inl (inn _ _ _ (by omega) (by omega))))))
    by_cases h5 : l.val < 1792
    · exact .inr (.inr (.inr (.inl (inn _ _ _ (by omega) (by omega)))))
    by_cases h6 : l.val < 2048
    · exact .inr (.inr (.inl (inn _ _ _ (by omega) (by omega))))
    by_cases h7 : l.val < 2304
    · exact .inr (.inl (inn _ _ _ (by omega) (by omega)))
    exact .inl (inn _ _ _ (by omega) (by omega)))
  all_goals
    have hx : x = ix2 r (x 1) := funext fun a => Fin.ext (by fin_cases a; exact h0.symm.trans hr; rfl)
    rw [hx]
    simp only [k0_pay1, k0_pay2, k0_pay5, k0_pay6, k0_pay7, k0_pay8, k0_pay9, k0_pay10, shapeCast_self]
  · exact (cols_8 x1 x2 x3 x4 x5 x6 x7 x8 r l (x 1) (by omega)).symm
  · exact (cols_7 x1 x2 x3 x4 x5 x6 x7 x8 r l (x 1) (by omega)).symm
  · exact (cols_6 x1 x2 x3 x4 x5 x6 x7 x8 r l (x 1) (by omega)).symm
  · exact (cols_5 x1 x2 x3 x4 x5 x6 x7 x8 r l (x 1) (by omega)).symm
  · exact (cols_4 x1 x2 x3 x4 x5 x6 x7 x8 r l (x 1) (by omega)).symm
  · exact (cols_3 x1 x2 x3 x4 x5 x6 x7 x8 r l (x 1) (by omega)).symm
  · exact (cols_2 x1 x2 x3 x4 x5 x6 x7 x8 r l (x 1) (by omega)).symm
  · exact (cols_1 x1 x2 x3 x4 x5 x6 x7 x8 r l (x 1) (by omega)).symm

/-- One block of rows adds its product to what the accumulator holds. -/
theorem step_val (b : FVec Ideal S1024x2560 .bf16) (acc : FVec Ideal S1024x2560 .f32) (a : FVec Ideal S1024x1024 .bf16) (k : Fin 1024) (l : Fin 2560) :
    k0_pay3 b acc a (ix2 k l) = acc (ix2 k l) + ∑ r : Fin 1024, a (ix2 r k) * b (ix2 r l) := by
  pointwise [k0_pay3]

/-- The accumulator begins at zero. -/
theorem start_val (k : Fin 1024) (l : Fin 2560) : k0_pay4 (F := Ideal) (ix2 k l) = (0 : EReal) := by
  pointwise [k0_pay4]

variable (m : (ℓ : Loc nD τ sig) → Buf (Elt Ideal) ℓ)

/-- The block of rows at one grid point. -/
abbrev blkA (c : Dev nD) (t : Fin cfg0.N) : S1024x1024.Idx → EReal := iblk m c 0 t
/-- The cotangent's eight blocks there, side by side. -/
abbrev blkB (c : Dev nD) (t : Fin cfg0.N) : Fin 1024 → Fin 2560 → EReal :=
  cols (iblk m c 1 t : S1024x512.Idx → EReal) (iblk m c 2 t : S1024x512.Idx → EReal) (iblk m c 3 t : S1024x256.Idx → EReal) (iblk m c 4 t : S1024x256.Idx → EReal)
    (iblk m c 5 t : S1024x256.Idx → EReal) (iblk m c 6 t : S1024x256.Idx → EReal) (iblk m c 7 t : S1024x256.Idx → EReal) (iblk m c 8 t : S1024x256.Idx → EReal)

theorem at_B (c : Dev nD) (t : Fin cfg0.N) (h0 : ¬ t.val % 8 = 0) (k : Fin 1024) (l : Fin 2560) :
    outsAt0 m c t.val t.isLt (ix2 k l) = (outsAt0 m c (t.val - 1) (Nat.lt_of_le_of_lt (Nat.sub_le _ _) t.isLt) (ix2 k l) : EReal) + ∑ r : Fin 1024, blkA m c t (ix2 r k) * blkB m c t r l := by
  rw [outsAt0_B m c t h0]
  frame_out
  rw [View.readCov_eq_canon']
  refine (step_val _ _ _ k l).trans ?_
  refine congrArg _ (Finset.sum_congr rfl fun r _ => congrArg _ ?_)
  exact scratch_val _ _ _ _ _ _ _ _ r l _ (by simp) (by simp)

theorem at_A (c : Dev nD) (t : Fin cfg0.N) (h0 : t.val % 8 = 0) (k : Fin 1024) (l : Fin 2560) :
    outsAt0 m c t.val t.isLt (ix2 k l) = (0 : EReal) + ∑ r : Fin 1024, blkA m c t (ix2 r k) * blkB m c t r l := by
  rw [outsAt0_A m c t h0]
  frame_out
  rw [View.readCov_eq_canon']
  refine (step_val _ _ _ k l).trans ?_
  refine congrArg₂ (· + ·) (start_val k l) (Finset.sum_congr rfl fun r _ => congrArg _ ?_)
  exact scratch_val _ _ _ _ _ _ _ _ r l _ (by simp) (by simp)

/-- The layer's normalised input, -/
abbrev argA (c : Dev nD) : S8192x1024.Idx → EReal := m ((c.tc : Thread nD τ).loc main_arg0)
/-- and the cotangent of its projection, its eight parts side by side. -/
abbrev argB (c : Dev nD) : Fin 8192 → Fin 2560 → EReal :=
  cols (m ((c.tc : Thread nD τ).loc main_arg1) : S8192x512.Idx → EReal) (m ((c.tc : Thread nD τ).loc main_arg2) : S8192x512.Idx → EReal)
    (m ((c.tc : Thread nD τ).loc main_arg3) : S8192x256.Idx → EReal) (m ((c.tc : Thread nD τ).loc main_arg4) : S8192x256.Idx → EReal)
    (m ((c.tc : Thread nD τ).loc main_arg5) : S8192x256.Idx → EReal) (m ((c.tc : Thread nD τ).loc main_arg6) : S8192x256.Idx → EReal)
    (m ((c.tc : Thread nD τ).loc main_arg7) : S8192x256.Idx → EReal) (m ((c.tc : Thread nD τ).loc main_arg8) : S8192x256.Idx → EReal)

theorem idxs (t : Fin cfg0.N) : win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0]) t

/-- Rows of a block side by side are rows of the whole side by side. -/
theorem blkB_val (c : Dev nD) (t : Fin cfg0.N) (r : Fin 1024) (l : Fin 2560) (R : Fin 8192) (hR : R.val = t.val * 1024 + r.val) : blkB m c t r l = argB m c R l := by
  obtain ⟨i0, i1, i2, i3, i4, i5, i6, i7, i8⟩ := idxs t
  refine cols_congr _ _ _ _ _ _ _ _ _ _ _ _ _ _ _ _ _ _ _ (fun i => ?_) (fun i => ?_) (fun i => ?_) (fun i => ?_) (fun i => ?_) (fun i => ?_) (fun i => ?_) (fun i => ?_)
  · blk_ext [iblk, V, i1]
  · blk_ext [iblk, V, i2]
  · blk_ext [iblk, V, i3]
  · blk_ext [iblk, V, i4]
  · blk_ext [iblk, V, i5]
  · blk_ext [iblk, V, i6]
  · blk_ext [iblk, V, i7]
  · blk_ext [iblk, V, i8]

/-- What the accumulator holds after the last block of rows. -/
theorem last_val (c : Dev nD) (t : Fin cfg0.N) (ht : t.val + 1 = cfg0.N) (k : Fin 1024) (l : Fin 2560) :
    outsAt0 m c t.val t.isLt (ix2 k l) = (total (argA m c) (argB m c) (ix2 k l) : EReal) := by
  have hN : cfg0.N = 8 := N_0
  refine (Pipeline.eq_sum_fin_of_reset_step_apply_last (M := EReal) (fun n h (i : Fin 1024 × Fin 2560) => outsAt0 m c n h (ix2 i.1 i.2)) 8 (fun _ => 0)
    (fun t i => ∑ r : Fin 1024, blkA m c t (ix2 r i.1) * blkB m c t r i.2) (fun t h0 i => at_A m c t h0 i.1 i.2) (fun t h0 i => at_B m c t h0 i.1 i.2) hN.le t ht (k, l)).trans ?_
  rw [zero_add]
  refine Fin.sum_mul_add_congr fun t r hl => ?_
  refine congrArg₂ (· * ·) ?_ ?_
  · obtain ⟨i0, -⟩ := idxs t
    blk_ext [iblk, V, i0]
  · exact blkB_val m c t r l _ rfl

/-- The result after a run of the kernel's program. -/
theorem final (c : Dev nD) : (dats m 0 c).arrAt 9 cfg0.N = total (argA m c) (argB m c) := by
  refine (dats m 0 c).arrAt_eq_of_after_last 9 t0_7 (by decide +kernel) _ fun j => ?_
  show (dats m 0 c).after 9 t0_7 j = total (argA m c) (argB m c) j
  rw [after0_9]
  have hj : (j : S1024x2560.Idx) = ix2 (j 0) (j 1) := funext fun i => by fin_cases i <;> rfl
  rw [hj]
  exact last_val m c t0_7 rfl _ _

/-- The kernel's gradient is the reference's, whatever the arguments. -/
theorem algebraic : Cert.algebraic_GradWInIdeal_RefWInIdeal (hGradWInIdeal := Cert.GradWInIdeal.Gen.facts) (hRefWInIdeal := Cert.RefWInIdeal.Gen.facts) := by
  intro m g m' g' _ hargs
  refine ⟨fun c => total (argA m c) (argB m c), ?_, ?_⟩
  · refine (θ_run Cert.GradWInIdeal.defs _ _).mono (fun r h c => ?_) (run_blocks m g)
    exact ⟨(h c).1.trans (final m c), (h c).2⟩
  · refine (θ_run Cert.RefWInIdeal.defs _ _).mono (fun r h c => ?_) (Cert.RefWInIdeal.Value.run (F := Ideal) m' g')
    refine ⟨(h c).1.trans ?_, (h c).2⟩
    obtain ⟨e0, e1, e2, e3, e4, e5, e6, e7, e8⟩ := hargs c
    rw [e0, e1, e2, e3, e4, e5, e6, e7, e8]
    exact reference_val (argA m c) _ _ _ _ _ _ _ _

end Kernel

end Cert.Proof.WIn

end
-- ==== Proof.Weights.WOut.lean ====
/-
  The gradient of `w_out`: the kernel's eight accumulated blocks of rows are the product over all rows.
-/
module

public import proofs.«01_k».proof.Defs
public import proofs.«01_k».proof.Proof.Gen.GradWOutIdeal.Value
public import proofs.«01_k».proof.Proof.Gen.RefWOutIdeal.Run
public import Idealize.ShloMosaic.Lib.Pipeline.ValueKit

@[expose] public section

set_option maxRecDepth 16384

noncomputable section

namespace Cert.Proof.WOut

open Idealize.ShloMosaic
open Idealize.ShloMosaic.TcCoe Idealize.ShloMosaic.Tactic
open Idealize.ShloMosaic.Pipeline (Dat Cfg Window)

section Reference

open Cert.RefWOutIdeal Cert.RefWOutIdeal.Gen

/-- The product over all rows. -/
def total (a b : S8192x1024.Idx → EReal) : S1024x1024.Idx → EReal := fun i => ∑ r : Fin 8192, a (ix2 r (i 0)) * b (ix2 r (i 1))

/-- The reference's product. -/
theorem reference_val (a b : FVec Ideal S8192x1024 .bf16) :
    transpose S1024x1024 [1, 0] (Host.dotGeneral (F := Ideal) dot_S8192x1024_S8192x1024_S1024x1024_0_0_1_1_n_n none
      (extf .f32 b bitsLt_bf16_f32) (extf .f32 a bitsLt_bf16_f32)) transposes_S1024x1024_S1024x1024_1_0 = total a b := by
  funext i
  have hi : i = ix2 (i 0) (i 1) := funext fun n => by fin_cases n <;> rfl
  rw [hi]
  pointwise [total]
  exact Finset.sum_congr rfl fun r _ => mul_comm _ _

end Reference

section Kernel

open Cert.GradWOutIdeal Cert.GradWOutIdeal.Gen Cert.GradWOutIdeal.Value

/-- One block of rows adds its product to what the accumulator holds. -/
theorem step_val (b : FVec Ideal S1024x1024 .bf16) (acc : FVec Ideal S1024x1024 .f32) (a : FVec Ideal S1024x1024 .bf16) (k l : Fin 1024) :
    k0_pay2 b acc a (ix2 k l) = acc (ix2 k l) + ∑ r : Fin 1024, a (ix2 r k) * b (ix2 r l) := by
  pointwise [k0_pay2]

/-- The accumulator begins at zero. -/
theorem start_val (k l : Fin 1024) : k0_pay1 (F := Ideal) (ix2 k l) = (0 : EReal) := by
  pointwise [k0_pay1]

variable (m : (ℓ : Loc nD τ sig) → Buf (Elt Ideal) ℓ)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])

/-- The layer's concatenated activations, -/
abbrev argA (c : Dev nD) : S8192x1024.Idx → EReal := m ((c.tc : Thread nD τ).loc main_arg0)
/-- and the cotangent of its output. -/
abbrev argB (c : Dev nD) : S8192x1024.Idx → EReal := m ((c.tc : Thread nD τ).loc main_arg1)
/-- Their blocks at one grid point. -/
abbrev blkA (c : Dev nD) (t : Fin cfg0.N) : S1024x1024.Idx → EReal := iblk m c 0 t
abbrev blkB (c : Dev nD) (t : Fin cfg0.N) : S1024x1024.Idx → EReal := iblk m c 1 t

/-- What the accumulator holds after the last block of rows. -/
theorem last_val (c : Dev nD) (t : Fin cfg0.N) (ht : t.val + 1 = cfg0.N) (k l : Fin 1024) :
    outsAt0 m c t.val t.isLt (ix2 k l) = (total (argA m c) (argB m c) (ix2 k l) : EReal) := by
  have hN : cfg0.N = 8 := N_0
  refine (Pipeline.eq_sum_fin_of_reset_step_apply_last (M := EReal) (fun n h (i : Fin 1024 × Fin 1024) => outsAt0 m c n h (ix2 i.1 i.2)) 8 (fun _ => 0)
    (fun t i => ∑ r : Fin 1024, blkA m c t (ix2 r i.1) * blkB m c t (ix2 r i.2)) (fun t h0 i => ?_) (fun t h0 i => ?_) hN.le t ht (k, l)).trans ?_
  · show outsAt0 m c t.val t.isLt (ix2 i.1 i.2) = _
    rw [outsAt0_A m c t h0, out_A_2_eq, step_val, start_val]
  · show outsAt0 m c t.val t.isLt (ix2 i.1 i.2) = _
    rw [outsAt0_B m c t h0, out_B_2_eq, step_val]
  · rw [zero_add]
    refine Fin.sum_mul_add_congr fun t r hl => ?_
    refine congrArg₂ (· * ·) ?_ ?_
    · blk_ext [iblk, V, idx0 t]
    · blk_ext [iblk, V, idx1 t]

/-- The result after a run of the kernel's program. -/
theorem final (c : Dev nD) : (dats m 0 c).arrAt 2 cfg0.N = total (argA m c) (argB m c) := by
  refine (dats m 0 c).arrAt_eq_of_after_last 2 t0_7 (by decide +kernel) _ fun j => ?_
  show (dats m 0 c).after 2 t0_7 j = total (argA m c) (argB m c) j
  rw [after0_2]
  have hj : (j : S1024x1024.Idx) = ix2 (j 0) (j 1) := funext fun i => by fin_cases i <;> rfl
  rw [hj]
  exact last_val m c t0_7 rfl _ _

/-- The kernel's gradient is the reference's, whatever the arguments. -/
theorem algebraic : Cert.algebraic_GradWOutIdeal_RefWOutIdeal (hGradWOutIdeal := Cert.GradWOutIdeal.Gen.facts) (hRefWOutIdeal := Cert.RefWOutIdeal.Gen.facts) := by
  intro m g m' g' _ hargs
  refine ⟨fun c => total (argA m c) (argB m c), ?_, ?_⟩
  · refine (θ_run Cert.GradWOutIdeal.defs _ _).mono (fun r h c => ?_) (run_blocks m g)
    exact ⟨(h c).1.trans (final m c), (h c).2⟩
  · refine (θ_run Cert.RefWOutIdeal.defs _ _).mono (fun r h c => ?_) (Cert.RefWOutIdeal.Value.run (F := Ideal) m' g')
    refine ⟨(h c).1.trans ?_, (h c).2⟩
    rw [(hargs c).1, (hargs c).2]
    exact reference_val (argA m c) (argB m c)

end Kernel

end Cert.Proof.WOut

end
-- ==== Proof.Layer.Norm.lean ====
/-
  The normalised, shifted and scaled input of a layer, elementwise.
-/
module

public import Idealize.ShloMosaic.Lib.Pipeline.ValueKit

@[expose] public section

noncomputable section

namespace Cert.Proof.Layer

open Idealize.ShloMosaic

/-- One row's mean square, and the small constant. -/
def den (x : Fin 1024 → EReal) : EReal := Ideal.div (∑ j, x j * x j) (Ideal.ofBits .f32 0x44800000#32) + Ideal.ofBits .f32 0x358637BD#32

/-- One over its root. -/
def rstd (x : Fin 1024 → EReal) : EReal := Ideal.rsqrt (den x)

/-- One element of the layer's input: `x` its row, `g` the gain, `sc` and `sh` the modulation's scale and shift. -/
def norm (x g sc sh : Fin 1024 → EReal) (k : Fin 1024) : EReal := x k * rstd x * g k * (Ideal.ofBits .f32 0x3F800000#32 + sc k) + sh k

end Cert.Proof.Layer

end
-- ==== Proof.Layer.ProjIn.lean ====
/-
  The input projection: each block of 512 rows of the kernel's two results is the reference's rows.
-/
module

public import proofs.«01_k».proof.Defs
public import proofs.«01_k».proof.Proof.Gen.ProjInIdeal.Value
public import proofs.«01_k».proof.Proof.Gen.RefProjInIdeal.Run
public import proofs.«01_k».proof.Proof.Layer.Norm

@[expose] public section

set_option maxRecDepth 16384

noncomputable section

namespace Cert.Proof.ProjIn

open Idealize.ShloMosaic
open Idealize.ShloMosaic.TcCoe Idealize.ShloMosaic.Tactic
open Idealize.ShloMosaic.Pipeline (Dat Cfg Window)

section Reference

open Cert.RefProjInIdeal Cert.RefProjInIdeal.Gen

/-- The layer's input on the whole arrays. -/
def hid (x : S8192x1024.Idx → EReal) (g : S1024.Idx → EReal) (mod : S3x1024.Idx → EReal) : S8192x1024.Idx → EReal := fun i =>
  Layer.norm (fun k => x (ix2 (i 0) k)) (fun k => g (ix1 k)) (fun k => mod (ix2 1 k)) (fun k => mod (ix2 0 k)) (i 1)

/-- Its projection. -/
def proj (h : S8192x1024.Idx → EReal) (w : S1024x2560.Idx → EReal) : S8192x2560.Idx → EReal := fun i => ∑ k : Fin 1024, h (ix2 (i 0) k) * w (ix2 k (i 1))

/-- The reference's lines of the layer's input. -/
def refHid (x : FVec Ideal S8192x1024 .f32) (g : FVec Ideal S1024 .f32) (mod : FVec Ideal S3x1024 .f32) : FVec Ideal S8192x1024 .f32 :=
  addf (mulf (mulf (mulf x (broadcastInDim S8192x1024 ![0, 1] bcast_S8192x1_S8192x1024_0_1 (Host.rsqrt (addf (Host.divf (broadcastInDim S8192x1 ![0] bcast_S8192_S8192x1_0
      (Host.reduceAdd (mulf x x) (constant S_ .f32 0x00000000#32) reducesTo_S8192x1024_S8192_d1 h_S_)) (broadcastInDim S8192x1 ![] bcast_S_S8192x1 (constant S_ .f32 0x44800000#32)))
      (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 g)))
    (broadcastInDim S8192x1024 ![0, 1] bcast_S1x1024_S8192x1024_0_1 (broadcastInDim S1x1024 ![1] bcast_S1024_S1x1024_1 (addf (broadcastInDim S1024 ![] bcast_S_S1024 (constant S_ .f32 0x3F800000#32))
      (shapeCast _ (extractStridedSlice S1x1024 ![1, 0] mod slices_S3x1024_S1x1024_1_0) shapeCasts_S1x1024_S1024)))))
    (broadcastInDim S8192x1024 ![0, 1] bcast_S1x1024_S8192x1024_0_1 (broadcastInDim S1x1024 ![1] bcast_S1024_S1x1024_1
      (shapeCast _ (extractStridedSlice S1x1024 ![0, 0] mod slices_S3x1024_S1x1024_0_0) shapeCasts_S1x1024_S1024)))

/-- They compute it, -/
theorem refHid_val (x : FVec Ideal S8192x1024 .f32) (g : FVec Ideal S1024 .f32) (mod : FVec Ideal S3x1024 .f32) : refHid x g mod = hid x g mod := by
  funext i
  have hi : i = ix2 (i 0) (i 1) := funext fun n => by fin_cases n <;> rfl
  rw [hi]
  pointwise [refHid, hid, Layer.norm, Layer.rstd, Layer.den]

/-- and the lines after them its projection. -/
theorem refProj_val (h : FVec Ideal S8192x1024 .f32) (w : FVec Ideal S1024x2560 .bf16) :
    truncf .bf16 (Host.dotGeneral dot_S8192x1024_S1024x2560_S8192x2560_1_0_0_1_n_n none h (extf .f32 w bitsLt_bf16_f32)) bitsLt_bf16_f32 = proj h w := by
  funext i
  have hi : i = ix2 (i 0) (i 1) := funext fun n => by fin_cases n <;> rfl
  rw [hi]
  pointwise [proj]

end Reference

section Kernel

open Cert.ProjInIdeal Cert.ProjInIdeal.Gen Cert.ProjInIdeal.Value

/-- A row of the second payload is the layer's input at that row of the block. -/
theorem hid_val (x : FVec Ideal S512x1024 .f32) (g sc sh : FVec Ideal S1x1024 .f32) (r : Fin 512) (k : Fin 1024) :
    (k0_pay1 (F := Ideal) x g sc sh (ix2 r k) : EReal) = Layer.norm (fun k => x (ix2 r k)) (fun k => g (ix2 0 k)) (fun k => sc (ix2 0 k)) (fun k => sh (ix2 0 k)) k := by
  pointwise [k0_pay1, Layer.norm, Layer.rstd, Layer.den]

/-- The first payload is the product of the second with the weight. -/
theorem proj_val (x : FVec Ideal S512x1024 .f32) (g sc sh : FVec Ideal S1x1024 .f32) (w : FVec Ideal S1024x2560 .bf16) (r : Fin 512) (l : Fin 2560) :
    (k0_pay2 (F := Ideal) x g sc sh w (ix2 r l) : EReal) = ∑ k : Fin 1024, (k0_pay1 (F := Ideal) x g sc sh (ix2 r k) : EReal) * w (ix2 k l) := by
  pointwise [k0_pay2]

variable (m : (ℓ : Loc nD τ sig) → Buf (Elt Ideal) ℓ)

/-- The gain in the kernel's layout. -/
theorem gain (c : Dev nD) (k : Fin 1024) : (V m c main_v0 : S1x1024.Idx → EReal) (ix2 0 k) = (m ((c.tc : Thread nD τ).loc main_arg1) : S1024.Idx → EReal) (ix1 k) := by
  unfold V
  unfold hostOps0
  after_results_simp
  pointwise

/-- The layer's input, -/
abbrev argX (c : Dev nD) : S8192x1024.Idx → EReal := m ((c.tc : Thread nD τ).loc main_arg0)
/-- the gain, -/
abbrev argG (c : Dev nD) : S1024.Idx → EReal := m ((c.tc : Thread nD τ).loc main_arg1)
/-- the modulation, -/
abbrev argM (c : Dev nD) : S3x1024.Idx → EReal := m ((c.tc : Thread nD τ).loc main_arg2)
/-- and the weight. -/
abbrev argW (c : Dev nD) : S1024x2560.Idx → EReal := m ((c.tc : Thread nD τ).loc main_arg3)

/-- Where every window's block lies. -/
theorem idxs (t : Fin cfg0.N) : win0_0.index t = ![t.val, 0] ∧ win0_1.index t = ![0, 0] ∧ win0_2.index t = ![0, 0] ∧ win0_3.index t = ![0, 0] ∧ win0_4.index t = ![t.val, 0] ∧ win0_5.index t = ![t.val, 0] :=
  (by decide +kernel : ∀ t : Fin grid0.N, win0_0.index t = ![t.val, 0] ∧ win0_1.index t = ![0, 0] ∧ win0_2.index t = ![0, 0] ∧ win0_3.index t = ![0, 0] ∧ win0_4.index t = ![t.val, 0] ∧ win0_5.index t = ![t.val, 0]) t

/-- A block's rows of the layer's input are the whole's. -/
theorem block_val (c : Dev nD) (t : Fin cfg0.N) (r : Fin 512) (k : Fin 1024) (R : Fin 8192) (hR : R.val = t.val * 512 + r.val) :
    (k0_pay1 (F := Ideal) (iblk m c 0 t) (iblk m c 1 t) (View.ld (iblk m c 2 t) r0_2) (View.ld (iblk m c 2 t) r0_3) (ix2 r k) : EReal) = hid (argX m c) (argG m c) (argM m c) (ix2 R k) := by
  obtain ⟨i0, i1, i2, -⟩ := idxs t
  refine (hid_val _ _ _ _ r k).trans ?_
  have e0 : ∀ k : Fin 1024, (iblk m c 0 t : S512x1024.Idx → EReal) (ix2 r k) = argX m c (ix2 R k) := fun k => by blk_ext [iblk, V, i0]
  have e1 : ∀ k : Fin 1024, (iblk m c 1 t : S1x1024.Idx → EReal) (ix2 0 k) = argG m c (ix1 k) := fun k => by
    refine Eq.trans ?_ (gain m c k)
    blk_ext [iblk, i1]
  have e2 : ∀ k : Fin 1024, (View.ld (iblk m c 2 t : S3x1024.Idx → EReal) r0_2 : S1x1024.Idx → EReal) (ix2 0 k) = argM m c (ix2 1 k) := fun k => by
    have h : r0_2.idx (ix2 0 k) = (ix2 1 k : S3x1024.Idx) :=
      funext fun n => Fin.ext (by fin_cases n <;> simp [r0_2])
    refine Eq.trans (congrArg (iblk m c 2 t : S3x1024.Idx → EReal) h) ?_
    blk_ext [iblk, V, i2]
  have e3 : ∀ k : Fin 1024, (View.ld (iblk m c 2 t : S3x1024.Idx → EReal) r0_3 : S1x1024.Idx → EReal) (ix2 0 k) = argM m c (ix2 0 k) := fun k => by
    have h : r0_3.idx (ix2 0 k) = (ix2 0 k : S3x1024.Idx) :=
      funext fun n => Fin.ext (by fin_cases n <;> simp [r0_3])
    refine Eq.trans (congrArg (iblk m c 2 t : S3x1024.Idx → EReal) h) ?_
    blk_ext [iblk, V, i2]
  unfold hid
  congr 1 <;> funext k
  · exact e0 k
  · exact e1 k
  · exact e2 k
  · exact e3 k

/-- The second result after a run of the kernel's program. -/
theorem final5 (c : Dev nD) : (dats m 0 c).arrAt 5 cfg0.N = hid (argX m c) (argG m c) (argM m c) := by
  refine (dats m 0 c).arrAt_eq_of_covers 5 _ (by decide +kernel) fun t hf y => ?_
  have y0 : (y 0).val < 512 := (y 0).isLt
  have y1 : (y 1).val < 1024 := (y 1).isLt
  have i5 := (idxs t).2.2.2.2.2
  have e0 : (((win0_5.blk t).view.emb y) 0 : ℕ) = t.val * 512 + (y 0).val := by blk_simp [i5]
  have e1 : (((win0_5.blk t).view.emb y) 1 : ℕ) = (y 1).val := by blk_simp [i5]; try omega
  blk_simp [i5]
  rw [after0_5]
  frame_out
  have hy : (y : S512x1024.Idx) = ix2 (y 0) (y 1) := funext fun n => by fin_cases n <;> rfl
  have hR : ((win0_5.blk t).view.emb y : S8192x1024.Idx) = ix2 ((win0_5.blk t).view.emb y 0) (y 1) := funext fun n => Fin.ext (by fin_cases n; rfl; exact e1)
  refine ((congrArg _ hy).trans (block_val m c t (y 0) (y 1) _ e0)).trans ?_
  exact congrArg (hid (argX m c) (argG m c) (argM m c)) hR.symm

/-- The first result. -/
theorem final4 (c : Dev nD) : (dats m 0 c).arrAt 4 cfg0.N = proj (hid (argX m c) (argG m c) (argM m c)) (argW m c) := by
  refine (dats m 0 c).arrAt_eq_of_covers 4 _ (by decide +kernel) fun t hf y => ?_
  have y0 : (y 0).val < 512 := (y 0).isLt
  have y1 : (y 1).val < 2560 := (y 1).isLt
  obtain ⟨-, -, -, i3, i4, -⟩ := idxs t
  have e0 : (((win0_4.blk t).view.emb y) 0 : ℕ) = t.val * 512 + (y 0).val := by blk_simp [i4]
  have e1 : (((win0_4.blk t).view.emb y) 1 : ℕ) = (y 1).val := by blk_simp [i4]; try omega
  blk_simp [i4]
  rw [after0_4]
  frame_out
  have hy : (y : S512x2560.Idx) = ix2 (y 0) (y 1) := funext fun n => by fin_cases n <;> rfl
  have hR : ((win0_4.blk t).view.emb y : S8192x2560.Idx) = ix2 ((win0_4.blk t).view.emb y 0) (y 1) := funext fun n => Fin.ext (by fin_cases n; rfl; exact e1)
  refine ((congrArg _ hy).trans (proj_val _ _ _ _ _ (y 0) (y 1))).trans ?_
  refine Eq.trans ?_ (congrArg (proj (hid (argX m c) (argG m c) (argM m c)) (argW m c)) hR.symm)
  refine Finset.sum_congr rfl fun k _ => congrArg₂ (· * ·) (block_val m c t (y 0) k _ e0) ?_
  blk_ext [iblk, V, i3]

/-- The kernel's projection is the reference's, whatever the arguments. -/
theorem algebraic : Cert.algebraic_ProjInIdeal_RefProjInIdeal (hProjInIdeal := Cert.ProjInIdeal.Gen.facts) (hRefProjInIdeal := Cert.RefProjInIdeal.Gen.facts) := by
  intro m g m' g' _ hargs
  refine ⟨fun c => proj (hid (argX m c) (argG m c) (argM m c)) (argW m c), fun c => hid (argX m c) (argG m c) (argM m c), ?_, ?_⟩
  · refine (θ_run Cert.ProjInIdeal.defs _ _).mono (fun r h c => ?_) (run_blocks m g)
    exact ⟨(h c).1.trans (final4 m c), (h c).2.1.trans (final5 m c), (h c).2.2⟩
  · refine (θ_run Cert.RefProjInIdeal.defs _ _).mono (fun r h c => ?_) (Cert.RefProjInIdeal.Value.run (F := Ideal) m' g')
    obtain ⟨e0, e1, e2, e3⟩ := hargs c
    refine ⟨(h c).1.trans ?_, (h c).2.1.trans ?_, (h c).2.2⟩
    · rw [e0, e1, e2, e3]
      exact (refProj_val _ _).trans (congrArg (fun h => proj h (argW m c)) (refHid_val (argX m c) (argG m c) (argM m c)))
    · rw [e0, e1, e2]
      exact refHid_val (argX m c) (argG m c) (argM m c)

end Kernel

end Cert.Proof.ProjIn

end
-- ==== Proof.Layer.NormGrad.lean ====
/-
  The gradient of the norm at one element: the two forms of it are equal, on any extended reals.
-/
module

public import proofs.«01_k».proof.Proof.Layer.Norm
public import Idealize.ShloMosaic.Lib.Pipeline.ValueKit

@[expose] public section

noncomputable section

namespace Cert.Proof.Layer

open Idealize.ShloMosaic

/-- The width of a row, -/
theorem width : Ideal.ofBits .f32 0x44800000#32 = ((1024 : ℝ) : EReal) := by
  simp only [Ideal.ofBits, Ideal.ieee]
  simp
  try (rw [← EReal.coe_mul]; norm_num)

/-- minus a half, -/
theorem neg_half : Ideal.ofBits .f32 0xBF000000#32 = ((-(1 / 2) : ℝ) : EReal) := by
  simp only [Ideal.ofBits, Ideal.ieee]
  simp
  try (rw [← EReal.coe_mul]; norm_num)

/-- and the norm's small constant, which is a positive real. -/
theorem eps_pos : ∃ e : ℝ, 0 < e ∧ Ideal.ofBits .f32 0x358637BD#32 = (e : EReal) := by
  simp only [Ideal.ofBits, Ideal.ieee]
  simp
  refine ⟨_, ?_, (EReal.coe_mul _ _).symm⟩
  norm_num

/-- A sum of nonnegative terms with an infinite one is infinite. -/
theorem sum_eq_top {n : ℕ} (a : Fin n → EReal) (h0 : ∀ i, 0 ≤ a i) (j : Fin n) (hj : a j = ⊤) : ∑ i, a i = ⊤ :=
  top_le_iff.mp (hj ▸ Finset.single_le_sum (fun i _ => h0 i) (Finset.mem_univ j))

/-- A real nonnegative factor leaves a sum. -/
theorem sum_mul_coe {n : ℕ} (a : Fin n → EReal) (r : ℝ) (hr : 0 ≤ r) : ∑ i, a i * (r : EReal) = (∑ i, a i) * (r : EReal) := by
  induction n with
  | zero => simp
  | succ n ih =>
    rw [Fin.sum_univ_succ, Fin.sum_univ_succ, ih, EReal.right_distrib_of_nonneg_of_ne_top (by exact_mod_cast hr) (EReal.coe_ne_top r)]

/-- Twice an extended real. -/
theorem add_self (b : EReal) : b + b = b * ((2 : ℝ) : EReal) := by
  induction b with
  | bot => rw [EReal.bot_mul_coe_of_pos (by norm_num)]; rfl
  | top => rw [EReal.top_mul_coe_of_pos (by norm_num)]; rfl
  | coe b => rw [← EReal.coe_add, ← EReal.coe_mul]; congr 1; ring

/-- A sum of reals among the extended reals. -/
theorem sum_coe {n : ℕ} (a : Fin n → ℝ) : ∑ i, (a i : EReal) = ((∑ i, a i : ℝ) : EReal) := by
  induction n with
  | zero => rfl
  | succ n ih => rw [Fin.sum_univ_succ, Fin.sum_univ_succ, ih, EReal.coe_add]

/-- A square is not negative. -/
theorem sq_nonneg (b : EReal) : 0 ≤ b * b := by
  induction b with
  | bot => rw [EReal.bot_mul_bot]; exact le_top
  | top => rw [EReal.top_mul_top]; exact le_top
  | coe b => rw [← EReal.coe_mul]; exact_mod_cast mul_self_nonneg b

/-- The mean square of a row is infinite where an element is, and a positive real elsewhere. -/
theorem den_cases (x : Fin 1024 → EReal) : den x = ⊤ ∨ ∃ y : Fin 1024 → ℝ, ∃ D : ℝ, 0 < D ∧ (∀ i, x i = (y i : EReal)) ∧ den x = (D : EReal) := by
  obtain ⟨e, he, hE⟩ := eps_pos
  unfold den
  rw [width, Ideal.div_coe (by norm_num), hE]
  by_cases h : ∃ j, x j = ⊤ ∨ x j = ⊥
  · obtain ⟨j, hj⟩ := h
    left
    have hs : ∑ i, x i * x i = ⊤ := sum_eq_top _ (fun i => sq_nonneg (x i)) j (by rcases hj with h | h <;> rw [h] <;> rfl)
    rw [hs, EReal.top_mul_coe_of_pos (by norm_num)]
    rfl
  · push Not at h
    right
    have hy : ∀ i, ((x i).toReal : EReal) = x i := fun i => EReal.coe_toReal (h i).1 (h i).2
    refine ⟨fun i => (x i).toReal, (∑ i, (x i).toReal * (x i).toReal) * (1 / 1024) + e, ?_, fun i => (hy i).symm, ?_⟩
    · have : 0 ≤ ∑ i, (x i).toReal * (x i).toReal := Finset.sum_nonneg fun i _ => mul_self_nonneg _
      positivity
    · have hs : ∑ i, x i * x i = ((∑ i, (x i).toReal * (x i).toReal : ℝ) : EReal) := by
        rw [← sum_coe]
        exact Finset.sum_congr rfl fun i _ => by rw [EReal.coe_mul, hy]
      rw [hs, ← EReal.coe_mul, ← EReal.coe_add]

/-- The gradient of an element of `x`, with the residual's `o` and the cotangent `d` of the normalised row, as the kernel forms it, -/
def gradMean (x d : Fin 1024 → EReal) (o : EReal) (j : Fin 1024) : EReal :=
  o + rstd x * (d j - x j * rstd x * Ideal.div (∑ i, d i * (x i * rstd x)) (Ideal.ofBits .f32 0x44800000#32))

/-- the cotangent of the mean square, halved, -/
def half (x d : Fin 1024 → EReal) : EReal :=
  Ideal.div ((∑ i, x i * d i) * (Ideal.ofBits .f32 0xBF000000#32 * Ideal.div (rstd x) (den x))) (Ideal.ofBits .f32 0x44800000#32)

/-- and as the chain rule does. -/
def gradChain (x d : Fin 1024 → EReal) (o : EReal) (j : Fin 1024) : EReal := o + d j * rstd x + x j * half x d + half x d * x j

/-- They are equal: where the mean square is infinite both are `o`; elsewhere the row is real, and the one infinite sum stands in both as a factor. -/
theorem gradMean_eq (x d : Fin 1024 → EReal) (o : EReal) (j : Fin 1024) : gradMean x d o j = gradChain x d o j := by
  rcases den_cases x with h | ⟨y, D, hD, hx, h⟩
  · have hr : rstd x = 0 := by rw [rstd, h]; rfl
    have hh : half x d = 0 := by
      unfold half
      rw [hr, h, width, Ideal.div_coe (by norm_num), Ideal.div, if_neg (by simp)]
      simp
    simp only [gradMean, gradChain, hr, hh, zero_mul, mul_zero, add_zero]
  · have hp : 0 < Real.sqrt D := Real.sqrt_pos.mpr hD
    obtain ⟨r, hr0, hr⟩ : ∃ r : ℝ, r = (Real.sqrt D)⁻¹ ∧ rstd x = (r : EReal) := ⟨_, rfl, by rw [rstd, h, Ideal.rsqrt_coe, if_neg (by linarith), if_neg (by linarith)]⟩
    have hrp : 0 < r := hr0 ▸ inv_pos.mpr hp
    have hrD : r * (1 / D) = r * r * r := by
      have : r * r = 1 / D := by rw [hr0, ← mul_inv, Real.mul_self_sqrt hD.le, one_div]
      rw [← this]; ring
    set A := ∑ i, x i * d i with hA
    have e1 : ∑ i, d i * (x i * (r : EReal)) = A * (r : EReal) := by
      rw [hA, ← sum_mul_coe _ _ hrp.le]
      exact Finset.sum_congr rfl fun i _ => by rw [← mul_assoc, mul_comm (d i)]
    have hh : half x d = A * ((-(1 / 2) * (r * r * r) * (1 / 1024) : ℝ) : EReal) := by
      unfold half
      rw [hr, h, width, neg_half, Ideal.div_coe (by norm_num), Ideal.div_coe hD.ne', ← EReal.coe_mul, ← EReal.coe_mul, mul_assoc, ← EReal.coe_mul, hrD]
    unfold gradMean gradChain
    rw [hr, hh, e1, width, Ideal.div_coe (by norm_num), hx j]
    have e2 : (y j : EReal) * (A * ((-(1 / 2) * (r * r * r) * (1 / 1024) : ℝ) : EReal)) = A * ((-(1 / 2) * (r * r * r) * (1 / 1024) * y j : ℝ) : EReal) := by
      rw [mul_comm, mul_assoc, ← EReal.coe_mul]
    have e3 : A * ((-(1 / 2) * (r * r * r) * (1 / 1024) : ℝ) : EReal) * (y j : EReal) = A * ((-(1 / 2) * (r * r * r) * (1 / 1024) * y j : ℝ) : EReal) := by
      rw [mul_assoc, ← EReal.coe_mul]
    have e4 : (r : EReal) * -((y j : EReal) * (r : EReal) * (A * (r : EReal) * ((1 / 1024 : ℝ) : EReal))) =
        A * ((-(1 / 2) * (r * r * r) * (1 / 1024) * y j : ℝ) : EReal) * ((2 : ℝ) : EReal) := by
      rw [mul_assoc A, mul_assoc A, ← EReal.coe_mul, ← EReal.coe_mul, ← EReal.coe_mul, mul_left_comm _ A, ← EReal.coe_mul, mul_neg, mul_left_comm _ A, ← EReal.coe_mul,
        ← mul_neg, ← EReal.coe_neg]
      congr 2
      ring
    rw [e2, e3, add_assoc, add_self, sub_eq_add_neg, EReal.left_distrib_of_nonneg_of_ne_top (by exact_mod_cast hrp.le) (EReal.coe_ne_top r), e4, mul_comm (r : EReal) (d j), add_assoc]

end Cert.Proof.Layer

end
-- ==== Proof.Layer.GradInParts.lean ====
/-
  The gradient of a layer's input: the reference's three results element by element, and what the kernel's arithmetic on half a block of rows is.
-/
module

public import proofs.«01_k».proof.Proof.Gen.GradInIdeal.Skeleton
public import proofs.«01_k».proof.Proof.Gen.RefGradInIdeal.Run
public import proofs.«01_k».proof.Proof.Layer.NormGrad
public import Idealize.ShloMosaic.Lib.Pipeline.ValueKit

@[expose] public section

set_option maxRecDepth 16384

noncomputable section

namespace Cert.Proof.GradIn

open Idealize.ShloMosaic
open Idealize.ShloMosaic.TcCoe Idealize.ShloMosaic.Tactic

section Reference

open Cert.RefGradInIdeal Cert.RefGradInIdeal.Gen

/-- One. -/
abbrev one : EReal := Ideal.ofBits .f32 0x3F800000#32

/-- The cotangent of the layer's input, from that of its projection. -/
def dh (b : Fin 8192 → Fin 2560 → EReal) (w : S1024x2560.Idx → EReal) (r : Fin 8192) (k : Fin 1024) : EReal := ∑ l : Fin 2560, b r l * w (ix2 k l)

/-- The gradient of `x`: that of the norm, with the residual's cotangent `o`. -/
def dx (x : S8192x1024.Idx → EReal) (g : S1024.Idx → EReal) (mod : S3x1024.Idx → EReal) (w : S1024x2560.Idx → EReal) (o : S8192x1024.Idx → EReal)
    (b : Fin 8192 → Fin 2560 → EReal) : S8192x1024.Idx → EReal := fun i =>
  Layer.gradChain (fun k => x (ix2 (i 0) k)) (fun k => dh b w (i 0) k * (one + mod (ix2 1 k)) * g (ix1 k)) (o (ix2 (i 0) (i 1))) (i 1)

/-- One row's part of the gradient of the shift and of the scale. -/
def dmodRow (x : S8192x1024.Idx → EReal) (g : S1024.Idx → EReal) (w : S1024x2560.Idx → EReal) (b : Fin 8192 → Fin 2560 → EReal) (a : Fin 2) (k : Fin 1024) (r : Fin 8192) : EReal :=
  if a = 0 then dh b w r k else dh b w r k * (x (ix2 r k) * Layer.rstd (fun j => x (ix2 r j)) * g (ix1 k))

/-- The gradient of the shift and of the scale. -/
def dmod (x : S8192x1024.Idx → EReal) (g : S1024.Idx → EReal) (w : S1024x2560.Idx → EReal) (b : Fin 8192 → Fin 2560 → EReal) : S2x1024.Idx → EReal := fun i =>
  ∑ r : Fin 8192, dmodRow x g w b (i 0) (i 1) r

/-- One row's part of the gradient of the gain. -/
def dgRow (x : S8192x1024.Idx → EReal) (mod : S3x1024.Idx → EReal) (w : S1024x2560.Idx → EReal) (b : Fin 8192 → Fin 2560 → EReal) (k : Fin 1024) (r : Fin 8192) : EReal :=
  dh b w r k * (one + mod (ix2 1 k)) * (x (ix2 r k) * Layer.rstd (fun j => x (ix2 r j)))

/-- The gradient of the gain. -/
def dg (x : S8192x1024.Idx → EReal) (mod : S3x1024.Idx → EReal) (w : S1024x2560.Idx → EReal) (b : Fin 8192 → Fin 2560 → EReal) : S1x1024.Idx → EReal := fun i =>
  ∑ r : Fin 8192, dgRow x mod w b (i 1) r

/-- The reference's lines of the mean square, -/
def refDen (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))

/-- of the cotangent of the layer's input, -/
def refDh (b : FVec Ideal S8192x2560 .bf16) (w : FVec Ideal S1024x2560 .bf16) : FVec Ideal S8192x1024 .f32 :=
  Host.dotGeneral dot_S8192x2560_S1024x2560_S8192x1024_1_1_0_0_n_n none (extf .f32 b bitsLt_bf16_f32) (extf .f32 w bitsLt_bf16_f32)

/-- of that of the normalised row with its gain, -/
def refDhs (mod : FVec Ideal S3x1024 .f32) (b : FVec Ideal S8192x2560 .bf16) (w : FVec Ideal S1024x2560 .bf16) : FVec Ideal S8192x1024 .f32 :=
  mulf (refDh b w) (broadcastInDim S8192x1024 ![0, 1] bcast_S1x1024_S8192x1024_0_1 (broadcastInDim S1x1024 ![1] bcast_S1024_S1x1024_1
    (addf (broadcastInDim S1024 ![] bcast_S_S1024 (constant S_ .f32 0x3F800000#32)) (shapeCast _ (extractStridedSlice S1x1024 ![1, 0]
      (extractStridedSlice S2x1024 ![0, 0] mod slices_S3x1024_S2x1024_0_0) slices_S2x1024_S1x1024_1_0) shapeCasts_S1x1024_S1024))))

/-- of the normalised row, -/
def refHat (x : FVec Ideal S8192x1024 .f32) : FVec Ideal S8192x1024 .f32 :=
  mulf x (broadcastInDim S8192x1024 ![0, 1] bcast_S8192x1_S8192x1024_0_1 (Host.rsqrt (refDen x)))

/-- of the halved cotangent of the mean square, -/
def refHalf (x d : FVec Ideal S8192x1024 .f32) : FVec Ideal S8192x1024 .f32 :=
  broadcastInDim S8192x1024 ![0] bcast_S8192_S8192x1024_0 (Host.reduceAdd (Host.divf (mulf (shapeCast _ (Host.reduceAdd (mulf x d) (constant S_ .f32 0x00000000#32)
      reducesTo_S8192x1024_S8192_d1 h_S_) shapeCasts_S8192_S8192x1) (mulf (broadcastInDim S8192x1 ![] bcast_S_S8192x1 (constant S_ .f32 0xBF000000#32))
      (Host.divf (Host.rsqrt (refDen x)) (refDen x)))) (broadcastInDim S8192x1 ![] bcast_S_S8192x1 (constant S_ .f32 0x44800000#32)))
    (constant S_ .f32 0x00000000#32) reducesTo_S8192x1_S8192_d1 h_S_)

/-- and of the first result. -/
def refDx (x : FVec Ideal S8192x1024 .f32) (g : FVec Ideal S1024 .f32) (mod : FVec Ideal S3x1024 .f32) (w : FVec Ideal S1024x2560 .bf16) (o : FVec Ideal S8192x1024 .f32)
    (b : FVec Ideal S8192x2560 .bf16) : FVec Ideal S8192x1024 .f32 :=
  let d := mulf (refDhs mod b w) (broadcastInDim S8192x1024 ![0, 1] bcast_S1x1024_S8192x1024_0_1 (broadcastInDim S1x1024 ![1] bcast_S1024_S1x1024_1 g))
  addf (addf (addf o (mulf d (broadcastInDim S8192x1024 ![0, 1] bcast_S8192x1_S8192x1024_0_1 (Host.rsqrt (refDen x))))) (mulf x (refHalf x d))) (mulf (refHalf x d) x)

/-- The sum over the rows, as the second and third results take it. -/
def refSum (d : FVec Ideal S8192x1024 .f32) : FVec Ideal S1024 .f32 :=
  Host.reduceAdd (shapeCast _ (Host.reduceAdd d (constant S_ .f32 0x00000000#32) reducesTo_S8192x1024_S1024_d0 h_S_) shapeCasts_S1024_S1x1024)
    (constant S_ .f32 0x00000000#32) reducesTo_S1x1024_S1024_d0 h_S_

/-- The second result's lines, -/
def refDmod (x : FVec Ideal S8192x1024 .f32) (g : FVec Ideal S1024 .f32) (w : FVec Ideal S1024x2560 .bf16) (b : FVec Ideal S8192x2560 .bf16) : FVec Ideal S2x1024 .f32 :=
  addf (pad S2x1024 ![1, 0] ![0, 0] ![0, 0] (broadcastInDim S1x1024 ![1] bcast_S1024_S1x1024_1 (refSum (mulf (mulf (refHat x) (broadcastInDim S8192x1024 ![0, 1]
      bcast_S1x1024_S8192x1024_0_1 (broadcastInDim S1x1024 ![1] bcast_S1024_S1x1024_1 g))) (refDh b w)))) (constant S_ .f32 0x00000000#32) pads_S1x1024_S2x1024_100_000 h_S_)
    (pad S2x1024 ![0, 0] ![1, 0] ![0, 0] (broadcastInDim S1x1024 ![1] bcast_S1024_S1x1024_1 (refSum (refDh b w))) (constant S_ .f32 0x00000000#32) pads_S1x1024_S2x1024_010_000 h_S_)

/-- and the third's. -/
def refDg (x : FVec Ideal S8192x1024 .f32) (mod : FVec Ideal S3x1024 .f32) (w : FVec Ideal S1024x2560 .bf16) (b : FVec Ideal S8192x2560 .bf16) : FVec Ideal S1x1024 .f32 :=
  shapeCast _ (refSum (mulf (refHat x) (refDhs mod b w))) shapeCasts_S1024_S1x1024

/-- What each of these lines holds at one element: the mean square, -/
theorem refDen_val (x : FVec Ideal S8192x1024 .f32) (r : Fin 8192) : refDen x (ix2 r 0) = Layer.den (fun k => x (ix2 r k)) := by
  pointwise [refDen, Layer.den]

/-- the cotangent of the layer's input, -/
theorem refDh_val (b : FVec Ideal S8192x2560 .bf16) (w : FVec Ideal S1024x2560 .bf16) (r : Fin 8192) (k : Fin 1024) :
    refDh b w (ix2 r k) = dh (fun r l => b (ix2 r l)) w r k := by
  pointwise [refDh, dh]

/-- that of the normalised row with its gain, -/
theorem refDhs_val (mod : FVec Ideal S3x1024 .f32) (b : FVec Ideal S8192x2560 .bf16) (w : FVec Ideal S1024x2560 .bf16) (r : Fin 8192) (k : Fin 1024) :
    refDhs mod b w (ix2 r k) = dh (fun r l => b (ix2 r l)) w r k * (one + mod (ix2 1 k)) := by
  rw [← refDh_val]
  generalize hd : refDh b w = d
  simp only [refDhs, hd]
  pointwise

/-- the normalised row, -/
theorem refHat_val (x : FVec Ideal S8192x1024 .f32) (r : Fin 8192) (k : Fin 1024) : refHat x (ix2 r k) = x (ix2 r k) * Layer.rstd (fun k => x (ix2 r k)) := by
  rw [Layer.rstd, ← refDen_val]
  generalize hd : refDen x = d
  simp only [refHat, hd]
  pointwise

/-- the halved cotangent of the mean square, -/
theorem refHalf_val (x d : FVec Ideal S8192x1024 .f32) (r : Fin 8192) (k : Fin 1024) : refHalf x d (ix2 r k) = Layer.half (fun k => x (ix2 r k)) (fun k => d (ix2 r k)) := by
  unfold Layer.half Layer.rstd
  rw [← refDen_val]
  generalize hd : refDen x = e
  simp only [refHalf, hd]
  pointwise
  exact Fin.sum_univ_one _

/-- and a sum over the rows. -/
theorem refSum_val (d : FVec Ideal S8192x1024 .f32) (k : Fin 1024) : refSum d (ix1 k) = ∑ r : Fin 8192, d (ix2 r k) := by
  pointwise [refSum]
  exact Fin.sum_univ_one _

/-- The first result. -/
theorem refDx_val (x : FVec Ideal S8192x1024 .f32) (g : FVec Ideal S1024 .f32) (mod : FVec Ideal S3x1024 .f32) (w : FVec Ideal S1024x2560 .bf16) (o : FVec Ideal S8192x1024 .f32)
    (b : FVec Ideal S8192x2560 .bf16) : refDx x g mod w o b = dx x g mod w o (fun r l => b (ix2 r l)) := by
  suffices h : ∀ (r : Fin 8192) (k : Fin 1024), refDx x g mod w o b (ix2 r k) = dx x g mod w o (fun r l => b (ix2 r l)) (ix2 r k) from funext fun i =>
    (congrArg _ (funext fun n => by fin_cases n <;> rfl)).trans ((h (i 0) (i 1)).trans (congrArg _ (funext fun n => by fin_cases n <;> rfl)))
  intro r k
  unfold refDx
  generalize hd' : mulf (refDhs mod b w) (broadcastInDim S8192x1024 ![0, 1] bcast_S1x1024_S8192x1024_0_1 (broadcastInDim S1x1024 ![1] bcast_S1024_S1x1024_1 g)) = d
  have hd : ∀ k, d (ix2 r k) = dh (fun r l => b (ix2 r l)) w r k * (one + mod (ix2 1 k)) * g (ix1 k) := fun k => by
    rw [← refDhs_val, ← hd']
    generalize refDhs mod b w = s
    pointwise
  show (o (ix2 r k) : EReal) + d (ix2 r k) * broadcastInDim S8192x1024 ![0, 1] bcast_S8192x1_S8192x1024_0_1 (Host.rsqrt (refDen x)) (ix2 r k) + x (ix2 r k) * refHalf x d (ix2 r k)
    + refHalf x d (ix2 r k) * x (ix2 r k) = _
  have hr : broadcastInDim S8192x1024 ![0, 1] bcast_S8192x1_S8192x1024_0_1 (Host.rsqrt (refDen x)) (ix2 r k) = Layer.rstd (fun k => x (ix2 r k)) := by
    rw [Layer.rstd, ← refDen_val]
    generalize refDen x = e
    pointwise
  rw [hr, refHalf_val]
  simp only [hd]
  rfl

/-- The second result, -/
theorem refDmod_val (x : FVec Ideal S8192x1024 .f32) (g : FVec Ideal S1024 .f32) (w : FVec Ideal S1024x2560 .bf16) (b : FVec Ideal S8192x2560 .bf16) :
    refDmod x g w b = dmod x g w (fun r l => b (ix2 r l)) := by
  suffices h : ∀ (a : Fin 2) (k : Fin 1024), refDmod x g w b (ix2 a k) = dmod x g w (fun r l => b (ix2 r l)) (ix2 a k) from funext fun i =>
    (congrArg _ (funext fun n => by fin_cases n <;> rfl)).trans ((h (i 0) (i 1)).trans (congrArg _ (funext fun n => by fin_cases n <;> rfl)))
  intro a k
  have h0 : ∑ r : Fin 8192, refDh b w (ix2 r k) = ∑ r : Fin 8192, dmodRow x g w (fun r l => b (ix2 r l)) 0 k r :=
    Finset.sum_congr rfl fun r _ => refDh_val b w r k
  have h1 : refSum (mulf (mulf (refHat x) (broadcastInDim S8192x1024 ![0, 1]
      bcast_S1x1024_S8192x1024_0_1 (broadcastInDim S1x1024 ![1] bcast_S1024_S1x1024_1 g))) (refDh b w)) (ix1 k) = ∑ r : Fin 8192, dmodRow x g w (fun r l => b (ix2 r l)) 1 k r := by
    rw [refSum_val]
    refine Finset.sum_congr rfl fun r _ => ?_
    refine Eq.trans ?_ (mul_comm _ _)
    rw [← refDh_val, ← refHat_val]
    generalize refDh b w = d
    generalize refHat x = e
    pointwise
  rw [← refSum_val] at h0
  show _ = ∑ r : Fin 8192, dmodRow x g w (fun r l => b (ix2 r l)) a k r
  unfold refDmod
  generalize refSum (mulf (mulf (refHat x) (broadcastInDim S8192x1024 ![0, 1]
      bcast_S1x1024_S8192x1024_0_1 (broadcastInDim S1x1024 ![1] bcast_S1024_S1x1024_1 g))) (refDh b w)) = u at h1 ⊢
  generalize refSum (refDh b w) = v at h0 ⊢
  fin_cases a
  · show _ = ∑ r : Fin 8192, dmodRow x g w (fun r l => b (ix2 r l)) 0 k r
    rw [← h0]
    pointwise
  · show _ = ∑ r : Fin 8192, dmodRow x g w (fun r l => b (ix2 r l)) 1 k r
    rw [← h1]
    pointwise

/-- and the third. -/
theorem refDg_val (x : FVec Ideal S8192x1024 .f32) (mod : FVec Ideal S3x1024 .f32) (w : FVec Ideal S1024x2560 .bf16) (b : FVec Ideal S8192x2560 .bf16) :
    refDg x mod w b = dg x mod w (fun r l => b (ix2 r l)) := by
  suffices h : ∀ (a : Fin 1) (k : Fin 1024), refDg x mod w b (ix2 a k) = dg x mod w (fun r l => b (ix2 r l)) (ix2 a k) from funext fun i =>
    (congrArg _ (funext fun n => by fin_cases n <;> rfl)).trans ((h (i 0) (i 1)).trans (congrArg _ (funext fun n => by fin_cases n <;> rfl)))
  intro a k
  show _ = ∑ r : Fin 8192, dgRow x mod w (fun r l => b (ix2 r l)) k r
  have h1 : refSum (mulf (refHat x) (refDhs mod b w)) (ix1 k) = ∑ r : Fin 8192, dgRow x mod w (fun r l => b (ix2 r l)) k r := by
    rw [refSum_val]
    refine Finset.sum_congr rfl fun r _ => ?_
    refine Eq.trans ?_ (mul_comm _ _)
    rw [← refDhs_val, ← refHat_val]
    rfl
  rw [← h1]
  unfold refDg
  generalize refSum (mulf (refHat x) (refDhs mod b w)) = u
  pointwise

end Reference

section Kernel

open Cert.GradInIdeal Cert.GradInIdeal.Gen

/-- Half a block of the kernel's cotangent of the layer's input, -/
theorem dh_val (b : FVec Ideal S256x2560 .bf16) (w : FVec Ideal S1024x2560 .bf16) (r : Fin 256) (k : Fin 1024) :
    (k0_pay14 (F := Ideal) b w (ix2 r k) : EReal) = ∑ l : Fin 2560, (b (ix2 r l) : EReal) * w (ix2 k l) := by
  pointwise [k0_pay14]

/-- its first result, -/
theorem dx_val (g s : FVec Ideal S1x1024 .f32) (d x o : FVec Ideal S256x1024 .f32) (r : Fin 256) (k : Fin 1024) :
    k0_pay23 g s d (k0_pay15 x) (k0_pay16 x) o (ix2 r k) =
      Layer.gradMean (fun k => x (ix2 r k)) (fun k => d (ix2 r k) * s (ix2 0 k) * g (ix2 0 k)) (o (ix2 r k)) k := by
  pointwise [k0_pay23, k0_pay21, k0_pay15, k0_pay16, Layer.gradMean, Layer.rstd, Layer.den]

/-- what it adds to the shift's gradient, -/
theorem shift_val (d : FVec Ideal S256x1024 .f32) (acc : FVec Ideal S1x1024 .f32) (k : Fin 1024) :
    k0_pay19 d (k0_pay18 acc) (ix2 0 k) = acc (ix2 0 k) + ∑ r : Fin 256, d (ix2 r k) := by
  pointwise [k0_pay19, k0_pay18]

/-- to the scale's, -/
theorem scale_val (d x : FVec Ideal S256x1024 .f32) (g acc : FVec Ideal S1x1024 .f32) (k : Fin 1024) :
    k0_pay20 d (k0_pay17 g x) acc (ix2 0 k) = acc (ix2 0 k) + ∑ r : Fin 256, d (ix2 r k) * (x (ix2 r k) * Layer.rstd (fun k => x (ix2 r k)) * g (ix2 0 k)) := by
  pointwise [k0_pay20, k0_pay17, k0_pay12, k0_pay16, k0_pay15, Layer.rstd, Layer.den]

/-- and to the gain's. -/
theorem gain_val (d x : FVec Ideal S256x1024 .f32) (s acc : FVec Ideal S1x1024 .f32) (k : Fin 1024) :
    k0_pay22 s d (k0_pay16 x) acc (ix2 0 k) = acc (ix2 0 k) + ∑ r : Fin 256, d (ix2 r k) * s (ix2 0 k) * (x (ix2 r k) * Layer.rstd (fun k => x (ix2 r k))) := by
  pointwise [k0_pay22, k0_pay21, k0_pay16, k0_pay15, Layer.rstd, Layer.den]

end Kernel

end Cert.Proof.GradIn

end
-- ==== Proof.Layer.GradIn.lean ====
/-
  The gradient of a layer's input: the kernel's blocks of 512 rows, each in two halves, are the reference's rows, and its two accumulated results are the sums over all rows.
-/
module

public import proofs.«01_k».proof.Defs
public import proofs.«01_k».proof.Proof.Gen.GradInIdeal.Value
public import proofs.«01_k».proof.Proof.Layer.GradInParts
public import proofs.«01_k».proof.Proof.Weights.WIn
public import Idealize.ShloMosaic.Lib.Pipeline.ValueKit
public import Idealize.ShloMosaic.Lib.Pipeline.ReadBack

@[expose] public section

set_option maxRecDepth 16384

noncomputable section

namespace Cert.Proof.GradIn

open Idealize.ShloMosaic
open Idealize.ShloMosaic.TcCoe Idealize.ShloMosaic.Tactic
open Idealize.ShloMosaic.Pipeline (Dat Cfg Window)
section Kernel

open Cert.GradInIdeal Cert.GradInIdeal.Gen Cert.GradInIdeal.Value

/-- The scratch's eight stores. -/
abbrev pieces (x1 x2 : FVec Ideal S512x512 .bf16) (x3 x4 x5 x6 x7 x8 : FVec Ideal S512x256 .bf16) : List (View.Piece (Elt Ideal) S512x2560 .bf16) :=
  [⟨Rect.unit ![0, 2304] ![512, 256] inb_S512x2560_S512x256_0_2304, k0_pay11 (F := Ideal) x8⟩,
    ⟨Rect.unit ![0, 2048] ![512, 256] inb_S512x2560_S512x256_0_2048, k0_pay10 (F := Ideal) x7⟩,
    ⟨Rect.unit ![0, 1792] ![512, 256] inb_S512x2560_S512x256_0_1792, k0_pay9 (F := Ideal) x6⟩,
    ⟨Rect.unit ![0, 1536] ![512, 256] inb_S512x2560_S512x256_0_1536, k0_pay8 (F := Ideal) x5⟩,
    ⟨Rect.unit ![0, 1280] ![512, 256] inb_S512x2560_S512x256_0_1280, k0_pay7 (F := Ideal) x4⟩,
    ⟨Rect.unit ![0, 1024] ![512, 256] inb_S512x2560_S512x256_0_1024, k0_pay6 (F := Ideal) x3⟩,
    ⟨Rect.unit ![0, 512] ![512, 512] inb_S512x2560_S512x512_0_512, k0_pay5 (F := Ideal) x2⟩,
    ⟨Rect.unit ![0, 0] ![512, 512] inb_S512x2560_S512x512_0_0, k0_pay4 (F := Ideal) x1⟩]

/-- The scratch, once the eight blocks of columns are stored in it, is the eight blocks side by side. -/
theorem scratch_val (x1 x2 : FVec Ideal S512x512 .bf16) (x3 x4 x5 x6 x7 x8 : FVec Ideal S512x256 .bf16) (r : Fin 512) (l : Fin 2560) (y : S512x2560.Idx)
    (hr : (y 0).val = r.val) (hl : (y 1).val = l.val) : View.canon (pieces x1 x2 x3 x4 x5 x6 x7 x8) y = WIn.cols x1 x2 x3 x4 x5 x6 x7 x8 r l := by
  unfold pieces
  have hlt := r.isLt
  have hlt' := l.isLt
  have inn : ∀ (o n : ℕ) (inb : ∀ a : Fin 2, (![0, o] : Fin 2 → ℕ) a + (![512, n] : Fin 2 → ℕ) a ≤ S512x2560.size a), o ≤ l.val → l.val < o + n →
      y ∈ (Rect.unit (s := S512x2560) ![0, o] ![512, n] inb).set := by
    intro o n inb h1 h2
    rw [Rect.mem_set_unit]
    intro a
    fin_cases a
    · show 0 ≤ (y 0).val ∧ (y 0).val < 0 + 512
      omega
    · show o ≤ (y 1).val ∧ (y 1).val < o + n
      omega
  canon_tiles x h using (by
    simp only [List.exists_mem_cons_iff]
    by_cases h1 : l.val < 512
    · exact .inr (.inr (.inr (.inr (.inr (.inr (.inr (.inl (inn _ _ _ (by omega) (by omega)))))))))
    by_cases h2 : l.val < 1024
    · exact .inr (.inr (.inr (.inr (.inr (.inr (.inl (inn _ _ _ (by omega) (by omega))))))))
    by_cases h3 : l.val < 1280
    · exact .inr (.inr (.inr (.inr (.inr (.inl (inn _ _ _ (by omega) (by omega)))))))
    by_cases h4 : l.val < 1536
    · exact .inr (.inr (.inr (.inr (.inl (inn _ _ _ (by omega) (by omega))))))
    by_cases h5 : l.val < 1792
    · exact .inr (.inr (.inr (.inl (inn _ _ _ (by omega) (by omega)))))
    by_cases h6 : l.val < 2048
    · exact .inr (.inr (.inl (inn _ _ _ (by omega) (by omega))))
    by_cases h7 : l.val < 2304
    · exact .inr (.inl (inn _ _ _ (by omega) (by omega)))
    exact .inl (inn _ _ _ (by omega) (by omega)))
  all_goals
    have hx : x = ix2 r (x 1) := funext fun a => Fin.ext (by fin_cases a; exact h0.symm.trans hr; rfl)
    rw [hx]
    simp only [k0_pay4, k0_pay5, k0_pay6, k0_pay7, k0_pay8, k0_pay9, k0_pay10, k0_pay11, shapeCast_self]
  · exact (WIn.cols_8 x1 x2 x3 x4 x5 x6 x7 x8 r l (x 1) (by omega)).symm
  · exact (WIn.cols_7 x1 x2 x3 x4 x5 x6 x7 x8 r l (x 1) (by omega)).symm
  · exact (WIn.cols_6 x1 x2 x3 x4 x5 x6 x7 x8 r l (x 1) (by omega)).symm
  · exact (WIn.cols_5 x1 x2 x3 x4 x5 x6 x7 x8 r l (x 1) (by omega)).symm
  · exact (WIn.cols_4 x1 x2 x3 x4 x5 x6 x7 x8 r l (x 1) (by omega)).symm
  · exact (WIn.cols_3 x1 x2 x3 x4 x5 x6 x7 x8 r l (x 1) (by omega)).symm
  · exact (WIn.cols_2 x1 x2 x3 x4 x5 x6 x7 x8 r l (x 1) (by omega)).symm
  · exact (WIn.cols_1 x1 x2 x3 x4 x5 x6 x7 x8 r l (x 1) (by omega)).symm

/-- A store of one of the two rows is read back there, -/
theorem row_same (o : ℕ) (a : Fin 2) (ha : a.val = o) (inb : ∀ n : Fin 2, (![o, 0] : Fin 2 → ℕ) n + (![1, 1024] : Fin 2 → ℕ) n ≤ S2x1024.size n)
    (v : FVec Ideal S1x1024 .f32) (L : List (View.Piece (Elt Ideal) S2x1024 .f32)) (k : Fin 1024) :
    View.canon ((⟨Rect.unit ![o, 0] ![1, 1024] inb, v⟩ : View.Piece (Elt Ideal) S2x1024 .f32) :: L) (ix2 a k) = v (ix2 0 k) := by
  have h : (ix2 a k : S2x1024.Idx) = (Rect.unit (s := S2x1024) ![o, 0] ![1, 1024] inb).emb (ix2 0 k) :=
    funext fun n => Fin.ext (by rw [Rect.emb_apply]; fin_cases n <;> simp [ha])
  rw [h]
  exact View.canon_cons_emb (Rect.unit (s := S2x1024) ![o, 0] ![1, 1024] inb) v L _

/-- and leaves the other row. -/
theorem row_other (o : ℕ) (a : Fin 2) (ha : a.val ≠ o) (inb : ∀ n : Fin 2, (![o, 0] : Fin 2 → ℕ) n + (![1, 1024] : Fin 2 → ℕ) n ≤ S2x1024.size n)
    (v : FVec Ideal S1x1024 .f32) (L : List (View.Piece (Elt Ideal) S2x1024 .f32)) (k : Fin 1024) :
    View.canon ((⟨Rect.unit ![o, 0] ![1, 1024] inb, v⟩ : View.Piece (Elt Ideal) S2x1024 .f32) :: L) (ix2 a k) = View.canon L (ix2 a k) := by
  refine View.canon_cons_of_not_mem _ _ ?_
  rw [Rect.mem_set_unit]
  intro h
  have h0 := h 0
  have : o ≤ a.val ∧ a.val < o + 1 := h0
  omega

/-- A read of one of the two rows, after stores. -/
theorem row_read {sp : Space} (v : View sig .tc sp S2x1024 .f32) (o : ℕ) (a : Fin 2) (ha : a.val = o) (inb : ∀ n : Fin 2, (![o, 0] : Fin 2 → ℕ) n + (![1, 1024] : Fin 2 → ℕ) n ≤ S2x1024.size n)
    (L : List (View.Piece (Elt Ideal) S2x1024 .f32)) (k : Fin 1024) :
    v.readCov L (Rect.unit (s := S2x1024) ![o, 0] ![1, 1024] inb).toLoadRect (ix2 0 k) = View.canon L (ix2 a k) := by
  rw [View.readCov_eq_canon']
  refine congrArg (View.canon L) (funext fun n => Fin.ext ?_)
  fin_cases n <;> simp [ha]

/-- The second result begins at zero, -/
theorem start14 (a : Fin 2) (k : Fin 1024) :
    View.canon [(⟨Rect.unit ![0, 0] ![2, 1024] inb_S2x1024_S2x1024_0_0, k0_pay2 (F := Ideal)⟩ : View.Piece (Elt Ideal) S2x1024 .f32)] (ix2 a k) = (0 : EReal) := by
  have h : (ix2 a k : S2x1024.Idx) = (Rect.unit (s := S2x1024) ![0, 0] ![2, 1024] inb_S2x1024_S2x1024_0_0).emb (ix2 a k) :=
    funext fun n => Fin.ext (by rw [Rect.emb_apply]; fin_cases n <;> simp)
  refine (congrArg _ h).trans ((View.canon_cons_emb (Rect.unit (s := S2x1024) ![0, 0] ![2, 1024] inb_S2x1024_S2x1024_0_0) _ [] _).trans ?_)
  pointwise [k0_pay2]

/-- the third result's as well. -/
theorem start15 (k : Fin 1024) : k0_pay3 (F := Ideal) (ix2 0 k) = (0 : EReal) := by
  pointwise [k0_pay3]

variable (m : (ℓ : Loc nD τ sig) → Buf (Elt Ideal) ℓ)

/-- The gain in the kernel's layout. -/
theorem gain (c : Dev nD) (k : Fin 1024) : (V m c main_v0 : S1x1024.Idx → EReal) (ix2 0 k) = (m ((c.tc : Thread nD τ).loc main_arg1) : S1024.Idx → EReal) (ix1 k) := by
  unfold V
  unfold hostOps0
  after_results_simp
  pointwise

/-- The layer's input, -/
abbrev argX (c : Dev nD) : S8192x1024.Idx → EReal := m ((c.tc : Thread nD τ).loc main_arg0)
/-- the gain, -/
abbrev argG (c : Dev nD) : S1024.Idx → EReal := m ((c.tc : Thread nD τ).loc main_arg1)
/-- the modulation, -/
abbrev argM (c : Dev nD) : S3x1024.Idx → EReal := m ((c.tc : Thread nD τ).loc main_arg2)
/-- the weight, -/
abbrev argW (c : Dev nD) : S1024x2560.Idx → EReal := m ((c.tc : Thread nD τ).loc main_arg3)
/-- the residual's cotangent, -/
abbrev argO (c : Dev nD) : S8192x1024.Idx → EReal := m ((c.tc : Thread nD τ).loc main_arg4)
/-- and the cotangent of the projection, its eight parts side by side. -/
abbrev argB (c : Dev nD) : Fin 8192 → Fin 2560 → EReal :=
  WIn.cols (m ((c.tc : Thread nD τ).loc main_arg5) : S8192x512.Idx → EReal) (m ((c.tc : Thread nD τ).loc main_arg6) : S8192x512.Idx → EReal)
    (m ((c.tc : Thread nD τ).loc main_arg7) : S8192x256.Idx → EReal) (m ((c.tc : Thread nD τ).loc main_arg8) : S8192x256.Idx → EReal)
    (m ((c.tc : Thread nD τ).loc main_arg9) : S8192x256.Idx → EReal) (m ((c.tc : Thread nD τ).loc main_arg10) : S8192x256.Idx → EReal)
    (m ((c.tc : Thread nD τ).loc main_arg11) : S8192x256.Idx → EReal) (m ((c.tc : Thread nD τ).loc main_arg12) : S8192x256.Idx → EReal)

/-- Where every window's block lies. -/
theorem idxs (t : Fin cfg0.N) : win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![0, 0] ∧ win0_11.index t = ![0, 0] ∧ win0_12.index t = ![0, 0] ∧ win0_13.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![0, 0] ∧ win0_11.index t = ![0, 0] ∧ win0_12.index t = ![0, 0] ∧ win0_13.index t = ![t.val, 0]) t

/-- A block's row among all rows. -/
def row (t : Fin cfg0.N) (r : Fin 512) : Fin 8192 := ⟨t.val * 512 + r.val, by have h := t.isLt; have hN : cfg0.N = 16 := N_0; have hr := r.isLt; omega⟩

section Half

variable (c : Dev nD) (t : Fin cfg0.N) (o : ℕ) (r : Fin 256) (ρ : Fin 512) (hρ : ρ.val = o + r.val)

include hρ

/-- Half a block's row of the layer's input, -/
theorem half_x (inb : ∀ n : Fin 2, (![o, 0] : Fin 2 → ℕ) n + (![256, 1024] : Fin 2 → ℕ) n ≤ S512x1024.size n) (k : Fin 1024) :
    (View.ld (iblk m c 0 t : S512x1024.Idx → EReal) (Rect.unit (s := S512x1024) ![o, 0] ![256, 1024] inb) : S256x1024.Idx → EReal) (ix2 r k) = argX m c (ix2 (row t ρ) k) := by
  have h : (Rect.unit (s := S512x1024) ![o, 0] ![256, 1024] inb).idx (ix2 r k) = (ix2 ρ k : S512x1024.Idx) :=
    funext fun n => Fin.ext (by fin_cases n <;> simp [hρ])
  obtain ⟨i0, -⟩ := idxs t
  refine Eq.trans (congrArg (iblk m c 0 t : S512x1024.Idx → EReal) h) ?_
  blk_ext [iblk, V, i0, row]

/-- of the residual's cotangent, -/
theorem half_o (inb : ∀ n : Fin 2, (![o, 0] : Fin 2 → ℕ) n + (![256, 1024] : Fin 2 → ℕ) n ≤ S512x1024.size n) (k : Fin 1024) :
    (View.ld (iblk m c 1 t : S512x1024.Idx → EReal) (Rect.unit (s := S512x1024) ![o, 0] ![256, 1024] inb) : S256x1024.Idx → EReal) (ix2 r k) = argO m c (ix2 (row t ρ) k) := by
  have h : (Rect.unit (s := S512x1024) ![o, 0] ![256, 1024] inb).idx (ix2 r k) = (ix2 ρ k : S512x1024.Idx) :=
    funext fun n => Fin.ext (by fin_cases n <;> simp [hρ])
  obtain ⟨-, i1, -⟩ := idxs t
  refine Eq.trans (congrArg (iblk m c 1 t : S512x1024.Idx → EReal) h) ?_
  blk_ext [iblk, V, i1, row]

/-- and of the cotangent of the layer's input, from the scratch. -/
theorem half_dh (inb : ∀ n : Fin 2, (![o, 0] : Fin 2 → ℕ) n + (![256, 2560] : Fin 2 → ℕ) n ≤ S512x2560.size n) (k : Fin 1024) :
    (k0_pay14 (F := Ideal) ((View.whole cc0_scratch0).readCov
      (pieces (iblk m c 2 t) (iblk m c 3 t) (iblk m c 4 t) (iblk m c 5 t) (iblk m c 6 t) (iblk m c 7 t) (iblk m c 8 t) (iblk m c 9 t))
      (Rect.unit (s := S512x2560) ![o, 0] ![256, 2560] inb).toLoadRect) (iblk m c 12 t) (ix2 r k) : EReal) = dh (argB m c) (argW m c) (row t ρ) k := by
  refine (dh_val _ _ r k).trans ?_
  obtain ⟨i0, i1, i2, i3, i4, i5, i6, i7, i8, i9, i10, i11, i12, i13⟩ := idxs t
  refine Finset.sum_congr rfl fun l _ => congrArg₂ (· * ·) ?_ ?_
  · rw [View.readCov_eq_canon']
    refine (scratch_val _ _ _ _ _ _ _ _ ρ l _ (by simp [hρ]) (by simp)).trans ?_
    refine WIn.cols_congr _ _ _ _ _ _ _ _ _ _ _ _ _ _ _ _ _ _ _ (fun i => ?_) (fun i => ?_) (fun i => ?_) (fun i => ?_) (fun i => ?_) (fun i => ?_) (fun i => ?_) (fun i => ?_)
    · blk_ext [iblk, V, i2, row]
    · blk_ext [iblk, V, i3, row]
    · blk_ext [iblk, V, i4, row]
    · blk_ext [iblk, V, i5, row]
    · blk_ext [iblk, V, i6, row]
    · blk_ext [iblk, V, i7, row]
    · blk_ext [iblk, V, i8, row]
    · blk_ext [iblk, V, i9, row]
  · blk_ext [iblk, V, i12]

end Half

/-- The gain at every grid point, -/
theorem blk_g (c : Dev nD) (t : Fin cfg0.N) (k : Fin 1024) : (iblk m c 10 t : S1x1024.Idx → EReal) (ix2 0 k) = argG m c (ix1 k) := by
  have i10 := (idxs t).2.2.2.2.2.2.2.2.2.2.1
  refine Eq.trans ?_ (gain m c k)
  blk_ext [iblk, i10]

/-- and one more than the scale. -/
theorem blk_s (c : Dev nD) (t : Fin cfg0.N) (k : Fin 1024) :
    (k0_pay13 (F := Ideal) (View.ld (iblk m c 11 t) (Rect.unit ![1, 0] ![1, 1024] inb_S3x1024_S1x1024_1_0)) (ix2 0 k) : EReal) = one + argM m c (ix2 1 k) := by
  have i11 := (idxs t).2.2.2.2.2.2.2.2.2.2.2.1
  have h : (Rect.unit (s := S3x1024) ![1, 0] ![1, 1024] inb_S3x1024_S1x1024_1_0).idx (ix2 0 k) = (ix2 1 k : S3x1024.Idx) :=
    funext fun n => Fin.ext (by fin_cases n <;> simp)
  have e : (View.ld (iblk m c 11 t : S3x1024.Idx → EReal) (Rect.unit (s := S3x1024) ![1, 0] ![1, 1024] inb_S3x1024_S1x1024_1_0) : S1x1024.Idx → EReal) (ix2 0 k) = argM m c (ix2 1 k) := by
    refine Eq.trans (congrArg (iblk m c 11 t : S3x1024.Idx → EReal) h) ?_
    blk_ext [iblk, V, i11]
  rw [← e]
  generalize (View.ld (iblk m c 11 t : S3x1024.Idx → EReal) (Rect.unit (s := S3x1024) ![1, 0] ![1, 1024] inb_S3x1024_S1x1024_1_0) : S1x1024.Idx → EReal) = v
  pointwise [k0_pay13]

/-- The gain's cast to its own shape is the gain. -/
theorem pay12_eq (g : FVec Ideal S1x1024 .f32) : k0_pay12 g = g := shapeCast_self _ _

/-- Half a block's cotangent of the layer's input, -/
abbrev halfD (c : Dev nD) (t : Fin cfg0.N) (o : ℕ) (inb : ∀ n : Fin 2, (![o, 0] : Fin 2 → ℕ) n + (![256, 2560] : Fin 2 → ℕ) n ≤ S512x2560.size n) : FVec Ideal S256x1024 .f32 :=
  k0_pay14 (F := Ideal) ((View.whole cc0_scratch0).readCov
    (pieces (iblk m c 2 t) (iblk m c 3 t) (iblk m c 4 t) (iblk m c 5 t) (iblk m c 6 t) (iblk m c 7 t) (iblk m c 8 t) (iblk m c 9 t))
    (Rect.unit (s := S512x2560) ![o, 0] ![256, 2560] inb).toLoadRect) (iblk m c 12 t)
/-- the layer's input there, -/
abbrev halfX (c : Dev nD) (t : Fin cfg0.N) (o : ℕ) (inb : ∀ n : Fin 2, (![o, 0] : Fin 2 → ℕ) n + (![256, 1024] : Fin 2 → ℕ) n ≤ S512x1024.size n) : FVec Ideal S256x1024 .f32 :=
  View.ld (iblk m c 0 t) (Rect.unit (s := S512x1024) ![o, 0] ![256, 1024] inb)
/-- and one more than the scale. -/
abbrev onePlus (c : Dev nD) (t : Fin cfg0.N) : FVec Ideal S1x1024 .f32 :=
  k0_pay13 (F := Ideal) (View.ld (iblk m c 11 t) (Rect.unit ![1, 0] ![1, 1024] inb_S3x1024_S1x1024_1_0))

section Step

variable (c : Dev nD) (t : Fin cfg0.N) (o : ℕ) (ρ : Fin 256 → Fin 512) (hρ : ∀ r, (ρ r).val = o + r.val)
  (inb : ∀ n : Fin 2, (![o, 0] : Fin 2 → ℕ) n + (![256, 2560] : Fin 2 → ℕ) n ≤ S512x2560.size n)
  (inb' : ∀ n : Fin 2, (![o, 0] : Fin 2 → ℕ) n + (![256, 1024] : Fin 2 → ℕ) n ≤ S512x1024.size n)

include hρ

/-- Half a block adds its rows' parts of the shift's gradient, -/
theorem half_shift (acc : FVec Ideal S1x1024 .f32) (k : Fin 1024) :
    k0_pay19 (halfD m c t o inb) (k0_pay18 acc) (ix2 0 k) = acc (ix2 0 k) + ∑ r : Fin 256, dmodRow (argX m c) (argG m c) (argW m c) (argB m c) 0 k (row t (ρ r)) :=
  (shift_val _ _ k).trans (congrArg _ (Finset.sum_congr rfl fun r _ => half_dh m c t o r (ρ r) (hρ r) inb k))

/-- of the scale's, -/
theorem half_scale (acc : FVec Ideal S1x1024 .f32) (k : Fin 1024) :
    k0_pay20 (halfD m c t o inb) (k0_pay17 (iblk m c 10 t) (halfX m c t o inb')) acc (ix2 0 k) =
      acc (ix2 0 k) + ∑ r : Fin 256, dmodRow (argX m c) (argG m c) (argW m c) (argB m c) 1 k (row t (ρ r)) := by
  refine (scale_val _ _ _ _ k).trans (congrArg _ (Finset.sum_congr rfl fun r _ => ?_))
  exact congrArg₂ (· * ·) (half_dh m c t o r (ρ r) (hρ r) inb k) (congrArg₂ (· * ·) (congrArg₂ (· * ·) (half_x m c t o r (ρ r) (hρ r) inb' k)
    (congrArg Layer.rstd (funext fun j => half_x m c t o r (ρ r) (hρ r) inb' j))) (blk_g m c t k))

/-- and of the gain's. -/
theorem half_gain (acc : FVec Ideal S1x1024 .f32) (k : Fin 1024) :
    k0_pay22 (onePlus m c t) (halfD m c t o inb) (k0_pay16 (halfX m c t o inb')) acc (ix2 0 k) =
      acc (ix2 0 k) + ∑ r : Fin 256, dgRow (argX m c) (argM m c) (argW m c) (argB m c) k (row t (ρ r)) := by
  refine (gain_val _ _ _ _ k).trans (congrArg _ (Finset.sum_congr rfl fun r _ => ?_))
  exact congrArg₂ (· * ·) (congrArg₂ (· * ·) (half_dh m c t o r (ρ r) (hρ r) inb k) (blk_s m c t k)) (congrArg₂ (· * ·) (half_x m c t o r (ρ r) (hρ r) inb' k)
    (congrArg Layer.rstd (funext fun j => half_x m c t o r (ρ r) (hρ r) inb' j)))

/-- Its rows of the first result. -/
theorem half_dx (r : Fin 256) (k : Fin 1024) :
    k0_pay23 (k0_pay12 (iblk m c 10 t)) (onePlus m c t) (halfD m c t o inb) (k0_pay15 (halfX m c t o inb')) (k0_pay16 (halfX m c t o inb'))
      (View.ld (iblk m c 1 t) (Rect.unit (s := S512x1024) ![o, 0] ![256, 1024] inb')) (ix2 r k) =
      dx (argX m c) (argG m c) (argM m c) (argW m c) (argO m c) (argB m c) (ix2 (row t (ρ r)) k) := by
  refine (dx_val _ _ _ _ _ r k).trans ((Layer.gradMean_eq _ _ _ _).trans ?_)
  have e0 : (fun k => halfX m c t o inb' (ix2 r k)) = fun k => argX m c (ix2 (row t (ρ r)) k) := funext fun j => half_x m c t o r (ρ r) (hρ r) inb' j
  have e1 : (fun k => halfD m c t o inb (ix2 r k) * onePlus m c t (ix2 0 k) * k0_pay12 (F := Ideal) (iblk m c 10 t) (ix2 0 k)) =
      fun k => dh (argB m c) (argW m c) (row t (ρ r)) k * (one + argM m c (ix2 1 k)) * argG m c (ix1 k) := funext fun j =>
    congrArg₂ (· * ·) (congrArg₂ (· * ·) (half_dh m c t o r (ρ r) (hρ r) inb j) (blk_s m c t j)) ((congrFun (pay12_eq _) _).trans (blk_g m c t j))
  have e2 := half_o m c t o r (ρ r) (hρ r) inb' k
  exact (congrArg₂ (fun x d => Layer.gradChain x d _ k) e0 e1).trans (congrArg (fun o => Layer.gradChain _ _ o k) e2)

end Step

/-- The rows of a block's first half, -/
def lo (r : Fin 256) : Fin 512 := ⟨r.val, by omega⟩
/-- the second. -/
def hi (r : Fin 256) : Fin 512 := ⟨256 + r.val, by omega⟩
/-- A row of the first half in the block, -/
theorem lo_val (r : Fin 256) : (lo r).val = 0 + r.val := (zero_add _).symm
/-- and of the second. -/
theorem hi_val (r : Fin 256) : (hi r).val = 256 + r.val := rfl

/-- A sum over the block is that of its halves. -/
theorem sum_halves (f : Fin 512 → EReal) (acc : EReal) : acc + ∑ r : Fin 256, f (lo r) + ∑ r : Fin 256, f (hi r) = acc + ∑ r : Fin 512, f r :=
  (add_assoc _ _ _).trans (congrArg _ (Fin.sum_univ_add (a := 256) (b := 256) (f : Fin (256 + 256) → EReal)).symm)

/-- The second half's arithmetic is the first's: the shift, -/
theorem pay27_eq (b : FVec Ideal S256x2560 .bf16) (w : FVec Ideal S1024x2560 .bf16) (acc : FVec Ideal S1x1024 .f32) : k0_pay27 (F := Ideal) b w acc = k0_pay19 (F := Ideal) (k0_pay14 (F := Ideal) b w) (k0_pay18 (F := Ideal) acc) := rfl
/-- the scale, -/
theorem pay28_eq (g : FVec Ideal S1x1024 .f32) (b : FVec Ideal S256x2560 .bf16) (w : FVec Ideal S1024x2560 .bf16) (x : FVec Ideal S256x1024 .f32) (acc : FVec Ideal S1x1024 .f32) :
    k0_pay28 (F := Ideal) (k0_pay12 (F := Ideal) g) b w x acc = k0_pay20 (F := Ideal) (k0_pay14 (F := Ideal) b w) (k0_pay17 (F := Ideal) g x) acc := rfl
/-- the gain, -/
theorem pay30_eq (s : FVec Ideal S1x1024 .f32) (b : FVec Ideal S256x2560 .bf16) (w : FVec Ideal S1024x2560 .bf16) (x : FVec Ideal S256x1024 .f32) (acc : FVec Ideal S1x1024 .f32) :
    k0_pay30 (F := Ideal) s b w x acc = k0_pay22 (F := Ideal) s (k0_pay14 (F := Ideal) b w) (k0_pay16 (F := Ideal) x) acc := rfl
/-- and the first result. -/
theorem pay1_eq (g s : FVec Ideal S1x1024 .f32) (b : FVec Ideal S256x2560 .bf16) (w : FVec Ideal S1024x2560 .bf16) (x o : FVec Ideal S256x1024 .f32) :
    k0_pay1 (F := Ideal) g (k0_pay25 (F := Ideal) x) (k0_pay26 (F := Ideal) x) (k0_pay29 (F := Ideal) s b w) o =
      k0_pay23 (F := Ideal) g s (k0_pay14 (F := Ideal) b w) (k0_pay15 (F := Ideal) x) (k0_pay16 (F := Ideal) x) o := rfl

/-- What the third result's block is after the first grid point, -/
theorem at15_A (c : Dev nD) (t : Fin cfg0.N) (h0 : t.val % 16 = 0) (k : Fin 1024) :
    (outsAt0 m c t.val t.isLt).2.2 (ix2 0 k) = (0 : EReal) + ∑ r : Fin 512, dgRow (argX m c) (argM m c) (argW m c) (argB m c) k (row t r) := by
  rw [outsAt0_A m c t h0]
  frame_out
  rw [pay30_eq, ← sum_halves]
  refine (half_gain m c t 256 hi hi_val _ _ _ k).trans (congrArg (· + _) ?_)
  exact (half_gain m c t 0 lo lo_val _ _ _ k).trans (congrArg (· + _) (start15 k))

/-- and after every later one. -/
theorem at15_B (c : Dev nD) (t : Fin cfg0.N) (h0 : ¬ t.val % 16 = 0) (k : Fin 1024) :
    (outsAt0 m c t.val t.isLt).2.2 (ix2 0 k) = ((outsAt0 m c (t.val - 1) (Nat.lt_of_le_of_lt (Nat.sub_le _ _) t.isLt)).2.2 (ix2 0 k) : EReal)
      + ∑ r : Fin 512, dgRow (argX m c) (argM m c) (argW m c) (argB m c) k (row t r) := by
  rw [outsAt0_B m c t h0]
  frame_out
  rw [pay30_eq, ← sum_halves]
  refine (half_gain m c t 256 hi hi_val _ _ _ k).trans (congrArg (· + _) ?_)
  exact half_gain m c t 0 lo lo_val _ _ _ k

/-- What the second result's rows are after the first grid point, -/
theorem at14_A (c : Dev nD) (t : Fin cfg0.N) (h0 : t.val % 16 = 0) (a : Fin 2) (k : Fin 1024) :
    (outsAt0 m c t.val t.isLt).2.1 (ix2 a k) = (0 : EReal) + ∑ r : Fin 512, dmodRow (argX m c) (argG m c) (argW m c) (argB m c) a k (row t r) := by
  rw [outsAt0_A m c t h0]
  frame_out
  rw [← sum_halves]
  fin_cases a
  · refine (row_other 1 0 (by decide) _ _ _ k).trans ((row_same 0 0 rfl _ _ _ k).trans ?_)
    rw [pay27_eq]
    refine (half_shift m c t 256 hi hi_val _ _ k).trans (congrArg (· + _) ?_)
    refine (row_read _ 0 0 rfl _ _ k).trans ((row_other 1 0 (by decide) _ _ _ k).trans ((row_same 0 0 rfl _ _ _ k).trans ?_))
    refine (half_shift m c t 0 lo lo_val _ _ k).trans (congrArg (· + _) ?_)
    exact (row_read _ 0 0 rfl _ _ k).trans (start14 0 k)
  · refine (row_same 1 1 rfl _ _ _ k).trans ?_
    rw [pay28_eq]
    refine (half_scale m c t 256 hi hi_val _ _ _ k).trans (congrArg (· + _) ?_)
    refine (row_read _ 1 1 rfl _ _ k).trans ((row_other 0 1 (by decide) _ _ _ k).trans ((row_same 1 1 rfl _ _ _ k).trans ?_))
    refine (half_scale m c t 0 lo lo_val _ _ _ k).trans (congrArg (· + _) ?_)
    exact (row_read _ 1 1 rfl _ _ k).trans ((row_other 0 1 (by decide) _ _ _ k).trans (start14 1 k))

/-- A read of one of the two rows of what was there before. -/
theorem row_ld (x : FVec Ideal S2x1024 .f32) (o : ℕ) (a : Fin 2) (ha : a.val = o) (inb : ∀ n : Fin 2, (![o, 0] : Fin 2 → ℕ) n + (![1, 1024] : Fin 2 → ℕ) n ≤ S2x1024.size n) (k : Fin 1024) :
    (View.ld (Val := Elt Ideal) (e' := .f32) x (Rect.unit (s := S2x1024) ![o, 0] ![1, 1024] inb) : FVec Ideal S1x1024 .f32) (ix2 0 k) = x (ix2 a k) :=
  congrArg x (funext fun n => Fin.ext (by fin_cases n <;> simp [ha]))

/-- What the second result's rows are after every later point. -/
theorem at14_B (c : Dev nD) (t : Fin cfg0.N) (h0 : ¬ t.val % 16 = 0) (a : Fin 2) (k : Fin 1024) :
    (outsAt0 m c t.val t.isLt).2.1 (ix2 a k) = ((outsAt0 m c (t.val - 1) (Nat.lt_of_le_of_lt (Nat.sub_le _ _) t.isLt)).2.1 (ix2 a k) : EReal)
      + ∑ r : Fin 512, dmodRow (argX m c) (argG m c) (argW m c) (argB m c) a k (row t r) := by
  rw [outsAt0_B m c t h0]
  frame_out
  rw [← sum_halves]
  fin_cases a
  · refine (row_other 1 0 (by decide) _ _ _ k).trans ((row_same 0 0 rfl _ _ _ k).trans ?_)
    rw [pay27_eq]
    refine (half_shift m c t 256 hi hi_val _ _ k).trans (congrArg (· + _) ?_)
    refine (row_read _ 0 0 rfl _ _ k).trans ((row_other 1 0 (by decide) _ _ _ k).trans ((row_same 0 0 rfl _ _ _ k).trans ?_))
    refine (half_shift m c t 0 lo lo_val _ _ k).trans (congrArg (· + _) ?_)
    exact row_ld _ 0 0 rfl _ k
  · refine (row_same 1 1 rfl _ _ _ k).trans ?_
    rw [pay28_eq]
    refine (half_scale m c t 256 hi hi_val _ _ _ k).trans (congrArg (· + _) ?_)
    refine (row_read _ 1 1 rfl _ _ k).trans ((row_other 0 1 (by decide) _ _ _ k).trans ((row_same 1 1 rfl _ _ _ k).trans ?_))
    refine (half_scale m c t 0 lo lo_val _ _ _ k).trans (congrArg (· + _) ?_)
    exact row_ld _ 1 1 rfl _ k

/-- Two halves side by side. -/
theorem halves_val (v1 v0 : FVec Ideal S256x1024 .f32) (f : Fin 512 → EReal) (k : Fin 1024) (h1 : ∀ r, v1 (ix2 r k) = f (hi r)) (h0 : ∀ r, v0 (ix2 r k) = f (lo r)) (r : Fin 512) :
    View.canon [(⟨Rect.unit ![256, 0] ![256, 1024] inb_S512x1024_S256x1024_256_0, v1⟩ : View.Piece (Elt Ideal) S512x1024 .f32),
      ⟨Rect.unit ![0, 0] ![256, 1024] inb_S512x1024_S256x1024_0_0, v0⟩] (ix2 r k) = f r := by
  canon_tiles x h
  all_goals
    have hx : x = ix2 (x 0) k := funext fun n => Fin.ext (by fin_cases n; rfl; exact h1.symm)
    rw [hx]
  · refine (‹∀ r, v1 (ix2 r k) = f (hi r)› (x 0)).trans (congrArg f (Fin.ext h0.symm))
  · refine (‹∀ r, v0 (ix2 r k) = f (lo r)› (x 0)).trans (congrArg f (Fin.ext h0.symm))

/-- The first result's block at every grid point. -/
theorem at13 (c : Dev nD) (t : Fin cfg0.N) (r : Fin 512) (k : Fin 1024) :
    (outsAt0 m c t.val t.isLt).1 (ix2 r k) = (dx (argX m c) (argG m c) (argM m c) (argW m c) (argO m c) (argB m c) (ix2 (row t r) k) : EReal) := by
  by_cases h0 : t.val % 16 = 0
  · rw [outsAt0_A m c t h0]
    frame_out
    rw [pay1_eq]
    exact halves_val _ _ (fun r => dx (argX m c) (argG m c) (argM m c) (argW m c) (argO m c) (argB m c) (ix2 (row t r) k)) k
      (fun r => half_dx m c t 256 hi hi_val _ _ r k) (fun r => half_dx m c t 0 lo lo_val _ _ r k) r
  · rw [outsAt0_B m c t h0]
    frame_out
    rw [pay1_eq]
    exact halves_val _ _ (fun r => dx (argX m c) (argG m c) (argM m c) (argW m c) (argO m c) (argB m c) (ix2 (row t r) k)) k
      (fun r => half_dx m c t 256 hi hi_val _ _ r k) (fun r => half_dx m c t 0 lo lo_val _ _ r k) r

/-- The first result after a run of the kernel's program. -/
theorem final13 (c : Dev nD) : (dats m 0 c).arrAt 13 cfg0.N = dx (argX m c) (argG m c) (argM m c) (argW m c) (argO m c) (argB m c) := by
  refine (dats m 0 c).arrAt_eq_of_covers 13 _ (by decide +kernel) fun t hf y => ?_
  have y0 : (y 0).val < 512 := (y 0).isLt
  have y1 : (y 1).val < 1024 := (y 1).isLt
  have i13 := (idxs t).2.2.2.2.2.2.2.2.2.2.2.2.2
  have e0 : (((win0_13.blk t).view.emb y) 0 : ℕ) = t.val * 512 + (y 0).val := by blk_simp [i13]
  have e1 : (((win0_13.blk t).view.emb y) 1 : ℕ) = (y 1).val := by blk_simp [i13]; try omega
  blk_simp [i13]
  rw [after0_13]
  have hy : (y : S512x1024.Idx) = ix2 (y 0) (y 1) := funext fun n => by fin_cases n <;> rfl
  have hR : ((win0_13.blk t).view.emb y : S8192x1024.Idx) = ix2 (row t (y 0)) (y 1) := funext fun n => Fin.ext (by fin_cases n; exact e0; exact e1)
  refine ((congrArg _ hy).trans (at13 m c t (y 0) (y 1))).trans ?_
  exact congrArg (dx (argX m c) (argG m c) (argM m c) (argW m c) (argO m c) (argB m c)) hR.symm

/-- What the accumulated results hold after the last grid point. -/
theorem last14 (c : Dev nD) (t : Fin cfg0.N) (ht : t.val + 1 = cfg0.N) (a : Fin 2) (k : Fin 1024) :
    (outsAt0 m c t.val t.isLt).2.1 (ix2 a k) = (dmod (argX m c) (argG m c) (argW m c) (argB m c) (ix2 a k) : EReal) := by
  have hN : cfg0.N = 16 := N_0
  refine (Pipeline.eq_sum_fin_of_reset_step_apply_last (M := EReal) (fun n h (i : Fin 2 × Fin 1024) => (outsAt0 m c n h).2.1 (ix2 i.1 i.2)) 16 (fun _ => 0)
    (fun t i => ∑ r : Fin 512, dmodRow (argX m c) (argG m c) (argW m c) (argB m c) i.1 i.2 (row t r)) (fun t h0 i => at14_A m c t h0 i.1 i.2)
    (fun t h0 i => at14_B m c t h0 i.1 i.2) hN.le t ht (a, k)).trans ?_
  rw [zero_add]
  exact Fin.sum_mul_add_congr fun t r hl => congrArg _ (Fin.ext rfl)

/-- The same of the third result. -/
theorem last15 (c : Dev nD) (t : Fin cfg0.N) (ht : t.val + 1 = cfg0.N) (k : Fin 1024) :
    (outsAt0 m c t.val t.isLt).2.2 (ix2 0 k) = (dg (argX m c) (argM m c) (argW m c) (argB m c) (ix2 0 k) : EReal) := by
  have hN : cfg0.N = 16 := N_0
  refine (Pipeline.eq_sum_fin_of_reset_step_apply_last (M := EReal) (fun n h (k : Fin 1024) => (outsAt0 m c n h).2.2 (ix2 0 k)) 16 (fun _ => 0)
    (fun t k => ∑ r : Fin 512, dgRow (argX m c) (argM m c) (argW m c) (argB m c) k (row t r)) (fun t h0 k => at15_A m c t h0 k)
    (fun t h0 k => at15_B m c t h0 k) hN.le t ht k).trans ?_
  rw [zero_add]
  exact Fin.sum_mul_add_congr fun t r hl => congrArg _ (Fin.ext rfl)

/-- The second result after a run of the kernel's program, -/
theorem final14 (c : Dev nD) : (dats m 0 c).arrAt 14 cfg0.N = dmod (argX m c) (argG m c) (argW m c) (argB m c) := by
  refine (dats m 0 c).arrAt_eq_of_after_last 14 t0_15 (by decide +kernel) _ fun j => ?_
  show (dats m 0 c).after 14 t0_15 j = dmod (argX m c) (argG m c) (argW m c) (argB m c) j
  rw [after0_14]
  have hj : (j : S2x1024.Idx) = ix2 (j 0) (j 1) := funext fun i => by fin_cases i <;> rfl
  rw [hj]
  exact last14 m c t0_15 rfl _ _

/-- and the third. -/
theorem final15 (c : Dev nD) : (dats m 0 c).arrAt 15 cfg0.N = dg (argX m c) (argM m c) (argW m c) (argB m c) := by
  refine (dats m 0 c).arrAt_eq_of_after_last 15 t0_15 (by decide +kernel) _ fun j => ?_
  show (dats m 0 c).after 15 t0_15 j = dg (argX m c) (argM m c) (argW m c) (argB m c) j
  rw [after0_15]
  have hj : (j : S1x1024.Idx) = ix2 0 (j 1) := funext fun i => by fin_cases i; exact Subsingleton.elim (α := Fin 1) _ _; rfl
  rw [hj]
  exact last15 m c t0_15 rfl _

end Kernel

section Reference

open Cert.RefGradInIdeal Cert.RefGradInIdeal.Gen

variable (m : (ℓ : Loc nD τ sig) → Buf (Elt Ideal) ℓ) (c : Dev nD)

/-- The reference's input, -/
abbrev refX : FVec Ideal S8192x1024 .f32 := m ((c.tc : Thread nD τ).loc main_arg0)
/-- gain, -/
abbrev refG : FVec Ideal S1024 .f32 := m ((c.tc : Thread nD τ).loc main_arg1)
/-- modulation, -/
abbrev refM : FVec Ideal S3x1024 .f32 := m ((c.tc : Thread nD τ).loc main_arg2)
/-- weight, -/
abbrev refW : FVec Ideal S1024x2560 .bf16 := m ((c.tc : Thread nD τ).loc main_arg3)
/-- residual's cotangent, -/
abbrev refO : FVec Ideal S8192x1024 .f32 := m ((c.tc : Thread nD τ).loc main_arg4)
/-- the projection's cotangent as its lines put it together, -/
abbrev refS : FVec Ideal S8192x2560 .bf16 :=
  WIn.side (m ((c.tc : Thread nD τ).loc main_arg5)) (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11)) (m ((c.tc : Thread nD τ).loc main_arg12))
/-- and element by element. -/
abbrev refB : Fin 8192 → Fin 2560 → EReal :=
  WIn.cols (m ((c.tc : Thread nD τ).loc main_arg5)) (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11)) (m ((c.tc : Thread nD τ).loc main_arg12))

/-- The two agree. -/
theorem refS_eq : (fun r l => (refS m c (ix2 r l) : EReal)) = refB m c := funext fun r => funext fun l => WIn.side_val _ _ _ _ _ _ _ _ r l

/-- The reference's three results after its run. -/
theorem reference_run (g : Dev nD → PrngReg) : θ_run defs (onTc (τ := τ) (main (F := Ideal))) ⟨m, fun _ => 0, g⟩ fun r => ∀ c : Dev nD,
    r.2.mem ((c.tc : Thread nD τ).loc main_v63) = dx (refX m c) (refG m c) (refM m c) (refW m c) (refO m c) (refB m c)
    ∧ r.2.mem ((c.tc : Thread nD τ).loc main_v68) = dmod (refX m c) (refG m c) (refW m c) (refB m c)
    ∧ r.2.mem ((c.tc : Thread nD τ).loc main_v69) = dg (refX m c) (refM m c) (refW m c) (refB m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12) := by
  refine (θ_run defs _ _).mono (fun r h c => ?_) (Cert.RefGradInIdeal.Value.run (F := Ideal) m g)
  refine ⟨(h c).1.trans ?_, (h c).2.1.trans ?_, (h c).2.2.1.trans ?_, (h c).2.2.2⟩
  · unfold Cert.RefGradInIdeal.Value.res_main_v63
    exact (refDx_val (refX m c) (refG m c) (refM m c) (refW m c) (refO m c) (refS m c)).trans
      (congrArg (dx (refX m c) (refG m c) (refM m c) (refW m c) (refO m c)) (refS_eq m c))
  · exact (refDmod_val (refX m c) (refG m c) (refW m c) (refS m c)).trans (congrArg (dmod (refX m c) (refG m c) (refW m c)) (refS_eq m c))
  · exact (refDg_val (refX m c) (refM m c) (refW m c) (refS m c)).trans (congrArg (dg (refX m c) (refM m c) (refW m c)) (refS_eq m c))

end Reference

section Result

open Cert.GradInIdeal Cert.GradInIdeal.Gen Cert.GradInIdeal.Value

/-- The kernel's three results are the reference's, whatever the arguments. -/
theorem algebraic : Cert.algebraic_GradInIdeal_RefGradInIdeal (hGradInIdeal := Cert.GradInIdeal.Gen.facts) (hRefGradInIdeal := Cert.RefGradInIdeal.Gen.facts) := by
  intro m g m' g' _ hargs
  refine ⟨fun c => dx (argX m c) (argG m c) (argM m c) (argW m c) (argO m c) (argB m c), fun c => dmod (argX m c) (argG m c) (argW m c) (argB m c),
    fun c => dg (argX m c) (argM m c) (argW m c) (argB m c), ?_, ?_⟩
  · refine (θ_run Cert.GradInIdeal.defs _ _).mono (fun r h c => ?_) (run_blocks m g)
    exact ⟨(h c).1.trans (final13 m c), (h c).2.1.trans (final14 m c), (h c).2.2.1.trans (final15 m c), (h c).2.2.2⟩
  · refine (θ_run Cert.RefGradInIdeal.defs _ _).mono (fun r h c => ?_) (reference_run m' g')
    obtain ⟨e0, e1, e2, e3, e4, e5, e6, e7, e8, e9, e10, e11, e12⟩ := hargs c
    refine ⟨(h c).1.trans ?_, (h c).2.1.trans ?_, (h c).2.2.1.trans ?_, (h c).2.2.2⟩
    · unfold refX refG refM refW refO refB
      rw [e0, e1, e2, e3, e4, e5, e6, e7, e8, e9, e10, e11, e12]
    · unfold refX refG refW refB
      rw [e0, e1, e3, e5, e6, e7, e8, e9, e10, e11, e12]
    · unfold refX refM refW refB
      rw [e0, e2, e3, e5, e6, e7, e8, e9, e10, e11, e12]

end Result

end Cert.Proof.GradIn

end
-- ==== Proof.Layer.ProjOut.lean ====
/-
  The output projection: each block of 512 rows of the kernel's three results is the reference's rows.
-/
module

public import proofs.«01_k».proof.Defs
public import proofs.«01_k».proof.Proof.Gen.ProjOutIdeal.Value
public import proofs.«01_k».proof.Proof.Gen.RefProjOutIdeal.Run
public import proofs.«01_k».proof.Proof.Layer.Norm

@[expose] public section

set_option maxRecDepth 16384

noncomputable section

namespace Cert.Proof.ProjOut

open Idealize.ShloMosaic
open Idealize.ShloMosaic.TcCoe Idealize.ShloMosaic.Tactic
open Idealize.ShloMosaic.Pipeline (Dat Cfg Window)

/-- A gate's value. -/
def silu (g : EReal) : EReal := g * Ideal.div (Ideal.ofBits .f32 0x3F800000#32) (Ideal.ofBits .f32 0x3F800000#32 + Ideal.exp (-g))

/-- Three rows side by side. -/
def side (f : Fin 512 → EReal) (g h : Fin 256 → EReal) (k : Fin 1024) : EReal :=
  if h1 : k.val < 512 then f ⟨k.val, h1⟩ else if h2 : k.val - 512 < 256 then g ⟨k.val - 512, h2⟩ else h ⟨k.val - 512 - 256, by have := k.isLt; omega⟩

/-- The left, -/
theorem side_1 (f : Fin 512 → EReal) (g h : Fin 256 → EReal) (k : Fin 1024) (i : Fin 512) (e : k.val = i.val) : side f g h k = f i := by
  have hi := i.isLt
  unfold side
  rw [dif_pos (by omega)]
  exact congrArg f (Fin.ext e)

/-- the middle -/
theorem side_2 (f : Fin 512 → EReal) (g h : Fin 256 → EReal) (k : Fin 1024) (i : Fin 256) (e : k.val = 512 + i.val) : side f g h k = g i := by
  have hi := i.isLt
  unfold side
  rw [dif_neg (by omega), dif_pos (by omega)]
  exact congrArg g (Fin.ext (by show k.val - 512 = _; omega))

/-- and the right. -/
theorem side_3 (f : Fin 512 → EReal) (g h : Fin 256 → EReal) (k : Fin 1024) (i : Fin 256) (e : k.val = 768 + i.val) : side f g h k = h i := by
  have hi := i.isLt
  unfold side
  rw [dif_neg (by omega), dif_neg (by omega)]
  exact congrArg h (Fin.ext (by show k.val - 512 - 256 = _; omega))

/-- A product with them, in three sums. -/
theorem sum_side (f : Fin 512 → EReal) (g h : Fin 256 → EReal) (w : Fin 1024 → EReal) :
    ∑ k, side f g h k * w k = ∑ i, f i * w ⟨i.val, by omega⟩ + ∑ i, g i * w ⟨512 + i.val, by omega⟩ + ∑ i, h i * w ⟨768 + i.val, by omega⟩ := by
  rw [Fin.sum_univ_add (a := 768) (b := 256) (f := fun k : Fin (768 + 256) => side f g h k * w k),
    Fin.sum_univ_add (a := 512) (b := 256) (f := fun k : Fin (512 + 256) => side f g h (Fin.castAdd 256 k) * w (Fin.castAdd 256 k))]
  refine congrArg₂ (· + ·) (congrArg₂ (· + ·) (Finset.sum_congr rfl fun i _ => ?_) (Finset.sum_congr rfl fun i _ => ?_)) (Finset.sum_congr rfl fun i _ => ?_)
  · exact congrArg₂ (· * ·) (side_1 f g h _ i rfl) rfl
  · exact congrArg₂ (· * ·) (side_2 f g h _ i rfl) rfl
  · exact congrArg₂ (· * ·) (side_3 f g h _ i rfl) rfl

/-- One element of the layer's output: `x` its own, `y` the row of the projection, `g` the gain, `gate` the modulation's. -/
def gated (x : EReal) (y g gate : Fin 1024 → EReal) (k : Fin 1024) : EReal := x + gate k * (y k * Layer.rstd y * g k)

section Reference

open Cert.RefProjOutIdeal Cert.RefProjOutIdeal.Gen

/-- The gated branches side by side, on the whole arrays. -/
def cat (z : S8192x2560.Idx → EReal) (a : S8192x512.Idx → EReal) (b s : S8192x256.Idx → EReal) : S8192x1024.Idx → EReal := fun i =>
  side (fun j => a (ix2 (i 0) j) * silu (z (ix2 (i 0) ⟨512 + j.val, by omega⟩))) (fun j => b (ix2 (i 0) j) * silu (z (ix2 (i 0) ⟨1536 + j.val, by omega⟩)))
    (fun j => s (ix2 (i 0) j) * silu (z (ix2 (i 0) ⟨2304 + j.val, by omega⟩))) (i 1)

/-- Their projection. -/
def proj (h : S8192x1024.Idx → EReal) (w : S1024x1024.Idx → EReal) : S8192x1024.Idx → EReal := fun i => ∑ k : Fin 1024, h (ix2 (i 0) k) * w (ix2 k (i 1))

/-- The layer's output. -/
def out (x y : S8192x1024.Idx → EReal) (g : S1024.Idx → EReal) (mod : S3x1024.Idx → EReal) : S8192x1024.Idx → EReal := fun i =>
  gated (x i) (fun k => y (ix2 (i 0) k)) (fun k => g (ix1 k)) (fun k => mod (ix2 2 k)) (i 1)

/-- The reference's lines of a gated branch of 512 columns, -/
def refGate512 (y z : FVec Ideal S8192x512 .f32) : FVec Ideal S8192x512 .f32 :=
  mulf y (mulf z (Host.divf (broadcastInDim S8192x512 ![] bcast_S_S8192x512 (constant S_ .f32 0x3F800000#32)) (addf (broadcastInDim S8192x512 ![] bcast_S_S8192x512 (constant S_ .f32 0x3F800000#32)) (Host.exp (Host.negf z)))))

/-- and of one of 256. -/
def refGate256 (y z : FVec Ideal S8192x256 .f32) : FVec Ideal S8192x256 .f32 :=
  mulf y (mulf z (Host.divf (broadcastInDim S8192x256 ![] bcast_S_S8192x256 (constant S_ .f32 0x3F800000#32)) (addf (broadcastInDim S8192x256 ![] bcast_S_S8192x256 (constant S_ .f32 0x3F800000#32)) (Host.exp (Host.negf z)))))

/-- They are elementwise. -/
theorem refGate512_val (y z : FVec Ideal S8192x512 .f32) (r : Fin 8192) (j : Fin 512) : (refGate512 y z (ix2 r j) : EReal) = y (ix2 r j) * silu (z (ix2 r j)) := by
  pointwise [refGate512, silu]

theorem refGate256_val (y z : FVec Ideal S8192x256 .f32) (r : Fin 8192) (j : Fin 256) : (refGate256 y z (ix2 r j) : EReal) = y (ix2 r j) * silu (z (ix2 r j)) := by
  pointwise [refGate256, silu]

/-- Three branches side by side, in the reference's line. -/
def refSide (a : FVec Ideal S8192x512 .f32) (b s : FVec Ideal S8192x256 .f32) : FVec Ideal S8192x1024 .f32 :=
  (concatenate S8192x1024 1 [⟨S8192x512, a⟩, ⟨S8192x256, b⟩, ⟨S8192x256, s⟩] concatenates_S8192x512_S8192x256_S8192x256_S8192x1024_d1 : (⟨S8192x1024, .f32⟩ : BufTy).Contents (Elt Ideal))

theorem refSide_val (a : FVec Ideal S8192x512 .f32) (b s : FVec Ideal S8192x256 .f32) (r : Fin 8192) (k : Fin 1024) :
    (refSide a b s (ix2 r k) : EReal) = side (fun j => a (ix2 r j)) (fun j => b (ix2 r j)) (fun j => s (ix2 r j)) k := by
  pointwise [refSide, side]

/-- The reference's lines up to the projection. -/
def refCat (z : FVec Ideal S8192x2560 .bf16) (a : FVec Ideal S8192x512 .f32) (b s : FVec Ideal S8192x256 .f32) : FVec Ideal S8192x1024 .f32 :=
  refSide (refGate512 a (extractStridedSlice S8192x512 ![0, 512] (extf .f32 z bitsLt_bf16_f32) slices_S8192x2560_S8192x512_0_512))
    (refGate256 b (extractStridedSlice S8192x256 ![0, 1536] (extf .f32 z bitsLt_bf16_f32) slices_S8192x2560_S8192x256_0_1536))
    (refGate256 s (extractStridedSlice S8192x256 ![0, 2304] (extf .f32 z bitsLt_bf16_f32) slices_S8192x2560_S8192x256_0_2304))

/-- They give the gated branches side by side. -/
theorem refCat_val (z : FVec Ideal S8192x2560 .bf16) (a : FVec Ideal S8192x512 .f32) (b s : FVec Ideal S8192x256 .f32) : refCat z a b s = cat z a b s := by
  funext i
  have hi : i = ix2 (i 0) (i 1) := funext fun n => by fin_cases n <;> rfl
  rw [hi]
  unfold refCat
  refine (refSide_val _ _ _ (i 0) (i 1)).trans ?_
  unfold cat
  congr 1 <;> funext j
  · exact (refGate512_val _ _ (i 0) j).trans (congrArg (fun v => a (ix2 (i 0) j) * silu v) (by pointwise))
  · exact (refGate256_val _ _ (i 0) j).trans (congrArg (fun v => b (ix2 (i 0) j) * silu v) (by pointwise))
  · exact (refGate256_val _ _ (i 0) j).trans (congrArg (fun v => s (ix2 (i 0) j) * silu v) (by pointwise))

/-- The reference's product is the projection, -/
theorem refProj_val (h : FVec Ideal S8192x1024 .f32) (w : FVec Ideal S1024x1024 .bf16) :
    Host.dotGeneral dot_S8192x1024_S1024x1024_S8192x1024_1_0_0_1_n_n none h (extf .f32 w bitsLt_bf16_f32) = proj h w := by
  funext i
  have hi : i = ix2 (i 0) (i 1) := funext fun n => by fin_cases n <;> rfl
  rw [hi]
  pointwise [proj]

/-- and its lines of the output -/
def refOut (x y : FVec Ideal S8192x1024 .f32) (g : FVec Ideal S1024 .f32) (mod : FVec Ideal S3x1024 .f32) : FVec Ideal S8192x1024 .f32 :=
  addf x (mulf (broadcastInDim S8192x1024 ![0, 1] bcast_S1x1024_S8192x1024_0_1 (broadcastInDim S1x1024 ![1] bcast_S1024_S1x1024_1
      (shapeCast _ (extractStridedSlice S1x1024 ![2, 0] mod slices_S3x1024_S1x1024_2_0) shapeCasts_S1x1024_S1024)))
    (mulf (mulf y (broadcastInDim S8192x1024 ![0, 1] bcast_S8192x1_S8192x1024_0_1 (Host.rsqrt (addf (Host.divf (broadcastInDim S8192x1 ![0] bcast_S8192_S8192x1_0
        (Host.reduceAdd (mulf y y) (constant S_ .f32 0x00000000#32) reducesTo_S8192x1024_S8192_d1 h_S_)) (broadcastInDim S8192x1 ![] bcast_S_S8192x1 (constant S_ .f32 0x44800000#32)))
        (broadcastInDim S8192x1 ![] bcast_S_S8192x1 (constant S_ .f32 0x358637BD#32))))))
      (broadcastInDim S8192x1024 ![0, 1] bcast_S1x1024_S8192x1024_0_1 (broadcastInDim S1x1024 ![1] bcast_S1024_S1x1024_1 g))))

/-- give it. -/
theorem refOut_val (x y : FVec Ideal S8192x1024 .f32) (g : FVec Ideal S1024 .f32) (mod : FVec Ideal S3x1024 .f32) : refOut x y g mod = out x y g mod := by
  funext i
  have hi : i = ix2 (i 0) (i 1) := funext fun n => by fin_cases n <;> rfl
  rw [hi]
  pointwise [refOut, out, gated, Layer.rstd, Layer.den]

variable (m : (ℓ : Loc nD τ sig) → Buf (Elt Ideal) ℓ) (c : Dev nD)

/-- The layer's input, -/
abbrev refX : S8192x1024.Idx → EReal := m ((c.tc : Thread nD τ).loc main_arg0)
/-- its projection, whose columns hold the gates, -/
abbrev refZ : S8192x2560.Idx → EReal := m ((c.tc : Thread nD τ).loc main_arg1)
/-- the attention's branch, -/
abbrev refA : S8192x512.Idx → EReal := m ((c.tc : Thread nD τ).loc main_arg2)
/-- the convolution's, -/
abbrev refB : S8192x256.Idx → EReal := m ((c.tc : Thread nD τ).loc main_arg3)
/-- the gated unit's, -/
abbrev refS : S8192x256.Idx → EReal := m ((c.tc : Thread nD τ).loc main_arg4)
/-- the weight, -/
abbrev refW : S1024x1024.Idx → EReal := m ((c.tc : Thread nD τ).loc main_arg5)
/-- the gain, -/
abbrev refG : S1024.Idx → EReal := m ((c.tc : Thread nD τ).loc main_arg6)
/-- and the modulation. -/
abbrev refM : S3x1024.Idx → EReal := m ((c.tc : Thread nD τ).loc main_arg7)

/-- The reference's three results after its run. -/
theorem reference_run (g : Dev nD → PrngReg) : θ_run defs (onTc (τ := τ) (main (F := Ideal))) ⟨m, fun _ => 0, g⟩ fun r => ∀ c : Dev nD,
    r.2.mem ((c.tc : Thread nD τ).loc main_v31) = out (refX m c) (proj (cat (refZ m c) (refA m c) (refB m c) (refS m c)) (refW m c)) (refG m c) (refM m c)
    ∧ r.2.mem ((c.tc : Thread nD τ).loc main_v12) = proj (cat (refZ m c) (refA m c) (refB m c) (refS m c)) (refW m c)
    ∧ r.2.mem ((c.tc : Thread nD τ).loc main_v32) = cat (refZ m c) (refA m c) (refB m c) (refS m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) := by
  refine (θ_run defs _ _).mono (fun r h c => ?_) (Cert.RefProjOutIdeal.Value.run (F := Ideal) m g)
  have ec := refCat_val (refZ m c) (refA m c) (refB m c) (refS m c)
  have ep := (refProj_val (refCat (refZ m c) (refA m c) (refB m c) (refS m c)) (refW m c)).trans (congrArg (fun h => proj h (refW m c)) ec)
  refine ⟨(h c).1.trans ?_, (h c).2.1.trans ep, (h c).2.2.1.trans ec, (h c).2.2.2⟩
  unfold Cert.RefProjOutIdeal.Value.res_main_v31
  exact (refOut_val (refX m c) _ (refG m c) (refM m c)).trans (congrArg (fun y => out (refX m c) y (refG m c) (refM m c)) ep)

end Reference

section Kernel

open Cert.ProjOutIdeal Cert.ProjOutIdeal.Gen Cert.ProjOutIdeal.Value

/-- The gated branches of a block, elementwise. -/
theorem gate2_val (y : FVec Ideal S512x512 .f32) (z : FVec Ideal S512x512 .bf16) (r j : Fin 512) : (k0_pay2 (F := Ideal) y z (ix2 r j) : EReal) = y (ix2 r j) * silu (z (ix2 r j)) := by
  pointwise [k0_pay2, silu]
  rw [zero_sub]

theorem gate3_val (y : FVec Ideal S512x256 .f32) (z : FVec Ideal S512x256 .bf16) (r : Fin 512) (j : Fin 256) : (k0_pay3 (F := Ideal) y z (ix2 r j) : EReal) = y (ix2 r j) * silu (z (ix2 r j)) := by
  pointwise [k0_pay3, silu]
  rw [zero_sub]

theorem gate4_val (y : FVec Ideal S512x256 .f32) (z : FVec Ideal S512x256 .bf16) (r : Fin 512) (j : Fin 256) : (k0_pay5 (k0_pay4 (F := Ideal) y z) (ix2 r j) : EReal) = y (ix2 r j) * silu (z (ix2 r j)) := by
  pointwise [k0_pay5, k0_pay4, silu]
  rw [zero_sub]

/-- The projection's payload. -/
theorem proj_val (a : FVec Ideal S512x512 .bf16) (b : FVec Ideal S512x256 .bf16) (s : FVec Ideal S512x256 .f32) (u : FVec Ideal S512x1024 .bf16) (v w : FVec Ideal S256x1024 .bf16) (r : Fin 512) (l : Fin 1024) :
    (k0_pay6 (F := Ideal) a b s u v w (ix2 r l) : EReal) = ∑ i : Fin 512, (a (ix2 r i) : EReal) * u (ix2 i l) + ∑ i : Fin 256, (b (ix2 r i) : EReal) * v (ix2 i l) + ∑ i : Fin 256, (k0_pay5 (F := Ideal) s (ix2 r i) : EReal) * w (ix2 i l) := by
  pointwise [k0_pay6]

/-- The output's. -/
theorem out_val (x : FVec Ideal S512x1024 .f32) (a : FVec Ideal S512x512 .bf16) (b : FVec Ideal S512x256 .bf16) (s : FVec Ideal S512x256 .f32) (u : FVec Ideal S512x1024 .bf16) (v w : FVec Ideal S256x1024 .bf16)
    (g gate : FVec Ideal S1x1024 .f32) (r : Fin 512) (k : Fin 1024) :
    (k0_pay1 (F := Ideal) x (k0_pay7 a b s u v w g) (k0_pay8 gate) (ix2 r k) : EReal) =
      gated (x (ix2 r k)) (fun l => k0_pay6 (F := Ideal) a b s u v w (ix2 r l)) (fun k => g (ix2 0 k)) (fun k => gate (ix2 0 k)) k := by
  pointwise [k0_pay1, k0_pay7, k0_pay8, gated, Layer.rstd, Layer.den]

variable (m : (ℓ : Loc nD τ sig) → Buf (Elt Ideal) ℓ)

/-- The gain in the kernel's layout. -/
theorem gain (c : Dev nD) (k : Fin 1024) : (V m c main_v0 : S1x1024.Idx → EReal) (ix2 0 k) = (m ((c.tc : Thread nD τ).loc main_arg6) : S1024.Idx → EReal) (ix1 k) := by
  unfold V
  unfold hostOps0
  after_results_simp
  pointwise

/-- Where every window's block lies. -/
theorem idxs (t : Fin cfg0.N) : win0_0.index t = ![t.val, 0] ∧ win0_1.index t = ![t.val, 1] ∧ win0_2.index t = ![t.val, 6] ∧ win0_3.index t = ![t.val, 9] ∧ win0_4.index t = ![t.val, 0] ∧ win0_5.index t = ![t.val, 0] ∧ win0_6.index t = ![t.val, 0] ∧
    win0_7.index t = ![0, 0] ∧ win0_8.index t = ![0, 0] ∧ win0_9.index t = ![0, 0] ∧ win0_10.index t = ![t.val, 0] ∧ win0_11.index t = ![t.val, 0] ∧ win0_12.index t = ![t.val, 0] :=
  (by decide +kernel : ∀ t : Fin grid0.N, win0_0.index t = ![t.val, 0] ∧ win0_1.index t = ![t.val, 1] ∧ win0_2.index t = ![t.val, 6] ∧ win0_3.index t = ![t.val, 9] ∧ win0_4.index t = ![t.val, 0] ∧ win0_5.index t = ![t.val, 0] ∧ win0_6.index t = ![t.val, 0] ∧
    win0_7.index t = ![0, 0] ∧ win0_8.index t = ![0, 0] ∧ win0_9.index t = ![0, 0] ∧ win0_10.index t = ![t.val, 0] ∧ win0_11.index t = ![t.val, 0] ∧ win0_12.index t = ![t.val, 0]) t

/-- The layer's input, -/
abbrev argX (c : Dev nD) : S8192x1024.Idx → EReal := m ((c.tc : Thread nD τ).loc main_arg0)
/-- its projection, whose columns hold the gates, -/
abbrev argZ (c : Dev nD) : S8192x2560.Idx → EReal := m ((c.tc : Thread nD τ).loc main_arg1)
/-- the attention's branch, -/
abbrev argA (c : Dev nD) : S8192x512.Idx → EReal := m ((c.tc : Thread nD τ).loc main_arg2)
/-- the convolution's, -/
abbrev argB (c : Dev nD) : S8192x256.Idx → EReal := m ((c.tc : Thread nD τ).loc main_arg3)
/-- the gated unit's, -/
abbrev argS (c : Dev nD) : S8192x256.Idx → EReal := m ((c.tc : Thread nD τ).loc main_arg4)
/-- the weight, -/
abbrev argW (c : Dev nD) : S1024x1024.Idx → EReal := m ((c.tc : Thread nD τ).loc main_arg5)
/-- the gain, -/
abbrev argG (c : Dev nD) : S1024.Idx → EReal := m ((c.tc : Thread nD τ).loc main_arg6)
/-- and the modulation. -/
abbrev argM (c : Dev nD) : S3x1024.Idx → EReal := m ((c.tc : Thread nD τ).loc main_arg7)

/-- The gated branches side by side. -/
abbrev argC (c : Dev nD) : S8192x1024.Idx → EReal := cat (argZ m c) (argA m c) (argB m c) (argS m c)

/-- A block's gated branches: the attention's, -/
abbrev blkA (c : Dev nD) (t : Fin cfg0.N) : FVec Ideal S512x512 .bf16 := k0_pay2 (F := Ideal) (iblk m c 4 t) (iblk m c 1 t)
/-- the convolution's, -/
abbrev blkB (c : Dev nD) (t : Fin cfg0.N) : FVec Ideal S512x256 .bf16 := k0_pay3 (F := Ideal) (iblk m c 5 t) (iblk m c 2 t)
/-- and the gated unit's. -/
abbrev blkS (c : Dev nD) (t : Fin cfg0.N) : FVec Ideal S512x256 .f32 := k0_pay4 (F := Ideal) (iblk m c 6 t) (iblk m c 3 t)

/-- Row `r` of block `t`, among all rows. -/
def row (t : Fin cfg0.N) (r : Fin 512) : Fin 8192 := ⟨t.val * 512 + r.val, by have := (show t.val < 16 from t.isLt); omega⟩

/-- A block's row of gated branches is the whole's. -/
theorem cat_row (c : Dev nD) (t : Fin cfg0.N) (r : Fin 512) (k : Fin 1024) :
    side (fun j => blkA m c t (ix2 r j)) (fun j => blkB m c t (ix2 r j)) (fun j => k0_pay5 (F := Ideal) (blkS m c t) (ix2 r j)) k = argC m c (ix2 (row t r) k) := by
  obtain ⟨-, i1, i2, i3, i4, i5, i6, -⟩ := idxs t
  refine congrFun (congr (congr (congrArg side (funext fun j => ?_)) (funext fun j => ?_)) (funext fun j => ?_)) k
  · refine (gate2_val _ _ r j).trans (congrArg₂ (fun a b => a * silu b) ?_ ?_)
    · blk_ext [iblk, V, i4, row]
    · blk_ext [iblk, V, i1, row]
  · refine (gate3_val _ _ r j).trans (congrArg₂ (fun a b => a * silu b) ?_ ?_)
    · blk_ext [iblk, V, i5, row]
    · blk_ext [iblk, V, i2, row]
  · refine (gate4_val _ _ r j).trans (congrArg₂ (fun a b => a * silu b) ?_ ?_)
    · blk_ext [iblk, V, i6, row]
    · blk_ext [iblk, V, i3, row]

/-- A band of the weight's rows, read from the block, is the weight's. -/
theorem weight_row (c : Dev nD) (t : Fin cfg0.N) {n : ℕ} (o : ℕ) (inb : ∀ a : Fin 2, (![o, 0] : Fin 2 → ℕ) a + (![n, 1024] : Fin 2 → ℕ) a ≤ S1024x1024.size a) (i : Fin n) (l k : Fin 1024) (hk : k.val = o + i.val) :
    (View.ld (Val := Elt Ideal) (e' := .bf16) (iblk m c 7 t : S1024x1024.Idx → EReal) (Rect.unit (s := S1024x1024) ![o, 0] ![n, 1024] inb) (ix2 i l) : EReal) = argW m c (ix2 k l) := by
  obtain ⟨-, -, -, -, -, -, -, i7, -⟩ := idxs t
  have h : (Rect.unit (s := S1024x1024) ![o, 0] ![n, 1024] inb).idx (ix2 i l) = (ix2 k l : S1024x1024.Idx) :=
    funext fun a => Fin.ext (by fin_cases a <;> simp [hk])
  refine Eq.trans (congrArg (iblk m c 7 t : S1024x1024.Idx → EReal) h) ?_
  blk_ext [iblk, V, i7]

/-- A block's projection. -/
abbrev blkY (c : Dev nD) (t : Fin cfg0.N) : FVec Ideal S512x1024 .f32 :=
  k0_pay6 (F := Ideal) (blkA m c t) (blkB m c t) (blkS m c t)
    (View.ld (iblk m c 7 t) (Rect.unit ![0, 0] ![512, 1024] inb_S1024x1024_S512x1024_0_0))
    (View.ld (iblk m c 7 t) (Rect.unit ![512, 0] ![256, 1024] inb_S1024x1024_S256x1024_512_0))
    (View.ld (iblk m c 7 t) (Rect.unit ![768, 0] ![256, 1024] inb_S1024x1024_S256x1024_768_0))

/-- Its rows are the whole's. -/
theorem proj_row (c : Dev nD) (t : Fin cfg0.N) (r : Fin 512) (l : Fin 1024) : (blkY m c t (ix2 r l) : EReal) = proj (argC m c) (argW m c) (ix2 (row t r) l) := by
  refine (proj_val _ _ _ _ _ _ r l).trans ?_
  refine Eq.trans ?_ (Finset.sum_congr rfl fun k _ => congrArg (· * argW m c (ix2 k l)) (cat_row m c t r k))
  refine Eq.trans ?_ (sum_side _ _ _ (fun k => argW m c (ix2 k l))).symm
  refine congrArg₂ (· + ·) (congrArg₂ (· + ·) (Finset.sum_congr rfl fun i _ => ?_) (Finset.sum_congr rfl fun i _ => ?_)) (Finset.sum_congr rfl fun i _ => ?_)
  · exact congrArg (blkA m c t (ix2 r i) * ·) (weight_row m c t 0 _ i l _ (by simp))
  · exact congrArg (blkB m c t (ix2 r i) * ·) (weight_row m c t 512 _ i l _ rfl)
  · exact congrArg (k0_pay5 (F := Ideal) (blkS m c t) (ix2 r i) * ·) (weight_row m c t 768 _ i l _ rfl)

/-- Three blocks of columns, stored one beside the other. -/
theorem stores_val (a : FVec Ideal S512x512 .bf16) (b s : FVec Ideal S512x256 .bf16) (r : Fin 512) (k : Fin 1024) (y : S512x1024.Idx) (hr : (y 0).val = r.val) (hl : (y 1).val = k.val) :
    View.canon [(⟨Rect.unit ![0, 768] ![512, 256] inb_S512x1024_S512x256_0_768, s⟩ : View.Piece (Elt Ideal) S512x1024 .bf16),
      ⟨Rect.unit ![0, 512] ![512, 256] inb_S512x1024_S512x256_0_512, b⟩, ⟨Rect.unit ![0, 0] ![512, 512] inb_S512x1024_S512x512_0_0, a⟩] y =
      side (fun j => a (ix2 r j)) (fun j => b (ix2 r j)) (fun j => s (ix2 r j)) k := by
  have hk := k.isLt
  have inn : ∀ (o n : ℕ) (inb : ∀ a : Fin 2, (![0, o] : Fin 2 → ℕ) a + (![512, n] : Fin 2 → ℕ) a ≤ S512x1024.size a), o ≤ k.val → k.val < o + n →
      y ∈ (Rect.unit (s := S512x1024) ![0, o] ![512, n] inb).set := by
    intro o n inb h1 h2
    rw [Rect.mem_set_unit]
    intro a
    fin_cases a
    · show 0 ≤ (y 0).val ∧ (y 0).val < 0 + 512
      have := r.isLt
      omega
    · show o ≤ (y 1).val ∧ (y 1).val < o + n
      omega
  canon_tiles x h using (by
    simp only [List.exists_mem_cons_iff]
    by_cases h1 : k.val < 512
    · exact .inr (.inr (.inl (inn _ _ _ (by omega) (by omega))))
    by_cases h2 : k.val < 768
    · exact .inr (.inl (inn _ _ _ (by omega) (by omega)))
    exact .inl (inn _ _ _ (by omega) (by omega)))
  all_goals
    have hx : x = ix2 r (x 1) := funext fun n => Fin.ext (by fin_cases n; exact h0.symm.trans hr; rfl)
    rw [hx]
  · exact (side_3 (fun j => a (ix2 r j)) (fun j => b (ix2 r j)) (fun j => s (ix2 r j)) k (x 1) (by omega)).symm
  · exact (side_2 (fun j => a (ix2 r j)) (fun j => b (ix2 r j)) (fun j => s (ix2 r j)) k (x 1) (by omega)).symm
  · exact (side_1 (fun j => a (ix2 r j)) (fun j => b (ix2 r j)) (fun j => s (ix2 r j)) k (x 1) (by omega)).symm

/-- What every grid point writes of the third result, -/
theorem at12 (c : Dev nD) (t : Fin cfg0.N) (r : Fin 512) (k : Fin 1024) : ((outsAt0 m c t).2.2 (ix2 r k) : EReal) = argC m c (ix2 (row t r) k) := by
  simp only [outsAt0]
  frame_out
  exact (stores_val _ _ _ r k _ rfl rfl).trans (cat_row m c t r k)

/-- of the second, -/
theorem at11 (c : Dev nD) (t : Fin cfg0.N) (r : Fin 512) (k : Fin 1024) : ((outsAt0 m c t).2.1 (ix2 r k) : EReal) = proj (argC m c) (argW m c) (ix2 (row t r) k) := by
  simp only [outsAt0]
  frame_out
  exact proj_row m c t r k

/-- and of the first. -/
theorem at10 (c : Dev nD) (t : Fin cfg0.N) (r : Fin 512) (k : Fin 1024) :
    ((outsAt0 m c t).1 (ix2 r k) : EReal) = out (argX m c) (proj (argC m c) (argW m c)) (argG m c) (argM m c) (ix2 (row t r) k) := by
  obtain ⟨i0, -, -, -, -, -, -, -, i8, i9, -⟩ := idxs t
  simp only [outsAt0]
  frame_out
  refine (out_val _ _ _ _ _ _ _ _ _ r k).trans ?_
  unfold out
  congr 1
  · blk_ext [iblk, V, i0, row]
  · exact funext fun l => proj_row m c t r l
  · funext k
    refine Eq.trans ?_ (gain m c k)
    blk_ext [iblk, i8]
  · funext k
    have h : (Rect.unit (s := S3x1024) ![2, 0] ![1, 1024] inb_S3x1024_S1x1024_2_0).idx (ix2 0 k) = (ix2 2 k : S3x1024.Idx) :=
      funext fun n => Fin.ext (by fin_cases n <;> simp)
    refine Eq.trans (congrArg (iblk m c 9 t : S3x1024.Idx → EReal) h) ?_
    blk_ext [iblk, V, i9]

/-- The third result after a run of the kernel's program. -/
theorem final12 (c : Dev nD) : (dats m 0 c).arrAt 12 cfg0.N = argC m c := by
  refine (dats m 0 c).arrAt_eq_of_covers 12 _ (by decide +kernel) fun t hf y => ?_
  obtain ⟨-, -, -, -, -, -, -, -, -, -, -, -, i⟩ := idxs t
  have hR : ((win0_12.blk t).view.emb y : S8192x1024.Idx) = ix2 (row t (y 0)) (y 1) := funext fun n => Fin.ext (by fin_cases n <;> blk_simp [i, row] <;> rfl)
  have hy : (y : S512x1024.Idx) = ix2 (y 0) (y 1) := funext fun n => by fin_cases n <;> rfl
  blk_simp [i]
  rw [after0_12]
  exact ((congrArg _ hy).trans (at12 m c t (y 0) (y 1))).trans (congrArg (argC m c) hR.symm)

/-- The second. -/
theorem final11 (c : Dev nD) : (dats m 0 c).arrAt 11 cfg0.N = proj (argC m c) (argW m c) := by
  refine (dats m 0 c).arrAt_eq_of_covers 11 _ (by decide +kernel) fun t hf y => ?_
  obtain ⟨-, -, -, -, -, -, -, -, -, -, -, i, -⟩ := idxs t
  have hR : ((win0_11.blk t).view.emb y : S8192x1024.Idx) = ix2 (row t (y 0)) (y 1) := funext fun n => Fin.ext (by fin_cases n <;> blk_simp [i, row] <;> rfl)
  have hy : (y : S512x1024.Idx) = ix2 (y 0) (y 1) := funext fun n => by fin_cases n <;> rfl
  blk_simp [i]
  rw [after0_11]
  exact ((congrArg _ hy).trans (at11 m c t (y 0) (y 1))).trans (congrArg (proj (argC m c) (argW m c)) hR.symm)

/-- The first. -/
theorem final10 (c : Dev nD) : (dats m 0 c).arrAt 10 cfg0.N = out (argX m c) (proj (argC m c) (argW m c)) (argG m c) (argM m c) := by
  refine (dats m 0 c).arrAt_eq_of_covers 10 _ (by decide +kernel) fun t hf y => ?_
  obtain ⟨-, -, -, -, -, -, -, -, -, -, i, -, -⟩ := idxs t
  have hR : ((win0_10.blk t).view.emb y : S8192x1024.Idx) = ix2 (row t (y 0)) (y 1) := funext fun n => Fin.ext (by fin_cases n <;> blk_simp [i, row] <;> rfl)
  have hy : (y : S512x1024.Idx) = ix2 (y 0) (y 1) := funext fun n => by fin_cases n <;> rfl
  blk_simp [i]
  rw [after0_10]
  exact ((congrArg _ hy).trans (at10 m c t (y 0) (y 1))).trans (congrArg (out (argX m c) (proj (argC m c) (argW m c)) (argG m c) (argM m c)) hR.symm)

/-- The kernel's three results are the reference's, whatever the arguments. -/
theorem algebraic : Cert.algebraic_ProjOutIdeal_RefProjOutIdeal (hProjOutIdeal := Cert.ProjOutIdeal.Gen.facts) (hRefProjOutIdeal := Cert.RefProjOutIdeal.Gen.facts) := by
  intro m g m' g' _ hargs
  refine ⟨fun c => out (argX m c) (proj (argC m c) (argW m c)) (argG m c) (argM m c), fun c => proj (argC m c) (argW m c), fun c => argC m c, ?_, ?_⟩
  · refine (θ_run Cert.ProjOutIdeal.defs _ _).mono (fun r h c => ?_) (run_blocks m g)
    exact ⟨(h c).1.trans (final10 m c), (h c).2.1.trans (final11 m c), (h c).2.2.1.trans (final12 m c), (h c).2.2.2⟩
  · refine (θ_run Cert.RefProjOutIdeal.defs _ _).mono (fun r h c => ?_) (reference_run m' g')
    obtain ⟨e0, e1, e2, e3, e4, e5, e6, e7⟩ := hargs c
    refine ⟨(h c).1.trans ?_, (h c).2.1.trans ?_, (h c).2.2.1.trans ?_, (h c).2.2.2⟩
    · unfold refX refZ refA refB refS refW refG refM
      rw [e0, e1, e2, e3, e4, e5, e6, e7]
    · unfold refZ refA refB refS refW
      rw [e1, e2, e3, e4, e5]
    · unfold refZ refA refB refS
      rw [e1, e2, e3, e4]

end Kernel

end Cert.Proof.ProjOut

end
-- ==== Proof.Claims.lean ====
/-
  The claims, from the runs of the kernels' programs at any float values and the runs of the references.
-/
module

public import proofs.«01_k».proof.Defs
public import proofs.«01_k».proof.Proof.Gen.Kernel
public import proofs.«01_k».proof.Proof.Run.Frame
public import proofs.«01_k».proof.Proof.RunBits.Frame
public import proofs.«01_k».proof.Proof.Value.Algebraic
public import proofs.«01_k».proof.Proof.Gen.ReferenceIdeal.Run
public import proofs.«01_k».proof.Proof.Gen.GradWIn
public import proofs.«01_k».proof.Proof.Gen.GradWOut
public import proofs.«01_k».proof.Proof.Weights.WIn
public import proofs.«01_k».proof.Proof.Weights.WOut
public import proofs.«01_k».proof.Proof.Gen.ProjIn
public import proofs.«01_k».proof.Proof.Layer.ProjIn
public import proofs.«01_k».proof.Proof.Gen.GradIn
public import proofs.«01_k».proof.Proof.Layer.GradIn
public import proofs.«01_k».proof.Proof.Gen.ProjOut
public import proofs.«01_k».proof.Proof.Layer.ProjOut
public import Idealize.ShloMosaic.Adequacy
public import Idealize.ShloMosaic.Init

@[expose] public section

noncomputable section

namespace Cert.Proof

open Idealize.ShloMosaic

/-- The kernel's program, at words: every run ends, with the arguments unchanged and every semaphore at zero. -/
theorem frame_kernel : Cert.quiescent_Kernel (hKernel := Cert.Kernel.Gen.facts) := fun m ρ _ =>
  RunBits.quiescent (F := Bits) m ρ

/-- The reference, at extended reals: every run ends with the arguments unchanged, and it has no semaphores. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The kernel's program, at extended reals. -/
theorem frame_ideal : Cert.quiescent_KernelIdeal (hKernelIdeal := Cert.KernelIdeal.Gen.facts) := fun m ρ _ =>
  Run.quiescent (F := Ideal) m ρ

/-- The same of finite inputs. -/
theorem frame_ideal_finite : Cert.quiescent_KernelIdeal_pre_finite (hKernelIdeal := Cert.KernelIdeal.Gen.facts) (hPre_finite := Value.facts_finite) := fun m ρ _ =>
  Run.quiescent (F := Ideal) m ρ

/-- The reference, of finite inputs. -/
theorem frame_reference_finite : Cert.quiescent_ReferenceIdeal_pre_finite (hReferenceIdeal := Cert.ReferenceIdeal.Gen.facts) (hPre_finite := Value.facts_finite) := fun m ρ _ =>
  frame_reference m ρ trivial

/-- The three constants of the program that are named. -/
theorem preserves : Cert.preserves_Kernel_KernelIdeal :=
  ⟨IdealRules.named_const.statement Cert.KernelIdeal.κ "log2_e" .f32 0x3FB8AA3B#32 (((Real.log 2)⁻¹ : ℝ) : EReal) rfl,
    IdealRules.named_const.statement Cert.KernelIdeal.κ "exp2_scale" .f32 0x3DD53B95#32 (((Real.sqrt 192)⁻¹ * (Real.log 2)⁻¹ : ℝ) : EReal) rfl,
    IdealRules.named_const.statement Cert.KernelIdeal.κ "att_scale" .f32 0x3D93CD3A#32 (((Real.sqrt 192)⁻¹ : ℝ) : EReal) rfl⟩

attribute [local instance] Cert.GradWIn.Gen.facts Cert.GradWInIdeal.Gen.facts in
/-- The two programs of the gradient of `w_in` are one text, at words. -/
theorem defs_w_in : Cert.GradWIn.defs (F := Bits) = Cert.GradWInIdeal.defs (F := Bits) :=
  congrArg (Pipeline.defs Cert.GradWInIdeal.pcfgs) (congrArg Defs.onTc (funext fun b => match b with | 0 => rfl))

/-- The gradient of `w_in`: every run of the program ends with the arguments unchanged and every semaphore at zero, at words, -/
theorem frame_w_in : Cert.quiescent_GradWIn (hGradWIn := Cert.GradWIn.Gen.facts) := fun m ρ _ => by
  have h := Cert.GradWInIdeal.Gen.frame (F := Bits) m ρ
  rw [← defs_w_in] at h
  exact h
/-- at extended reals, -/
theorem frame_w_in_ideal : Cert.quiescent_GradWInIdeal (hGradWInIdeal := Cert.GradWInIdeal.Gen.facts) := fun m ρ _ => Cert.GradWInIdeal.Gen.frame (F := Ideal) m ρ
/-- and so of its reference. -/
theorem frame_w_in_reference : Cert.quiescent_RefWInIdeal (hRefWInIdeal := Cert.RefWInIdeal.Gen.facts) := fun m ρ _ =>
  (θ_run Cert.RefWInIdeal.defs _ _).mono (fun r h => ⟨fun c => (h c).2, sem_eq_zero_of_no_sems (by decide) r.2⟩)
    (Cert.RefWInIdeal.Value.run (F := Ideal) m ρ)

attribute [local instance] Cert.GradWOut.Gen.facts Cert.GradWOutIdeal.Gen.facts in
/-- The two programs of the gradient of `w_out` are one text, at words. -/
theorem defs_w_out : Cert.GradWOut.defs (F := Bits) = Cert.GradWOutIdeal.defs (F := Bits) :=
  congrArg (Pipeline.defs Cert.GradWOutIdeal.pcfgs) (congrArg Defs.onTc (funext fun b => match b with | 0 => rfl))

/-- The gradient of `w_out`, at words, -/
theorem frame_w_out : Cert.quiescent_GradWOut (hGradWOut := Cert.GradWOut.Gen.facts) := fun m ρ _ => by
  have h := Cert.GradWOutIdeal.Gen.frame (F := Bits) m ρ
  rw [← defs_w_out] at h
  exact h
/-- at extended reals, -/
theorem frame_w_out_ideal : Cert.quiescent_GradWOutIdeal (hGradWOutIdeal := Cert.GradWOutIdeal.Gen.facts) := fun m ρ _ => Cert.GradWOutIdeal.Gen.frame (F := Ideal) m ρ
/-- and its reference. -/
theorem frame_w_out_reference : Cert.quiescent_RefWOutIdeal (hRefWOutIdeal := Cert.RefWOutIdeal.Gen.facts) := fun m ρ _ =>
  (θ_run Cert.RefWOutIdeal.defs _ _).mono (fun r h => ⟨fun c => (h c).2, sem_eq_zero_of_no_sems (by decide) r.2⟩)
    (Cert.RefWOutIdeal.Value.run (F := Ideal) m ρ)

attribute [local instance] Cert.ProjIn.Gen.facts Cert.ProjInIdeal.Gen.facts in
/-- The two programs of the input projection are one text, at words. -/
theorem defs_proj_in : Cert.ProjIn.defs (F := Bits) = Cert.ProjInIdeal.defs (F := Bits) :=
  congrArg (Pipeline.defs Cert.ProjInIdeal.pcfgs) (congrArg Defs.onTc (funext fun b => match b with | 0 => rfl))

/-- The input projection: every run of the program ends with the arguments unchanged and every semaphore at zero, at words, -/
theorem frame_proj_in : Cert.quiescent_ProjIn (hProjIn := Cert.ProjIn.Gen.facts) := fun m ρ _ => by
  have h := Cert.ProjInIdeal.Gen.frame (F := Bits) m ρ
  rw [← defs_proj_in] at h
  exact h
/-- at extended reals, -/
theorem frame_proj_in_ideal : Cert.quiescent_ProjInIdeal (hProjInIdeal := Cert.ProjInIdeal.Gen.facts) := fun m ρ _ => Cert.ProjInIdeal.Gen.frame (F := Ideal) m ρ
/-- and so of its reference. -/
theorem frame_proj_in_reference : Cert.quiescent_RefProjInIdeal (hRefProjInIdeal := Cert.RefProjInIdeal.Gen.facts) := fun m ρ _ =>
  (θ_run Cert.RefProjInIdeal.defs _ _).mono (fun r h => ⟨fun c => (h c).2.2, sem_eq_zero_of_no_sems (by decide) r.2⟩)
    (Cert.RefProjInIdeal.Value.run (F := Ideal) m ρ)

attribute [local instance] Cert.GradIn.Gen.facts Cert.GradInIdeal.Gen.facts in
/-- The two programs of the gradient of a layer's input are one text, at words. -/
theorem defs_grad_in : Cert.GradIn.defs (F := Bits) = Cert.GradInIdeal.defs (F := Bits) :=
  congrArg (Pipeline.defs Cert.GradInIdeal.pcfgs) (congrArg Defs.onTc (funext fun b => match b with | 0 => rfl))

/-- The gradient of a layer's input: every run of the program ends with the arguments unchanged and every semaphore at zero, at words, -/
theorem frame_grad_in : Cert.quiescent_GradIn (hGradIn := Cert.GradIn.Gen.facts) := fun m ρ _ => by
  have h := Cert.GradInIdeal.Gen.frame (F := Bits) m ρ
  rw [← defs_grad_in] at h
  exact h
/-- at extended reals, -/
theorem frame_grad_in_ideal : Cert.quiescent_GradInIdeal (hGradInIdeal := Cert.GradInIdeal.Gen.facts) := fun m ρ _ => Cert.GradInIdeal.Gen.frame (F := Ideal) m ρ
/-- and so of its reference. -/
theorem frame_grad_in_reference : Cert.quiescent_RefGradInIdeal (hRefGradInIdeal := Cert.RefGradInIdeal.Gen.facts) := fun m ρ _ =>
  (θ_run Cert.RefGradInIdeal.defs _ _).mono (fun r h => ⟨fun c => (h c).2.2.2, sem_eq_zero_of_no_sems (by decide) r.2⟩)
    (Cert.RefGradInIdeal.Value.run (F := Ideal) m ρ)

attribute [local instance] Cert.ProjOut.Gen.facts Cert.ProjOutIdeal.Gen.facts in
/-- The two programs of the output projection are one text, at words. -/
theorem defs_proj_out : Cert.ProjOut.defs (F := Bits) = Cert.ProjOutIdeal.defs (F := Bits) :=
  congrArg (Pipeline.defs Cert.ProjOutIdeal.pcfgs) (congrArg Defs.onTc (funext fun b => match b with | 0 => rfl))

/-- The output projection: every run of the program ends with the arguments unchanged and every semaphore at zero, at words, -/
theorem frame_proj_out : Cert.quiescent_ProjOut (hProjOut := Cert.ProjOut.Gen.facts) := fun m ρ _ => by
  have h := Cert.ProjOutIdeal.Gen.frame (F := Bits) m ρ
  rw [← defs_proj_out] at h
  exact h
/-- at extended reals, -/
theorem frame_proj_out_ideal : Cert.quiescent_ProjOutIdeal (hProjOutIdeal := Cert.ProjOutIdeal.Gen.facts) := fun m ρ _ => Cert.ProjOutIdeal.Gen.frame (F := Ideal) m ρ
/-- and so of its reference. -/
theorem frame_proj_out_reference : Cert.quiescent_RefProjOutIdeal (hRefProjOutIdeal := Cert.RefProjOutIdeal.Gen.facts) := fun m ρ _ =>
  (θ_run Cert.RefProjOutIdeal.defs _ _).mono (fun r h => ⟨fun c => (h c).2.2.2, sem_eq_zero_of_no_sems (by decide) r.2⟩)
    (Cert.RefProjOutIdeal.Value.run (F := Ideal) m ρ)

end Cert.Proof

end
-- ==== Proof.lean ====
module

public import proofs.«01_k».proof.Proof.Claims
public import proofs.«01_k».proof.Proof.Gen.ReferenceIdeal.Run
public import proofs.«01_k».proof.Proof.Gen.GradWInIdeal.Value
public import proofs.«01_k».proof.Proof.Gen.RefWInIdeal.Run
public import proofs.«01_k».proof.Proof.Gen.GradWOutIdeal.Value
public import proofs.«01_k».proof.Proof.Gen.RefWOutIdeal.Run
public import proofs.«01_k».proof.Proof.Gen.ProjIn
public import proofs.«01_k».proof.Proof.Gen.ProjInIdeal.Value
public import proofs.«01_k».proof.Proof.Gen.RefProjInIdeal.Run
public import proofs.«01_k».proof.Proof.Gen.GradIn
public import proofs.«01_k».proof.Proof.Gen.GradInIdeal.Value
public import proofs.«01_k».proof.Proof.Gen.RefGradInIdeal.Run
public import proofs.«01_k».proof.Proof.Gen.ProjOut
public import proofs.«01_k».proof.Proof.Gen.ProjOutIdeal.Value
public import proofs.«01_k».proof.Proof.Gen.RefProjOutIdeal.Run

@[expose] public section

namespace Cert.Proof

theorem claim : Cert.Claim :=
  ⟨Cert.Kernel.Gen.facts, Cert.KernelIdeal.Gen.facts, Cert.ReferenceIdeal.Gen.facts, Cert.GradWIn.Gen.facts, Cert.GradWInIdeal.Gen.facts, Cert.RefWInIdeal.Gen.facts,
    Cert.GradWOut.Gen.facts, Cert.GradWOutIdeal.Gen.facts, Cert.RefWOutIdeal.Gen.facts,
    Cert.ProjIn.Gen.facts, Cert.ProjInIdeal.Gen.facts, Cert.RefProjInIdeal.Gen.facts,
    Cert.GradIn.Gen.facts, Cert.GradInIdeal.Gen.facts, Cert.RefGradInIdeal.Gen.facts,
    Cert.ProjOut.Gen.facts, Cert.ProjOutIdeal.Gen.facts, Cert.RefProjOutIdeal.Gen.facts, Value.facts_finite,
    frame_kernel, frame_ideal, frame_ideal_finite, frame_reference, frame_reference_finite, frame_w_in, frame_w_in_ideal, frame_w_in_reference,
    frame_w_out, frame_w_out_ideal, frame_w_out_reference, frame_proj_in, frame_proj_in_ideal, frame_proj_in_reference,
    frame_grad_in, frame_grad_in_ideal, frame_grad_in_reference,
    frame_proj_out, frame_proj_out_ideal, frame_proj_out_reference, preserves, Value.algebraic, trivial, WIn.algebraic, trivial, WOut.algebraic,
    trivial, ProjIn.algebraic, trivial, GradIn.algebraic, trivial, ProjOut.algebraic⟩

end Cert.Proof

end
